-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_router [hPre_finite_router : Cert.Pre_finite_router.Facts] (m : (ℓ : Loc Cert.KernelIdeal.nD Cert.KernelIdeal.τ Cert.KernelIdeal.sig) → Buf (Elt Ideal) ℓ) : Prop :=
  ∀ c : Dev Cert.KernelIdeal.nD,
    (Cert.Pre_finite_router.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite_router.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_router [hPre_finite_router : Cert.Pre_finite_router.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_router.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite_router.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_router [hKernelIdeal : Cert.KernelIdeal.Facts] [hPre_finite_router : Cert.Pre_finite_router.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_router m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_router [hReferenceIdeal : Cert.ReferenceIdeal.Facts] [hPre_finite_router : Cert.Pre_finite_router.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_router m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def preserves_Kernel_KernelIdeal : Prop :=
  True

def algebraic_KernelIdeal_ReferenceIdeal_pre_finite_router [hKernelIdeal : Cert.KernelIdeal.Facts] [hReferenceIdeal : Cert.ReferenceIdeal.Facts] [hPre_finite_router : Cert.Pre_finite_router.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_router m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v211_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v211_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v11)) (v1 : (c : Dev Cert.Kernel2Ideal.nD) → Buf (Elt Ideal) ((c.tc : Thread Cert.Kernel2Ideal.nD Cert.Kernel2Ideal.τ).loc Cert.Kernel2Ideal.main_v12)) (v2 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_v12) = v1 c
          ∧ r.2.mem ((c.tc : Thread Cert.Kernel2Ideal.nD Cert.Kernel2Ideal.τ).loc Cert.Kernel2Ideal.main_v10) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_v3) = v1 c
          ∧ r.2.mem ((c.tc : Thread Cert.Reference2Ideal.nD Cert.Reference2Ideal.τ).loc Cert.Reference2Ideal.main_v9) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v54_0)) (v1 : (c : Dev Cert.Kernel3Ideal.nD) → Buf (Elt Ideal) ((c.tc : Thread Cert.Kernel3Ideal.nD Cert.Kernel3Ideal.τ).loc Cert.Kernel3Ideal.main_v55)) (v2 : (c : Dev Cert.Kernel3Ideal.nD) → Buf (Elt Ideal) ((c.tc : Thread Cert.Kernel3Ideal.nD Cert.Kernel3Ideal.τ).loc Cert.Kernel3Ideal.main_v13)) (v3 : (c : Dev Cert.Kernel3Ideal.nD) → Buf (Elt Ideal) ((c.tc : Thread Cert.Kernel3Ideal.nD Cert.Kernel3Ideal.τ).loc Cert.Kernel3Ideal.main_v56)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v54_0) = v0 c
          ∧ r.2.mem ((c.tc : Thread Cert.Kernel3Ideal.nD Cert.Kernel3Ideal.τ).loc Cert.Kernel3Ideal.main_v55) = v1 c
          ∧ r.2.mem ((c.tc : Thread Cert.Kernel3Ideal.nD Cert.Kernel3Ideal.τ).loc Cert.Kernel3Ideal.main_v13) = v2 c
          ∧ r.2.mem ((c.tc : Thread Cert.Kernel3Ideal.nD Cert.Kernel3Ideal.τ).loc Cert.Kernel3Ideal.main_v56) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_v53) = v1 c
          ∧ r.2.mem ((c.tc : Thread Cert.Reference3Ideal.nD Cert.Reference3Ideal.τ).loc Cert.Reference3Ideal.main_v3) = v2 c
          ∧ r.2.mem ((c.tc : Thread Cert.Reference3Ideal.nD Cert.Reference3Ideal.τ).loc Cert.Reference3Ideal.main_v63) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v3_0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v33) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v3_0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v35) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v8)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v8) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v36)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v36) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v55) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite_router : Cert.Pre_finite_router.Facts),
    quiescent_Kernel (hKernel := hKernel)
    ∧ quiescent_KernelIdeal (hKernelIdeal := hKernelIdeal)
    ∧ quiescent_KernelIdeal_pre_finite_router (hKernelIdeal := hKernelIdeal) (hPre_finite_router := hPre_finite_router)
    ∧ quiescent_ReferenceIdeal (hReferenceIdeal := hReferenceIdeal)
    ∧ quiescent_ReferenceIdeal_pre_finite_router (hReferenceIdeal := hReferenceIdeal) (hPre_finite_router := hPre_finite_router)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite_router (hKernelIdeal := hKernelIdeal) (hReferenceIdeal := hReferenceIdeal) (hPre_finite_router := hPre_finite_router)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite_router.lean ====
abbrev S8704x4096 : Shape := ⟨2, ![8704, 4096]⟩
abbrev S2x4096x4 : Shape := ⟨3, ![2, 4096, 4]⟩
abbrev S2x4 : Shape := ⟨2, ![2, 4]⟩
abbrev S2x4x4096x8 : Shape := ⟨4, ![2, 4, 4096, 8]⟩
abbrev S2x4x8 : Shape := ⟨3, ![2, 4, 8]⟩
abbrev S2x32x4096x512 : Shape := ⟨4, ![2, 32, 4096, 512]⟩
abbrev S2x32x512x4096 : Shape := ⟨4, ![2, 32, 512, 4096]⟩
abbrev S2x4096 : Shape := ⟨2, ![2, 4096]⟩
abbrev S1x4096x4 : Shape := ⟨3, ![1, 4096, 4]⟩
abbrev S4096x4 : Shape := ⟨2, ![4096, 4]⟩
abbrev S_ : Shape := ⟨0, ![]⟩
abbrev S1x4x4096x8 : Shape := ⟨4, ![1, 4, 4096, 8]⟩
abbrev S4x4096x8 : Shape := ⟨3, ![4, 4096, 8]⟩

class Facts : Prop where
  slices_S2x4096x4_S1x4096x4_1_0_0 : S2x4096x4.Slices ![1, 0, 0] S1x4096x4
  shapeCasts_S1x4096x4_S4096x4 : S1x4096x4.ShapeCasts S4096x4
  bcast_S_S4096x4 : S_.BroadcastsInDim S4096x4 (![] : Fin 0 → Fin S4096x4.rank)
  slices_S2x4x4096x8_S1x4x4096x8_1_0_0_0 : S2x4x4096x8.Slices ![1, 0, 0, 0] S1x4x4096x8
  shapeCasts_S1x4x4096x8_S4x4096x8 : S1x4x4096x8.ShapeCasts S4x4096x8
  bcast_S_S4x4096x8 : S_.BroadcastsInDim S4x4096x8 (![] : Fin 0 → Fin S4x4096x8.rank)

variable [Facts]

def fn {F : FTy → Type} [FloatOps F] (main_arg0 : FVec F S8704x4096 .f32) (main_arg1 : FVec F S2x4096x4 .f32) (main_arg2 : FVec F S2x4 .f32) (main_arg3 : FVec F S2x4x4096x8 .f32) (main_arg4 : FVec F S2x4x8 .f32) (main_arg5 : FVec F S2x32x4096x512 .f32) (main_arg6 : FVec F S2x32x4096x512 .f32) (main_arg7 : FVec F S2x32x512x4096 .f32) (main_arg8 : FVec F S2x4096 .f32) (main_arg9 : FVec F S2x4096 .f32) : IVec S4096x4 1 × IVec S4x4096x8 1 :=
  let main_v0 : FVec F S1x4096x4 .f32 := (extractStridedSlice S1x4096x4 ![1, 0, 0] · slices_S2x4096x4_S1x4096x4_1_0_0) main_arg1
  let main_v1 : FVec F S4096x4 .f32 := shapeCast S4096x4 main_v0 shapeCasts_S1x4096x4_S4096x4
  let main_v2 : FVec F S4096x4 .f32 := Host.absf main_v1
  let main_cst : FVec F S_ .f32 := constant S_ .f32 0x7F800000#32
  let main_v3 : FVec F S4096x4 .f32 := broadcastInDim S4096x4 ![] bcast_S_S4096x4 main_cst
  let main_v4 : IVec S4096x4 1 := cmpf .olt main_v2 main_v3
  let main_v5 : FVec F S1x4x4096x8 .f32 := (extractStridedSlice S1x4x4096x8 ![1, 0, 0, 0] · slices_S2x4x4096x8_S1x4x4096x8_1_0_0_0) main_arg3
  let main_v6 : FVec F S4x4096x8 .f32 := shapeCast S4x4096x8 main_v5 shapeCasts_S1x4x4096x8_S4x4096x8
  let main_v7 : FVec F S4x4096x8 .f32 := Host.absf main_v6
  let main_cst_0 : FVec F S_ .f32 := constant S_ .f32 0x7F800000#32
  let main_v8 : FVec F S4x4096x8 .f32 := broadcastInDim S4x4096x8 ![] bcast_S_S4x4096x8 main_cst_0
  let main_v9 : IVec S4x4096x8 1 := cmpf .olt main_v7 main_v8
  (main_v4, main_v9)
-- ==== Kernel.lean ====
abbrev S8704x4096 : Shape := ⟨2, ![8704, 4096]⟩
abbrev S2x4096x4 : Shape := ⟨3, ![2, 4096, 4]⟩
abbrev S2x4 : Shape := ⟨2, ![2, 4]⟩
abbrev S2x4x4096x8 : Shape := ⟨4, ![2, 4, 4096, 8]⟩
abbrev S2x4x8 : Shape := ⟨3, ![2, 4, 8]⟩
abbrev S2x32x4096x512 : Shape := ⟨4, ![2, 32, 4096, 512]⟩
abbrev S2x32x512x4096 : Shape := ⟨4, ![2, 32, 512, 4096]⟩
abbrev S2x4096 : Shape := ⟨2, ![2, 4096]⟩
abbrev S1x4096x4 : Shape := ⟨3, ![1, 4096, 4]⟩
abbrev S4096x4 : Shape := ⟨2, ![4096, 4]⟩
abbrev S1x4x4096x8 : Shape := ⟨4, ![1, 4, 4096, 8]⟩
abbrev S4x4096x8 : Shape := ⟨3, ![4, 4096, 8]⟩
abbrev S4096x4x8 : Shape := ⟨3, ![4096, 4, 8]⟩
abbrev S4096x32 : Shape := ⟨2, ![4096, 32]⟩
abbrev S4096x36 : Shape := ⟨2, ![4096, 36]⟩
abbrev S_ : Shape := ⟨0, ![]⟩
abbrev S4096x128 : Shape := ⟨2, ![4096, 128]⟩
abbrev S8704x128 : Shape := ⟨2, ![8704, 128]⟩
abbrev S256x4096 : Shape := ⟨2, ![256, 4096]⟩
abbrev S256x128 : Shape := ⟨2, ![256, 128]⟩
abbrev S8704x4 : Shape := ⟨2, ![8704, 4]⟩
abbrev S1x4 : Shape := ⟨2, ![1, 4]⟩
abbrev S4 : Shape := ⟨1, ![4]⟩
abbrev S8704 : Shape := ⟨1, ![8704]⟩
abbrev S8704x1 : Shape := ⟨2, ![8704, 1]⟩
abbrev S8704x32 : Shape := ⟨2, ![8704, 32]⟩
abbrev S8704x4x8 : Shape := ⟨3, ![8704, 4, 8]⟩
abbrev S1x4x8 : Shape := ⟨3, ![1, 4, 8]⟩
abbrev S4x8 : Shape := ⟨2, ![4, 8]⟩
abbrev S8704x1x1 : Shape := ⟨3, ![8704, 1, 1]⟩
abbrev S1 : Shape := ⟨1, ![1]⟩
abbrev S1x1x1 : Shape := ⟨3, ![1, 1, 1]⟩
abbrev S8704x1x8 : Shape := ⟨3, ![8704, 1, 8]⟩
abbrev S8704x8 : Shape := ⟨2, ![8704, 8]⟩
abbrev S8704x2 : Shape := ⟨2, ![8704, 2]⟩
abbrev S17408 : Shape := ⟨1, ![17408]⟩
abbrev S17408x1 : Shape := ⟨2, ![17408, 1]⟩
abbrev S33 : Shape := ⟨1, ![33]⟩
abbrev S1x33 : Shape := ⟨2, ![1, 33]⟩
abbrev S17408x33 : Shape := ⟨2, ![17408, 33]⟩
abbrev S32 : Shape := ⟨1, ![32]⟩
abbrev S100 : Shape := ⟨1, ![100]⟩
abbrev S1x100 : Shape := ⟨2, ![1, 100]⟩
abbrev S32x1 : Shape := ⟨2, ![32, 1]⟩
abbrev S32x100 : Shape := ⟨2, ![32, 100]⟩
abbrev S25600 : Shape := ⟨1, ![25600]⟩
abbrev S100x256 : Shape := ⟨2, ![100, 256]⟩
abbrev S25600x1 : Shape := ⟨2, ![25600, 1]⟩
abbrev S25600x4096 : Shape := ⟨2, ![25600, 4096]⟩
abbrev S25600x512 : Shape := ⟨2, ![25600, 512]⟩
abbrev S256x1 : Shape := ⟨2, ![256, 1]⟩
abbrev S1x1x4096x512 : Shape := ⟨4, ![1, 1, 4096, 512]⟩
abbrev S256x512 : Shape := ⟨2, ![256, 512]⟩
abbrev S4096x512 : Shape := ⟨2, ![4096, 512]⟩
abbrev S1x1x512x4096 : Shape := ⟨4, ![1, 1, 512, 4096]⟩
abbrev S512x4096 : Shape := ⟨2, ![512, 4096]⟩
abbrev S2x1x4096 : Shape := ⟨3, ![2, 1, 4096]⟩
abbrev S128x4096 : Shape := ⟨2, ![128, 4096]⟩
abbrev S1x1x4096 : Shape := ⟨3, ![1, 1, 4096]⟩
abbrev S128 : Shape := ⟨1, ![128]⟩
abbrev S128x1 : Shape := ⟨2, ![128, 1]⟩
abbrev S1x4096 : Shape := ⟨2, ![1, 4096]⟩

abbrev nBuf : Space → Nat
  | .hbm => 378
  | .vmem => 33
  | .smem => 2
  | _ => 0

abbrev hbmTy0_0 (i : Nat) : BufTy := match i % 128 with
  | 0 => ⟨S8704x4096, .f32⟩
  | 1 => ⟨S2x4096x4, .f32⟩
  | 2 => ⟨S2x4, .f32⟩
  | 3 => ⟨S2x4x4096x8, .f32⟩
  | 4 => ⟨S2x4x8, .f32⟩
  | 5 => ⟨S2x32x4096x512, .f32⟩
  | 6 => ⟨S2x32x4096x512, .f32⟩
  | 7 => ⟨S2x32x512x4096, .f32⟩
  | 8 => ⟨S2x4096, .f32⟩
  | 9 => ⟨S2x4096, .f32⟩
  | 10 => ⟨S8704x4096, .bf16⟩
  | 11 => ⟨S1x4096x4, .f32⟩
  | 12 => ⟨S4096x4, .f32⟩
  | 13 => ⟨S1x4x4096x8, .f32⟩
  | 14 => ⟨S4x4096x8, .f32⟩
  | 15 => ⟨S4096x4x8, .f32⟩
  | 16 => ⟨S4096x32, .f32⟩
  | 17 => ⟨S4096x36, .f32⟩
  | 18 => ⟨S_, .i32⟩
  | 19 => ⟨S_, .f32⟩
  | 20 => ⟨S4096x128, .f32⟩
  | 21 => ⟨S8704x128, .f32⟩
  | 22 => ⟨S8704x4, .f32⟩
  | 23 => ⟨S1x4, .f32⟩
  | 24 => ⟨S4, .f32⟩
  | 25 => ⟨S1x4, .f32⟩
  | 26 => ⟨S8704x4, .f32⟩
  | 27 => ⟨S8704x4, .f32⟩
  | 28 => ⟨S8704x4, .i32⟩
  | 29 => ⟨S_, .f32⟩
  | 30 => ⟨S_, .i32⟩
  | 31 => ⟨S8704, .f32⟩
  | 32 => ⟨S8704, .i32⟩
  | 33 => ⟨S_, .f32⟩
  | 34 => ⟨S8704, .f32⟩
  | 35 => ⟨S_, .f32⟩
  | 36 => ⟨S8704, .f32⟩
  | 37 => ⟨S8704, .f32⟩
  | 38 => ⟨S8704x1, .f32⟩
  | 39 => ⟨S8704x4, .f32⟩
  | 40 => ⟨S8704x4, .f32⟩
  | 41 => ⟨S8704x4, .f32⟩
  | 42 => ⟨S_, .f32⟩
  | 43 => ⟨S8704, .f32⟩
  | 44 => ⟨S8704x1, .f32⟩
  | 45 => ⟨S8704x4, .f32⟩
  | 46 => ⟨S8704x4, .f32⟩
  | 47 => ⟨S_, .f32⟩
  | 48 => ⟨S8704, .f32⟩
  | 49 => ⟨S8704x32, .f32⟩
  | 50 => ⟨S8704x4x8, .f32⟩
  | 51 => ⟨S1x4x8, .f32⟩
  | 52 => ⟨S4x8, .f32⟩
  | 53 => ⟨S1x4x8, .f32⟩
  | 54 => ⟨S8704x4x8, .f32⟩
  | 55 => ⟨S8704x4x8, .f32⟩
  | 56 => ⟨S8704x1x1, .i32⟩
  | 57 => ⟨S_, .i32⟩
  | 58 => ⟨S8704x1x1, .i32⟩
  | 59 => ⟨S8704x1x1, .i1⟩
  | 60 => ⟨S_, .i32⟩
  | 61 => ⟨S8704x1x1, .i32⟩
  | 62 => ⟨S8704x1x1, .i32⟩
  | 63 => ⟨S8704x1x1, .i32⟩
  | 64 => ⟨S1, .i32⟩
  | 65 => ⟨S_, .i32⟩
  | 66 => ⟨S8704x1x1, .i32⟩
  | 67 => ⟨S8704x1x1, .i1⟩
  | 68 => ⟨S1x1x1, .i32⟩
  | 69 => ⟨S8704x1x1, .i32⟩
  | 70 => ⟨S8704x1x1, .i1⟩
  | 71 => ⟨S8704x1x1, .i1⟩
  | 72 => ⟨S_, .i1⟩
  | 73 => ⟨S8704x1, .i1⟩
  | 74 => ⟨S8704x1x8, .f32⟩
  | 75 => ⟨S8704x1x8, .i1⟩
  | 76 => ⟨S_, .f32⟩
  | 77 => ⟨S8704x1x8, .f32⟩
  | 78 => ⟨S8704x1x8, .f32⟩
  | 79 => ⟨S8704x8, .f32⟩
  | 80 => ⟨S8704x2, .f32⟩
  | 81 => ⟨S8704x2, .i32⟩
  | 82 => ⟨S8704x1, .f32⟩
  | 83 => ⟨S_, .f32⟩
  | 84 => ⟨S8704, .f32⟩
  | 85 => ⟨S_, .f32⟩
  | 86 => ⟨S8704, .f32⟩
  | 87 => ⟨S8704, .f32⟩
  | 88 => ⟨S8704x1, .f32⟩
  | 89 => ⟨S8704x2, .f32⟩
  | 90 => ⟨S8704x2, .f32⟩
  | 91 => ⟨S8704x2, .f32⟩
  | 92 => ⟨S_, .f32⟩
  | 93 => ⟨S8704, .f32⟩
  | 94 => ⟨S8704x1, .f32⟩
  | 95 => ⟨S8704x2, .f32⟩
  | 96 => ⟨S8704x2, .f32⟩
  | 97 => ⟨S8704x2, .f32⟩
  | 98 => ⟨S8704x2, .f32⟩
  | 99 => ⟨S8704x1, .i32⟩
  | 100 => ⟨S_, .i32⟩
  | 101 => ⟨S8704x1, .i32⟩
  | 102 => ⟨S8704x1, .i32⟩
  | 103 => ⟨S8704x2, .i32⟩
  | 104 => ⟨S8704x2, .i32⟩
  | 105 => ⟨S17408, .i32⟩
  | 106 => ⟨S17408, .i32⟩
  | 107 => ⟨S17408, .i32⟩
  | 108 => ⟨S17408, .i32⟩
  | 109 => ⟨S_, .i32⟩
  | 110 => ⟨S17408, .i32⟩
  | 111 => ⟨S17408, .i1⟩
  | 112 => ⟨S_, .i32⟩
  | 113 => ⟨S17408, .i32⟩
  | 114 => ⟨S17408, .i32⟩
  | 115 => ⟨S17408, .i32⟩
  | 116 => ⟨S17408x1, .i32⟩
  | 117 => ⟨S17408, .i32⟩
  | 118 => ⟨S33, .i32⟩
  | 119 => ⟨S1x33, .i32⟩
  | 120 => ⟨S17408x1, .i32⟩
  | 121 => ⟨S17408x33, .i32⟩
  | 122 => ⟨S17408x33, .i32⟩
  | 123 => ⟨S17408x33, .i1⟩
  | 124 => ⟨S17408x33, .i32⟩
  | 125 => ⟨S_, .i32⟩
  | 126 => ⟨S33, .i32⟩
  | 127 => ⟨S32, .i32⟩
  | _ => ⟨S8704x4096, .f32⟩

abbrev hbmTy0_1 (i : Nat) : BufTy := match i % 128 with
  | 0 => ⟨S32, .i32⟩
  | 1 => ⟨S32, .i32⟩
  | 2 => ⟨S32, .i32⟩
  | 3 => ⟨S_, .i32⟩
  | 4 => ⟨S32, .i32⟩
  | 5 => ⟨S32, .i32⟩
  | 6 => ⟨S_, .i32⟩
  | 7 => ⟨S32, .i32⟩
  | 8 => ⟨S32, .i32⟩
  | 9 => ⟨S_, .i32⟩
  | 10 => ⟨S_, .i32⟩
  | 11 => ⟨S32, .i32⟩
  | 12 => ⟨S32, .i32⟩
  | 13 => ⟨S32, .i32⟩
  | 14 => ⟨S_, .i32⟩
  | 15 => ⟨S32, .i32⟩
  | 16 => ⟨S32, .i1⟩
  | 17 => ⟨S32, .i32⟩
  | 18 => ⟨S32, .i32⟩
  | 19 => ⟨S_, .i32⟩
  | 20 => ⟨S32, .i32⟩
  | 21 => ⟨S32, .i1⟩
  | 22 => ⟨S32, .i1⟩
  | 23 => ⟨S_, .i32⟩
  | 24 => ⟨S32, .i32⟩
  | 25 => ⟨S32, .i32⟩
  | 26 => ⟨S32, .i32⟩
  | 27 => ⟨S_, .i32⟩
  | 28 => ⟨S_, .i32⟩
  | 29 => ⟨S32, .i32⟩
  | 30 => ⟨S32, .i32⟩
  | 31 => ⟨S_, .i32⟩
  | 32 => ⟨S32, .i32⟩
  | 33 => ⟨S32, .i32⟩
  | 34 => ⟨S100, .i32⟩
  | 35 => ⟨S1, .i32⟩
  | 36 => ⟨S_, .i32⟩
  | 37 => ⟨S100, .i32⟩
  | 38 => ⟨S100, .i1⟩
  | 39 => ⟨S1x100, .i32⟩
  | 40 => ⟨S32x1, .i32⟩
  | 41 => ⟨S32x100, .i32⟩
  | 42 => ⟨S32x100, .i32⟩
  | 43 => ⟨S32x100, .i1⟩
  | 44 => ⟨S32x100, .i32⟩
  | 45 => ⟨S_, .i32⟩
  | 46 => ⟨S100, .i32⟩
  | 47 => ⟨S_, .i32⟩
  | 48 => ⟨S100, .i32⟩
  | 49 => ⟨S100, .i32⟩
  | 50 => ⟨S_, .i32⟩
  | 51 => ⟨S100, .i32⟩
  | 52 => ⟨S100, .i1⟩
  | 53 => ⟨S1, .i32⟩
  | 54 => ⟨S_, .i32⟩
  | 55 => ⟨S_, .i32⟩
  | 56 => ⟨S_, .i32⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S_, .i32⟩
  | 64 => ⟨S1, .i32⟩
  | 65 => ⟨S_, .i32⟩
  | 66 => ⟨S100, .i32⟩
  | 67 => ⟨S25600, .i32⟩
  | 68 => ⟨S100x256, .i32⟩
  | 69 => ⟨S25600, .i32⟩
  | 70 => ⟨S_, .i32⟩
  | 71 => ⟨S25600, .i32⟩
  | 72 => ⟨S25600, .i1⟩
  | 73 => ⟨S_, .i32⟩
  | 74 => ⟨S25600, .i32⟩
  | 75 => ⟨S25600, .i32⟩
  | 76 => ⟨S25600, .i32⟩
  | 77 => ⟨S25600x1, .i32⟩
  | 78 => ⟨S25600, .i32⟩
  | 79 => ⟨S25600, .i32⟩
  | 80 => ⟨S_, .i32⟩
  | 81 => ⟨S25600, .i32⟩
  | 82 => ⟨S25600, .i1⟩
  | 83 => ⟨S_, .i32⟩
  | 84 => ⟨S25600, .i32⟩
  | 85 => ⟨S25600, .i32⟩
  | 86 => ⟨S25600, .i32⟩
  | 87 => ⟨S25600x1, .i32⟩
  | 88 => ⟨S25600, .i32⟩
  | 89 => ⟨S25600, .i1⟩
  | 90 => ⟨S100x256, .i32⟩
  | 91 => ⟨S25600, .i32⟩
  | 92 => ⟨S_, .i32⟩
  | 93 => ⟨S25600, .i32⟩
  | 94 => ⟨S25600, .i1⟩
  | 95 => ⟨S25600, .i1⟩
  | 96 => ⟨S_, .i32⟩
  | 97 => ⟨S25600, .i32⟩
  | 98 => ⟨S25600, .i1⟩
  | 99 => ⟨S_, .i32⟩
  | 100 => ⟨S25600, .i32⟩
  | 101 => ⟨S25600, .i32⟩
  | 102 => ⟨S25600, .i32⟩
  | 103 => ⟨S25600x1, .i32⟩
  | 104 => ⟨S25600, .i32⟩
  | 105 => ⟨S25600, .i32⟩
  | 106 => ⟨S_, .i32⟩
  | 107 => ⟨S_, .i32⟩
  | 108 => ⟨S_, .i32⟩
  | 109 => ⟨S25600, .i32⟩
  | 110 => ⟨S25600, .i32⟩
  | 111 => ⟨S_, .i32⟩
  | 112 => ⟨S25600, .i32⟩
  | 113 => ⟨S25600, .i32⟩
  | 114 => ⟨S_, .i32⟩
  | 115 => ⟨S25600, .i32⟩
  | 116 => ⟨S25600, .i1⟩
  | 117 => ⟨S_, .i32⟩
  | 118 => ⟨S25600, .i32⟩
  | 119 => ⟨S25600, .i32⟩
  | 120 => ⟨S25600, .i32⟩
  | 121 => ⟨S25600x1, .i32⟩
  | 122 => ⟨S25600, .i32⟩
  | 123 => ⟨S_, .i32⟩
  | 124 => ⟨S_, .i32⟩
  | 125 => ⟨S25600, .i32⟩
  | 126 => ⟨S25600, .i32⟩
  | 127 => ⟨S25600, .i32⟩
  | _ => ⟨S8704x4096, .f32⟩

abbrev hbmTy0_2 (i : Nat) : BufTy := match i % 128 with
  | 0 => ⟨S_, .i32⟩
  | 1 => ⟨S25600, .i32⟩
  | 2 => ⟨S25600, .i1⟩
  | 3 => ⟨S25600, .i32⟩
  | 4 => ⟨S25600, .i32⟩
  | 5 => ⟨S_, .i32⟩
  | 6 => ⟨S25600, .i32⟩
  | 7 => ⟨S25600, .i1⟩
  | 8 => ⟨S25600, .i1⟩
  | 9 => ⟨S_, .i32⟩
  | 10 => ⟨S25600, .i32⟩
  | 11 => ⟨S25600, .i32⟩
  | 12 => ⟨S25600, .i32⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S25600, .i32⟩
  | 20 => ⟨S25600, .i32⟩
  | 21 => ⟨S_, .i32⟩
  | 22 => ⟨S25600, .i32⟩
  | 23 => ⟨S25600, .i1⟩
  | 24 => ⟨S_, .i32⟩
  | 25 => ⟨S25600, .i32⟩
  | 26 => ⟨S25600, .i1⟩
  | 27 => ⟨S_, .i32⟩
  | 28 => ⟨S_, .i1⟩
  | 29 => ⟨S25600, .i1⟩
  | 30 => ⟨S25600, .i1⟩
  | 31 => ⟨S25600, .i1⟩
  | 32 => ⟨S25600, .i32⟩
  | 33 => ⟨S25600, .i32⟩
  | 34 => ⟨S25600, .i32⟩
  | 35 => ⟨S25600, .i32⟩
  | 36 => ⟨S17408, .f32⟩
  | 37 => ⟨S_, .i32⟩
  | 38 => ⟨S25600, .i32⟩
  | 39 => ⟨S25600, .i1⟩
  | 40 => ⟨S_, .i32⟩
  | 41 => ⟨S25600, .i32⟩
  | 42 => ⟨S25600, .i32⟩
  | 43 => ⟨S25600, .i32⟩
  | 44 => ⟨S25600x1, .i32⟩
  | 45 => ⟨S25600, .f32⟩
  | 46 => ⟨S_, .f32⟩
  | 47 => ⟨S_, .f32⟩
  | 48 => ⟨S25600, .f32⟩
  | 49 => ⟨S25600, .f32⟩
  | 50 => ⟨S_, .i32⟩
  | 51 => ⟨S17408, .i32⟩
  | 52 => ⟨S17408, .i1⟩
  | 53 => ⟨S_, .i32⟩
  | 54 => ⟨S17408, .i32⟩
  | 55 => ⟨S17408, .i32⟩
  | 56 => ⟨S17408, .i32⟩
  | 57 => ⟨S17408x1, .i32⟩
  | 58 => ⟨S17408, .i32⟩
  | 59 => ⟨S17408, .i32⟩
  | 60 => ⟨S_, .i32⟩
  | 61 => ⟨S17408, .i32⟩
  | 62 => ⟨S17408, .i1⟩
  | 63 => ⟨S_, .i32⟩
  | 64 => ⟨S17408, .i32⟩
  | 65 => ⟨S17408, .i32⟩
  | 66 => ⟨S17408, .i32⟩
  | 67 => ⟨S17408x1, .i32⟩
  | 68 => ⟨S17408, .i32⟩
  | 69 => ⟨S17408, .i32⟩
  | 70 => ⟨S17408, .i32⟩
  | 71 => ⟨S17408, .i32⟩
  | 72 => ⟨S17408, .i32⟩
  | 73 => ⟨S17408, .i32⟩
  | 74 => ⟨S_, .i32⟩
  | 75 => ⟨S17408, .i32⟩
  | 76 => ⟨S17408, .i1⟩
  | 77 => ⟨S_, .i32⟩
  | 78 => ⟨S17408, .i32⟩
  | 79 => ⟨S17408, .i32⟩
  | 80 => ⟨S17408, .i32⟩
  | 81 => ⟨S17408x1, .i32⟩
  | 82 => ⟨S17408, .i32⟩
  | 83 => ⟨S8704x2, .i32⟩
  | 84 => ⟨S_, .i32⟩
  | 85 => ⟨S25600, .i32⟩
  | 86 => ⟨S25600, .i1⟩
  | 87 => ⟨S_, .i32⟩
  | 88 => ⟨S25600, .i32⟩
  | 89 => ⟨S25600, .i32⟩
  | 90 => ⟨S25600, .i32⟩
  | 91 => ⟨S25600x1, .i32⟩
  | 92 => ⟨S25600x4096, .bf16⟩
  | 93 => ⟨S25600x1, .f32⟩
  | 94 => ⟨S25600x512, .bf16⟩
  | 95 => ⟨S25600x4096, .f32⟩
  | 96 => ⟨S8704x1, .i32⟩
  | 97 => ⟨S8704, .i32⟩
  | 98 => ⟨S_, .i32⟩
  | 99 => ⟨S8704, .i32⟩
  | 100 => ⟨S8704, .i1⟩
  | 101 => ⟨S_, .i32⟩
  | 102 => ⟨S8704, .i32⟩
  | 103 => ⟨S8704, .i32⟩
  | 104 => ⟨S8704, .i32⟩
  | 105 => ⟨S8704x1, .i32⟩
  | 106 => ⟨S8704x4096, .f32⟩
  | 107 => ⟨S8704x1, .i32⟩
  | 108 => ⟨S8704, .i32⟩
  | 109 => ⟨S_, .i32⟩
  | 110 => ⟨S8704, .i32⟩
  | 111 => ⟨S8704, .i1⟩
  | 112 => ⟨S_, .i32⟩
  | 113 => ⟨S8704, .i32⟩
  | 114 => ⟨S8704, .i32⟩
  | 115 => ⟨S8704, .i32⟩
  | 116 => ⟨S8704x1, .i32⟩
  | 117 => ⟨S8704x4096, .f32⟩
  | 118 => ⟨S2x1x4096, .f32⟩
  | 119 => ⟨S2x1x4096, .f32⟩
  | 120 => ⟨S8704x4096, .f32⟩
  | 121 => ⟨S8704x4096, .bf16⟩
  | _ => ⟨S8704x4096, .f32⟩

abbrev hbmTy (i : Nat) : BufTy := match i / 128 with
  | 0 => hbmTy0_0 i
  | 1 => hbmTy0_1 i
  | 2 => hbmTy0_2 i
  | _ => ⟨S8704x4096, .f32⟩

abbrev bufTy : (tb : Table) → Fin (tcTables nBuf tb) → BufTy
  | .hbm, ⟨i, _⟩ => hbmTy i
  | .local _ .vmem, ⟨0, _⟩ => ⟨S256x4096, .f32⟩
  | .local _ .vmem, ⟨1, _⟩ => ⟨S256x4096, .f32⟩
  | .local _ .vmem, ⟨2, _⟩ => ⟨S4096x128, .f32⟩
  | .local _ .vmem, ⟨3, _⟩ => ⟨S256x128, .f32⟩
  | .local _ .vmem, ⟨4, _⟩ => ⟨S256x128, .f32⟩
  | .local _ .vmem, ⟨5, _⟩ => ⟨S256x4096, .bf16⟩
  | .local _ .vmem, ⟨6, _⟩ => ⟨S256x4096, .bf16⟩
  | .local _ .vmem, ⟨7, _⟩ => ⟨S256x1, .f32⟩
  | .local _ .vmem, ⟨8, _⟩ => ⟨S256x1, .f32⟩
  | .local _ .vmem, ⟨9, _⟩ => ⟨S1x1x4096x512, .f32⟩
  | .local _ .vmem, ⟨10, _⟩ => ⟨S1x1x4096x512, .f32⟩
  | .local _ .vmem, ⟨11, _⟩ => ⟨S1x1x4096x512, .f32⟩
  | .local _ .vmem, ⟨12, _⟩ => ⟨S1x1x4096x512, .f32⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S1x1x512x4096, .f32⟩
  | .local _ .vmem, ⟨18, _⟩ => ⟨S1x1x512x4096, .f32⟩
  | .local _ .vmem, ⟨19, _⟩ => ⟨S256x4096, .f32⟩
  | .local _ .vmem, ⟨20, _⟩ => ⟨S256x4096, .f32⟩
  | .local _ .vmem, ⟨21, _⟩ => ⟨S128x4096, .f32⟩
  | .local _ .vmem, ⟨22, _⟩ => ⟨S128x4096, .f32⟩
  | .local _ .vmem, ⟨23, _⟩ => ⟨S128x4096, .f32⟩
  | .local _ .vmem, ⟨24, _⟩ => ⟨S128x4096, .f32⟩
  | .local _ .vmem, ⟨25, _⟩ => ⟨S128x4096, .f32⟩
  | .local _ .vmem, ⟨26, _⟩ => ⟨S128x4096, .f32⟩
  | .local _ .vmem, ⟨27, _⟩ => ⟨S1x1x4096, .f32⟩
  | .local _ .vmem, ⟨28, _⟩ => ⟨S1x1x4096, .f32⟩
  | .local _ .vmem, ⟨29, _⟩ => ⟨S128x4096, .f32⟩
  | .local _ .vmem, ⟨30, _⟩ => ⟨S128x4096, .f32⟩
  | .local _ .vmem, ⟨31, _⟩ => ⟨S128x4096, .bf16⟩
  | .local _ .vmem, ⟨32, _⟩ => ⟨S128x4096, .bf16⟩
  | .local _ .smem, ⟨0, _⟩ => ⟨S100, .i32⟩
  | .local _ .smem, ⟨1, _⟩ => ⟨S100, .i32⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_call0_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call1_v0 : Ref sig .tc := ⟨.hbm, 28, rfl⟩
abbrev main_call1_cst : Ref sig .tc := ⟨.hbm, 29, rfl⟩
abbrev main_call1_c : Ref sig .tc := ⟨.hbm, 30, rfl⟩
abbrev main_call1_v1_0 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_cst_0 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_1 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_2 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call2_c : Ref sig .tc := ⟨.hbm, 57, rfl⟩
abbrev main_call2_v0 : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_c_1 : Ref sig .tc := ⟨.hbm, 64, rfl⟩
abbrev main_call2_c_2 : Ref sig .tc := ⟨.hbm, 65, rfl⟩
abbrev main_call2_v5 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_c_3 : Ref sig .tc := ⟨.hbm, 72, rfl⟩
abbrev main_call2_v11 : Ref sig .tc := ⟨.hbm, 73, rfl⟩
abbrev main_call2_v12 : Ref sig .tc := ⟨.hbm, 74, rfl⟩
abbrev main_call2_v13 : Ref sig .tc := ⟨.hbm, 75, rfl⟩
abbrev main_call2_cst : Ref sig .tc := ⟨.hbm, 76, rfl⟩
abbrev main_call2_v14 : Ref sig .tc := ⟨.hbm, 77, rfl⟩
abbrev main_v37 : Ref sig .tc := ⟨.hbm, 78, rfl⟩
abbrev main_v38 : Ref sig .tc := ⟨.hbm, 79, rfl⟩
abbrev main_values : Ref sig .tc := ⟨.hbm, 80, rfl⟩
abbrev main_indices : Ref sig .tc := ⟨.hbm, 81, rfl⟩
abbrev main_v39 : Ref sig .tc := ⟨.hbm, 82, rfl⟩
abbrev main_cst_3 : Ref sig .tc := ⟨.hbm, 83, rfl⟩
abbrev main_v40 : Ref sig .tc := ⟨.hbm, 84, rfl⟩
abbrev main_cst_4 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_cst_5 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_c_6 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_call3_v0 : Ref sig .tc := ⟨.hbm, 106, rfl⟩
abbrev main_call3_v1_0 : Ref sig .tc := ⟨.hbm, 107, rfl⟩
abbrev main_v59 : Ref sig .tc := ⟨.hbm, 108, rfl⟩
abbrev main_c_7 : Ref sig .tc := ⟨.hbm, 109, rfl⟩
abbrev main_v60 : Ref sig .tc := ⟨.hbm, 110, rfl⟩
abbrev main_v61 : Ref sig .tc := ⟨.hbm, 111, rfl⟩
abbrev main_c_8 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_call4_call0_v0 : Ref sig .tc := ⟨.hbm, 119, rfl⟩
abbrev main_call4_call0_v1 : Ref sig .tc := ⟨.hbm, 120, rfl⟩
abbrev main_call4_call0_v2 : Ref sig .tc := ⟨.hbm, 121, rfl⟩
abbrev main_call4_call0_v3 : Ref sig .tc := ⟨.hbm, 122, rfl⟩
abbrev main_call4_call0_v4 : Ref sig .tc := ⟨.hbm, 123, rfl⟩
abbrev main_call4_call0_v5 : Ref sig .tc := ⟨.hbm, 124, rfl⟩
abbrev main_call4_call0_c : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_c_9 : Ref sig .tc := ⟨.hbm, 131, rfl⟩
abbrev main_v73 : Ref sig .tc := ⟨.hbm, 132, rfl⟩
abbrev main_v74 : Ref sig .tc := ⟨.hbm, 133, rfl⟩
abbrev main_c_10 : Ref sig .tc := ⟨.hbm, 134, rfl⟩
abbrev main_v75 : Ref sig .tc := ⟨.hbm, 135, rfl⟩
abbrev main_v76 : Ref sig .tc := ⟨.hbm, 136, rfl⟩
abbrev main_c_11 : Ref sig .tc := ⟨.hbm, 137, rfl⟩
abbrev main_call5_v0 : Ref sig .tc := ⟨.hbm, 138, rfl⟩
abbrev main_call5_v1 : Ref sig .tc := ⟨.hbm, 139, rfl⟩
abbrev main_call5_v2 : Ref sig .tc := ⟨.hbm, 140, rfl⟩
abbrev main_call5_v3 : Ref sig .tc := ⟨.hbm, 141, rfl⟩
abbrev main_call5_v4 : Ref sig .tc := ⟨.hbm, 142, rfl⟩
abbrev main_call5_v5 : Ref sig .tc := ⟨.hbm, 143, rfl⟩
abbrev main_call5_v6 : Ref sig .tc := ⟨.hbm, 144, rfl⟩
abbrev main_call5_v7 : Ref sig .tc := ⟨.hbm, 145, rfl⟩
abbrev main_call5_v8 : Ref sig .tc := ⟨.hbm, 146, rfl⟩
abbrev main_call5_c : Ref sig .tc := ⟨.hbm, 147, rfl⟩
abbrev main_call5_v9 : Ref sig .tc := ⟨.hbm, 148, rfl⟩
abbrev main_call5_v10 : Ref sig .tc := ⟨.hbm, 149, rfl⟩
abbrev main_call5_v11 : Ref sig .tc := ⟨.hbm, 150, rfl⟩
abbrev main_call5_c_0 : Ref sig .tc := ⟨.hbm, 151, rfl⟩
abbrev main_call5_v12 : Ref sig .tc := ⟨.hbm, 152, rfl⟩
abbrev main_call5_v13 : Ref sig .tc := ⟨.hbm, 153, rfl⟩
abbrev main_v77 : Ref sig .tc := ⟨.hbm, 154, rfl⟩
abbrev main_call6_call0_c : Ref sig .tc := ⟨.hbm, 155, rfl⟩
abbrev main_call6_call0_v0 : Ref sig .tc := ⟨.hbm, 156, rfl⟩
abbrev main_v78 : Ref sig .tc := ⟨.hbm, 157, rfl⟩
abbrev main_v79 : Ref sig .tc := ⟨.hbm, 158, rfl⟩
abbrev main_c_12 : Ref sig .tc := ⟨.hbm, 159, rfl⟩
abbrev main_v80 : Ref sig .tc := ⟨.hbm, 160, rfl⟩
abbrev main_v81 : Ref sig .tc := ⟨.hbm, 161, rfl⟩
abbrev main_v82 : Ref sig .tc := ⟨.hbm, 162, rfl⟩
abbrev main_v83 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_call7_call0_v0 : Ref sig .tc := ⟨.hbm, 167, rfl⟩
abbrev main_call7_call0_v1 : Ref sig .tc := ⟨.hbm, 168, rfl⟩
abbrev main_call7_call0_v2 : Ref sig .tc := ⟨.hbm, 169, rfl⟩
abbrev main_call7_call0_v3 : Ref sig .tc := ⟨.hbm, 170, rfl⟩
abbrev main_call7_call0_v4 : Ref sig .tc := ⟨.hbm, 171, rfl⟩
abbrev main_call7_call0_v5 : Ref sig .tc := ⟨.hbm, 172, rfl⟩
abbrev main_call7_call0_c : Ref sig .tc := ⟨.hbm, 173, rfl⟩
abbrev main_v88 : Ref sig .tc := ⟨.hbm, 174, rfl⟩
abbrev main_c_13 : Ref sig .tc := ⟨.hbm, 175, rfl⟩
abbrev main_v89 : Ref sig .tc := ⟨.hbm, 176, rfl⟩
abbrev main_v90 : Ref sig .tc := ⟨.hbm, 177, rfl⟩
abbrev main_c_14 : Ref sig .tc := ⟨.hbm, 178, rfl⟩
abbrev main_v91 : Ref sig .tc := ⟨.hbm, 179, rfl⟩
abbrev main_v92 : Ref sig .tc := ⟨.hbm, 180, rfl⟩
abbrev main_v93 : Ref sig .tc := ⟨.hbm, 181, rfl⟩
abbrev main_v94 : Ref sig .tc := ⟨.hbm, 182, rfl⟩
abbrev main_c_15 : Ref sig .tc := ⟨.hbm, 183, rfl⟩
abbrev main_v95 : Ref sig .tc := ⟨.hbm, 184, rfl⟩
abbrev main_c_16 : Ref sig .tc := ⟨.hbm, 185, rfl⟩
abbrev main_v96 : Ref sig .tc := ⟨.hbm, 186, rfl⟩
abbrev main_c_17 : Ref sig .tc := ⟨.hbm, 187, rfl⟩
abbrev main_v97 : Ref sig .tc := ⟨.hbm, 188, rfl⟩
abbrev main_c_18 : Ref sig .tc := ⟨.hbm, 189, rfl⟩
abbrev main_v98 : Ref sig .tc := ⟨.hbm, 190, rfl⟩
abbrev main_v99 : Ref sig .tc := ⟨.hbm, 191, rfl⟩
abbrev main_v100 : Ref sig .tc := ⟨.hbm, 192, rfl⟩
abbrev main_v101 : Ref sig .tc := ⟨.hbm, 193, rfl⟩
abbrev main_call8_v0 : Ref sig .tc := ⟨.hbm, 194, rfl⟩
abbrev main_v103 : Ref sig .tc := ⟨.hbm, 195, rfl⟩
abbrev main_v104 : Ref sig .tc := ⟨.hbm, 196, rfl⟩
abbrev main_v105 : Ref sig .tc := ⟨.hbm, 197, rfl⟩
abbrev main_c_19 : Ref sig .tc := ⟨.hbm, 198, rfl⟩
abbrev main_v106 : Ref sig .tc := ⟨.hbm, 199, rfl⟩
abbrev main_v107 : Ref sig .tc := ⟨.hbm, 200, rfl⟩
abbrev main_c_20 : Ref sig .tc := ⟨.hbm, 201, rfl⟩
abbrev main_v108 : Ref sig .tc := ⟨.hbm, 202, rfl⟩
abbrev main_v109 : Ref sig .tc := ⟨.hbm, 203, rfl⟩
abbrev main_v110 : Ref sig .tc := ⟨.hbm, 204, rfl⟩
abbrev main_v111 : Ref sig .tc := ⟨.hbm, 205, rfl⟩
abbrev main_v112 : Ref sig .tc := ⟨.hbm, 206, rfl⟩
abbrev main_v113 : Ref sig .tc := ⟨.hbm, 207, rfl⟩
abbrev main_c_21 : Ref sig .tc := ⟨.hbm, 208, rfl⟩
abbrev main_v114 : Ref sig .tc := ⟨.hbm, 209, rfl⟩
abbrev main_v115 : Ref sig .tc := ⟨.hbm, 210, rfl⟩
abbrev main_c_22 : Ref sig .tc := ⟨.hbm, 211, rfl⟩
abbrev main_v116 : Ref sig .tc := ⟨.hbm, 212, rfl⟩
abbrev main_v117 : Ref sig .tc := ⟨.hbm, 213, rfl⟩
abbrev main_v118 : Ref sig .tc := ⟨.hbm, 214, rfl⟩
abbrev main_v119 : Ref sig .tc := ⟨.hbm, 215, rfl⟩
abbrev main_v120 : Ref sig .tc := ⟨.hbm, 216, rfl⟩
abbrev main_v121 : Ref sig .tc := ⟨.hbm, 217, rfl⟩
abbrev main_v122 : Ref sig .tc := ⟨.hbm, 218, rfl⟩
abbrev main_v123 : Ref sig .tc := ⟨.hbm, 219, rfl⟩
abbrev main_c_23 : Ref sig .tc := ⟨.hbm, 220, rfl⟩
abbrev main_v124 : Ref sig .tc := ⟨.hbm, 221, rfl⟩
abbrev main_v125 : Ref sig .tc := ⟨.hbm, 222, rfl⟩
abbrev main_v126 : Ref sig .tc := ⟨.hbm, 223, rfl⟩
abbrev main_c_24 : Ref sig .tc := ⟨.hbm, 224, rfl⟩
abbrev main_v127 : Ref sig .tc := ⟨.hbm, 225, rfl⟩
abbrev main_v128 : Ref sig .tc := ⟨.hbm, 226, rfl⟩
abbrev main_c_25 : Ref sig .tc := ⟨.hbm, 227, rfl⟩
abbrev main_v129 : Ref sig .tc := ⟨.hbm, 228, rfl⟩
abbrev main_v130 : Ref sig .tc := ⟨.hbm, 229, rfl⟩
abbrev main_v131 : Ref sig .tc := ⟨.hbm, 230, rfl⟩
abbrev main_v132 : Ref sig .tc := ⟨.hbm, 231, rfl⟩
abbrev main_v133 : Ref sig .tc := ⟨.hbm, 232, rfl⟩
abbrev main_v134 : Ref sig .tc := ⟨.hbm, 233, rfl⟩
abbrev main_c_26 : Ref sig .tc := ⟨.hbm, 234, rfl⟩
abbrev main_c_27 : Ref sig .tc := ⟨.hbm, 235, rfl⟩
abbrev main_call9_v0 : Ref sig .tc := ⟨.hbm, 236, rfl⟩
abbrev main_call9_v1 : Ref sig .tc := ⟨.hbm, 237, rfl⟩
abbrev main_call9_v2 : Ref sig .tc := ⟨.hbm, 238, rfl⟩
abbrev main_call9_v3 : Ref sig .tc := ⟨.hbm, 239, rfl⟩
abbrev main_call9_v4 : Ref sig .tc := ⟨.hbm, 240, rfl⟩
abbrev main_v135 : Ref sig .tc := ⟨.hbm, 241, rfl⟩
abbrev main_c_28 : Ref sig .tc := ⟨.hbm, 242, rfl⟩
abbrev main_v136 : Ref sig .tc := ⟨.hbm, 243, rfl⟩
abbrev main_v137 : Ref sig .tc := ⟨.hbm, 244, rfl⟩
abbrev main_c_29 : Ref sig .tc := ⟨.hbm, 245, rfl⟩
abbrev main_v138 : Ref sig .tc := ⟨.hbm, 246, rfl⟩
abbrev main_v139 : Ref sig .tc := ⟨.hbm, 247, rfl⟩
abbrev main_v140 : Ref sig .tc := ⟨.hbm, 248, rfl⟩
abbrev main_v141 : Ref sig .tc := ⟨.hbm, 249, rfl⟩
abbrev main_v142 : Ref sig .tc := ⟨.hbm, 250, rfl⟩
abbrev main_c_30 : Ref sig .tc := ⟨.hbm, 251, rfl⟩
abbrev main_call10_v0 : Ref sig .tc := ⟨.hbm, 252, rfl⟩
abbrev main_call10_v1 : Ref sig .tc := ⟨.hbm, 253, rfl⟩
abbrev main_call10_v2 : Ref sig .tc := ⟨.hbm, 254, rfl⟩
abbrev main_call10_v3 : Ref sig .tc := ⟨.hbm, 255, rfl⟩
abbrev main_call10_v4 : Ref sig .tc := ⟨.hbm, 256, rfl⟩
abbrev main_call10_v5 : Ref sig .tc := ⟨.hbm, 257, rfl⟩
abbrev main_call10_v6 : Ref sig .tc := ⟨.hbm, 258, rfl⟩
abbrev main_call10_v7 : Ref sig .tc := ⟨.hbm, 259, rfl⟩
abbrev main_call10_v8 : Ref sig .tc := ⟨.hbm, 260, rfl⟩
abbrev main_call10_c : Ref sig .tc := ⟨.hbm, 261, rfl⟩
abbrev main_call10_v9 : Ref sig .tc := ⟨.hbm, 262, rfl⟩
abbrev main_call10_v10 : Ref sig .tc := ⟨.hbm, 263, rfl⟩
abbrev main_call10_v11 : Ref sig .tc := ⟨.hbm, 264, rfl⟩
abbrev main_call10_c_0 : Ref sig .tc := ⟨.hbm, 265, rfl⟩
abbrev main_call10_v12 : Ref sig .tc := ⟨.hbm, 266, rfl⟩
abbrev main_call10_v13 : Ref sig .tc := ⟨.hbm, 267, rfl⟩
abbrev main_v143 : Ref sig .tc := ⟨.hbm, 268, rfl⟩
abbrev main_c_31 : Ref sig .tc := ⟨.hbm, 269, rfl⟩
abbrev main_call11_v0 : Ref sig .tc := ⟨.hbm, 270, rfl⟩
abbrev main_call11_c : Ref sig .tc := ⟨.hbm, 271, rfl⟩
abbrev main_call11_v1 : Ref sig .tc := ⟨.hbm, 272, rfl⟩
abbrev main_call11_c_0 : Ref sig .tc := ⟨.hbm, 273, rfl⟩
abbrev main_call11_v2 : Ref sig .tc := ⟨.hbm, 274, rfl⟩
abbrev main_call11_v3 : Ref sig .tc := ⟨.hbm, 275, rfl⟩
abbrev main_call11_v4 : Ref sig .tc := ⟨.hbm, 276, rfl⟩
abbrev main_call11_c_1 : Ref sig .tc := ⟨.hbm, 277, rfl⟩
abbrev main_call11_v5 : Ref sig .tc := ⟨.hbm, 278, rfl⟩
abbrev main_call11_v6 : Ref sig .tc := ⟨.hbm, 279, rfl⟩
abbrev main_call11_c_2 : Ref sig .tc := ⟨.hbm, 280, rfl⟩
abbrev main_call11_v7 : Ref sig .tc := ⟨.hbm, 281, rfl⟩
abbrev main_call11_v8 : Ref sig .tc := ⟨.hbm, 282, rfl⟩
abbrev main_call11_c_3 : Ref sig .tc := ⟨.hbm, 283, rfl⟩
abbrev main_call11_v9 : Ref sig .tc := ⟨.hbm, 284, rfl⟩
abbrev main_call11_v10 : Ref sig .tc := ⟨.hbm, 285, rfl⟩
abbrev main_call11_v11 : Ref sig .tc := ⟨.hbm, 286, rfl⟩
abbrev main_call11_v12 : Ref sig .tc := ⟨.hbm, 287, rfl⟩
abbrev main_call11_v13 : Ref sig .tc := ⟨.hbm, 288, rfl⟩
abbrev main_call11_v14 : Ref sig .tc := ⟨.hbm, 289, rfl⟩
abbrev main_v144 : Ref sig .tc := ⟨.hbm, 290, rfl⟩
abbrev main_v145 : Ref sig .tc := ⟨.hbm, 291, rfl⟩
abbrev main_v146 : Ref sig .tc := ⟨.hbm, 292, rfl⟩
abbrev main_c_32 : Ref sig .tc := ⟨.hbm, 293, rfl⟩
abbrev main_v147 : Ref sig .tc := ⟨.hbm, 294, rfl⟩
abbrev main_v148 : Ref sig .tc := ⟨.hbm, 295, rfl⟩
abbrev main_c_33 : Ref sig .tc := ⟨.hbm, 296, rfl⟩
abbrev main_v149 : Ref sig .tc := ⟨.hbm, 297, rfl⟩
abbrev main_v150 : Ref sig .tc := ⟨.hbm, 298, rfl⟩
abbrev main_v151 : Ref sig .tc := ⟨.hbm, 299, rfl⟩
abbrev main_v152 : Ref sig .tc := ⟨.hbm, 300, rfl⟩
abbrev main_v153 : Ref sig .tc := ⟨.hbm, 301, rfl⟩
abbrev main_cst_34 : Ref sig .tc := ⟨.hbm, 302, rfl⟩
abbrev main_call13_v0 : Ref sig .tc := ⟨.hbm, 303, rfl⟩
abbrev main_call13_v1 : Ref sig .tc := ⟨.hbm, 304, rfl⟩
abbrev main_v154 : Ref sig .tc := ⟨.hbm, 305, rfl⟩
abbrev main_c_35 : Ref sig .tc := ⟨.hbm, 306, rfl⟩
abbrev main_v155 : Ref sig .tc := ⟨.hbm, 307, rfl⟩
abbrev main_v156 : Ref sig .tc := ⟨.hbm, 308, rfl⟩
abbrev main_c_36 : Ref sig .tc := ⟨.hbm, 309, rfl⟩
abbrev main_v157 : Ref sig .tc := ⟨.hbm, 310, rfl⟩
abbrev main_v158 : Ref sig .tc := ⟨.hbm, 311, rfl⟩
abbrev main_v159 : Ref sig .tc := ⟨.hbm, 312, rfl⟩
abbrev main_v160 : Ref sig .tc := ⟨.hbm, 313, rfl⟩
abbrev main_v161 : Ref sig .tc := ⟨.hbm, 314, rfl⟩
abbrev main_v162 : Ref sig .tc := ⟨.hbm, 315, rfl⟩
abbrev main_c_37 : Ref sig .tc := ⟨.hbm, 316, rfl⟩
abbrev main_v163 : Ref sig .tc := ⟨.hbm, 317, rfl⟩
abbrev main_v164 : Ref sig .tc := ⟨.hbm, 318, rfl⟩
abbrev main_c_38 : Ref sig .tc := ⟨.hbm, 319, rfl⟩
abbrev main_v165 : Ref sig .tc := ⟨.hbm, 320, rfl⟩
abbrev main_v166 : Ref sig .tc := ⟨.hbm, 321, rfl⟩
abbrev main_v167 : Ref sig .tc := ⟨.hbm, 322, rfl⟩
abbrev main_v168 : Ref sig .tc := ⟨.hbm, 323, rfl⟩
abbrev main_v169 : Ref sig .tc := ⟨.hbm, 324, rfl⟩
abbrev main_v170 : Ref sig .tc := ⟨.hbm, 325, rfl⟩
abbrev main_v171 : Ref sig .tc := ⟨.hbm, 326, rfl⟩
abbrev main_call14_v0 : Ref sig .tc := ⟨.hbm, 327, rfl⟩
abbrev main_call14_v1_0 : Ref sig .tc := ⟨.hbm, 328, rfl⟩
abbrev main_v172 : Ref sig .tc := ⟨.hbm, 329, rfl⟩
abbrev main_c_39 : Ref sig .tc := ⟨.hbm, 330, rfl⟩
abbrev main_v173 : Ref sig .tc := ⟨.hbm, 331, rfl⟩
abbrev main_v174 : Ref sig .tc := ⟨.hbm, 332, rfl⟩
abbrev main_c_40 : Ref sig .tc := ⟨.hbm, 333, rfl⟩
abbrev main_v175 : Ref sig .tc := ⟨.hbm, 334, rfl⟩
abbrev main_v176 : Ref sig .tc := ⟨.hbm, 335, rfl⟩
abbrev main_v177 : Ref sig .tc := ⟨.hbm, 336, rfl⟩
abbrev main_v178 : Ref sig .tc := ⟨.hbm, 337, rfl⟩
abbrev main_v179 : Ref sig .tc := ⟨.hbm, 338, rfl⟩
abbrev main_v180 : Ref sig .tc := ⟨.hbm, 339, rfl⟩
abbrev main_c_41 : Ref sig .tc := ⟨.hbm, 340, rfl⟩
abbrev main_v181 : Ref sig .tc := ⟨.hbm, 341, rfl⟩
abbrev main_v182 : Ref sig .tc := ⟨.hbm, 342, rfl⟩
abbrev main_c_42 : Ref sig .tc := ⟨.hbm, 343, rfl⟩
abbrev main_v183 : Ref sig .tc := ⟨.hbm, 344, rfl⟩
abbrev main_v184 : Ref sig .tc := ⟨.hbm, 345, rfl⟩
abbrev main_v185 : Ref sig .tc := ⟨.hbm, 346, rfl⟩
abbrev main_v186 : Ref sig .tc := ⟨.hbm, 347, rfl⟩
abbrev main_v187 : Ref sig .tc := ⟨.hbm, 348, rfl⟩
abbrev main_v188 : Ref sig .tc := ⟨.hbm, 349, rfl⟩
abbrev main_v189 : Ref sig .tc := ⟨.hbm, 350, rfl⟩
abbrev main_v190 : Ref sig .tc := ⟨.hbm, 351, rfl⟩
abbrev main_v191 : Ref sig .tc := ⟨.hbm, 352, rfl⟩
abbrev main_v192 : Ref sig .tc := ⟨.hbm, 353, rfl⟩
abbrev main_c_43 : Ref sig .tc := ⟨.hbm, 354, rfl⟩
abbrev main_v193 : Ref sig .tc := ⟨.hbm, 355, rfl⟩
abbrev main_v194 : Ref sig .tc := ⟨.hbm, 356, rfl⟩
abbrev main_c_44 : Ref sig .tc := ⟨.hbm, 357, rfl⟩
abbrev main_v195 : Ref sig .tc := ⟨.hbm, 358, rfl⟩
abbrev main_v196 : Ref sig .tc := ⟨.hbm, 359, rfl⟩
abbrev main_v197 : Ref sig .tc := ⟨.hbm, 360, rfl⟩
abbrev main_v198 : Ref sig .tc := ⟨.hbm, 361, rfl⟩
abbrev main_v199 : Ref sig .tc := ⟨.hbm, 362, rfl⟩
abbrev main_v200 : Ref sig .tc := ⟨.hbm, 363, rfl⟩
abbrev main_v201 : Ref sig .tc := ⟨.hbm, 364, rfl⟩
abbrev main_c_45 : Ref sig .tc := ⟨.hbm, 365, rfl⟩
abbrev main_v202 : Ref sig .tc := ⟨.hbm, 366, rfl⟩
abbrev main_v203 : Ref sig .tc := ⟨.hbm, 367, rfl⟩
abbrev main_c_46 : Ref sig .tc := ⟨.hbm, 368, rfl⟩
abbrev main_v204 : Ref sig .tc := ⟨.hbm, 369, rfl⟩
abbrev main_v205 : Ref sig .tc := ⟨.hbm, 370, rfl⟩
abbrev main_v206 : Ref sig .tc := ⟨.hbm, 371, rfl⟩
abbrev main_v207 : Ref sig .tc := ⟨.hbm, 372, rfl⟩
abbrev main_v208 : Ref sig .tc := ⟨.hbm, 373, rfl⟩
abbrev main_v209 : Ref sig .tc := ⟨.hbm, 374, rfl⟩
abbrev main_v210 : Ref sig .tc := ⟨.hbm, 375, rfl⟩
abbrev main_v211_0 : Ref sig .tc := ⟨.hbm, 376, rfl⟩
abbrev main_v211_1 : Ref sig .tc := ⟨.hbm, 377, rfl⟩
abbrev main_v102 : Ref sig .tc := ⟨.smem, 0, rfl⟩
abbrev main_v87 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg5_1 : Ref sig .tc := ⟨.vmem, 30, rfl⟩
abbrev cc3_stg6_0 : Ref sig .tc := ⟨.vmem, 31, rfl⟩
abbrev cc3_stg6_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem4_0 : DmaSem sig := 28
abbrev cc3_sem5_0 : DmaSem sig := 29
abbrev cc3_sem5_1 : DmaSem sig := 30
abbrev cc3_sem6_0 : DmaSem sig := 31
abbrev cc3_sem6_1 : DmaSem sig := 32

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

abbrev pre1 : Pipeline.Prefetch sig := ⟨2, ![main_v102.idx, main_v87.idx], fun | 0 => main_v102.names | 1 => main_v87.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_off2 (i : grid1.Coords) : Fin 1 → Nat :=
  let arg0 : BitVec 32 := BitVec.ofNat 32 (i 0).val
  let v5 : Index := Scalar.indexCast arg0
  ![v5.toNat]
def k1_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def k1_cond2 (v6 : BitVec 32) : BitVec 1 :=
  let c0_i32_1 : BitVec 32 := 0#32
  let v7 : BitVec 1 := Scalar.cmpi .eq v6 c0_i32_1
  let v8 : BitVec 32 := Scalar.extui v7
  let c0_i32_2 : BitVec 32 := 0#32
  let v9 : BitVec 1 := Scalar.cmpi .ne v8 c0_i32_2
  v9

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (k1_off1_inb : ∀ i : grid1.Coords, ∀ a, (k1_off1 i) a + S1.size a ≤ S100.size a) (numel1_S1 : S1.numel = 1) (pf : pre1.Contents (Elt F)) (i : grid1.Coords) : Fin 4 → Nat :=
  let arg0 : BitVec 32 := BitVec.ofNat 32 (i 0).val
  let v0 : Index := Scalar.indexCast arg0
  let v1 : BitVec 32 := pf.at 0 (Rect.unit (s := S100) ![v0.toNat] S1.size (k1_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc1_transform_3 (k1_off1_inb : ∀ i : grid1.Coords, ∀ a, (k1_off1 i) a + S1.size a ≤ S100.size a) (numel1_S1 : S1.numel = 1) (pf : pre1.Contents (Elt F)) (i : grid1.Coords) : Fin 4 → Nat :=
  let arg0 : BitVec 32 := BitVec.ofNat 32 (i 0).val
  let v0 : Index := Scalar.indexCast arg0
  let v1 : BitVec 32 := pf.at 0 (Rect.unit (s := S100) ![v0.toNat] S1.size (k1_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x4096x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x4096x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![100], ![false]⟩

abbrev pre2 : Pipeline.Prefetch sig := ⟨2, ![main_v102.idx, main_v87.idx], fun | 0 => main_v102.names | 1 => main_v87.names | ⟨_ + 2, h⟩ => absurd h (Nat.not_lt.2 (Nat.le_add_left _ _)), fun | 0 => rfl | 1 => rfl | ⟨_ + 2, h⟩ => absurd h (Nat.not_lt.2 (Nat.le_add_left _ _))⟩

def k2_off1 (i : grid2.Coords) : Fin 1 → Nat :=
  let arg0 : BitVec 32 := BitVec.ofNat 32 (i 0).val
  let v0 : Index := Scalar.indexCast arg0
  ![v0.toNat]
def k2_off2 (i : grid2.Coords) : Fin 1 → Nat :=
  let arg0 : BitVec 32 := BitVec.ofNat 32 (i 0).val
  let v5 : Index := Scalar.indexCast arg0
  ![v5.toNat]
def k2_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def k2_cond2 (v6 : BitVec 32) : BitVec 1 :=
  let c0_i32_1 : BitVec 32 := 0#32
  let v7 : BitVec 1 := Scalar.cmpi .eq v6 c0_i32_1
  let v8 : BitVec 32 := Scalar.extui v7
  let c0_i32_2 : BitVec 32 := 0#32
  let v9 : BitVec 1 := Scalar.cmpi .ne v8 c0_i32_2
  v9

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (k2_off1_inb : ∀ i : grid2.Coords, ∀ a, (k2_off1 i) a + S1.size a ≤ S100.size a) (numel1_S1 : S1.numel = 1) (pf : pre2.Contents (Elt F)) (i : grid2.Coords) : Fin 4 → Nat :=
  let arg0 : BitVec 32 := BitVec.ofNat 32 (i 0).val
  let v0 : Index := Scalar.indexCast arg0
  let v1 : BitVec 32 := pf.at 0 (Rect.unit (s := S100) ![v0.toNat] S1.size (k2_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x512x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![68], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc3_transform_4 (i : grid3.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S128x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S128x4096 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S128x4096 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x1x4096 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1x4096 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S128x4096 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S128x4096 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]
-- ==== ReferenceIdeal.lean ====
abbrev S8704x4096 : Shape := ⟨2, ![8704, 4096]⟩
abbrev S2x4096x4 : Shape := ⟨3, ![2, 4096, 4]⟩
abbrev S2x4 : Shape := ⟨2, ![2, 4]⟩
abbrev S2x4x4096x8 : Shape := ⟨4, ![2, 4, 4096, 8]⟩
abbrev S2x4x8 : Shape := ⟨3, ![2, 4, 8]⟩
abbrev S2x32x4096x512 : Shape := ⟨4, ![2, 32, 4096, 512]⟩
abbrev S2x32x512x4096 : Shape := ⟨4, ![2, 32, 512, 4096]⟩
abbrev S2x4096 : Shape := ⟨2, ![2, 4096]⟩
abbrev S1x4096x4 : Shape := ⟨3, ![1, 4096, 4]⟩
abbrev S4096x4 : Shape := ⟨2, ![4096, 4]⟩
abbrev S1x4 : Shape := ⟨2, ![1, 4]⟩
abbrev S4 : Shape := ⟨1, ![4]⟩
abbrev S1x4x4096x8 : Shape := ⟨4, ![1, 4, 4096, 8]⟩
abbrev S4x4096x8 : Shape := ⟨3, ![4, 4096, 8]⟩
abbrev S1x4x8 : Shape := ⟨3, ![1, 4, 8]⟩
abbrev S4x8 : Shape := ⟨2, ![4, 8]⟩
abbrev S1x32x4096x512 : Shape := ⟨4, ![1, 32, 4096, 512]⟩
abbrev S32x4096x512 : Shape := ⟨3, ![32, 4096, 512]⟩
abbrev S1x32x512x4096 : Shape := ⟨4, ![1, 32, 512, 4096]⟩
abbrev S32x512x4096 : Shape := ⟨3, ![32, 512, 4096]⟩
abbrev S_ : Shape := ⟨0, ![]⟩
abbrev S8704x4 : Shape := ⟨2, ![8704, 4]⟩
abbrev S8704 : Shape := ⟨1, ![8704]⟩
abbrev S8704x1 : Shape := ⟨2, ![8704, 1]⟩
abbrev S8704x4x8 : Shape := ⟨3, ![8704, 4, 8]⟩
abbrev S8704x8 : Shape := ⟨2, ![8704, 8]⟩
abbrev S8704x2 : Shape := ⟨2, ![8704, 2]⟩
abbrev S8704x2x1 : Shape := ⟨3, ![8704, 2, 1]⟩
abbrev S1x1x32 : Shape := ⟨3, ![1, 1, 32]⟩
abbrev S8704x2x32 : Shape := ⟨3, ![8704, 2, 32]⟩
abbrev S8704x32 : Shape := ⟨2, ![8704, 32]⟩
abbrev S32x512x8704 : Shape := ⟨3, ![32, 512, 8704]⟩
abbrev S32x8704x512 : Shape := ⟨3, ![32, 8704, 512]⟩
abbrev S32x8704 : Shape := ⟨2, ![32, 8704]⟩
abbrev S32x8704x1 : Shape := ⟨3, ![32, 8704, 1]⟩
abbrev S1x4096 : Shape := ⟨2, ![1, 4096]⟩
abbrev S4096 : Shape := ⟨1, ![4096]⟩

abbrev nBuf : Space → Nat
  | .hbm => 148
  | .vmem => 0
  | .smem => 0
  | _ => 0

abbrev hbmTy0_0 (i : Nat) : BufTy := match i % 128 with
  | 0 => ⟨S8704x4096, .f32⟩
  | 1 => ⟨S2x4096x4, .f32⟩
  | 2 => ⟨S2x4, .f32⟩
  | 3 => ⟨S2x4x4096x8, .f32⟩
  | 4 => ⟨S2x4x8, .f32⟩
  | 5 => ⟨S2x32x4096x512, .f32⟩
  | 6 => ⟨S2x32x4096x512, .f32⟩
  | 7 => ⟨S2x32x512x4096, .f32⟩
  | 8 => ⟨S2x4096, .f32⟩
  | 9 => ⟨S2x4096, .f32⟩
  | 10 => ⟨S1x4096x4, .f32⟩
  | 11 => ⟨S4096x4, .f32⟩
  | 12 => ⟨S1x4, .f32⟩
  | 13 => ⟨S4, .f32⟩
  | 14 => ⟨S1x4x4096x8, .f32⟩
  | 15 => ⟨S4x4096x8, .f32⟩
  | 16 => ⟨S1x4x8, .f32⟩
  | 17 => ⟨S4x8, .f32⟩
  | 18 => ⟨S1x32x4096x512, .f32⟩
  | 19 => ⟨S32x4096x512, .f32⟩
  | 20 => ⟨S1x32x4096x512, .f32⟩
  | 21 => ⟨S32x4096x512, .f32⟩
  | 22 => ⟨S1x32x512x4096, .f32⟩
  | 23 => ⟨S32x512x4096, .f32⟩
  | 24 => ⟨S_, .f32⟩
  | 25 => ⟨S8704x4096, .f32⟩
  | 26 => ⟨S8704x4096, .f32⟩
  | 27 => ⟨S8704x4, .f32⟩
  | 28 => ⟨S1x4, .f32⟩
  | 29 => ⟨S8704x4, .f32⟩
  | 30 => ⟨S8704x4, .f32⟩
  | 31 => ⟨S8704x4, .i32⟩
  | 32 => ⟨S_, .f32⟩
  | 33 => ⟨S_, .i32⟩
  | 34 => ⟨S8704, .f32⟩
  | 35 => ⟨S8704, .i32⟩
  | 36 => ⟨S_, .f32⟩
  | 37 => ⟨S8704, .f32⟩
  | 38 => ⟨S_, .f32⟩
  | 39 => ⟨S8704, .f32⟩
  | 40 => ⟨S8704, .f32⟩
  | 41 => ⟨S8704x1, .f32⟩
  | 42 => ⟨S8704x4, .f32⟩
  | 43 => ⟨S8704x4, .f32⟩
  | 44 => ⟨S8704x4, .f32⟩
  | 45 => ⟨S_, .f32⟩
  | 46 => ⟨S8704, .f32⟩
  | 47 => ⟨S8704x1, .f32⟩
  | 48 => ⟨S8704x4, .f32⟩
  | 49 => ⟨S8704x4, .f32⟩
  | 50 => ⟨S_, .f32⟩
  | 51 => ⟨S8704, .f32⟩
  | 52 => ⟨S8704x4x8, .f32⟩
  | 53 => ⟨S1x4x8, .f32⟩
  | 54 => ⟨S8704x4x8, .f32⟩
  | 55 => ⟨S8704x4x8, .f32⟩
  | 56 => ⟨S8704x1, .i32⟩
  | 57 => ⟨S1x4, .i32⟩
  | 58 => ⟨S8704x4, .i32⟩
  | 59 => ⟨S8704x4, .i32⟩
  | 60 => ⟨S8704x4, .i1⟩
  | 61 => ⟨S8704x4, .f32⟩
  | 62 => ⟨S8704x8, .f32⟩
  | 63 => ⟨S8704x2, .f32⟩
  | 64 => ⟨S8704x2, .i32⟩
  | 65 => ⟨S8704x1, .f32⟩
  | 66 => ⟨S_, .f32⟩
  | 67 => ⟨S8704, .f32⟩
  | 68 => ⟨S_, .f32⟩
  | 69 => ⟨S8704, .f32⟩
  | 70 => ⟨S8704, .f32⟩
  | 71 => ⟨S8704x1, .f32⟩
  | 72 => ⟨S8704x2, .f32⟩
  | 73 => ⟨S8704x2, .f32⟩
  | 74 => ⟨S8704x2, .f32⟩
  | 75 => ⟨S_, .f32⟩
  | 76 => ⟨S8704, .f32⟩
  | 77 => ⟨S8704x1, .f32⟩
  | 78 => ⟨S8704x2, .f32⟩
  | 79 => ⟨S8704x2, .f32⟩
  | 80 => ⟨S8704x2, .f32⟩
  | 81 => ⟨S8704x2, .f32⟩
  | 82 => ⟨S8704x1, .i32⟩
  | 83 => ⟨S_, .i32⟩
  | 84 => ⟨S8704x1, .i32⟩
  | 85 => ⟨S8704x1, .i32⟩
  | 86 => ⟨S8704x2, .i32⟩
  | 87 => ⟨S8704x2, .i32⟩
  | 88 => ⟨S8704x2x1, .i32⟩
  | 89 => ⟨S1x1x32, .i32⟩
  | 90 => ⟨S8704x2x32, .i32⟩
  | 91 => ⟨S8704x2x32, .i32⟩
  | 92 => ⟨S8704x2x32, .i1⟩
  | 93 => ⟨S8704x2x32, .f32⟩
  | 94 => ⟨S8704x32, .f32⟩
  | 95 => ⟨S32x512x8704, .f32⟩
  | 96 => ⟨S32x8704x512, .f32⟩
  | 97 => ⟨S32x512x8704, .f32⟩
  | 98 => ⟨S32x8704x512, .f32⟩
  | 99 => ⟨S32x8704x512, .f32⟩
  | 100 => ⟨S32x8704x512, .f32⟩
  | 101 => ⟨S_, .f32⟩
  | 102 => ⟨S32x8704x512, .f32⟩
  | 103 => ⟨S32x8704x512, .f32⟩
  | 104 => ⟨S_, .f32⟩
  | 105 => ⟨S32x8704x512, .f32⟩
  | 106 => ⟨S32x8704x512, .f32⟩
  | 107 => ⟨S32x8704x512, .f32⟩
  | 108 => ⟨S32x8704x512, .f32⟩
  | 109 => ⟨S32x8704, .f32⟩
  | 110 => ⟨S32x8704x1, .f32⟩
  | 111 => ⟨S32x8704x512, .f32⟩
  | 112 => ⟨S32x8704x512, .f32⟩
  | 113 => ⟨S8704x4096, .f32⟩
  | 114 => ⟨S8704x4096, .f32⟩
  | 115 => ⟨S1x4096, .f32⟩
  | 116 => ⟨S4096, .f32⟩
  | 117 => ⟨S1x4096, .f32⟩
  | 118 => ⟨S4096, .f32⟩
  | 119 => ⟨S_, .f32⟩
  | 120 => ⟨S8704, .f32⟩
  | 121 => ⟨S8704x1, .f32⟩
  | 122 => ⟨S_, .f32⟩
  | 123 => ⟨S8704x1, .f32⟩
  | 124 => ⟨S8704x1, .f32⟩
  | 125 => ⟨S8704x4096, .f32⟩
  | 126 => ⟨S8704x4096, .f32⟩
  | 127 => ⟨S8704x4096, .f32⟩
  | _ => ⟨S8704x4096, .f32⟩

abbrev hbmTy0_1 (i : Nat) : BufTy := match i % 128 with
  | 0 => ⟨S_, .f32⟩
  | 1 => ⟨S8704, .f32⟩
  | 2 => ⟨S8704x1, .f32⟩
  | 3 => ⟨S_, .f32⟩
  | 4 => ⟨S8704x1, .f32⟩
  | 5 => ⟨S8704x1, .f32⟩
  | 6 => ⟨S8704x4096, .f32⟩
  | 7 => ⟨S8704x4096, .f32⟩
  | 8 => ⟨S_, .f32⟩
  | 9 => ⟨S8704x1, .f32⟩
  | 10 => ⟨S8704x1, .f32⟩
  | 11 => ⟨S8704x1, .f32⟩
  | 12 => ⟨S8704x4096, .f32⟩
  | 13 => ⟨S8704x4096, .f32⟩
  | 14 => ⟨S1x4096, .f32⟩
  | 15 => ⟨S8704x4096, .f32⟩
  | 16 => ⟨S8704x4096, .f32⟩
  | 17 => ⟨S1x4096, .f32⟩
  | 18 => ⟨S8704x4096, .f32⟩
  | 19 => ⟨S8704x4096, .f32⟩
  | _ => ⟨S8704x4096, .f32⟩

abbrev hbmTy (i : Nat) : BufTy := match i / 128 with
  | 0 => hbmTy0_0 i
  | 1 => hbmTy0_1 i
  | _ => ⟨S8704x4096, .f32⟩

abbrev bufTy : (tb : Table) → Fin (tcTables nBuf tb) → BufTy
  | .hbm, ⟨i, _⟩ => hbmTy i
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_v0 : Ref sig .tc := ⟨.hbm, 31, rfl⟩
abbrev main_call0_cst : Ref sig .tc := ⟨.hbm, 32, rfl⟩
abbrev main_call0_c : Ref sig .tc := ⟨.hbm, 33, rfl⟩
abbrev main_call0_v1_0 : Ref sig .tc := ⟨.hbm, 34, rfl⟩
abbrev main_v20 : Ref sig .tc := ⟨.hbm, 35, rfl⟩
abbrev main_cst_0 : Ref sig .tc := ⟨.hbm, 36, rfl⟩
abbrev main_v21 : Ref sig .tc := ⟨.hbm, 37, rfl⟩
abbrev main_cst_1 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_v37 : Ref sig .tc := ⟨.hbm, 61, rfl⟩
abbrev main_v38 : Ref sig .tc := ⟨.hbm, 62, rfl⟩
abbrev main_values : Ref sig .tc := ⟨.hbm, 63, rfl⟩
abbrev main_indices : Ref sig .tc := ⟨.hbm, 64, rfl⟩
abbrev main_v39 : Ref sig .tc := ⟨.hbm, 65, rfl⟩
abbrev main_cst_4 : Ref sig .tc := ⟨.hbm, 66, rfl⟩
abbrev main_v40 : Ref sig .tc := ⟨.hbm, 67, rfl⟩
abbrev main_cst_5 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_6 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_c : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_call3_v0 : Ref sig .tc := ⟨.hbm, 99, rfl⟩
abbrev main_call3_v1 : Ref sig .tc := ⟨.hbm, 100, rfl⟩
abbrev main_call3_cst : Ref sig .tc := ⟨.hbm, 101, rfl⟩
abbrev main_call3_v2 : Ref sig .tc := ⟨.hbm, 102, rfl⟩
abbrev main_call3_v3 : Ref sig .tc := ⟨.hbm, 103, rfl⟩
abbrev main_call3_cst_0 : Ref sig .tc := ⟨.hbm, 104, rfl⟩
abbrev main_call3_v4 : Ref sig .tc := ⟨.hbm, 105, rfl⟩
abbrev main_call3_v5 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_cst_7 : Ref sig .tc := ⟨.hbm, 119, rfl⟩
abbrev main_v76 : Ref sig .tc := ⟨.hbm, 120, rfl⟩
abbrev main_v77 : Ref sig .tc := ⟨.hbm, 121, rfl⟩
abbrev main_cst_8 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_cst_9 : Ref sig .tc := ⟨.hbm, 128, rfl⟩
abbrev main_v83 : Ref sig .tc := ⟨.hbm, 129, rfl⟩
abbrev main_v84 : Ref sig .tc := ⟨.hbm, 130, rfl⟩
abbrev main_cst_10 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_cst_11 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩

abbrev nD : Nat := 1
abbrev τ : Topo := Topo.v7x

variable {F : FTy → Type} [FloatOps F]
-- ==== Kernel2.lean ====
abbrev S8704x4096 : Shape := ⟨2, ![8704, 4096]⟩
abbrev S1x4096x4640 : Shape := ⟨3, ![1, 4096, 4640]⟩
abbrev S1x32 : Shape := ⟨2, ![1, 32]⟩
abbrev S4096x4640 : Shape := ⟨2, ![4096, 4640]⟩
abbrev S4096x544 : Shape := ⟨2, ![4096, 544]⟩
abbrev S_ : Shape := ⟨0, ![]⟩
abbrev S4096x640 : Shape := ⟨2, ![4096, 640]⟩
abbrev S1x4096x640 : Shape := ⟨3, ![1, 4096, 640]⟩
abbrev S8704x640 : Shape := ⟨2, ![8704, 640]⟩
abbrev S1088x4096 : Shape := ⟨2, ![1088, 4096]⟩
abbrev S1088x640 : Shape := ⟨2, ![1088, 640]⟩
abbrev S32 : Shape := ⟨1, ![32]⟩
abbrev S128 : Shape := ⟨1, ![128]⟩
abbrev S1x128 : Shape := ⟨2, ![1, 128]⟩
abbrev S8704x128 : Shape := ⟨2, ![8704, 128]⟩
abbrev S512x128 : Shape := ⟨2, ![512, 128]⟩
abbrev S8704x32 : Shape := ⟨2, ![8704, 32]⟩
abbrev S8704x256 : Shape := ⟨2, ![8704, 256]⟩

abbrev nBuf : Space → Nat
  | .hbm => 20
  | .vmem => 10
  | .smem => 0
  | _ => 0

abbrev bufTy : (tb : Table) → Fin (tcTables nBuf tb) → BufTy
  | .hbm, ⟨0, _⟩ => ⟨S8704x4096, .f32⟩
  | .hbm, ⟨1, _⟩ => ⟨S1x4096x4640, .f32⟩
  | .hbm, ⟨2, _⟩ => ⟨S1x32, .f32⟩
  | .hbm, ⟨3, _⟩ => ⟨S8704x4096, .bf16⟩
  | .hbm, ⟨4, _⟩ => ⟨S4096x4640, .f32⟩
  | .hbm, ⟨5, _⟩ => ⟨S4096x544, .f32⟩
  | .hbm, ⟨6, _⟩ => ⟨S_, .i32⟩
  | .hbm, ⟨7, _⟩ => ⟨S_, .f32⟩
  | .hbm, ⟨8, _⟩ => ⟨S4096x640, .f32⟩
  | .hbm, ⟨9, _⟩ => ⟨S1x4096x640, .f32⟩
  | .hbm, ⟨10, _⟩ => ⟨S8704x640, .f32⟩
  | .hbm, ⟨11, _⟩ => ⟨S32, .f32⟩
  | .hbm, ⟨12, _⟩ => ⟨S_, .i32⟩
  | .hbm, ⟨13, _⟩ => ⟨S_, .f32⟩
  | .hbm, ⟨14, _⟩ => ⟨S128, .f32⟩
  | .hbm, ⟨15, _⟩ => ⟨S1x128, .f32⟩
  | .hbm, ⟨16, _⟩ => ⟨S8704x128, .f32⟩
  | .hbm, ⟨17, _⟩ => ⟨S8704x32, .f32⟩
  | .hbm, ⟨18, _⟩ => ⟨S8704x256, .f32⟩
  | .hbm, ⟨19, _⟩ => ⟨S8704x256, .f32⟩
  | .local _ .vmem, ⟨0, _⟩ => ⟨S1088x4096, .bf16⟩
  | .local _ .vmem, ⟨1, _⟩ => ⟨S1088x4096, .bf16⟩
  | .local _ .vmem, ⟨2, _⟩ => ⟨S1x4096x640, .f32⟩
  | .local _ .vmem, ⟨3, _⟩ => ⟨S1088x640, .f32⟩
  | .local _ .vmem, ⟨4, _⟩ => ⟨S1088x640, .f32⟩
  | .local _ .vmem, ⟨5, _⟩ => ⟨S512x128, .f32⟩
  | .local _ .vmem, ⟨6, _⟩ => ⟨S512x128, .f32⟩
  | .local _ .vmem, ⟨7, _⟩ => ⟨S1x128, .f32⟩
  | .local _ .vmem, ⟨8, _⟩ => ⟨S512x128, .f32⟩
  | .local _ .vmem, ⟨9, _⟩ => ⟨S512x128, .f32⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_call1_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1088x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![17], ![false]⟩

def cc1_transform_0 (i : grid1.Coords) : Fin 2 → Nat :=
  let arg0 : BitVec 32 := BitVec.ofNat 32 (i 0).val
  let c4_i32 : BitVec 32 := 4#32
  let c0_i32 : BitVec 32 := 0#32
  ![arg0.toNat, c4_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== Reference2Ideal.lean ====
abbrev S8704x4096 : Shape := ⟨2, ![8704, 4096]⟩
abbrev S1x4096x4640 : Shape := ⟨3, ![1, 4096, 4640]⟩
abbrev S1x32 : Shape := ⟨2, ![1, 32]⟩
abbrev S4096x4640 : Shape := ⟨2, ![4096, 4640]⟩
abbrev S8704x4640 : Shape := ⟨2, ![8704, 4640]⟩
abbrev S8704x256 : Shape := ⟨2, ![8704, 256]⟩
abbrev S8704x32 : Shape := ⟨2, ![8704, 32]⟩
abbrev S32 : Shape := ⟨1, ![32]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S1x4096x4640, .f32⟩
  | .hbm, ⟨2, _⟩ => ⟨S1x32, .f32⟩
  | .hbm, ⟨3, _⟩ => ⟨S4096x4640, .f32⟩
  | .hbm, ⟨4, _⟩ => ⟨S8704x4640, .f32⟩
  | .hbm, ⟨5, _⟩ => ⟨S8704x256, .f32⟩
  | .hbm, ⟨6, _⟩ => ⟨S8704x256, .f32⟩
  | .hbm, ⟨7, _⟩ => ⟨S8704x32, .f32⟩
  | .hbm, ⟨8, _⟩ => ⟨S32, .f32⟩
  | .hbm, ⟨9, _⟩ => ⟨S1x32, .f32⟩
  | .hbm, ⟨10, _⟩ => ⟨S8704x32, .f32⟩
  | .hbm, ⟨11, _⟩ => ⟨S8704x32, .f32⟩
  | .hbm, ⟨12, _⟩ => ⟨S8704x32, .f32⟩
  | .hbm, ⟨13, _⟩ => ⟨S_, .f32⟩
  | .hbm, ⟨14, _⟩ => ⟨S8704x32, .f32⟩
  | .hbm, ⟨15, _⟩ => ⟨S8704x32, .f32⟩
  | .hbm, ⟨16, _⟩ => ⟨S8704x32, .f32⟩
  | .hbm, ⟨17, _⟩ => ⟨S8704x32, .f32⟩
  | .hbm, ⟨18, _⟩ => ⟨S8704x32, .i1⟩
  | .hbm, ⟨19, _⟩ => ⟨S8704x32, .f32⟩
  | .hbm, ⟨20, _⟩ => ⟨S8704x32, .f32⟩
  | .hbm, ⟨21, _⟩ => ⟨S8704x32, .f32⟩
  | .hbm, ⟨22, _⟩ => ⟨S8704x32, .f32⟩
  | .hbm, ⟨23, _⟩ => ⟨S8704x32, .f32⟩
  | .hbm, ⟨24, _⟩ => ⟨S8704x32, .f32⟩
  | .hbm, ⟨25, _⟩ => ⟨S8704x32, .f32⟩
  | .hbm, ⟨26, _⟩ => ⟨S8704x32, .f32⟩
  | .hbm, ⟨27, _⟩ => ⟨S8704x32, .f32⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_call0_cst : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_v1 : Ref sig .tc := ⟨.hbm, 26, rfl⟩
abbrev main_v9 : Ref sig .tc := ⟨.hbm, 27, rfl⟩

abbrev nD : Nat := 1
abbrev τ : Topo := Topo.v7x

variable {F : FTy → Type} [FloatOps F]
-- ==== Kernel3.lean ====
abbrev S8704x4096 : Shape := ⟨2, ![8704, 4096]⟩
abbrev S1x4096x7752 : Shape := ⟨3, ![1, 4096, 7752]⟩
abbrev S8704x1536 : Shape := ⟨2, ![8704, 1536]⟩
abbrev S1x512 : Shape := ⟨2, ![1, 512]⟩
abbrev S1x4 : Shape := ⟨2, ![1, 4]⟩
abbrev S4096x7752 : Shape := ⟨2, ![4096, 7752]⟩
abbrev S4096x64 : Shape := ⟨2, ![4096, 64]⟩
abbrev S_ : Shape := ⟨0, ![]⟩
abbrev S4096x8 : Shape := ⟨2, ![4096, 8]⟩
abbrev S4096x120 : Shape := ⟨2, ![4096, 120]⟩
abbrev S4096x256 : Shape := ⟨2, ![4096, 256]⟩
abbrev S1x4096x256 : Shape := ⟨3, ![1, 4096, 256]⟩
abbrev S8704x256 : Shape := ⟨2, ![8704, 256]⟩
abbrev S1088x4096 : Shape := ⟨2, ![1088, 4096]⟩
abbrev S1088x256 : Shape := ⟨2, ![1088, 256]⟩
abbrev S4096x6144 : Shape := ⟨2, ![4096, 6144]⟩
abbrev S1x4096x6144 : Shape := ⟨3, ![1, 4096, 6144]⟩
abbrev S8704x6144 : Shape := ⟨2, ![8704, 6144]⟩
abbrev S1x4096x512 : Shape := ⟨3, ![1, 4096, 512]⟩
abbrev S1088x512 : Shape := ⟨2, ![1088, 512]⟩
abbrev S4096x512 : Shape := ⟨2, ![4096, 512]⟩
abbrev S2048 : Shape := ⟨1, ![2048]⟩
abbrev S1x2048 : Shape := ⟨2, ![1, 2048]⟩
abbrev S4x2048 : Shape := ⟨2, ![4, 2048]⟩
abbrev S8192 : Shape := ⟨1, ![8192]⟩
abbrev S4 : Shape := ⟨1, ![4]⟩
abbrev S128x4 : Shape := ⟨2, ![128, 4]⟩
abbrev S512 : Shape := ⟨1, ![512]⟩
abbrev S8704 : Shape := ⟨1, ![8704]⟩
abbrev S32 : Shape := ⟨1, ![32]⟩
abbrev S8704x1 : Shape := ⟨2, ![8704, 1]⟩
abbrev S1x32 : Shape := ⟨2, ![1, 32]⟩
abbrev S8704x32 : Shape := ⟨2, ![8704, 32]⟩
abbrev S8704x128 : Shape := ⟨2, ![8704, 128]⟩
abbrev S8 : Shape := ⟨1, ![8]⟩
abbrev S128 : Shape := ⟨1, ![128]⟩
abbrev S1x128 : Shape := ⟨2, ![1, 128]⟩
abbrev S8704x512 : Shape := ⟨2, ![8704, 512]⟩
abbrev S256x512 : Shape := ⟨2, ![256, 512]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S8704x64 : Shape := ⟨2, ![8704, 64]⟩
abbrev S8704x8 : Shape := ⟨2, ![8704, 8]⟩

abbrev nBuf : Space → Nat
  | .hbm => 76
  | .vmem => 28
  | .smem => 0
  | _ => 0

abbrev bufTy : (tb : Table) → Fin (tcTables nBuf tb) → BufTy
  | .hbm, ⟨0, _⟩ => ⟨S8704x4096, .f32⟩
  | .hbm, ⟨1, _⟩ => ⟨S1x4096x7752, .f32⟩
  | .hbm, ⟨2, _⟩ => ⟨S8704x1536, .f32⟩
  | .hbm, ⟨3, _⟩ => ⟨S1x512, .f32⟩
  | .hbm, ⟨4, _⟩ => ⟨S1x4, .f32⟩
  | .hbm, ⟨5, _⟩ => ⟨S1x4, .f32⟩
  | .hbm, ⟨6, _⟩ => ⟨S8704x4096, .bf16⟩
  | .hbm, ⟨7, _⟩ => ⟨S4096x7752, .f32⟩
  | .hbm, ⟨8, _⟩ => ⟨S4096x64, .f32⟩
  | .hbm, ⟨9, _⟩ => ⟨S_, .f32⟩
  | .hbm, ⟨10, _⟩ => ⟨S4096x64, .f32⟩
  | .hbm, ⟨11, _⟩ => ⟨S4096x7752, .f32⟩
  | .hbm, ⟨12, _⟩ => ⟨S4096x8, .f32⟩
  | .hbm, ⟨13, _⟩ => ⟨S_, .f32⟩
  | .hbm, ⟨14, _⟩ => ⟨S4096x120, .f32⟩
  | .hbm, ⟨15, _⟩ => ⟨S4096x256, .f32⟩
  | .hbm, ⟨16, _⟩ => ⟨S1x4096x256, .f32⟩
  | .hbm, ⟨17, _⟩ => ⟨S8704x256, .f32⟩
  | .hbm, ⟨18, _⟩ => ⟨S4096x7752, .f32⟩
  | .hbm, ⟨19, _⟩ => ⟨S4096x6144, .f32⟩
  | .hbm, ⟨20, _⟩ => ⟨S1x4096x6144, .f32⟩
  | .hbm, ⟨21, _⟩ => ⟨S8704x6144, .f32⟩
  | .hbm, ⟨22, _⟩ => ⟨S2048, .f32⟩
  | .hbm, ⟨23, _⟩ => ⟨S1x2048, .f32⟩
  | .hbm, ⟨24, _⟩ => ⟨S4x2048, .f32⟩
  | .hbm, ⟨25, _⟩ => ⟨S8192, .f32⟩
  | .hbm, ⟨26, _⟩ => ⟨S4, .f32⟩
  | .hbm, ⟨27, _⟩ => ⟨S_, .f32⟩
  | .hbm, ⟨28, _⟩ => ⟨S4, .f32⟩
  | .hbm, ⟨29, _⟩ => ⟨S4, .f32⟩
  | .hbm, ⟨30, _⟩ => ⟨S1x4, .f32⟩
  | .hbm, ⟨31, _⟩ => ⟨S128x4, .f32⟩
  | .hbm, ⟨32, _⟩ => ⟨S512, .f32⟩
  | .hbm, ⟨33, _⟩ => ⟨S8704, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S8704x1, .f32⟩
  | .hbm, ⟨43, _⟩ => ⟨S1x32, .f32⟩
  | .hbm, ⟨44, _⟩ => ⟨S8704x32, .f32⟩
  | .hbm, ⟨45, _⟩ => ⟨S8704x32, .f32⟩
  | .hbm, ⟨46, _⟩ => ⟨S8704x32, .f32⟩
  | .hbm, ⟨47, _⟩ => ⟨S8704x32, .f32⟩
  | .hbm, ⟨48, _⟩ => ⟨S8704x32, .f32⟩
  | .hbm, ⟨49, _⟩ => ⟨S8704x128, .f32⟩
  | .hbm, ⟨50, _⟩ => ⟨S8704x32, .f32⟩
  | .hbm, ⟨51, _⟩ => ⟨S8704x32, .f32⟩
  | .hbm, ⟨52, _⟩ => ⟨S8704x128, .f32⟩
  | .hbm, ⟨53, _⟩ => ⟨S4, .f32⟩
  | .hbm, ⟨54, _⟩ => ⟨S4, .f32⟩
  | .hbm, ⟨55, _⟩ => ⟨S8, .f32⟩
  | .hbm, ⟨56, _⟩ => ⟨S_, .i32⟩
  | .hbm, ⟨57, _⟩ => ⟨S_, .f32⟩
  | .hbm, ⟨58, _⟩ => ⟨S128, .f32⟩
  | .hbm, ⟨59, _⟩ => ⟨S1x128, .f32⟩
  | .hbm, ⟨60, _⟩ => ⟨S_, .f32⟩
  | .hbm, ⟨61, _⟩ => ⟨S4, .f32⟩
  | .hbm, ⟨62, _⟩ => ⟨S_, .f32⟩
  | .hbm, ⟨63, _⟩ => ⟨S4, .f32⟩
  | .hbm, ⟨64, _⟩ => ⟨S8, .f32⟩
  | .hbm, ⟨65, _⟩ => ⟨S_, .i32⟩
  | .hbm, ⟨66, _⟩ => ⟨S_, .f32⟩
  | .hbm, ⟨67, _⟩ => ⟨S128, .f32⟩
  | .hbm, ⟨68, _⟩ => ⟨S1x128, .f32⟩
  | .hbm, ⟨69, _⟩ => ⟨S512, .f32⟩
  | .hbm, ⟨70, _⟩ => ⟨S1x512, .f32⟩
  | .hbm, ⟨71, _⟩ => ⟨S8704x512, .f32⟩
  | .hbm, ⟨72, _⟩ => ⟨S8704x128, .f32⟩
  | .hbm, ⟨73, _⟩ => ⟨S8704x128, .f32⟩
  | .hbm, ⟨74, _⟩ => ⟨S8704x64, .f32⟩
  | .hbm, ⟨75, _⟩ => ⟨S8704x8, .f32⟩
  | .local _ .vmem, ⟨0, _⟩ => ⟨S1088x4096, .bf16⟩
  | .local _ .vmem, ⟨1, _⟩ => ⟨S1088x4096, .bf16⟩
  | .local _ .vmem, ⟨2, _⟩ => ⟨S1x4096x256, .f32⟩
  | .local _ .vmem, ⟨3, _⟩ => ⟨S1088x256, .f32⟩
  | .local _ .vmem, ⟨4, _⟩ => ⟨S1088x256, .f32⟩
  | .local _ .vmem, ⟨5, _⟩ => ⟨S1088x4096, .bf16⟩
  | .local _ .vmem, ⟨6, _⟩ => ⟨S1088x4096, .bf16⟩
  | .local _ .vmem, ⟨7, _⟩ => ⟨S1x4096x512, .f32⟩
  | .local _ .vmem, ⟨8, _⟩ => ⟨S1x4096x512, .f32⟩
  | .local _ .vmem, ⟨9, _⟩ => ⟨S1088x512, .f32⟩
  | .local _ .vmem, ⟨10, _⟩ => ⟨S1088x512, .f32⟩
  | .local _ .vmem, ⟨11, _⟩ => ⟨S256x512, .f32⟩
  | .local _ .vmem, ⟨12, _⟩ => ⟨S256x512, .f32⟩
  | .local _ .vmem, ⟨13, _⟩ => ⟨S1x512, .f32⟩
  | .local _ .vmem, ⟨14, _⟩ => ⟨S256x256, .f32⟩
  | .local _ .vmem, ⟨15, _⟩ => ⟨S256x256, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S1x128, .f32⟩
  | .local _ .vmem, ⟨21, _⟩ => ⟨S1x128, .f32⟩
  | .local _ .vmem, ⟨22, _⟩ => ⟨S256x512, .f32⟩
  | .local _ .vmem, ⟨23, _⟩ => ⟨S256x512, .f32⟩
  | .local _ .vmem, ⟨24, _⟩ => ⟨S256x128, .f32⟩
  | .local _ .vmem, ⟨25, _⟩ => ⟨S256x128, .f32⟩
  | .local _ .vmem, ⟨26, _⟩ => ⟨S256x128, .f32⟩
  | .local _ .vmem, ⟨27, _⟩ => ⟨S256x128, .f32⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_c : Ref sig .tc := ⟨.hbm, 56, rfl⟩
abbrev main_call0_v0 : Ref sig .tc := ⟨.hbm, 57, rfl⟩
abbrev main_v45 : Ref sig .tc := ⟨.hbm, 58, rfl⟩
abbrev main_v46 : Ref sig .tc := ⟨.hbm, 59, rfl⟩
abbrev main_cst_4 : Ref sig .tc := ⟨.hbm, 60, rfl⟩
abbrev main_v47 : Ref sig .tc := ⟨.hbm, 61, rfl⟩
abbrev main_cst_5 : Ref sig .tc := ⟨.hbm, 62, rfl⟩
abbrev main_v48 : Ref sig .tc := ⟨.hbm, 63, rfl⟩
abbrev main_v49 : Ref sig .tc := ⟨.hbm, 64, rfl⟩
abbrev main_c_6 : Ref sig .tc := ⟨.hbm, 65, rfl⟩
abbrev main_call1_v0 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54_0 : Ref sig .tc := ⟨.hbm, 71, rfl⟩
abbrev main_v54_1 : Ref sig .tc := ⟨.hbm, 72, rfl⟩
abbrev main_v54_2 : Ref sig .tc := ⟨.hbm, 73, rfl⟩
abbrev main_v55 : Ref sig .tc := ⟨.hbm, 74, rfl⟩
abbrev main_v56 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg7_1 : Ref sig .tc := ⟨.vmem, 23, rfl⟩
abbrev cc2_stg8_0 : Ref sig .tc := ⟨.vmem, 24, rfl⟩
abbrev cc2_stg8_1 : Ref sig .tc := ⟨.vmem, 25, rfl⟩
abbrev cc2_stg9_0 : Ref sig .tc := ⟨.vmem, 26, rfl⟩
abbrev cc2_stg9_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem4_1 : DmaSem sig := 19
abbrev cc2_sem5_0 : DmaSem sig := 20
abbrev cc2_sem6_0 : DmaSem sig := 21
abbrev cc2_sem7_0 : DmaSem sig := 22
abbrev cc2_sem7_1 : DmaSem sig := 23
abbrev cc2_sem8_0 : DmaSem sig := 24
abbrev cc2_sem8_1 : DmaSem sig := 25
abbrev cc2_sem9_0 : DmaSem sig := 26
abbrev cc2_sem9_1 : DmaSem sig := 27

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1088x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 12], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1088x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x4096x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1088x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![34], ![false]⟩

def cc2_transform_0 (i : grid2.Coords) : Fin 2 → Nat :=
  let arg0 : BitVec 32 := BitVec.ofNat 32 (i 0).val
  let c2_i32 : BitVec 32 := 2#32
  let c0_i32 : BitVec 32 := 0#32
  ![arg0.toNat, c2_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S256x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S256x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S256x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]
-- ==== Reference3Ideal.lean ====
abbrev S8704x4096 : Shape := ⟨2, ![8704, 4096]⟩
abbrev S1x4096x7752 : Shape := ⟨3, ![1, 4096, 7752]⟩
abbrev S8704x1536 : Shape := ⟨2, ![8704, 1536]⟩
abbrev S1x512 : Shape := ⟨2, ![1, 512]⟩
abbrev S1x4 : Shape := ⟨2, ![1, 4]⟩
abbrev S4096x7752 : Shape := ⟨2, ![4096, 7752]⟩
abbrev S8704x7752 : Shape := ⟨2, ![8704, 7752]⟩
abbrev S8704x64 : Shape := ⟨2, ![8704, 64]⟩
abbrev S8704x6144 : Shape := ⟨2, ![8704, 6144]⟩
abbrev S8704x4 : Shape := ⟨2, ![8704, 4]⟩
abbrev S8704x512 : Shape := ⟨2, ![8704, 512]⟩
abbrev S512 : Shape := ⟨1, ![512]⟩
abbrev S_ : Shape := ⟨0, ![]⟩
abbrev S8704 : Shape := ⟨1, ![8704]⟩
abbrev S8704x1 : Shape := ⟨2, ![8704, 1]⟩
abbrev S2048 : Shape := ⟨1, ![2048]⟩
abbrev S1x2048 : Shape := ⟨2, ![1, 2048]⟩
abbrev S4x2048 : Shape := ⟨2, ![4, 2048]⟩
abbrev S8192 : Shape := ⟨1, ![8192]⟩
abbrev S4 : Shape := ⟨1, ![4]⟩
abbrev S128x4 : Shape := ⟨2, ![128, 4]⟩
abbrev S32 : Shape := ⟨1, ![32]⟩
abbrev S1x32 : Shape := ⟨2, ![1, 32]⟩
abbrev S8704x32 : Shape := ⟨2, ![8704, 32]⟩
abbrev S8704x8 : Shape := ⟨2, ![8704, 8]⟩

abbrev nBuf : Space → Nat
  | .hbm => 91
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S1x4096x7752, .f32⟩
  | .hbm, ⟨2, _⟩ => ⟨S8704x1536, .f32⟩
  | .hbm, ⟨3, _⟩ => ⟨S1x512, .f32⟩
  | .hbm, ⟨4, _⟩ => ⟨S1x4, .f32⟩
  | .hbm, ⟨5, _⟩ => ⟨S1x4, .f32⟩
  | .hbm, ⟨6, _⟩ => ⟨S4096x7752, .f32⟩
  | .hbm, ⟨7, _⟩ => ⟨S8704x7752, .f32⟩
  | .hbm, ⟨8, _⟩ => ⟨S8704x64, .f32⟩
  | .hbm, ⟨9, _⟩ => ⟨S8704x6144, .f32⟩
  | .hbm, ⟨10, _⟩ => ⟨S8704x4, .f32⟩
  | .hbm, ⟨11, _⟩ => ⟨S8704x4, .f32⟩
  | .hbm, ⟨12, _⟩ => ⟨S8704x512, .f32⟩
  | .hbm, ⟨13, _⟩ => ⟨S512, .f32⟩
  | .hbm, ⟨14, _⟩ => ⟨S8704x512, .f32⟩
  | .hbm, ⟨15, _⟩ => ⟨S_, .f32⟩
  | .hbm, ⟨16, _⟩ => ⟨S8704, .f32⟩
  | .hbm, ⟨17, _⟩ => ⟨S8704x1, .f32⟩
  | .hbm, ⟨18, _⟩ => ⟨S_, .f32⟩
  | .hbm, ⟨19, _⟩ => ⟨S8704x1, .f32⟩
  | .hbm, ⟨20, _⟩ => ⟨S8704x1, .f32⟩
  | .hbm, ⟨21, _⟩ => ⟨S_, .f32⟩
  | .hbm, ⟨22, _⟩ => ⟨S8704x1, .f32⟩
  | .hbm, ⟨23, _⟩ => ⟨S8704x1, .f32⟩
  | .hbm, ⟨24, _⟩ => ⟨S8704x1, .f32⟩
  | .hbm, ⟨25, _⟩ => ⟨S8704x512, .f32⟩
  | .hbm, ⟨26, _⟩ => ⟨S8704x512, .f32⟩
  | .hbm, ⟨27, _⟩ => ⟨S1x512, .f32⟩
  | .hbm, ⟨28, _⟩ => ⟨S8704x512, .f32⟩
  | .hbm, ⟨29, _⟩ => ⟨S8704x512, .f32⟩
  | .hbm, ⟨30, _⟩ => ⟨S2048, .f32⟩
  | .hbm, ⟨31, _⟩ => ⟨S1x2048, .f32⟩
  | .hbm, ⟨32, _⟩ => ⟨S4x2048, .f32⟩
  | .hbm, ⟨33, _⟩ => ⟨S8192, .f32⟩
  | .hbm, ⟨34, _⟩ => ⟨S4, .f32⟩
  | .hbm, ⟨35, _⟩ => ⟨S_, .f32⟩
  | .hbm, ⟨36, _⟩ => ⟨S4, .f32⟩
  | .hbm, ⟨37, _⟩ => ⟨S4, .f32⟩
  | .hbm, ⟨38, _⟩ => ⟨S1x4, .f32⟩
  | .hbm, ⟨39, _⟩ => ⟨S128x4, .f32⟩
  | .hbm, ⟨40, _⟩ => ⟨S512, .f32⟩
  | .hbm, ⟨41, _⟩ => ⟨S8704, .f32⟩
  | .hbm, ⟨42, _⟩ => ⟨S32, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S8704x1, .f32⟩
  | .hbm, ⟨51, _⟩ => ⟨S1x32, .f32⟩
  | .hbm, ⟨52, _⟩ => ⟨S8704x32, .f32⟩
  | .hbm, ⟨53, _⟩ => ⟨S8704x32, .f32⟩
  | .hbm, ⟨54, _⟩ => ⟨S8704x32, .f32⟩
  | .hbm, ⟨55, _⟩ => ⟨S8704x32, .f32⟩
  | .hbm, ⟨56, _⟩ => ⟨S8704x32, .f32⟩
  | .hbm, ⟨57, _⟩ => ⟨S8704x32, .f32⟩
  | .hbm, ⟨58, _⟩ => ⟨S8704x32, .f32⟩
  | .hbm, ⟨59, _⟩ => ⟨S8704x32, .f32⟩
  | .hbm, ⟨60, _⟩ => ⟨S8704x32, .f32⟩
  | .hbm, ⟨61, _⟩ => ⟨S8704x32, .f32⟩
  | .hbm, ⟨62, _⟩ => ⟨S8704x32, .f32⟩
  | .hbm, ⟨63, _⟩ => ⟨S8704x32, .f32⟩
  | .hbm, ⟨64, _⟩ => ⟨S8704x32, .f32⟩
  | .hbm, ⟨65, _⟩ => ⟨S8704x64, .f32⟩
  | .hbm, ⟨66, _⟩ => ⟨S4, .f32⟩
  | .hbm, ⟨67, _⟩ => ⟨S1x4, .f32⟩
  | .hbm, ⟨68, _⟩ => ⟨S8704x4, .f32⟩
  | .hbm, ⟨69, _⟩ => ⟨S8704x4, .f32⟩
  | .hbm, ⟨70, _⟩ => ⟨S4, .f32⟩
  | .hbm, ⟨71, _⟩ => ⟨S1x4, .f32⟩
  | .hbm, ⟨72, _⟩ => ⟨S8704x4, .f32⟩
  | .hbm, ⟨73, _⟩ => ⟨S8704x4, .f32⟩
  | .hbm, ⟨74, _⟩ => ⟨S8704x4, .f32⟩
  | .hbm, ⟨75, _⟩ => ⟨S_, .f32⟩
  | .hbm, ⟨76, _⟩ => ⟨S8704x4, .f32⟩
  | .hbm, ⟨77, _⟩ => ⟨S8704x4, .f32⟩
  | .hbm, ⟨78, _⟩ => ⟨S8704x4, .f32⟩
  | .hbm, ⟨79, _⟩ => ⟨S8704x4, .f32⟩
  | .hbm, ⟨80, _⟩ => ⟨S8704x4, .i1⟩
  | .hbm, ⟨81, _⟩ => ⟨S8704x4, .f32⟩
  | .hbm, ⟨82, _⟩ => ⟨S8704x4, .f32⟩
  | .hbm, ⟨83, _⟩ => ⟨S8704x4, .f32⟩
  | .hbm, ⟨84, _⟩ => ⟨S8704x4, .f32⟩
  | .hbm, ⟨85, _⟩ => ⟨S8704x4, .f32⟩
  | .hbm, ⟨86, _⟩ => ⟨S8704x4, .f32⟩
  | .hbm, ⟨87, _⟩ => ⟨S8704x4, .f32⟩
  | .hbm, ⟨88, _⟩ => ⟨S8704x4, .f32⟩
  | .hbm, ⟨89, _⟩ => ⟨S8704x4, .f32⟩
  | .hbm, ⟨90, _⟩ => ⟨S8704x8, .f32⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_call0_v0 : Ref sig .tc := ⟨.hbm, 74, rfl⟩
abbrev main_call0_call0_cst : Ref sig .tc := ⟨.hbm, 75, rfl⟩
abbrev main_call0_call0_v0 : Ref sig .tc := ⟨.hbm, 76, rfl⟩
abbrev main_call0_call0_v1 : Ref sig .tc := ⟨.hbm, 77, rfl⟩
abbrev main_call0_call0_v2 : Ref sig .tc := ⟨.hbm, 78, rfl⟩
abbrev main_call0_call0_v3 : Ref sig .tc := ⟨.hbm, 79, rfl⟩
abbrev main_call0_call0_v4 : Ref sig .tc := ⟨.hbm, 80, rfl⟩
abbrev main_call0_call0_v5 : Ref sig .tc := ⟨.hbm, 81, rfl⟩
abbrev main_call0_call0_v6 : Ref sig .tc := ⟨.hbm, 82, rfl⟩
abbrev main_call0_call0_v7 : Ref sig .tc := ⟨.hbm, 83, rfl⟩
abbrev main_call0_call0_v8 : Ref sig .tc := ⟨.hbm, 84, rfl⟩
abbrev main_call0_call0_v9 : Ref sig .tc := ⟨.hbm, 85, rfl⟩
abbrev main_call0_call0_v10 : Ref sig .tc := ⟨.hbm, 86, rfl⟩
abbrev main_call0_call0_v11 : Ref sig .tc := ⟨.hbm, 87, rfl⟩
abbrev main_call0_v1 : Ref sig .tc := ⟨.hbm, 88, rfl⟩
abbrev main_v62 : Ref sig .tc := ⟨.hbm, 89, rfl⟩
abbrev main_v63 : Ref sig .tc := ⟨.hbm, 90, rfl⟩

abbrev nD : Nat := 1
abbrev τ : Topo := Topo.v7x

variable {F : FTy → Type} [FloatOps F]
-- ==== Kernel4.lean ====
abbrev S8704x4096 : Shape := ⟨2, ![8704, 4096]⟩
abbrev S1x4096x4096 : Shape := ⟨3, ![1, 4096, 4096]⟩
abbrev S2x4096 : Shape := ⟨2, ![2, 4096]⟩
abbrev S1088x4096 : Shape := ⟨2, ![1088, 4096]⟩
abbrev S1x4096x512 : Shape := ⟨3, ![1, 4096, 512]⟩
abbrev S1088x512 : Shape := ⟨2, ![1088, 512]⟩
abbrev S4096x512 : Shape := ⟨2, ![4096, 512]⟩
abbrev S2x1x4096 : Shape := ⟨3, ![2, 1, 4096]⟩
abbrev S128x4096 : Shape := ⟨2, ![128, 4096]⟩
abbrev S1x1x4096 : Shape := ⟨3, ![1, 1, 4096]⟩
abbrev S128 : Shape := ⟨1, ![128]⟩
abbrev S128x1 : Shape := ⟨2, ![128, 1]⟩
abbrev S1x4096 : Shape := ⟨2, ![1, 4096]⟩

abbrev nBuf : Space → Nat
  | .hbm => 10
  | .vmem => 16
  | .smem => 0
  | _ => 0

abbrev bufTy : (tb : Table) → Fin (tcTables nBuf tb) → BufTy
  | .hbm, ⟨0, _⟩ => ⟨S8704x4096, .f32⟩
  | .hbm, ⟨1, _⟩ => ⟨S8704x4096, .bf16⟩
  | .hbm, ⟨2, _⟩ => ⟨S1x4096x4096, .f32⟩
  | .hbm, ⟨3, _⟩ => ⟨S2x4096, .f32⟩
  | .hbm, ⟨4, _⟩ => ⟨S2x4096, .f32⟩
  | .hbm, ⟨5, _⟩ => ⟨S8704x4096, .f32⟩
  | .hbm, ⟨6, _⟩ => ⟨S2x1x4096, .f32⟩
  | .hbm, ⟨7, _⟩ => ⟨S2x1x4096, .f32⟩
  | .hbm, ⟨8, _⟩ => ⟨S8704x4096, .f32⟩
  | .hbm, ⟨9, _⟩ => ⟨S8704x4096, .bf16⟩
  | .local _ .vmem, ⟨0, _⟩ => ⟨S1088x4096, .bf16⟩
  | .local _ .vmem, ⟨1, _⟩ => ⟨S1088x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1088x512, .f32⟩
  | .local _ .vmem, ⟨5, _⟩ => ⟨S1088x512, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .f32⟩
  | .local _ .vmem, ⟨10, _⟩ => ⟨S1x1x4096, .f32⟩
  | .local _ .vmem, ⟨11, _⟩ => ⟨S1x1x4096, .f32⟩
  | .local _ .vmem, ⟨12, _⟩ => ⟨S128x4096, .f32⟩
  | .local _ .vmem, ⟨13, _⟩ => ⟨S128x4096, .f32⟩
  | .local _ .vmem, ⟨14, _⟩ => ⟨S128x4096, .bf16⟩
  | .local _ .vmem, ⟨15, _⟩ => ⟨S128x4096, .bf16⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![68], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_3 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S128x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x4096 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== Reference4Ideal.lean ====
abbrev S8704x4096 : Shape := ⟨2, ![8704, 4096]⟩
abbrev S1x4096x4096 : Shape := ⟨3, ![1, 4096, 4096]⟩
abbrev S2x4096 : Shape := ⟨2, ![2, 4096]⟩
abbrev S4096x4096 : Shape := ⟨2, ![4096, 4096]⟩
abbrev S_ : Shape := ⟨0, ![]⟩
abbrev S1x4096 : Shape := ⟨2, ![1, 4096]⟩
abbrev S4096 : Shape := ⟨1, ![4096]⟩
abbrev S8704 : Shape := ⟨1, ![8704]⟩
abbrev S8704x1 : Shape := ⟨2, ![8704, 1]⟩

abbrev nBuf : Space → Nat
  | .hbm => 45
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S8704x4096, .bf16⟩
  | .hbm, ⟨2, _⟩ => ⟨S1x4096x4096, .f32⟩
  | .hbm, ⟨3, _⟩ => ⟨S2x4096, .f32⟩
  | .hbm, ⟨4, _⟩ => ⟨S2x4096, .f32⟩
  | .hbm, ⟨5, _⟩ => ⟨S8704x4096, .f32⟩
  | .hbm, ⟨6, _⟩ => ⟨S4096x4096, .f32⟩
  | .hbm, ⟨7, _⟩ => ⟨S8704x4096, .f32⟩
  | .hbm, ⟨8, _⟩ => ⟨S_, .f32⟩
  | .hbm, ⟨9, _⟩ => ⟨S8704x4096, .f32⟩
  | .hbm, ⟨10, _⟩ => ⟨S8704x4096, .f32⟩
  | .hbm, ⟨11, _⟩ => ⟨S8704x4096, .f32⟩
  | .hbm, ⟨12, _⟩ => ⟨S1x4096, .f32⟩
  | .hbm, ⟨13, _⟩ => ⟨S4096, .f32⟩
  | .hbm, ⟨14, _⟩ => ⟨S1x4096, .f32⟩
  | .hbm, ⟨15, _⟩ => ⟨S4096, .f32⟩
  | .hbm, ⟨16, _⟩ => ⟨S_, .f32⟩
  | .hbm, ⟨17, _⟩ => ⟨S8704, .f32⟩
  | .hbm, ⟨18, _⟩ => ⟨S8704x1, .f32⟩
  | .hbm, ⟨19, _⟩ => ⟨S_, .f32⟩
  | .hbm, ⟨20, _⟩ => ⟨S8704x1, .f32⟩
  | .hbm, ⟨21, _⟩ => ⟨S8704x1, .f32⟩
  | .hbm, ⟨22, _⟩ => ⟨S8704x4096, .f32⟩
  | .hbm, ⟨23, _⟩ => ⟨S8704x4096, .f32⟩
  | .hbm, ⟨24, _⟩ => ⟨S8704x4096, .f32⟩
  | .hbm, ⟨25, _⟩ => ⟨S_, .f32⟩
  | .hbm, ⟨26, _⟩ => ⟨S8704, .f32⟩
  | .hbm, ⟨27, _⟩ => ⟨S8704x1, .f32⟩
  | .hbm, ⟨28, _⟩ => ⟨S_, .f32⟩
  | .hbm, ⟨29, _⟩ => ⟨S8704x1, .f32⟩
  | .hbm, ⟨30, _⟩ => ⟨S8704x1, .f32⟩
  | .hbm, ⟨31, _⟩ => ⟨S8704x4096, .f32⟩
  | .hbm, ⟨32, _⟩ => ⟨S8704x4096, .f32⟩
  | .hbm, ⟨33, _⟩ => ⟨S_, .f32⟩
  | .hbm, ⟨34, _⟩ => ⟨S8704x1, .f32⟩
  | .hbm, ⟨35, _⟩ => ⟨S8704x1, .f32⟩
  | .hbm, ⟨36, _⟩ => ⟨S8704x1, .f32⟩
  | .hbm, ⟨37, _⟩ => ⟨S8704x4096, .f32⟩
  | .hbm, ⟨38, _⟩ => ⟨S8704x4096, .f32⟩
  | .hbm, ⟨39, _⟩ => ⟨S1x4096, .f32⟩
  | .hbm, ⟨40, _⟩ => ⟨S8704x4096, .f32⟩
  | .hbm, ⟨41, _⟩ => ⟨S8704x4096, .f32⟩
  | .hbm, ⟨42, _⟩ => ⟨S1x4096, .f32⟩
  | .hbm, ⟨43, _⟩ => ⟨S8704x4096, .f32⟩
  | .hbm, ⟨44, _⟩ => ⟨S8704x4096, .f32⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Kernel5.lean ====
abbrev S8704x4096 : Shape := ⟨2, ![8704, 4096]⟩
abbrev S8704x2048 : Shape := ⟨2, ![8704, 2048]⟩
abbrev S1x4096x4096 : Shape := ⟨3, ![1, 4096, 4096]⟩
abbrev S2x4096 : Shape := ⟨2, ![2, 4096]⟩
abbrev S1088x2048 : Shape := ⟨2, ![1088, 2048]⟩
abbrev S1x2048x512 : Shape := ⟨3, ![1, 2048, 512]⟩
abbrev S1088x512 : Shape := ⟨2, ![1088, 512]⟩
abbrev S2048x512 : Shape := ⟨2, ![2048, 512]⟩
abbrev S2x1x4096 : Shape := ⟨3, ![2, 1, 4096]⟩
abbrev S128x4096 : Shape := ⟨2, ![128, 4096]⟩
abbrev S1x1x4096 : Shape := ⟨3, ![1, 1, 4096]⟩
abbrev S128 : Shape := ⟨1, ![128]⟩
abbrev S128x1 : Shape := ⟨2, ![128, 1]⟩
abbrev S1x4096 : Shape := ⟨2, ![1, 4096]⟩

abbrev nBuf : Space → Nat
  | .hbm => 11
  | .vmem => 20
  | .smem => 0
  | _ => 0

abbrev bufTy : (tb : Table) → Fin (tcTables nBuf tb) → BufTy
  | .hbm, ⟨0, _⟩ => ⟨S8704x4096, .f32⟩
  | .hbm, ⟨1, _⟩ => ⟨S8704x2048, .bf16⟩
  | .hbm, ⟨2, _⟩ => ⟨S8704x2048, .bf16⟩
  | .hbm, ⟨3, _⟩ => ⟨S1x4096x4096, .f32⟩
  | .hbm, ⟨4, _⟩ => ⟨S2x4096, .f32⟩
  | .hbm, ⟨5, _⟩ => ⟨S2x4096, .f32⟩
  | .hbm, ⟨6, _⟩ => ⟨S8704x4096, .f32⟩
  | .hbm, ⟨7, _⟩ => ⟨S2x1x4096, .f32⟩
  | .hbm, ⟨8, _⟩ => ⟨S2x1x4096, .f32⟩
  | .hbm, ⟨9, _⟩ => ⟨S8704x4096, .f32⟩
  | .hbm, ⟨10, _⟩ => ⟨S8704x4096, .bf16⟩
  | .local _ .vmem, ⟨0, _⟩ => ⟨S1088x2048, .bf16⟩
  | .local _ .vmem, ⟨1, _⟩ => ⟨S1088x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1088x2048, .bf16⟩
  | .local _ .vmem, ⟨5, _⟩ => ⟨S1088x2048, .bf16⟩
  | .local _ .vmem, ⟨6, _⟩ => ⟨S1x2048x512, .f32⟩
  | .local _ .vmem, ⟨7, _⟩ => ⟨S1x2048x512, .f32⟩
  | .local _ .vmem, ⟨8, _⟩ => ⟨S1088x512, .f32⟩
  | .local _ .vmem, ⟨9, _⟩ => ⟨S1088x512, .f32⟩
  | .local _ .vmem, ⟨10, _⟩ => ⟨S128x4096, .f32⟩
  | .local _ .vmem, ⟨11, _⟩ => ⟨S128x4096, .f32⟩
  | .local _ .vmem, ⟨12, _⟩ => ⟨S128x4096, .f32⟩
  | .local _ .vmem, ⟨13, _⟩ => ⟨S128x4096, .f32⟩
  | .local _ .vmem, ⟨14, _⟩ => ⟨S1x1x4096, .f32⟩
  | .local _ .vmem, ⟨15, _⟩ => ⟨S1x1x4096, .f32⟩
  | .local _ .vmem, ⟨16, _⟩ => ⟨S128x4096, .f32⟩
  | .local _ .vmem, ⟨17, _⟩ => ⟨S128x4096, .f32⟩
  | .local _ .vmem, ⟨18, _⟩ => ⟨S128x4096, .bf16⟩
  | .local _ .vmem, ⟨19, _⟩ => ⟨S128x4096, .bf16⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1088x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨1, ![68], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S128x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x4096 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== Reference5Ideal.lean ====
abbrev S8704x4096 : Shape := ⟨2, ![8704, 4096]⟩
abbrev S8704x2048 : Shape := ⟨2, ![8704, 2048]⟩
abbrev S1x4096x4096 : Shape := ⟨3, ![1, 4096, 4096]⟩
abbrev S2x4096 : Shape := ⟨2, ![2, 4096]⟩
abbrev S_ : Shape := ⟨0, ![]⟩
abbrev S4096x4096 : Shape := ⟨2, ![4096, 4096]⟩
abbrev S1x4096 : Shape := ⟨2, ![1, 4096]⟩
abbrev S4096 : Shape := ⟨1, ![4096]⟩
abbrev S8704 : Shape := ⟨1, ![8704]⟩
abbrev S8704x1 : Shape := ⟨2, ![8704, 1]⟩

abbrev nBuf : Space → Nat
  | .hbm => 48
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S8704x2048, .bf16⟩
  | .hbm, ⟨2, _⟩ => ⟨S8704x2048, .bf16⟩
  | .hbm, ⟨3, _⟩ => ⟨S1x4096x4096, .f32⟩
  | .hbm, ⟨4, _⟩ => ⟨S2x4096, .f32⟩
  | .hbm, ⟨5, _⟩ => ⟨S2x4096, .f32⟩
  | .hbm, ⟨6, _⟩ => ⟨S8704x2048, .f32⟩
  | .hbm, ⟨7, _⟩ => ⟨S8704x2048, .f32⟩
  | .hbm, ⟨8, _⟩ => ⟨S8704x4096, .f32⟩
  | .hbm, ⟨9, _⟩ => ⟨S_, .f32⟩
  | .hbm, ⟨10, _⟩ => ⟨S8704x4096, .f32⟩
  | .hbm, ⟨11, _⟩ => ⟨S8704x4096, .f32⟩
  | .hbm, ⟨12, _⟩ => ⟨S4096x4096, .f32⟩
  | .hbm, ⟨13, _⟩ => ⟨S8704x4096, .f32⟩
  | .hbm, ⟨14, _⟩ => ⟨S8704x4096, .f32⟩
  | .hbm, ⟨15, _⟩ => ⟨S1x4096, .f32⟩
  | .hbm, ⟨16, _⟩ => ⟨S4096, .f32⟩
  | .hbm, ⟨17, _⟩ => ⟨S1x4096, .f32⟩
  | .hbm, ⟨18, _⟩ => ⟨S4096, .f32⟩
  | .hbm, ⟨19, _⟩ => ⟨S_, .f32⟩
  | .hbm, ⟨20, _⟩ => ⟨S8704, .f32⟩
  | .hbm, ⟨21, _⟩ => ⟨S8704x1, .f32⟩
  | .hbm, ⟨22, _⟩ => ⟨S_, .f32⟩
  | .hbm, ⟨23, _⟩ => ⟨S8704x1, .f32⟩
  | .hbm, ⟨24, _⟩ => ⟨S8704x1, .f32⟩
  | .hbm, ⟨25, _⟩ => ⟨S8704x4096, .f32⟩
  | .hbm, ⟨26, _⟩ => ⟨S8704x4096, .f32⟩
  | .hbm, ⟨27, _⟩ => ⟨S8704x4096, .f32⟩
  | .hbm, ⟨28, _⟩ => ⟨S_, .f32⟩
  | .hbm, ⟨29, _⟩ => ⟨S8704, .f32⟩
  | .hbm, ⟨30, _⟩ => ⟨S8704x1, .f32⟩
  | .hbm, ⟨31, _⟩ => ⟨S_, .f32⟩
  | .hbm, ⟨32, _⟩ => ⟨S8704x1, .f32⟩
  | .hbm, ⟨33, _⟩ => ⟨S8704x1, .f32⟩
  | .hbm, ⟨34, _⟩ => ⟨S8704x4096, .f32⟩
  | .hbm, ⟨35, _⟩ => ⟨S8704x4096, .f32⟩
  | .hbm, ⟨36, _⟩ => ⟨S_, .f32⟩
  | .hbm, ⟨37, _⟩ => ⟨S8704x1, .f32⟩
  | .hbm, ⟨38, _⟩ => ⟨S8704x1, .f32⟩
  | .hbm, ⟨39, _⟩ => ⟨S8704x1, .f32⟩
  | .hbm, ⟨40, _⟩ => ⟨S8704x4096, .f32⟩
  | .hbm, ⟨41, _⟩ => ⟨S8704x4096, .f32⟩
  | .hbm, ⟨42, _⟩ => ⟨S1x4096, .f32⟩
  | .hbm, ⟨43, _⟩ => ⟨S8704x4096, .f32⟩
  | .hbm, ⟨44, _⟩ => ⟨S8704x4096, .f32⟩
  | .hbm, ⟨45, _⟩ => ⟨S1x4096, .f32⟩
  | .hbm, ⟨46, _⟩ => ⟨S8704x4096, .f32⟩
  | .hbm, ⟨47, _⟩ => ⟨S8704x4096, .f32⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel6.lean ====
abbrev S8704x4096 : Shape := ⟨2, ![8704, 4096]⟩
abbrev S1x4096x4640 : Shape := ⟨3, ![1, 4096, 4640]⟩
abbrev S1088x4096 : Shape := ⟨2, ![1088, 4096]⟩
abbrev S1x4096x512 : Shape := ⟨3, ![1, 4096, 512]⟩
abbrev S1088x512 : Shape := ⟨2, ![1088, 512]⟩
abbrev S4096x512 : Shape := ⟨2, ![4096, 512]⟩

abbrev nBuf : Space → Nat
  | .hbm => 4
  | .vmem => 6
  | .smem => 0
  | _ => 0

abbrev bufTy : (tb : Table) → Fin (tcTables nBuf tb) → BufTy
  | .hbm, ⟨0, _⟩ => ⟨S8704x4096, .f32⟩
  | .hbm, ⟨1, _⟩ => ⟨S1x4096x4640, .f32⟩
  | .hbm, ⟨2, _⟩ => ⟨S8704x4096, .bf16⟩
  | .hbm, ⟨3, _⟩ => ⟨S8704x4096, .f32⟩
  | .local _ .vmem, ⟨0, _⟩ => ⟨S1088x4096, .bf16⟩
  | .local _ .vmem, ⟨1, _⟩ => ⟨S1088x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1088x512, .f32⟩
  | .local _ .vmem, ⟨5, _⟩ => ⟨S1088x512, .f32⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8704x4096 : Shape := ⟨2, ![8704, 4096]⟩
abbrev S1x4096x4640 : Shape := ⟨3, ![1, 4096, 4640]⟩
abbrev S4096x4640 : Shape := ⟨2, ![4096, 4640]⟩
abbrev S8704x4640 : Shape := ⟨2, ![8704, 4640]⟩

abbrev nBuf : Space → Nat
  | .hbm => 5
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S1x4096x4640, .f32⟩
  | .hbm, ⟨2, _⟩ => ⟨S4096x4640, .f32⟩
  | .hbm, ⟨3, _⟩ => ⟨S8704x4640, .f32⟩
  | .hbm, ⟨4, _⟩ => ⟨S8704x4096, .f32⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S8704x4096 : Shape := ⟨2, ![8704, 4096]⟩
abbrev S1x4096x7752 : Shape := ⟨3, ![1, 4096, 7752]⟩
abbrev S8704x1536 : Shape := ⟨2, ![8704, 1536]⟩
abbrev S1088x4096 : Shape := ⟨2, ![1088, 4096]⟩
abbrev S1x4096x512 : Shape := ⟨3, ![1, 4096, 512]⟩
abbrev S1088x512 : Shape := ⟨2, ![1088, 512]⟩
abbrev S4096x512 : Shape := ⟨2, ![4096, 512]⟩

abbrev nBuf : Space → Nat
  | .hbm => 4
  | .vmem => 6
  | .smem => 0
  | _ => 0

abbrev bufTy : (tb : Table) → Fin (tcTables nBuf tb) → BufTy
  | .hbm, ⟨0, _⟩ => ⟨S8704x4096, .f32⟩
  | .hbm, ⟨1, _⟩ => ⟨S1x4096x7752, .f32⟩
  | .hbm, ⟨2, _⟩ => ⟨S8704x4096, .bf16⟩
  | .hbm, ⟨3, _⟩ => ⟨S8704x1536, .f32⟩
  | .local _ .vmem, ⟨0, _⟩ => ⟨S1088x4096, .bf16⟩
  | .local _ .vmem, ⟨1, _⟩ => ⟨S1088x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1088x512, .f32⟩
  | .local _ .vmem, ⟨5, _⟩ => ⟨S1088x512, .f32⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S8704x4096 : Shape := ⟨2, ![8704, 4096]⟩
abbrev S1x4096x7752 : Shape := ⟨3, ![1, 4096, 7752]⟩
abbrev S4096x7752 : Shape := ⟨2, ![4096, 7752]⟩
abbrev S8704x7752 : Shape := ⟨2, ![8704, 7752]⟩
abbrev S8704x1536 : Shape := ⟨2, ![8704, 1536]⟩

abbrev nBuf : Space → Nat
  | .hbm => 5
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S1x4096x7752, .f32⟩
  | .hbm, ⟨2, _⟩ => ⟨S4096x7752, .f32⟩
  | .hbm, ⟨3, _⟩ => ⟨S8704x7752, .f32⟩
  | .hbm, ⟨4, _⟩ => ⟨S8704x1536, .f32⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S8704x512 : Shape := ⟨2, ![8704, 512]⟩
abbrev S1x16x512x128 : Shape := ⟨4, ![1, 16, 512, 128]⟩
abbrev S16x512x128 : Shape := ⟨3, ![16, 512, 128]⟩
abbrev S512x16x128 : Shape := ⟨3, ![512, 16, 128]⟩
abbrev S512x2048 : Shape := ⟨2, ![512, 2048]⟩
abbrev S512x4096 : Shape := ⟨2, ![512, 4096]⟩
abbrev S1x512x4096 : Shape := ⟨3, ![1, 512, 4096]⟩
abbrev S8192x4096 : Shape := ⟨2, ![8192, 4096]⟩
abbrev S1024x512 : Shape := ⟨2, ![1024, 512]⟩
abbrev S1x512x1024 : Shape := ⟨3, ![1, 512, 1024]⟩
abbrev S1024x1024 : Shape := ⟨2, ![1024, 1024]⟩
abbrev S512x1024 : Shape := ⟨2, ![512, 1024]⟩

abbrev nBuf : Space → Nat
  | .hbm => 12
  | .vmem => 6
  | .smem => 0
  | _ => 0

abbrev bufTy : (tb : Table) → Fin (tcTables nBuf tb) → BufTy
  | .hbm, ⟨0, _⟩ => ⟨S8704x512, .f32⟩
  | .hbm, ⟨1, _⟩ => ⟨S1x16x512x128, .f32⟩
  | .hbm, ⟨2, _⟩ => ⟨S1x16x512x128, .f32⟩
  | .hbm, ⟨3, _⟩ => ⟨S16x512x128, .f32⟩
  | .hbm, ⟨4, _⟩ => ⟨S512x16x128, .f32⟩
  | .hbm, ⟨5, _⟩ => ⟨S512x2048, .f32⟩
  | .hbm, ⟨6, _⟩ => ⟨S16x512x128, .f32⟩
  | .hbm, ⟨7, _⟩ => ⟨S512x16x128, .f32⟩
  | .hbm, ⟨8, _⟩ => ⟨S512x2048, .f32⟩
  | .hbm, ⟨9, _⟩ => ⟨S512x4096, .f32⟩
  | .hbm, ⟨10, _⟩ => ⟨S1x512x4096, .f32⟩
  | .hbm, ⟨11, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S1x512x1024, .f32⟩
  | .local _ .vmem, ⟨3, _⟩ => ⟨S1x512x1024, .f32⟩
  | .local _ .vmem, ⟨4, _⟩ => ⟨S1024x1024, .f32⟩
  | .local _ .vmem, ⟨5, _⟩ => ⟨S1024x1024, .f32⟩
  | _, _ => ⟨S8704x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S8704x512 : Shape := ⟨2, ![8704, 512]⟩
abbrev S1x16x512x128 : Shape := ⟨4, ![1, 16, 512, 128]⟩
abbrev S8192x512 : Shape := ⟨2, ![8192, 512]⟩
abbrev S16x512x128 : Shape := ⟨3, ![16, 512, 128]⟩
abbrev S8192x16x128 : Shape := ⟨3, ![8192, 16, 128]⟩
abbrev S8192x2048 : Shape := ⟨2, ![8192, 2048]⟩
abbrev S8192x4096 : Shape := ⟨2, ![8192, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8704x512, .f32⟩
  | .hbm, ⟨1, _⟩ => ⟨S1x16x512x128, .f32⟩
  | .hbm, ⟨2, _⟩ => ⟨S1x16x512x128, .f32⟩
  | .hbm, ⟨3, _⟩ => ⟨S8192x512, .f32⟩
  | .hbm, ⟨4, _⟩ => ⟨S16x512x128, .f32⟩
  | .hbm, ⟨5, _⟩ => ⟨S8192x16x128, .f32⟩
  | .hbm, ⟨6, _⟩ => ⟨S16x512x128, .f32⟩
  | .hbm, ⟨7, _⟩ => ⟨S8192x16x128, .f32⟩
  | .hbm, ⟨8, _⟩ => ⟨S8192x2048, .f32⟩
  | .hbm, ⟨9, _⟩ => ⟨S8192x2048, .f32⟩
  | .hbm, ⟨10, _⟩ => ⟨S8192x4096, .f32⟩
  | _, _ => ⟨S8704x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel9.lean ====
abbrev S8704x1536 : Shape := ⟨2, ![8704, 1536]⟩
abbrev S1x1024 : Shape := ⟨2, ![1, 1024]⟩
abbrev S1x1024x3072 : Shape := ⟨3, ![1, 1024, 3072]⟩
abbrev S2048 : Shape := ⟨1, ![2048]⟩
abbrev S1x2048 : Shape := ⟨2, ![1, 2048]⟩
abbrev S4x2048 : Shape := ⟨2, ![4, 2048]⟩
abbrev S8192 : Shape := ⟨1, ![8192]⟩
abbrev S4 : Shape := ⟨1, ![4]⟩
abbrev S_ : Shape := ⟨0, ![]⟩
abbrev S1x4 : Shape := ⟨2, ![1, 4]⟩
abbrev S128x4 : Shape := ⟨2, ![128, 4]⟩
abbrev S512 : Shape := ⟨1, ![512]⟩
abbrev S8704 : Shape := ⟨1, ![8704]⟩
abbrev S32 : Shape := ⟨1, ![32]⟩
abbrev S8704x1 : Shape := ⟨2, ![8704, 1]⟩
abbrev S1x32 : Shape := ⟨2, ![1, 32]⟩
abbrev S8704x32 : Shape := ⟨2, ![8704, 32]⟩
abbrev S8704x128 : Shape := ⟨2, ![8704, 128]⟩
abbrev S1024x3072 : Shape := ⟨2, ![1024, 3072]⟩
abbrev S1024x16x192 : Shape := ⟨3, ![1024, 16, 192]⟩
abbrev S1024x16x256 : Shape := ⟨3, ![1024, 16, 256]⟩
abbrev S1024x4096 : Shape := ⟨2, ![1024, 4096]⟩
abbrev S1024 : Shape := ⟨1, ![1024]⟩
abbrev S8704x4096 : Shape := ⟨2, ![8704, 4096]⟩
abbrev S1088x1024 : Shape := ⟨2, ![1088, 1024]⟩
abbrev S1024x512 : Shape := ⟨2, ![1024, 512]⟩
abbrev S1088x128 : Shape := ⟨2, ![1088, 128]⟩
abbrev S1088x512 : Shape := ⟨2, ![1088, 512]⟩
abbrev S1088 : Shape := ⟨1, ![1088]⟩
abbrev S1088x1 : Shape := ⟨2, ![1088, 1]⟩
abbrev S8704x16x256 : Shape := ⟨3, ![8704, 16, 256]⟩
abbrev S8704x16x192 : Shape := ⟨3, ![8704, 16, 192]⟩

abbrev nBuf : Space → Nat
  | .hbm => 45
  | .vmem => 11
  | .smem => 0
  | _ => 0

abbrev bufTy : (tb : Table) → Fin (tcTables nBuf tb) → BufTy
  | .hbm, ⟨0, _⟩ => ⟨S8704x1536, .f32⟩
  | .hbm, ⟨1, _⟩ => ⟨S1x1024, .f32⟩
  | .hbm, ⟨2, _⟩ => ⟨S1x1024x3072, .f32⟩
  | .hbm, ⟨3, _⟩ => ⟨S2048, .f32⟩
  | .hbm, ⟨4, _⟩ => ⟨S1x2048, .f32⟩
  | .hbm, ⟨5, _⟩ => ⟨S4x2048, .f32⟩
  | .hbm, ⟨6, _⟩ => ⟨S8192, .f32⟩
  | .hbm, ⟨7, _⟩ => ⟨S4, .f32⟩
  | .hbm, ⟨8, _⟩ => ⟨S_, .f32⟩
  | .hbm, ⟨9, _⟩ => ⟨S4, .f32⟩
  | .hbm, ⟨10, _⟩ => ⟨S4, .f32⟩
  | .hbm, ⟨11, _⟩ => ⟨S1x4, .f32⟩
  | .hbm, ⟨12, _⟩ => ⟨S128x4, .f32⟩
  | .hbm, ⟨13, _⟩ => ⟨S512, .f32⟩
  | .hbm, ⟨14, _⟩ => ⟨S8704, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S8704x1, .f32⟩
  | .hbm, ⟨24, _⟩ => ⟨S1x32, .f32⟩
  | .hbm, ⟨25, _⟩ => ⟨S8704x32, .f32⟩
  | .hbm, ⟨26, _⟩ => ⟨S8704x32, .f32⟩
  | .hbm, ⟨27, _⟩ => ⟨S8704x32, .f32⟩
  | .hbm, ⟨28, _⟩ => ⟨S8704x32, .f32⟩
  | .hbm, ⟨29, _⟩ => ⟨S8704x32, .f32⟩
  | .hbm, ⟨30, _⟩ => ⟨S8704x128, .f32⟩
  | .hbm, ⟨31, _⟩ => ⟨S8704x32, .f32⟩
  | .hbm, ⟨32, _⟩ => ⟨S8704x32, .f32⟩
  | .hbm, ⟨33, _⟩ => ⟨S8704x128, .f32⟩
  | .hbm, ⟨34, _⟩ => ⟨S1024x3072, .f32⟩
  | .hbm, ⟨35, _⟩ => ⟨S1024x16x192, .f32⟩
  | .hbm, ⟨36, _⟩ => ⟨S_, .i32⟩
  | .hbm, ⟨37, _⟩ => ⟨S_, .f32⟩
  | .hbm, ⟨38, _⟩ => ⟨S1024x16x256, .f32⟩
  | .hbm, ⟨39, _⟩ => ⟨S1024x4096, .f32⟩
  | .hbm, ⟨40, _⟩ => ⟨S1024, .f32⟩
  | .hbm, ⟨41, _⟩ => ⟨S1x1024, .f32⟩
  | .hbm, ⟨42, _⟩ => ⟨S8704x4096, .f32⟩
  | .hbm, ⟨43, _⟩ => ⟨S8704x16x256, .f32⟩
  | .hbm, ⟨44, _⟩ => ⟨S8704x16x192, .f32⟩
  | .local _ .vmem, ⟨0, _⟩ => ⟨S1088x1024, .f32⟩
  | .local _ .vmem, ⟨1, _⟩ => ⟨S1088x1024, .f32⟩
  | .local _ .vmem, ⟨2, _⟩ => ⟨S1x1024, .f32⟩
  | .local _ .vmem, ⟨3, _⟩ => ⟨S1024x512, .f32⟩
  | .local _ .vmem, ⟨4, _⟩ => ⟨S1024x512, .f32⟩
  | .local _ .vmem, ⟨5, _⟩ => ⟨S1088x128, .f32⟩
  | .local _ .vmem, ⟨6, _⟩ => ⟨S1088x128, .f32⟩
  | .local _ .vmem, ⟨7, _⟩ => ⟨S1088x128, .f32⟩
  | .local _ .vmem, ⟨8, _⟩ => ⟨S1088x128, .f32⟩
  | .local _ .vmem, ⟨9, _⟩ => ⟨S1088x512, .f32⟩
  | .local _ .vmem, ⟨10, _⟩ => ⟨S1088x512, .f32⟩
  | _, _ => ⟨S8704x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_c : Ref sig .tc := ⟨.hbm, 36, rfl⟩
abbrev main_call0_v0 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1088x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1088x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1088x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference9Ideal.lean ====
abbrev S8704x1536 : Shape := ⟨2, ![8704, 1536]⟩
abbrev S1x1024 : Shape := ⟨2, ![1, 1024]⟩
abbrev S1x1024x3072 : Shape := ⟨3, ![1, 1024, 3072]⟩
abbrev S8704x1024 : Shape := ⟨2, ![8704, 1024]⟩
abbrev S1024 : Shape := ⟨1, ![1024]⟩
abbrev S_ : Shape := ⟨0, ![]⟩
abbrev S8704 : Shape := ⟨1, ![8704]⟩
abbrev S8704x1 : Shape := ⟨2, ![8704, 1]⟩
abbrev S1024x3072 : Shape := ⟨2, ![1024, 3072]⟩
abbrev S8704x3072 : Shape := ⟨2, ![8704, 3072]⟩
abbrev S8704x16x192 : Shape := ⟨3, ![8704, 16, 192]⟩
abbrev S32 : Shape := ⟨1, ![32]⟩
abbrev S2048 : Shape := ⟨1, ![2048]⟩
abbrev S1x2048 : Shape := ⟨2, ![1, 2048]⟩
abbrev S4x2048 : Shape := ⟨2, ![4, 2048]⟩
abbrev S8192 : Shape := ⟨1, ![8192]⟩
abbrev S4 : Shape := ⟨1, ![4]⟩
abbrev S1x4 : Shape := ⟨2, ![1, 4]⟩
abbrev S128x4 : Shape := ⟨2, ![128, 4]⟩
abbrev S512 : Shape := ⟨1, ![512]⟩
abbrev S8704x1x1 : Shape := ⟨3, ![8704, 1, 1]⟩
abbrev S1x1x32 : Shape := ⟨3, ![1, 1, 32]⟩
abbrev S8704x1x32 : Shape := ⟨3, ![8704, 1, 32]⟩
abbrev S8704x16x32 : Shape := ⟨3, ![8704, 16, 32]⟩
abbrev S8704x16x128 : Shape := ⟨3, ![8704, 16, 128]⟩

abbrev nBuf : Space → Nat
  | .hbm => 65
  | .vmem => 0
  | .smem => 0
  | _ => 0

abbrev bufTy : (tb : Table) → Fin (tcTables nBuf tb) → BufTy
  | .hbm, ⟨0, _⟩ => ⟨S8704x1536, .f32⟩
  | .hbm, ⟨1, _⟩ => ⟨S1x1024, .f32⟩
  | .hbm, ⟨2, _⟩ => ⟨S1x1024x3072, .f32⟩
  | .hbm, ⟨3, _⟩ => ⟨S8704x1024, .f32⟩
  | .hbm, ⟨4, _⟩ => ⟨S1024, .f32⟩
  | .hbm, ⟨5, _⟩ => ⟨S8704x1024, .f32⟩
  | .hbm, ⟨6, _⟩ => ⟨S_, .f32⟩
  | .hbm, ⟨7, _⟩ => ⟨S8704, .f32⟩
  | .hbm, ⟨8, _⟩ => ⟨S8704x1, .f32⟩
  | .hbm, ⟨9, _⟩ => ⟨S_, .f32⟩
  | .hbm, ⟨10, _⟩ => ⟨S8704x1, .f32⟩
  | .hbm, ⟨11, _⟩ => ⟨S8704x1, .f32⟩
  | .hbm, ⟨12, _⟩ => ⟨S_, .f32⟩
  | .hbm, ⟨13, _⟩ => ⟨S8704x1, .f32⟩
  | .hbm, ⟨14, _⟩ => ⟨S8704x1, .f32⟩
  | .hbm, ⟨15, _⟩ => ⟨S8704x1, .f32⟩
  | .hbm, ⟨16, _⟩ => ⟨S8704x1024, .f32⟩
  | .hbm, ⟨17, _⟩ => ⟨S8704x1024, .f32⟩
  | .hbm, ⟨18, _⟩ => ⟨S1x1024, .f32⟩
  | .hbm, ⟨19, _⟩ => ⟨S8704x1024, .f32⟩
  | .hbm, ⟨20, _⟩ => ⟨S8704x1024, .f32⟩
  | .hbm, ⟨21, _⟩ => ⟨S1024x3072, .f32⟩
  | .hbm, ⟨22, _⟩ => ⟨S8704x3072, .f32⟩
  | .hbm, ⟨23, _⟩ => ⟨S8704x16x192, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S2048, .f32⟩
  | .hbm, ⟨33, _⟩ => ⟨S1x2048, .f32⟩
  | .hbm, ⟨34, _⟩ => ⟨S4x2048, .f32⟩
  | .hbm, ⟨35, _⟩ => ⟨S8192, .f32⟩
  | .hbm, ⟨36, _⟩ => ⟨S4, .f32⟩
  | .hbm, ⟨37, _⟩ => ⟨S_, .f32⟩
  | .hbm, ⟨38, _⟩ => ⟨S4, .f32⟩
  | .hbm, ⟨39, _⟩ => ⟨S4, .f32⟩
  | .hbm, ⟨40, _⟩ => ⟨S1x4, .f32⟩
  | .hbm, ⟨41, _⟩ => ⟨S128x4, .f32⟩
  | .hbm, ⟨42, _⟩ => ⟨S512, .f32⟩
  | .hbm, ⟨43, _⟩ => ⟨S8704, .f32⟩
  | .hbm, ⟨44, _⟩ => ⟨S8704x1x1, .f32⟩
  | .hbm, ⟨45, _⟩ => ⟨S1x1x32, .f32⟩
  | .hbm, ⟨46, _⟩ => ⟨S8704x1x32, .f32⟩
  | .hbm, ⟨47, _⟩ => ⟨S8704x1x32, .f32⟩
  | .hbm, ⟨48, _⟩ => ⟨S8704x1x32, .f32⟩
  | .hbm, ⟨49, _⟩ => ⟨S8704x1x32, .f32⟩
  | .hbm, ⟨50, _⟩ => ⟨S8704x1x32, .f32⟩
  | .hbm, ⟨51, _⟩ => ⟨S8704x16x32, .f32⟩
  | .hbm, ⟨52, _⟩ => ⟨S8704x16x32, .f32⟩
  | .hbm, ⟨53, _⟩ => ⟨S8704x16x128, .f32⟩
  | .hbm, ⟨54, _⟩ => ⟨S8704x16x32, .f32⟩
  | .hbm, ⟨55, _⟩ => ⟨S8704x16x32, .f32⟩
  | .hbm, ⟨56, _⟩ => ⟨S8704x16x32, .f32⟩
  | .hbm, ⟨57, _⟩ => ⟨S8704x16x32, .f32⟩
  | .hbm, ⟨58, _⟩ => ⟨S8704x16x32, .f32⟩
  | .hbm, ⟨59, _⟩ => ⟨S8704x16x32, .f32⟩
  | .hbm, ⟨60, _⟩ => ⟨S8704x16x32, .f32⟩
  | .hbm, ⟨61, _⟩ => ⟨S8704x16x32, .f32⟩
  | .hbm, ⟨62, _⟩ => ⟨S8704x16x32, .f32⟩
  | .hbm, ⟨63, _⟩ => ⟨S8704x16x32, .f32⟩
  | .hbm, ⟨64, _⟩ => ⟨S8704x16x192, .f32⟩
  | _, _ => ⟨S8704x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩

abbrev nD : Nat := 1
abbrev τ : Topo := Topo.v7x

variable {F : FTy → Type} [FloatOps F]
-- ==== Proof.Body.lean ====
/-
  The four kernels' bodies, each run once over any float interpretation: from its staging buffers held whole, what it leaves in
  each output buffer, as the payload of its one store there over the blocks it loads. The two expert kernels also read one word of
  the tile table, which is zero or one.
-/
module

public import proofs.«01_k».proof.Proof.Gen.KernelIdeal.Points
public import proofs.«01_k».proof.Proof.Gen.KernelIdeal.Skeleton
public import proofs.«01_k».proof.Proof.Gen.KernelIdeal.Launch
public import Idealize.ShloMosaic.Lib.Tactic
public import Idealize.ShloMosaic.Lib.Pipeline.Value

@[expose] public section

noncomputable section

namespace Cert.MoE

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The library's own ghost state of the pipelines. -/
abbrev UU : Type := UR sig nD τ

local notation "𝕄" => MT nD τ sig Unit (Elt F) ℕ UU ℕ

/-! ## Whole-buffer loads and stores -/

theorem zero2 : (![0, 0] : Fin 2 → Nat) = fun _ => 0 := by funext a; fin_cases a <;> rfl
theorem zero3 : (![0, 0, 0] : Fin 3 → Nat) = fun _ => 0 := by funext a; fin_cases a <;> rfl
theorem zero4 : (![0, 0, 0, 0] : Fin 4 → Nat) = fun _ => 0 := by funext a; fin_cases a <;> rfl

section Whole
variable {sp : Space} {S : Shape} {e : EltTy}

/-- A store over a whole buffer leaves its payload. -/
theorem read_store_whole (v : View sig .tc sp S e) (f : v.ty.Contents (Elt F)) {off : Fin S.rank → Nat} (h : off = fun _ => 0)
    (inb : ∀ a, off a + S.size a ≤ S.size a) (w : S.Idx → Elt F e) :
    v.read (Elt F) (v.writes (Elt F) f [⟨Rect.unit off S.size inb, w⟩]) = w :=
  (View.read_writes_eq_canon v f _ fun y => ⟨_, List.mem_singleton_self _, View.mem_set_unit_zero h inb y⟩).trans (View.canon_unit_zero h inb w)

/-- A load of a whole buffer reads its contents. -/
theorem read_load_whole (v : View sig .tc sp S e) (f : v.ty.Contents (Elt F)) {off : Fin S.rank → Nat} (h : off = fun _ => 0)
    (inb : ∀ a, off a + S.size a ≤ S.size a) :
    v.readAt (Elt F) (Rect.unit off S.size inb).toLoadRect f = v.read (Elt F) f :=
  View.ld_unit_zero h inb (v.read (Elt F) f)

end Whole

/-! ## The router's logits -/

theorem router_body (c : Dev nD) (i : grid0.Coords)
    (M1 : Memref sig .tc .vmem S256x4096 .f32) (h1 : M1.IsWhole) (M2 : Memref sig .tc .vmem S4096x128 .f32) (h2 : M2.IsWhole)
    (M3 : Memref sig .tc .vmem S256x128 .f32) (h3 : M3.IsWhole)
    (x1 : Vec F S256x4096 .f32) (x2 : Vec F S4096x128 .f32) (E : Set ℕ) (Q : PUnit → sProp 𝕄) :
    iprop(owns c M1 fullShare x1 ∗ owns c M2 fullShare x2 ∗ (∃ d, owns c M3 fullShare d)
        ∗ (iprop(owns c M1 fullShare x1 ∗ owns c M2 fullShare x2 ∗ owns c M3 fullShare (k0_pay1 x1 x2)) -∗ Q ⟨⟩))
      ⊢ wp frame (wpE (defs₀ (F := F)) Variants.none c none) E (cc0_router_logits i M1 h1 M2 h2 M3 h3) Q := by
  rw [cc0_router_logits_eq_skeleton]; unfold cc0_router_logits_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr; swap; · iexact H3
  ipureintro
  rw [read_load_whole _ _ zero2, read_load_whole _ _ zero2]
  exact read_store_whole _ _ zero2 _ _

/-! ## The experts' first product -/

/-- The word of the tile table that grid point `i` of the first expert kernel reads. -/
abbrev word1 (T : Vec F S100 .i32) (i : grid1.Coords) : BitVec 32 :=
  T ((Rect.unit (s := S100) (k1_off1 i) S1.size (k1_off1_inb i)).idx (Shape.Idx.first (by exact numel1_S1 ▸ Nat.one_pos)))

/-- What the first expert kernel leaves: the product where the tile is used (word one), zeros elsewhere. -/
def upOut (w : BitVec 32) (x3 : Vec F S256x4096 .bf16) (x4 : Vec F S256x1 .f32) (x5 x6 : Vec F S1x1x4096x512 .f32) : Vec F S256x512 .bf16 :=
  if w = 1#32 then k1_pay1 x3 x5 x6 x4 else k1_pay2

theorem moe_up_body (c : Dev nD) (i : grid1.Coords) (q : PosShare TreeShare) (M1 : Memref sig .tc .smem S100 .i32) (h1 : M1.IsWhole) (M2 : Memref sig .tc .smem S100 .i32) (h2 : M2.IsWhole) (T : Vec F S100 .i32)
    (hw : word1 T i = 0#32 ∨ word1 T i = 1#32)
    (M3 : Memref sig .tc .vmem S256x4096 .bf16) (h3 : M3.IsWhole) (M4 : Memref sig .tc .vmem S256x1 .f32) (h4 : M4.IsWhole)
    (M5 : Memref sig .tc .vmem S1x1x4096x512 .f32) (h5 : M5.IsWhole) (M6 : Memref sig .tc .vmem S1x1x4096x512 .f32) (h6 : M6.IsWhole)
    (M7 : Memref sig .tc .vmem S256x512 .bf16) (h7 : M7.IsWhole)
    (x3 : Vec F S256x4096 .bf16) (x4 : Vec F S256x1 .f32) (x5 x6 : Vec F S1x1x4096x512 .f32) (E : Set ℕ) (Q : PUnit → sProp 𝕄) :
    iprop(owns c M2 q T ∗ owns c M3 fullShare x3 ∗ owns c M4 fullShare x4 ∗ owns c M5 fullShare x5
        ∗ owns c M6 fullShare x6 ∗ (∃ d, owns c M7 fullShare d)
        ∗ (iprop(owns c M2 q T ∗ owns c M3 fullShare x3 ∗ owns c M4 fullShare x4 ∗ owns c M5 fullShare x5
        ∗ owns c M6 fullShare x6 ∗ owns c M7 fullShare (upOut (word1 T i) x3 x4 x5 x6)) -∗ Q ⟨⟩))
      ⊢ wp frame (wpE (defs₀ (F := F)) Variants.none c none) E
        (cc1_moe_up i M1 h1 M2 h2 M3 h3 M4 h4 M5 h5 M6 h6 M7 h7) Q := by
  rw [cc1_moe_up_eq_skeleton]; unfold cc1_moe_up_skel
  unfold owns
  iintro ⟨⟨%fT, %hT, HT⟩, ⟨%f3, %hf3, H3⟩, ⟨%f4, %hf4, H4⟩, ⟨%f5, %hf5, H5⟩, ⟨%f6, %hf6, H6⟩, ⟨%d7, %f7, -, H7⟩, Hk⟩
  subst hT; subst hf3; subst hf4; subst hf5; subst hf6
  rcases hw with hw | hw
  · have hc1 : ¬ k1_cond1 (word1 (M2.view.read (Elt F) fT) i) = 1#1 := by rw [hw]; decide
    have hc2 : k1_cond2 (word1 (M2.view.read (Elt F) fT) i) = 1#1 := by rw [hw]; decide
    sl_exec
    sl_step
    iapply Hk
    isplitl [HT]
    · iexists fT; isplitr; · ipureintro; rfl
      iexact HT
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    iexists _; isplitr; swap; · iexact H7
    ipureintro
    rw [upOut, if_neg (by rw [hw]; decide)]
    exact read_store_whole _ _ zero2 _ _
  · have hc1 : k1_cond1 (word1 (M2.view.read (Elt F) fT) i) = 1#1 := by rw [hw]; decide
    have hc2 : ¬ k1_cond2 (word1 (M2.view.read (Elt F) fT) i) = 1#1 := by rw [hw]; decide
    sl_exec
    sl_step
    iapply Hk
    isplitl [HT]
    · iexists fT; isplitr; · ipureintro; rfl
      iexact HT
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    iexists _; isplitr; swap; · iexact H7
    ipureintro
    rw [upOut, if_pos hw, read_load_whole _ _ zero2, read_load_whole _ _ zero4, read_load_whole _ _ zero4, read_load_whole _ _ zero2]
    exact read_store_whole _ _ zero2 _ _

/-! ## The experts' second product -/

/-- The word of the tile table that grid point `i` of the second expert kernel reads. -/
abbrev word2 (T : Vec F S100 .i32) (i : grid2.Coords) : BitVec 32 :=
  T ((Rect.unit (s := S100) (k2_off1 i) S1.size (k2_off1_inb i)).idx (Shape.Idx.first (by exact numel1_S1 ▸ Nat.one_pos)))

/-- What the second expert kernel leaves: the product where the tile is used (word one), zeros elsewhere. -/
def downOut (w : BitVec 32) (x3 : Vec F S256x512 .bf16) (x4 : Vec F S1x1x512x4096 .f32) : Vec F S256x4096 .f32 :=
  if w = 1#32 then k2_pay1 x3 x4 else k2_pay2

theorem moe_down_body (c : Dev nD) (i : grid2.Coords) (q : PosShare TreeShare)
    (M1 : Memref sig .tc .smem S100 .i32) (h1 : M1.IsWhole) (M2 : Memref sig .tc .smem S100 .i32) (h2 : M2.IsWhole) (T : Vec F S100 .i32)
    (hw : word2 T i = 0#32 ∨ word2 T i = 1#32)
    (M3 : Memref sig .tc .vmem S256x512 .bf16) (h3 : M3.IsWhole) (M4 : Memref sig .tc .vmem S1x1x512x4096 .f32) (h4 : M4.IsWhole)
    (M5 : Memref sig .tc .vmem S256x4096 .f32) (h5 : M5.IsWhole)
    (x3 : Vec F S256x512 .bf16) (x4 : Vec F S1x1x512x4096 .f32) (E : Set ℕ) (Q : PUnit → sProp 𝕄) :
    iprop(owns c M2 q T ∗ owns c M3 fullShare x3 ∗ owns c M4 fullShare x4 ∗ (∃ d, owns c M5 fullShare d)
        ∗ (iprop(owns c M2 q T ∗ owns c M3 fullShare x3 ∗ owns c M4 fullShare x4 ∗ owns c M5 fullShare (downOut (word2 T i) x3 x4)) -∗ Q ⟨⟩))
      ⊢ wp frame (wpE (defs₀ (F := F)) Variants.none c none) E (cc2_moe_down i M1 h1 M2 h2 M3 h3 M4 h4 M5 h5) Q := by
  rw [cc2_moe_down_eq_skeleton]; unfold cc2_moe_down_skel
  unfold owns
  iintro ⟨⟨%fT, %hT, HT⟩, ⟨%f3, %hf3, H3⟩, ⟨%f4, %hf4, H4⟩, ⟨%d5, %f5, -, H5⟩, Hk⟩
  subst hT; subst hf3; subst hf4
  rcases hw with hw | hw
  · have hc1 : ¬ k2_cond1 (word2 (M2.view.read (Elt F) fT) i) = 1#1 := by rw [hw]; decide
    have hc2 : k2_cond2 (word2 (M2.view.read (Elt F) fT) i) = 1#1 := by rw [hw]; decide
    sl_exec
    sl_step
    iapply Hk
    isplitl [HT]
    · iexists fT; isplitr; · ipureintro; rfl
      iexact HT
    isplitl [H3]
    · iexists f3; isplitr; · ipureintro; rfl
      iexact H3
    isplitl [H4]
    · iexists f4; isplitr; · ipureintro; rfl
      iexact H4
    iexists _; isplitr; swap; · iexact H5
    ipureintro
    rw [downOut, if_neg (by rw [hw]; decide)]
    exact read_store_whole _ _ zero2 _ _
  · have hc1 : k2_cond1 (word2 (M2.view.read (Elt F) fT) i) = 1#1 := by rw [hw]; decide
    have hc2 : ¬ k2_cond2 (word2 (M2.view.read (Elt F) fT) i) = 1#1 := by rw [hw]; decide
    sl_exec
    sl_step
    iapply Hk
    isplitl [HT]
    · iexists fT; isplitr; · ipureintro; rfl
      iexact HT
    isplitl [H3]
    · iexists f3; isplitr; · ipureintro; rfl
      iexact H3
    isplitl [H4]
    · iexists f4; isplitr; · ipureintro; rfl
      iexact H4
    iexists _; isplitr; swap; · iexact H5
    ipureintro
    rw [downOut, if_pos hw, read_load_whole _ _ zero2, read_load_whole _ _ zero4]
    exact read_store_whole _ _ zero2 _ _

/-! ## The layer's normalisation -/

theorem norm_body (c : Dev nD) (i : grid3.Coords)
    (M1 : Memref sig .tc .vmem S128x4096 .f32) (h1 : M1.IsWhole) (M2 : Memref sig .tc .vmem S128x4096 .f32) (h2 : M2.IsWhole)
    (M3 : Memref sig .tc .vmem S128x4096 .f32) (h3 : M3.IsWhole) (M4 : Memref sig .tc .vmem S1x1x4096 .f32) (h4 : M4.IsWhole)
    (M5 : Memref sig .tc .vmem S1x1x4096 .f32) (h5 : M5.IsWhole) (M6 : Memref sig .tc .vmem S128x4096 .f32) (h6 : M6.IsWhole)
    (M7 : Memref sig .tc .vmem S128x4096 .bf16) (h7 : M7.IsWhole)
    (x1 x2 x3 : Vec F S128x4096 .f32) (x4 x5 : Vec F S1x1x4096 .f32) (E : Set ℕ) (Q : PUnit → sProp 𝕄) :
    iprop(owns c M1 fullShare x1 ∗ owns c M2 fullShare x2 ∗ owns c M3 fullShare x3 ∗ owns c M4 fullShare x4 ∗ owns c M5 fullShare x5 ∗ (∃ d, owns c M6 fullShare d) ∗ (∃ d, owns c M7 fullShare d)
        ∗ (iprop(owns c M1 fullShare x1 ∗ owns c M2 fullShare x2 ∗ owns c M3 fullShare x3 ∗ owns c M4 fullShare x4 ∗ owns c M5 fullShare x5
          ∗ owns c M6 fullShare (k3_pay1 x2 x3 x1 x4 x5) ∗ owns c M7 fullShare (k3_pay2 x2 x3 x1 x4 x5)) -∗ Q ⟨⟩))
      ⊢ wp frame (wpE (defs₀ (F := F)) Variants.none c none) E (cc3_deepnorm_ln i M1 h1 M2 h2 M3 h3 M4 h4 M5 h5 M6 h6 M7 h7) Q := by
  rw [cc3_deepnorm_ln_eq_skeleton]; unfold cc3_deepnorm_ln_skel
  simp only [k3_part1_eq_skeleton]; unfold k3_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr; swap; · iexact H6
    ipureintro
    rw [read_load_whole _ _ zero2, read_load_whole _ _ zero2, read_load_whole _ _ zero2, read_load_whole _ _ zero3, read_load_whole _ _ zero3]
    exact read_store_whole _ _ zero2 _ _
  iexists _; isplitr; swap; · iexact H7
  ipureintro
  rw [read_load_whole _ _ zero2, read_load_whole _ _ zero2, read_load_whole _ _ zero2, read_load_whole _ _ zero3, read_load_whole _ _ zero3]
  exact read_store_whole _ _ zero2 _ _

end Cert.MoE
-- ==== Proof.Regs.lean ====
/-
  The four regions' proof data at an entry valuation, and their body obligations. Each input window's staging buffer holds that
  window's block of its array; each output window's holds what the body leaves (Body.lean).
-/
module

public import proofs.«01_k».proof.Proof.Body
public import proofs.«01_k».proof.Proof.Gen.KernelIdeal.Regions

@[expose] public section

noncomputable section

namespace Cert.MoE

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Dev nD → Valuation τ sig (Elt F))

/-! ## The router's region -/

/-- Window `w`'s block of its array at point `t`. -/
def blk0 (c : Dev nD) (w : Fin 3) (t : Fin cfg0.N) : ((cfg0.win w).xblock (cfg0.grid.coords t)).Idx → Elt F (cfg0.win w).elt :=
  ((cfg0.win w).blk t).view.read (Elt F) (V c (Proc.devRef .tc (Pipeline.arrRef spec0 w)))

/-- What the router's kernel leaves at point `t`. -/
def out0 (c : Dev nD) (t : Fin cfg0.N) : Vec F S256x128 .f32 := k0_pay1 (blk0 V c 0 t) (blk0 V c 1 t)

def dat0 (c : Dev nD) : Dat τ (Elt F) Unit ℕ UU ℕ cfg0 c where
  A w := V c (Proc.devRef .tc (Pipeline.arrRef spec0 w))
  after w t := match w with
    | ⟨0, _⟩ => blk0 V c 0 t
    | ⟨1, _⟩ => blk0 V c 1 t
    | ⟨2, _⟩ => out0 V c t
  Φ _ := Pipeline.scopedRest (Ix := Unit) (Name := ℕ) (U := UU) (Lvl := ℕ) (Val := Elt F) spec0 c
  q _ := fullShare
  owed _ := 0

theorem before0_0 (c : Dev nD) (t : Fin cfg0.N) (d) : (dat0 V c).before 0 t d = blk0 V c 0 t :=
  (dat0 V c).before_in_eq_fetched 0 rfl (fun _ => rfl) (fun _ _ _ => rfl) (fun _ => rfl) t d
theorem before0_1 (c : Dev nD) (t : Fin cfg0.N) (d) : (dat0 V c).before 1 t d = blk0 V c 1 t :=
  (dat0 V c).before_in_eq_fetched 1 rfl (fun _ => rfl) (fun _ _ _ => rfl) (fun _ => rfl) t d

theorem body0 (c : Dev nD) : BodyObligation (dat0 V c) (defs₀ (F := F)) Variants.none () Set.univ := fun t => by
  rw [bigSep_W0, bigSep_W0, show (dat0 V c).Φ t.succ = (dat0 V c).Φ t.castSucc from rfl,
    show (dat0 V c).owesAt () t.succ = (dat0 V c).owesAt () t.castSucc from rfl]
  iintro ⟨HΦ, HO, ⟨%d0, H0⟩, ⟨%d1, H1⟩, ⟨%d2, H2⟩⟩
  rw [before0_0, before0_1]
  iapply (router_body c (grid0.coords t) (win0_0.stage (cfg0.slots t 0)) (hstage0_0 ((cfg0.slots t 0).cast nbuf0_0)) (win0_1.stage (cfg0.slots t 1))
    (hstage0_1 ((cfg0.slots t 1).cast nbuf0_1)) (win0_2.stage (cfg0.slots t 2)) (hstage0_2 ((cfg0.slots t 2).cast nbuf0_2)) (blk0 V c 0 t) (blk0 V c 1 t) Set.univ _)
  isplitl [H0]; · iexact H0
  isplitl [H1]; · iexact H1
  isplitl [H2]; · iexists _; iexact H2
  iintro ⟨H0, H1, H2⟩
  isplitl [HΦ]; · iexact HΦ
  isplitl [HO]; · iexact HO
  isplitl [H0]; · iexact H0
  isplitl [H1]; · iexact H1
  iexact H2

/-! ## The normalisation's region -/

/-- Window `w`'s block of its array at point `t`. -/
def blk3 (c : Dev nD) (w : Fin 7) (t : Fin cfg3.N) : ((cfg3.win w).xblock (cfg3.grid.coords t)).Idx → Elt F (cfg3.win w).elt :=
  ((cfg3.win w).blk t).view.read (Elt F) (V c (Proc.devRef .tc (Pipeline.arrRef spec3 w)))

/-- What the normalisation's kernel leaves at point `t`: its result, -/
def out3 (c : Dev nD) (t : Fin cfg3.N) : Vec F S128x4096 .f32 :=
  k3_pay1 (blk3 V c 1 t) (blk3 V c 2 t) (blk3 V c 0 t) (blk3 V c 3 t) (blk3 V c 4 t)
/-- and the same rounded. -/
def out3b (c : Dev nD) (t : Fin cfg3.N) : Vec F S128x4096 .bf16 :=
  k3_pay2 (blk3 V c 1 t) (blk3 V c 2 t) (blk3 V c 0 t) (blk3 V c 3 t) (blk3 V c 4 t)

def dat3 (c : Dev nD) : Dat τ (Elt F) Unit ℕ UU ℕ cfg3 c where
  A w := V c (Proc.devRef .tc (Pipeline.arrRef spec3 w))
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => out3 V c t
    | ⟨6, _⟩ => out3b V c t
  Φ _ := Pipeline.scopedRest (Ix := Unit) (Name := ℕ) (U := UU) (Lvl := ℕ) (Val := Elt F) spec3 c
  q _ := fullShare
  owed _ := 0

theorem before3_0 (c : Dev nD) (t : Fin cfg3.N) (d) : (dat3 V c).before 0 t d = blk3 V c 0 t :=
  (dat3 V c).before_in_eq_fetched 0 rfl (fun _ => rfl) (fun _ _ _ => rfl) (fun _ => rfl) t d
theorem before3_1 (c : Dev nD) (t : Fin cfg3.N) (d) : (dat3 V c).before 1 t d = blk3 V c 1 t :=
  (dat3 V c).before_in_eq_fetched 1 rfl (fun _ => rfl) (fun _ _ _ => rfl) (fun _ => rfl) t d
theorem before3_2 (c : Dev nD) (t : Fin cfg3.N) (d) : (dat3 V c).before 2 t d = blk3 V c 2 t :=
  (dat3 V c).before_in_eq_fetched 2 rfl (fun _ => rfl) (fun _ _ _ => rfl) (fun _ => rfl) t d
theorem before3_3 (c : Dev nD) (t : Fin cfg3.N) (d) : (dat3 V c).before 3 t d = blk3 V c 3 t :=
  (dat3 V c).before_in_eq_fetched 3 rfl (fun _ => rfl) (fun _ _ _ => rfl) (fun _ => rfl) t d
theorem before3_4 (c : Dev nD) (t : Fin cfg3.N) (d) : (dat3 V c).before 4 t d = blk3 V c 4 t :=
  (dat3 V c).before_in_eq_fetched 4 rfl (fun _ => rfl) (fun _ _ _ => rfl) (fun _ => rfl) t d

theorem body3 (c : Dev nD) : BodyObligation (dat3 V c) (defs₀ (F := F)) Variants.none () Set.univ := fun t => by
  rw [bigSep_W3, bigSep_W3, show (dat3 V c).Φ t.succ = (dat3 V c).Φ t.castSucc from rfl,
    show (dat3 V c).owesAt () t.succ = (dat3 V c).owesAt () t.castSucc from rfl]
  iintro ⟨HΦ, HO, ⟨%d0, H0⟩, ⟨%d1, H1⟩, ⟨%d2, H2⟩, ⟨%d3, H3⟩, ⟨%d4, H4⟩, ⟨%d5, H5⟩, ⟨%d6, H6⟩⟩
  rw [before3_0, before3_1, before3_2, before3_3, before3_4]
  iapply (norm_body c (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2)) (win3_3.stage (cfg3.slots t 3)) (hstage3_3 ((cfg3.slots t 3).cast nbuf3_3)) (win3_4.stage (cfg3.slots t 4)) (hstage3_4 ((cfg3.slots t 4).cast nbuf3_4)) (win3_5.stage (cfg3.slots t 5)) (hstage3_5 ((cfg3.slots t 5).cast nbuf3_5)) (win3_6.stage (cfg3.slots t 6)) (hstage3_6 ((cfg3.slots t 6).cast nbuf3_6))
    (blk3 V c 0 t) (blk3 V c 1 t) (blk3 V c 2 t) (blk3 V c 3 t) (blk3 V c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  iexact H6

end Cert.MoE
-- ==== Proof.RegsT.lean ====
/-
  The two expert regions' proof data at an entry valuation and given tables, and their body obligations. Each input window's staging buffer holds that
  window's block of its array; each output window's holds what the body leaves (Body.lean).
-/
module

public import proofs.«01_k».proof.Proof.Body
public import proofs.«01_k».proof.Proof.Gen.KernelIdeal.Regions

@[expose] public section

noncomputable section

namespace Cert.MoE

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A buffer held at equal contents. -/
theorem owns_of_eq (c : Dev nD) {sp : Space} {S : Shape} {e : EltTy} (M : Memref sig .tc sp S e) {X Y : S.Idx → Elt F e} (h : X = Y) :
    (owns c M fullShare X : sProp 𝕄) ⊢ owns c M fullShare Y := Entails.of_eq (by rw [h])

variable (V : Dev nD → Valuation τ sig (Elt F))

/-! ## The first expert product's region -/

/-- Window `w`'s block of its array at point `t`. -/
def blk1 (a : (pcfg1 (F := F)).Adm) (c : Dev nD) (w : Fin 5) (t : Fin (cfg1 a).N) : (((cfg1 a).win w).xblock ((cfg1 a).grid.coords t)).Idx → Elt F ((cfg1 a).win w).elt :=
  (((cfg1 a).win w).blk t).view.read (Elt F) (V c (Proc.devRef .tc (Pipeline.arrRef spec1 w)))

/-- What the first expert kernel leaves at point `t`. -/
def out1 (a : (pcfg1 (F := F)).Adm) (c : Dev nD) (t : Fin (cfg1 a).N) : Vec F S256x512 .bf16 :=
  upOut (word1 (a.1 1) (grid1.coords t)) (blk1 V a c 0 t) (blk1 V a c 1 t) (blk1 V a c 2 t) (blk1 V a c 3 t)

def dat1 (a : (pcfg1 (F := F)).Adm) (c : Dev nD) : Dat τ (Elt F) Unit ℕ UU ℕ (cfg1 a) c where
  A w := V c (Proc.devRef .tc (Pipeline.arrRef spec1 w))
  after w t := match w with
    | ⟨0, _⟩ => blk1 V a c 0 t
    | ⟨1, _⟩ => blk1 V a c 1 t
    | ⟨2, _⟩ => blk1 V a c 2 t
    | ⟨3, _⟩ => blk1 V a c 3 t
    | ⟨4, _⟩ => out1 V a c t
  Φ _ := iprop(Pipeline.scopedRest (Ix := Unit) (Name := ℕ) (U := UU) (Lvl := ℕ) (Val := Elt F) spec1 c ∗ Pipeline.prefHeld pre1 c (fun _ => fullShare) a.1)
  q _ := fullShare
  owed _ := 0

theorem before1_0 (a : (pcfg1 (F := F)).Adm) (c : Dev nD) (t : Fin (cfg1 a).N) (d) : (dat1 V a c).before 0 t d = blk1 V a c 0 t :=
  (dat1 V a c).before_in_eq_fetched 0 rfl (fun _ => rfl) (fun _ _ _ => rfl) (fun _ => rfl) t d
theorem before1_1 (a : (pcfg1 (F := F)).Adm) (c : Dev nD) (t : Fin (cfg1 a).N) (d) : (dat1 V a c).before 1 t d = blk1 V a c 1 t :=
  (dat1 V a c).before_in_eq_fetched 1 rfl (fun _ => rfl) (fun _ _ _ => rfl) (fun _ => rfl) t d
theorem before1_2 (a : (pcfg1 (F := F)).Adm) (c : Dev nD) (t : Fin (cfg1 a).N) (d) : (dat1 V a c).before 2 t d = blk1 V a c 2 t :=
  (dat1 V a c).before_in_eq_fetched 2 rfl (fun _ => rfl) (fun _ _ _ => rfl) (fun _ => rfl) t d
theorem before1_3 (a : (pcfg1 (F := F)).Adm) (c : Dev nD) (t : Fin (cfg1 a).N) (d) : (dat1 V a c).before 3 t d = blk1 V a c 3 t :=
  (dat1 V a c).before_in_eq_fetched 3 rfl (fun _ => rfl) (fun _ _ _ => rfl) (fun _ => rfl) t d

/-- The two tables' contents, at their buffers' types. -/
def tblA (pf : pre1.Contents (Elt F)) : (main_v102 : Ref sig .tc).ty.shape.Idx → Elt F (main_v102 : Ref sig .tc).ty.elt := pf 0
def tblB (pf : pre1.Contents (Elt F)) : (main_v87 : Ref sig .tc).ty.shape.Idx → Elt F (main_v87 : Ref sig .tc).ty.elt := pf 1

/-- The table pair as its two buffers. -/
theorem tables1 (c : Dev nD) (pf : pre1.Contents (Elt F)) :
    (Pipeline.prefHeld pre1 c (fun _ => fullShare) pf : sProp 𝕄)
      = iprop(owns c (Memref.whole main_v102) fullShare (tblA pf) ∗ owns c (Memref.whole main_v87) fullShare (tblB pf)) := by
  unfold Pipeline.prefHeld
  rw [bigSep_univ_eq_bigSepL [(0 : Fin 2), (1 : Fin 2)] (by decide) (by decide), owns_whole, owns_whole]
  rfl

/-- The table's word as the idle condition spells it. -/
theorem atD1 (pf : pre1.Contents (Elt F)) (i : grid1.Coords) : pf.atD 1 (k1_off1 i) = word1 (pf 1) i := by
  unfold Pipeline.Prefetch.Contents.atD word1
  split
  · exact congrArg (pf 1) (funext fun a => Fin.ext rfl)
  · rename_i h; exact (h (show ∀ a : Fin 1, _ from fun | 0 => k1_off1_inb i 0)).elim

theorem idle1_false (pf : pre1.Contents (Elt F)) (i : grid1.Coords) (hw : word1 (pf 1) i = 0#32 ∨ word1 (pf 1) i = 1#32) : idle1 pf 4 i = false := by
  show (!(k1_cond1 (pf.atD 1 (k1_off1 i)) == 1#1) && !(k1_cond2 (pf.atD 1 (k1_off1 i)) == 1#1)) = false
  rw [atD1]
  rcases hw with hw | hw <;> rw [hw] <;> decide

theorem body1 (a : (pcfg1 (F := F)).Adm) (c : Dev nD) (hw : ∀ i, word1 (a.1 1) i = 0#32 ∨ word1 (a.1 1) i = 1#32) :
    BodyObligation (dat1 V a c) (defs₀ (F := F)) Variants.none () Set.univ := fun t => by
  rw [bigSep_W1, bigSep_W1, show (dat1 V a c).Φ t.succ = (dat1 V a c).Φ t.castSucc from rfl,
    show (dat1 V a c).owesAt () t.succ = (dat1 V a c).owesAt () t.castSucc from rfl,
    show (dat1 V a c).Φ t.castSucc = iprop(Pipeline.scopedRest (Ix := Unit) (Name := ℕ) (U := UU) (Lvl := ℕ) (Val := Elt F) spec1 c
      ∗ Pipeline.prefHeld pre1 c (fun _ => fullShare) a.1) from rfl, tables1]
  have hi : (cfg1 a).idle 4 ((cfg1 a).grid.coords t) = false := idle1_false a.1 _ (hw _)
  iintro ⟨⟨HΦ, HT1, HT2⟩, HO, ⟨%d0, H0⟩, ⟨%d1, H1⟩, ⟨%d2, H2⟩, ⟨%d3, H3⟩, ⟨%d4, H4⟩⟩
  have e0 := before1_0 V a c t d0
  have e1 := before1_1 V a c t d1
  have e2 := before1_2 V a c t d2
  have e3 := before1_3 V a c t d3
  have eo : upOut (word1 (tblB a.1) (grid1.coords t)) ((dat1 V a c).before 0 t d0) ((dat1 V a c).before 1 t d1) ((dat1 V a c).before 2 t d2) ((dat1 V a c).before 3 t d3) = (dat1 V a c).after 4 t := by
    rw [e0, e1, e2, e3]; rfl
  iapply (moe_up_body c (grid1.coords t) fullShare (Memref.whole main_v102) (Memref.isWhole_whole _) (Memref.whole main_v87) (Memref.isWhole_whole _)
    (tblB a.1) (hw _) (spec1_0.stage ((cfg1 a).slots t 0)) (hstage1_0 (((cfg1 a).slots t 0).cast nbuf1_0))
    (spec1_1.stage ((cfg1 a).slots t 1)) (hstage1_1 (((cfg1 a).slots t 1).cast nbuf1_1))
    (spec1_2.stage ((cfg1 a).slots t 2)) (hstage1_2 (((cfg1 a).slots t 2).cast nbuf1_2))
    (spec1_3.stage ((cfg1 a).slots t 3)) (hstage1_3 (((cfg1 a).slots t 3).cast nbuf1_3))
    (spec1_4.stage ((cfg1 a).slots t 4)) (hstage1_4 (((cfg1 a).slots t 4).cast nbuf1_4))
    ((dat1 V a c).before 0 t d0) ((dat1 V a c).before 1 t d1) ((dat1 V a c).before 2 t d2) ((dat1 V a c).before 3 t d3) Set.univ _)
  isplitl [HT2]; · iexact HT2
  isplitl [H0]; · iexact H0
  isplitl [H1]; · iexact H1
  isplitl [H2]; · iexact H2
  isplitl [H3]; · iexact H3
  isplitl [H4]; · iexists _; iexact H4
  iintro ⟨HT2, H0, H1, H2, H3, H4⟩
  isplitl [HΦ HT1 HT2]
  · isplitl [HΦ]; · iexact HΦ
    isplitl [HT1] <;> iassumption
  isplitl [HO]; · iexact HO
  isplitl [H0]; · iapply (owns_of_eq c (((cfg1 a).win 0).stage ((cfg1 a).slots t 0)) e0); iexact H0
  isplitl [H1]; · iapply (owns_of_eq c (((cfg1 a).win 1).stage ((cfg1 a).slots t 1)) e1); iexact H1
  isplitl [H2]; · iapply (owns_of_eq c (((cfg1 a).win 2).stage ((cfg1 a).slots t 2)) e2); iexact H2
  isplitl [H3]; · iapply (owns_of_eq c (((cfg1 a).win 3).stage ((cfg1 a).slots t 3)) e3); iexact H3
  simp only [hi, show idle1 a.1 4 ((pcfg1.gridAt a.1).coords t) = false from hi]
  iapply (owns_of_eq c (((cfg1 a).win 4).stage ((cfg1 a).slots t 4)) eo); iexact H4

/-! ## The second expert product's region -/

/-- Window `w`'s block of its array at point `t`. -/
def blk2 (a : (pcfg2 (F := F)).Adm) (c : Dev nD) (w : Fin 3) (t : Fin (cfg2 a).N) : (((cfg2 a).win w).xblock ((cfg2 a).grid.coords t)).Idx → Elt F ((cfg2 a).win w).elt :=
  (((cfg2 a).win w).blk t).view.read (Elt F) (V c (Proc.devRef .tc (Pipeline.arrRef spec2 w)))

/-- What the second expert kernel leaves at point `t`. -/
def out2 (a : (pcfg2 (F := F)).Adm) (c : Dev nD) (t : Fin (cfg2 a).N) : Vec F S256x4096 .f32 :=
  downOut (word2 (a.1 1) (grid2.coords t)) (blk2 V a c 0 t) (blk2 V a c 1 t)

def dat2 (a : (pcfg2 (F := F)).Adm) (c : Dev nD) : Dat τ (Elt F) Unit ℕ UU ℕ (cfg2 a) c where
  A w := V c (Proc.devRef .tc (Pipeline.arrRef spec2 w))
  after w t := match w with
    | ⟨0, _⟩ => blk2 V a c 0 t
    | ⟨1, _⟩ => blk2 V a c 1 t
    | ⟨2, _⟩ => out2 V a c t
  Φ _ := iprop(Pipeline.scopedRest (Ix := Unit) (Name := ℕ) (U := UU) (Lvl := ℕ) (Val := Elt F) spec2 c ∗ Pipeline.prefHeld pre2 c (fun _ => fullShare) a.1)
  q _ := fullShare
  owed _ := 0

theorem before2_0 (a : (pcfg2 (F := F)).Adm) (c : Dev nD) (t : Fin (cfg2 a).N) (d) : (dat2 V a c).before 0 t d = blk2 V a c 0 t :=
  (dat2 V a c).before_in_eq_fetched 0 rfl (fun _ => rfl) (fun _ _ _ => rfl) (fun _ => rfl) t d
theorem before2_1 (a : (pcfg2 (F := F)).Adm) (c : Dev nD) (t : Fin (cfg2 a).N) (d) : (dat2 V a c).before 1 t d = blk2 V a c 1 t :=
  (dat2 V a c).before_in_eq_fetched 1 rfl (fun _ => rfl) (fun _ _ _ => rfl) (fun _ => rfl) t d

/-- The table's word as the idle condition spells it. -/
theorem atD2 (pf : pre2.Contents (Elt F)) (i : grid2.Coords) : pf.atD 1 (k2_off1 i) = word2 (pf 1) i := by
  unfold Pipeline.Prefetch.Contents.atD word2
  split
  · exact congrArg (pf 1) (funext fun a => Fin.ext rfl)
  · rename_i h; exact (h (show ∀ a : Fin 1, _ from fun | 0 => k2_off1_inb i 0)).elim

theorem idle2_false (pf : pre2.Contents (Elt F)) (i : grid2.Coords) (hw : word2 (pf 1) i = 0#32 ∨ word2 (pf 1) i = 1#32) : idle2 pf 2 i = false := by
  show (!(k2_cond1 (pf.atD 1 (k2_off1 i)) == 1#1) && !(k2_cond2 (pf.atD 1 (k2_off1 i)) == 1#1)) = false
  rw [atD2]
  rcases hw with hw | hw <;> rw [hw] <;> decide

theorem body2 (a : (pcfg2 (F := F)).Adm) (c : Dev nD) (hw : ∀ i, word2 (a.1 1) i = 0#32 ∨ word2 (a.1 1) i = 1#32) :
    BodyObligation (dat2 V a c) (defs₀ (F := F)) Variants.none () Set.univ := fun t => by
  rw [bigSep_W2, bigSep_W2, show (dat2 V a c).Φ t.succ = (dat2 V a c).Φ t.castSucc from rfl,
    show (dat2 V a c).owesAt () t.succ = (dat2 V a c).owesAt () t.castSucc from rfl,
    show (dat2 V a c).Φ t.castSucc = iprop(Pipeline.scopedRest (Ix := Unit) (Name := ℕ) (U := UU) (Lvl := ℕ) (Val := Elt F) spec2 c
      ∗ Pipeline.prefHeld pre1 c (fun _ => fullShare) a.1) from rfl, tables1]
  have hi : (cfg2 a).idle 2 ((cfg2 a).grid.coords t) = false := idle2_false a.1 _ (hw _)
  iintro ⟨⟨HΦ, HT1, HT2⟩, HO, ⟨%d0, H0⟩, ⟨%d1, H1⟩, ⟨%d2, H2⟩⟩
  have e0 := before2_0 V a c t d0
  have e1 := before2_1 V a c t d1
  have eo : downOut (word2 (tblB a.1) (grid2.coords t)) ((dat2 V a c).before 0 t d0) ((dat2 V a c).before 1 t d1) = (dat2 V a c).after 2 t := by
    rw [e0, e1]; rfl
  iapply (moe_down_body c (grid2.coords t) fullShare (Memref.whole main_v102) (Memref.isWhole_whole _) (Memref.whole main_v87) (Memref.isWhole_whole _)
    (tblB a.1) (hw _) (spec2_0.stage ((cfg2 a).slots t 0)) (hstage2_0 (((cfg2 a).slots t 0).cast nbuf2_0))
    (spec2_1.stage ((cfg2 a).slots t 1)) (hstage2_1 (((cfg2 a).slots t 1).cast nbuf2_1))
    (spec2_2.stage ((cfg2 a).slots t 2)) (hstage2_2 (((cfg2 a).slots t 2).cast nbuf2_2))
    ((dat2 V a c).before 0 t d0) ((dat2 V a c).before 1 t d1) Set.univ _)
  isplitl [HT2]; · iexact HT2
  isplitl [H0]; · iexact H0
  isplitl [H1]; · iexact H1
  isplitl [H2]; · iexists _; iexact H2
  iintro ⟨HT2, H0, H1, H2⟩
  isplitl [HΦ HT1 HT2]
  · isplitl [HΦ]; · iexact HΦ
    isplitl [HT1] <;> iassumption
  isplitl [HO]; · iexact HO
  isplitl [H0]; · iapply (owns_of_eq c (((cfg2 a).win 0).stage ((cfg2 a).slots t 0)) e0); iexact H0
  isplitl [H1]; · iapply (owns_of_eq c (((cfg2 a).win 1).stage ((cfg2 a).slots t 1)) e1); iexact H1
  simp only [hi, show idle2 a.1 2 ((pcfg2.gridAt a.1).coords t) = false from hi]
  iapply (owns_of_eq c (((cfg2 a).win 2).stage ((cfg2 a).slots t 2)) eo); iexact H2

end Cert.MoE
-- ==== Proof.Tables.lean ====
/-
  The two prefetched tables' ranges: every word of `tile_valid` is 0 or 1 and every word of `tile_expert` is below 32, at any
  inputs, so that every block the two expert products ask for lies in its array.
-/
module

public import proofs.«01_k».proof.Proof.RegsT
public import Idealize.ShloMosaic.Lib.StableHlo.Predicate
public import Idealize.ShloMosaic.Lib.StableHlo.RunRead

@[expose] public section

noncomputable section

namespace Cert.MoE

open Cert.KernelIdeal Cert.KernelIdeal.Gen
open Idealize.ShloMosaic
open Idealize.ShloMosaic.TcCoe Idealize.ShloMosaic.Tactic

variable {F : FTy → Type} [FloatOps F]

/-- A comparison's bit widened to 32 bits is 0 or 1. -/
theorem extui_bit (b : BitVec 1) : b.setWidth 32 = 0#32 ∨ b.setWidth 32 = 1#32 := by
  revert b; decide

theorem after_v87 (V : Valuation τ sig (Elt F)) : (StableHlo.after hostOps1_11 V main_v87 : Vec F S100 .i32)
    = extui 32 (cmpi .slt (iotaInDim S100 32 0) (broadcastInDim S100 ![] bcast_S_S100
        (shapeCast S_ (extractStridedSlice S1 ![31] (V main_v78 : Vec F S32 .i32) slices_S32_S1_31) shapeCasts_S1_S_))) natLt_1_32 := by
  after_results
  rfl

theorem after_v88 (V : Valuation τ sig (Elt F)) : (StableHlo.after hostOps1_12 V main_v88 : Vec F S100 .i32)
    = Host.reduce IntOp.addi (extui 32 (cmpi .sle (broadcastInDim S32x100 ![0, 1] bcast_S32x1_S32x100_0_1 (broadcastInDim S32x1 ![0] bcast_S32_S32x1_0 (V main_v78 : Vec F S32 .i32)))
        (broadcastInDim S32x100 ![0, 1] bcast_S1x100_S32x100_0_1 (broadcastInDim S1x100 ![1] bcast_S100_S1x100_1 (V main_v82 : Vec F S100 .i32)))) natLt_1_32)
      (constantI S_ 32 0#32) reducesTo_S32x100_S100_d0 h_S_ := by
  after_results
  rfl

theorem after_v90 (V : Valuation τ sig (Elt F)) : (StableHlo.after hostOps1_13 V main_v90 : Vec F S100 .i32)
    = minsi (V main_v88 : Vec F S100 .i32) (broadcastInDim S100 ![] bcast_S_S100 (constantI S_ 32 31#32)) := by
  after_results

theorem after_v102 (V : Valuation τ sig (Elt F)) : (StableHlo.after hostOps1_14 V main_v102 : Vec F S100 .i32)
    = select (V main_v92 : Vec F S100 .i1) (V main_v90 : Vec F S100 .i32) (broadcastInDim S100 ![] bcast_S_S100 (V main_v101 : Vec F S_ .i32)) := by
  after_results
  rfl

/-- A one-element dynamic slice, reshaped to a scalar, is one of the array's words. -/
theorem word_of_slice {x : Vec F S100 .i32} {st : Fin 1 → Int} {y : Vec F S_ .i32}
    (h : y = shapeCast S_ (Host.dynamicSlice S1 x st sliceFits_S100_S1) shapeCasts_S1_S_) : ∃ k : S100.Idx, ∀ j, y j = x k := by
  obtain ⟨k, hk⟩ : ∃ k : S100.Idx, shapeCast S_ (Host.dynamicSlice S1 x st sliceFits_S100_S1) shapeCasts_S1_S_ (fun a => a.elim0) = x k := ⟨_, rfl⟩
  exact ⟨k, fun j => by rw [← hk, h, show j = (fun a => a.elim0) from funext fun a => a.elim0]⟩

theorem after_v101 (V : Valuation τ sig (Elt F)) : ∃ k : S100.Idx, ∀ j, (StableHlo.after hostOps1_13 V main_v101 : Vec F S_ .i32) j
    = (StableHlo.after hostOps1_13 V main_v90 : Vec F S100 .i32) k := by
  rw [after_v90]
  refine word_of_slice (st := ?_) ?_
  rotate_left
  · after_results
    rfl

/-- Every word of `tile_valid` is 0 or 1. -/
theorem valid_range (V : Valuation τ sig (Elt F)) (i : S100.Idx) :
    (StableHlo.after hostOps1_11 V main_v87 : Vec F S100 .i32) i = 0#32 ∨ (StableHlo.after hostOps1_11 V main_v87 : Vec F S100 .i32) i = 1#32 := by
  rw [after_v87]; exact extui_bit _

/-- The smaller, as signed words, of a count up to 32 and 31 is below 32. -/
theorem minsi_lt (x : BitVec 32) (h : x.toNat ≤ 32) : (IntOp.minsi x 31#32).toNat < 32 := by
  unfold IntOp.minsi
  split
  · rename_i hs
    have : x.toInt = x.toNat := BitVec.toInt_eq_toNat_of_lt (by omega)
    rw [BitVec.slt, decide_eq_true_eq, this] at hs
    have h31 : (31#32 : BitVec 32).toInt = 31 := by decide
    omega
  · decide

/-- A choice between two words below 32 is below 32. -/
theorem select_lt (c : IVec S100 1) (a b : Vec F S100 .i32) (i : S100.Idx) (ha : (a i).toNat < 32) (hb : (b i).toNat < 32) : (select c a b i).toNat < 32 := by
  unfold select Scalar.select
  split <;> assumption

/-- Every word of `tile_expert` is below 32. -/
theorem expert_range (V : Valuation τ sig (Elt F)) (i : S100.Idx) :
    ((StableHlo.after hostOps1_14 (StableHlo.after hostOps1_13 (StableHlo.after hostOps1_12 V)) main_v102 : Vec F S100 .i32) i).toNat < 32 := by
  have h90 : ∀ k : S100.Idx, ((StableHlo.after hostOps1_13 (StableHlo.after hostOps1_12 V) main_v90 : Vec F S100 .i32) k).toNat < 32 := fun k => by
    rw [after_v90]
    refine minsi_lt _ ?_
    rw [after_v88]
    refine (StableHlo.Predicate.toNat_reduce_count_rows (by decide) _ natLt_1_32 reducesTo_S32x100_S100_d0 h_S_ k).trans_le ?_
    exact (Finset.card_le_univ _).trans_eq (Fintype.card_fin 32)
  rw [after_v102]
  obtain ⟨k, hk⟩ := after_v101 (StableHlo.after hostOps1_12 V)
  exact select_lt _ _ _ i (h90 i) ((congrArg BitVec.toNat (hk _)).trans_lt (h90 k))

end Cert.MoE

end
-- ==== Proof.Outs.lean ====
/-
  What every buffer holds between the program's items, as functions of the launch memory: the host stretches folded, and after each
  region its arrays as the region's proof data leave them. The two tables of the expert products are read off the contents at
  their first region, and are admissible (Tables.lean).
-/
module

public import proofs.«01_k».proof.Proof.Regs
public import proofs.«01_k».proof.Proof.Tables
public import Idealize.ShloMosaic.Lib.Pipeline.RegionArraysS
public import Idealize.ShloMosaic.Lib.Pipeline.RegionArraysTS

@[expose] public section

noncomputable section

namespace Cert.MoE

open Cert.KernelIdeal Cert.KernelIdeal.Gen
open Idealize.ShloMosaic
open Idealize.ShloMosaic.TcCoe Idealize.ShloMosaic.Tactic
open Idealize.ShloMosaic.Pipeline (Dat Cfg Window afterRegion)

variable {F : FTy → Type} [FloatOps F]

/-- The host stretches between the router and the expert products. -/
def routeTo14 (V : Valuation τ sig (Elt F)) : Valuation τ sig (Elt F) :=
  StableHlo.after hostOps1_10 <| StableHlo.after hostOps1_9 <| StableHlo.after hostOps1_8 <|
  StableHlo.after hostOps1_7 <| StableHlo.after hostOps1_6 <| StableHlo.after hostOps1_5 <| StableHlo.after hostOps1_4 <|
  StableHlo.after hostOps1_3 <| StableHlo.after hostOps1_2 <| StableHlo.after hostOps1_1 <| StableHlo.after hostOps1 V

def routeTo18 (V : Valuation τ sig (Elt F)) : Valuation τ sig (Elt F) :=
  StableHlo.after hostOps1_14 <| StableHlo.after hostOps1_13 <| StableHlo.after hostOps1_12 <| StableHlo.after hostOps1_11 <| V

def routeTo30 (V : Valuation τ sig (Elt F)) : Valuation τ sig (Elt F) :=
  StableHlo.after hostOps1_26 <| StableHlo.after hostOps1_25 <| StableHlo.after hostOps1_24 <| StableHlo.after hostOps1_23 <|
  StableHlo.after hostOps1_22 <| StableHlo.after hostOps1_21 <| StableHlo.after hostOps1_20 <| StableHlo.after hostOps1_19 <|
  StableHlo.after hostOps1_18 <| StableHlo.after hostOps1_17 <| StableHlo.after hostOps1_16 <| StableHlo.after hostOps1_15 <| V

def route (V : Valuation τ sig (Elt F)) : Valuation τ sig (Elt F) := routeTo30 (routeTo18 (routeTo14 V))

theorem V30_eq_route (m : (ℓ : Loc nD τ sig) → Buf (Elt F) ℓ) (outs : Outs (F := F)) (c : Dev nD) : V30 m outs c = route (V3 m outs c) := rfl

theorem routeTo30_keeps (V : Valuation τ sig (Elt F)) (r : Ref sig .tc)
    (h : r ∉ hostOps1_15_W ++ hostOps1_16_W ++ hostOps1_17_W ++ hostOps1_18_W ++ hostOps1_19_W ++ hostOps1_20_W ++ hostOps1_21_W ++ hostOps1_22_W
      ++ hostOps1_23_W ++ hostOps1_24_W ++ hostOps1_25_W ++ hostOps1_26_W) : routeTo30 V r = V r := by
  simp only [List.mem_append, not_or] at h
  obtain ⟨⟨⟨⟨⟨⟨⟨⟨⟨⟨⟨h15, h16⟩, h17⟩, h18⟩, h19⟩, h20⟩, h21⟩, h22⟩, h23⟩, h24⟩, h25⟩, h26⟩ := h
  unfold routeTo30
  exact (StableHlo.after_of_writes_sub hostOps1_26 _ hostOps1_26_writes h26).trans <|
    (StableHlo.after_of_writes_sub hostOps1_25 _ hostOps1_25_writes h25).trans <|
    (StableHlo.after_of_writes_sub hostOps1_24 _ hostOps1_24_writes h24).trans <|
    (StableHlo.after_of_writes_sub hostOps1_23 _ hostOps1_23_writes h23).trans <|
    (StableHlo.after_of_writes_sub hostOps1_22 _ hostOps1_22_writes h22).trans <|
    (StableHlo.after_of_writes_sub hostOps1_21 _ hostOps1_21_writes h21).trans <|
    (StableHlo.after_of_writes_sub hostOps1_20 _ hostOps1_20_writes h20).trans <|
    (StableHlo.after_of_writes_sub hostOps1_19 _ hostOps1_19_writes h19).trans <|
    (StableHlo.after_of_writes_sub hostOps1_18 _ hostOps1_18_writes h18).trans <|
    (StableHlo.after_of_writes_sub hostOps1_17 _ hostOps1_17_writes h17).trans <|
    (StableHlo.after_of_writes_sub hostOps1_16 _ hostOps1_16_writes h16).trans
    (StableHlo.after_of_writes_sub hostOps1_15 _ hostOps1_15_writes h15)

theorem route_valid (V : Valuation τ sig (Elt F)) (i : S100.Idx) :
    (route V main_v87 : Vec F S100 .i32) i = 0#32 ∨ (route V main_v87 : Vec F S100 .i32) i = 1#32 := by
  have e : route V main_v87 = StableHlo.after hostOps1_11 (routeTo14 V) main_v87 :=
    (routeTo30_keeps _ main_v87 (by decide)).trans <|
    (StableHlo.after_of_writes_sub hostOps1_14 _ hostOps1_14_writes (by decide)).trans <|
    (StableHlo.after_of_writes_sub hostOps1_13 _ hostOps1_13_writes (by decide)).trans
    (StableHlo.after_of_writes_sub hostOps1_12 _ hostOps1_12_writes (by decide))
  rw [e]; exact valid_range _ i

theorem route_expert (V : Valuation τ sig (Elt F)) (i : S100.Idx) : ((route V main_v102 : Vec F S100 .i32) i).toNat < 32 := by
  rw [show route V main_v102 = _ from routeTo30_keeps _ main_v102 (by decide)]; exact expert_range _ i

/-! ## The tables -/

/-- The tables' contents at the expert products' regions. -/
def tabs (V : Valuation τ sig (Elt F)) : pre1.Contents (Elt F) := fun k => V (Proc.devRef .tc (pre1.ref k))

theorem blk_up (e : ℕ) (h : e < 32) : ∀ a : Fin 4, ((![1, e, 0, 0] : Fin 4 → ℕ) a + 1) * S1x1x4096x512.size a ≤ S2x32x4096x512.size a
  | 0 => by show (1 + 1) * 1 ≤ 2; omega
  | 1 => by show (e + 1) * 1 ≤ 32; omega
  | 2 => by show (0 + 1) * 4096 ≤ 4096; omega
  | 3 => by show (0 + 1) * 512 ≤ 512; omega

theorem blk_down (e : ℕ) (h : e < 32) : ∀ a : Fin 4, ((![1, e, 0, 0] : Fin 4 → ℕ) a + 1) * S1x1x512x4096.size a ≤ S2x32x512x4096.size a
  | 0 => by show (1 + 1) * 1 ≤ 2; omega
  | 1 => by show (e + 1) * 1 ≤ 32; omega
  | 2 => by show (0 + 1) * 512 ≤ 512; omega
  | 3 => by show (0 + 1) * 4096 ≤ 4096; omega

theorem tabs_ok1 (pf : pre1.Contents (Elt F)) (h : ∀ i, BitVec.toNat (tblA pf i) < 32) : ok1 pf :=
  ⟨fun _ => ⟨blk_up _ (h _), .inl rfl⟩, fun _ => ⟨blk_up _ (h _), .inl rfl⟩⟩

theorem tabs_ok2 (pf : pre2.Contents (Elt F)) (h : ∀ i, BitVec.toNat (tblA pf i) < 32) : ok2 pf :=
  fun _ => ⟨blk_down _ (h _), .inl rfl⟩

theorem tabs_expert (V : Valuation τ sig (Elt F)) (i) : BitVec.toNat (tblA (tabs V) i) = ((V main_v102 : Vec F S100 .i32) i).toNat := rfl

theorem tabs_lt (V : Valuation τ sig (Elt F)) (i) : BitVec.toNat (tblA (tabs (route V)) i) < 32 :=
  (tabs_expert (route V) i).trans_lt (route_expert V i)

/-! ## The contents between the items -/

variable (m : (ℓ : Loc nD τ sig) → Buf (Elt F) ℓ)

/-- At the router's region, -/
def U2 (c : Dev nD) : Valuation τ sig (Elt F) := V2 m c
/-- after it, -/
def o3 (c : Dev nD) : Valuation τ sig (Elt F) := afterRegion (dat0 (U2 m) c) (U2 m c)
def U3 (c : Dev nD) : Valuation τ sig (Elt F) := Function.update (U2 m c) main_v9 (o3 m c main_v9)
/-- at the first expert product, -/
def U30 (c : Dev nD) : Valuation τ sig (Elt F) := route (U3 m c)
def adm1 : (pcfg1 (F := F)).Adm := ⟨tabs (U30 m 0), tabs_ok1 _ (tabs_lt (U3 m 0))⟩
def adm2 : (pcfg2 (F := F)).Adm := ⟨tabs (U30 m 0), tabs_ok2 _ (tabs_lt (U3 m 0))⟩
/-- after it, -/
def o31 (c : Dev nD) : Valuation τ sig (Elt F) := afterRegion (dat1 (U30 m) (adm1 m) c) (U30 m c)
def U31 (c : Dev nD) : Valuation τ sig (Elt F) := Function.update (U30 m c) main_v189 (o31 m c main_v189)
/-- after the second, -/
def o32 (c : Dev nD) : Valuation τ sig (Elt F) := afterRegion (dat2 (U31 m) (adm2 m) c) (U31 m c)
def U32 (c : Dev nD) : Valuation τ sig (Elt F) := Function.update (U31 m c) main_v190 (o32 m c main_v190)
/-- at the normalization, -/
def U33 (c : Dev nD) : Valuation τ sig (Elt F) := StableHlo.after hostOps3 (U32 m c)
/-- and at the end. -/
def o34 (c : Dev nD) : Valuation τ sig (Elt F) := afterRegion (dat3 (U33 m) c) (U33 m c)
def U34 (c : Dev nD) : Valuation τ sig (Elt F) :=
  Function.update (Function.update (U33 m c) main_v211_0 (o34 m c main_v211_0)) main_v211_1 (o34 m c main_v211_1)

/-- What the regions leave, item by item. -/
def outs : Outs (F := F) := fun n r c =>
  if n = 3 then o3 m c r else if n = 31 then o31 m c r else if n = 32 then o32 m c r else o34 m c r

theorem V3_eq (c : Dev nD) : V3 m (outs m) c = U3 m c := rfl
theorem V30_eq (c : Dev nD) : V30 m (outs m) c = U30 m c := (V30_eq_route m (outs m) c).trans (congrArg route (V3_eq m c))
theorem V31_eq (c : Dev nD) : V31 m (outs m) c = U31 m c := by rw [V31, V30_eq]; rfl
theorem V32_eq (c : Dev nD) : V32 m (outs m) c = U32 m c := by rw [V32, V31_eq]; rfl
theorem V33_eq (c : Dev nD) : V33 m (outs m) c = U33 m c := by rw [V33, V32_eq]; rfl
theorem V34_eq (c : Dev nD) : V34 m (outs m) c = U34 m c := by rw [V34, V33_eq]; rfl

/-- A region with one output array changes that array alone. -/
theorem after_one {cfg : Cfg sig Λ₀} {c : Dev nD} (dat : Dat τ (Elt F) Unit ℕ UU ℕ cfg c) (V : Valuation τ sig (Elt F))
    (hinj : Function.Injective (Pipeline.arrRef cfg.spec)) (hA : ∀ w, dat.A w = V (Proc.devRef .tc (Pipeline.arrRef cfg.spec w)))
    (o : Ref sig .tc) (ho : ∀ w, Pipeline.arrRef cfg.spec w ≠ o → (cfg.win w).isOut = false) (b : DevRef τ sig) :
    afterRegion dat V b = Function.update V (Proc.devRef .tc o) (afterRegion dat V (Proc.devRef .tc o)) b := by
  by_cases hb : b = Proc.devRef .tc o
  · subst hb; rw [Function.update_self]
  · rw [Function.update_of_ne hb]
    by_cases hw : ∃ w, b = Proc.devRef .tc (Pipeline.arrRef cfg.spec w)
    · obtain ⟨w, rfl⟩ := hw
      exact Pipeline.afterRegion_keeps dat V hinj hA _ fun w' e => ho w' fun e' => hb (by rw [← e, e'])
    · unfold afterRegion; rw [dif_neg hw]

/-- A region with two output arrays changes those two alone. -/
theorem after_two {cfg : Cfg sig Λ₀} {c : Dev nD} (dat : Dat τ (Elt F) Unit ℕ UU ℕ cfg c) (V : Valuation τ sig (Elt F))
    (hinj : Function.Injective (Pipeline.arrRef cfg.spec)) (hA : ∀ w, dat.A w = V (Proc.devRef .tc (Pipeline.arrRef cfg.spec w)))
    (o o' : Ref sig .tc) (ho : ∀ w, Pipeline.arrRef cfg.spec w ≠ o → Pipeline.arrRef cfg.spec w ≠ o' → (cfg.win w).isOut = false) (b : DevRef τ sig) :
    afterRegion dat V b = Function.update (Function.update V (Proc.devRef .tc o) (afterRegion dat V (Proc.devRef .tc o)))
      (Proc.devRef .tc o') (afterRegion dat V (Proc.devRef .tc o')) b := by
  by_cases hb' : b = Proc.devRef .tc o'
  · subst hb'; rw [Function.update_self]
  · rw [Function.update_of_ne hb']
    by_cases hb : b = Proc.devRef .tc o
    · subst hb; rw [Function.update_self]
    · rw [Function.update_of_ne hb]
      by_cases hw : ∃ w, b = Proc.devRef .tc (Pipeline.arrRef cfg.spec w)
      · obtain ⟨w, rfl⟩ := hw
        exact Pipeline.afterRegion_keeps dat V hinj hA _ fun w' e => ho w' (fun e' => hb (by rw [← e, e'])) fun e' => hb' (by rw [← e, e'])
      · unfold afterRegion; rw [dif_neg hw]

end Cert.MoE

end
-- ==== Proof.Segs.lean ====
/-
  The four regions' records: each entered with its arrays at the contents of Outs.lean and left with them as its proof data leave them.
-/
module

public import proofs.«01_k».proof.Proof.Outs
public import proofs.«01_k».proof.Proof.Gen.KernelIdeal.Regions

@[expose] public section

noncomputable section

namespace Cert.MoE

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation afterRegion RegionSeg LevelCut)

variable {F : FTy → Type} [FloatOps F]

local notation "𝕄" => MT nD τ sig Unit (Elt F) ℕ UU ℕ

/-- Each TensorCore cell has one index, at level zero: nothing is owed across cells. -/
def L (g : GSem nD τ sig) : Finset Unit := if g.1.2 = .tc then {()} else ∅
def lv (_ : GSem nD τ sig) (_ : Unit) : ℕ := 0

variable (m : (ℓ : Loc nD τ sig) → Buf (Elt F) ℓ)

/-- The tables' contents, region by region; -/
def adms : (p : Fin 4) → (pcfgs (F := F) p).Adm
  | ⟨0, _⟩ => cfg0.toPCfg_adm
  | ⟨1, _⟩ => adm1 m
  | ⟨2, _⟩ => adm2 m
  | ⟨3, _⟩ => cfg3.toPCfg_adm

/-- and the proof data. -/
def dats : (p : Fin 4) → (c : Dev nD) → Dat τ (Elt F) Unit ℕ UU ℕ (Pipeline.pin (pcfgs (F := F)) (adms m) p) c
  | ⟨0, _⟩ => fun c => dat0 (U2 m) c
  | ⟨1, _⟩ => fun c => dat1 (U30 m) (adm1 m) c
  | ⟨2, _⟩ => fun c => dat2 (U31 m) (adm2 m) c
  | ⟨3, _⟩ => fun c => dat3 (U33 m) c

theorem cut (p : Fin 4) : LevelCut (pcfgs (F := F)) (adms m) () L lv p (fun _ => 0) fun _ => 0 where
  hι _ _ _ := Finset.mem_singleton_self _
  hιb _ _ _ := le_rfl
  hD _ _ _ h := absurd h (lt_irrefl 0)

theorem tables_at1 (c : Dev nD) (k) : (adm1 m).1 k = U30 m c (Proc.devRef .tc (pre1.ref k)) := by
  obtain rfl : c = 0 := Subsingleton.elim _ _
  rfl

theorem preRef_ne : ∀ k : Fin 2, (Proc.devRef .tc (pre2.ref k) : DevRef τ sig) ≠ Proc.devRef .tc main_v189 := by decide

theorem tables_at2 (c : Dev nD) (k) : (adm2 m).1 k = U31 m c (Proc.devRef .tc (pre2.ref k)) := by
  obtain rfl : c = 0 := Subsingleton.elim _ _
  exact (Function.update_of_ne (preRef_ne k) (o31 m 0 main_v189) (U30 m 0)).symm

theorem valid1 (i) : word1 ((adm1 m).1 1) i = 0#32 ∨ word1 ((adm1 m).1 1) i = 1#32 := route_valid (U3 m 0) _
theorem valid2 (i) : word2 ((adm2 m).1 1) i = 0#32 ∨ word2 ((adm2 m).1 1) i = 1#32 := route_valid (U3 m 0) _

theorem in_emp (P : sProp 𝕄) : iprop(P ∗ BI.emp) ⊢ P := by iintro ⟨H, _⟩; iexact H
theorem out_emp (P : sProp 𝕄) : P ⊢ iprop(P ∗ BI.emp) := Idealize.SL.BI.Laws.sep_emp.2
theorem in_emp' (P Q : sProp 𝕄) : iprop((P ∗ BI.emp) ∗ Q) ⊢ iprop(P ∗ Q) := by
  iintro ⟨⟨H, _⟩, HQ⟩
  isplitl [H]; · iexact H
  iexact HQ
theorem out_emp' (P Q : sProp 𝕄) : iprop(P ∗ Q) ⊢ iprop((P ∗ BI.emp) ∗ Q) := BIClass.sep_mono (out_emp P) (BI.Entails.refl Q)

theorem loose0 (c : Dev nD) : Pipeline.BodyObligationLoose (dats m 0 c) (defs₀ (F := F)) Variants.none () Set.univ := by
  have h := (body0 (U2 m) c).loose
  exact h
theorem loose1 (c : Dev nD) : Pipeline.BodyObligationLoose (dats m 1 c) (defs₀ (F := F)) Variants.none () Set.univ := by
  have h := (body1 (U30 m) (adm1 m) c (valid1 m)).loose
  exact h
theorem loose2 (c : Dev nD) : Pipeline.BodyObligationLoose (dats m 2 c) (defs₀ (F := F)) Variants.none () Set.univ := by
  have h := (body2 (U31 m) (adm2 m) c (valid2 m)).loose
  exact h
theorem loose3 (c : Dev nD) : Pipeline.BodyObligationLoose (dats m 3 c) (defs₀ (F := F)) Variants.none () Set.univ := by
  have h := (body3 (U33 m) c).loose
  exact h
theorem full0 (c : Dev nD) (w) : (dats m 0 c).share w = fullShare := (dat0 (U2 m) c).share_full (fun _ => rfl) w
theorem full1 (c : Dev nD) (w) : (dats m 1 c).share w = fullShare := (dat1 (U30 m) (adm1 m) c).share_full (fun _ => rfl) w
theorem full2 (c : Dev nD) (w) : (dats m 2 c).share w = fullShare := (dat2 (U31 m) (adm2 m) c).share_full (fun _ => rfl) w
theorem full3 (c : Dev nD) (w) : (dats m 3 c).share w = fullShare := (dat3 (U33 m) c).share_full (fun _ => rfl) w

theorem spec0_eq : (Pipeline.pin (pcfgs (F := F)) (adms m) 0).spec = spec0 := rfl
theorem inv0_eq (c : Dev nD) (t) : (dats m 0 c).Φ t = Pipeline.scopedRest (Ix := Unit) (Name := ℕ) (U := UU) (Lvl := ℕ) (Val := Elt F) spec0 c := rfl
theorem enter0 (c : Dev nD) : iprop(Pipeline.scopedRest (Pipeline.pin (pcfgs (F := F)) (adms m) 0).spec c ∗ BI.emp) ⊢ (dats m 0 c).Φ 0 := by
  rw [inv0_eq, spec0_eq]; exact in_emp _
theorem leave0 (c : Dev nD) : (dats m 0 c).Φ (Fin.last _) ⊢ iprop(Pipeline.scopedRest (Pipeline.pin (pcfgs (F := F)) (adms m) 0).spec c ∗ BI.emp) := by
  rw [inv0_eq, spec0_eq]; exact out_emp _
theorem starts0 (c : Dev nD) (w) : (dats m 0 c).arrAt w 0 = U2 m c (Proc.devRef .tc (Pipeline.arrRef (Pipeline.pin (pcfgs (F := F)) (adms m) 0).spec w)) := rfl

theorem spec3_eq : (Pipeline.pin (pcfgs (F := F)) (adms m) 3).spec = spec3 := rfl
theorem inv3_eq (c : Dev nD) (t) : (dats m 3 c).Φ t = Pipeline.scopedRest (Ix := Unit) (Name := ℕ) (U := UU) (Lvl := ℕ) (Val := Elt F) spec3 c := rfl
theorem enter3 (c : Dev nD) : iprop(Pipeline.scopedRest (Pipeline.pin (pcfgs (F := F)) (adms m) 3).spec c ∗ BI.emp) ⊢ (dats m 3 c).Φ 0 := by
  rw [inv3_eq, spec3_eq]; exact in_emp _
theorem leave3 (c : Dev nD) : (dats m 3 c).Φ (Fin.last _) ⊢ iprop(Pipeline.scopedRest (Pipeline.pin (pcfgs (F := F)) (adms m) 3).spec c ∗ BI.emp) := by
  rw [inv3_eq, spec3_eq]; exact out_emp _
theorem starts3 (c : Dev nD) (w) : (dats m 3 c).arrAt w 0 = U33 m c (Proc.devRef .tc (Pipeline.arrRef (Pipeline.pin (pcfgs (F := F)) (adms m) 3).spec w)) := rfl

def R0 : RegionSeg (pcfgs (F := F)) (adms m) (dats m) () defs₀ Variants.none L lv 0 :=
  RegionSeg.ofHeldIn (pcfgs (F := F)) (adms m) (dats m) () defs₀ Variants.none L lv 0 (fun _ => 0) (Pipeline.ucRefs τ sig) (fun _ => BI.emp) (fun _ => BI.emp) launch0 rfl
    (loose0 m) (fun _ _ => rfl) (fun _ => rfl) (full0 m)
    (enter0 m) (leave0 m) (fun _ => 0) (cut m 0) (fun _ => BI.emp) (fun c => U2 m c) (starts0 m)

def R1 : RegionSeg (pcfgs (F := F)) (adms m) (dats m) () defs₀ Variants.none L lv 1 :=
  RegionSeg.ofHeldInT (pcfgs (F := F)) (adms m) (dats m) () defs₀ Variants.none L lv 1 (fun _ => 0) (Pipeline.ucRefs τ sig) (fun _ => BI.emp) (fun _ => BI.emp) launch1
    (loose1 m) (fun _ _ => rfl) (fun _ => rfl) (full1 m)
    (fun _ => in_emp' _ _) (fun _ => out_emp' _ _) (fun _ => 0) (cut m 1) (fun _ => BI.emp) (fun c => U30 m c) (fun _ _ => rfl)
    (tables_at1 m)

def R2 : RegionSeg (pcfgs (F := F)) (adms m) (dats m) () defs₀ Variants.none L lv 2 :=
  RegionSeg.ofHeldInT (pcfgs (F := F)) (adms m) (dats m) () defs₀ Variants.none L lv 2 (fun _ => 0) (Pipeline.ucRefs τ sig) (fun _ => BI.emp) (fun _ => BI.emp) launch2
    (loose2 m) (fun _ _ => rfl) (fun _ => rfl) (full2 m)
    (fun _ => in_emp' _ _) (fun _ => out_emp' _ _) (fun _ => 0) (cut m 2) (fun _ => BI.emp) (fun c => U31 m c) (fun _ _ => rfl)
    (tables_at2 m)

def R3 : RegionSeg (pcfgs (F := F)) (adms m) (dats m) () defs₀ Variants.none L lv 3 :=
  RegionSeg.ofHeldIn (pcfgs (F := F)) (adms m) (dats m) () defs₀ Variants.none L lv 3 (fun _ => 0) (Pipeline.ucRefs τ sig) (fun _ => BI.emp) (fun _ => BI.emp) launch3 rfl
    (loose3 m) (fun _ _ => rfl) (fun _ => rfl) (full3 m)
    (enter3 m) (leave3 m) (fun _ => 0) (cut m 3) (fun _ => BI.emp) (fun c => U33 m c) (starts3 m)

end Cert.MoE

end
-- ==== Proof.Run.lean ====
/-
  The run: the four regions entered and left at the contents of Outs.lean, and from them the whole program's run, at any element type. Every
  fair run ends, with every unscoped buffer at the last contents and every counter at zero.
-/
module

public import proofs.«01_k».proof.Proof.Segs
public import proofs.«01_k».proof.Proof.Gen.KernelIdeal.Regions

@[expose] public section

noncomputable section

namespace Cert.MoE

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation afterRegion RegionSeg LevelCut)

variable {F : FTy → Type} [FloatOps F]

local notation "𝕄" => MT nD τ sig Unit (Elt F) ℕ UU ℕ

set_option maxRecDepth 2164

variable (m : (ℓ : Loc nD τ sig) → Buf (Elt F) ℓ)

/-- What rides beside the buffers: the core owes nothing. -/
def Rest (c : Dev nD) : sProp 𝕄 := iprop((∃ W, owes (c : Thread nD τ) (0 : CellTallies nD τ sig Unit) W) ∗ BI.emp ∗ BI.emp)

abbrev HeldAt (c : Dev nD) (V : Valuation τ sig (Elt F)) : sProp 𝕄 :=
  iprop(StableHlo.held (c : Thread nD τ) (Pipeline.ucRefs τ sig) V ∗ Rest c)

theorem pre0 (c : Dev nD) : HeldAt c (U2 m c) ⊢ (R0 m).pre c :=
  RegionSeg.ofHeldIn_pre (pcs := pcfgs (F := F)) (a := adms m) (pdats := dats m) (ι := ()) (defs₀ := defs₀) (𝒱₀ := Variants.none) (L := L) (lv := lv) (p := 0) (D := fun _ => 0)
    (X := fun _ => BI.emp) (Y := fun _ => BI.emp) (R := fun _ => BI.emp) (W := U2 m) (hS := Pipeline.arrRefs_sub_ucRefs _ (launch0 (F := F)).win.arr_unscoped)
    (kit := launch0) (hK := rfl) (hbody := loose0 m) (howed := fun _ _ => rfl) (hrec := fun _ => rfl) (hshare := full0 m) (hin := enter0 m) (hout := leave0 m) (b := fun _ => 0) (hcut := cut m 0) (hW := starts0 m) c
theorem pre1 (c : Dev nD) : HeldAt c (U30 m c) ⊢ (R1 m).pre c :=
  RegionSeg.ofHeldInT_pre (pcs := pcfgs (F := F)) (a := adms m) (pdats := dats m) (ι := ()) (defs₀ := defs₀) (𝒱₀ := Variants.none) (L := L) (lv := lv) (p := 1) (D := fun _ => 0)
    (X := fun _ => BI.emp) (Y := fun _ => BI.emp) (R := fun _ => BI.emp) (W := U30 m) (hS := Pipeline.arrRefs_sub_ucRefs _ (launch1 (F := F)).win.arr_unscoped) (hS' := Pipeline.tblRefs_sub_ucRefs _ (launch1 (F := F)).pre.unscoped)
    (kit := launch1) (hbody := loose1 m) (howed := fun _ _ => rfl) (hrec := fun _ => rfl) (hshare := full1 m) (hin := fun _ => in_emp' _ _) (hout := fun _ => out_emp' _ _) (b := fun _ => 0) (hcut := cut m 1) (hW := fun _ _ => rfl) (hT := tables_at1 m) c
theorem pre2 (c : Dev nD) : HeldAt c (U31 m c) ⊢ (R2 m).pre c :=
  RegionSeg.ofHeldInT_pre (pcs := pcfgs (F := F)) (a := adms m) (pdats := dats m) (ι := ()) (defs₀ := defs₀) (𝒱₀ := Variants.none) (L := L) (lv := lv) (p := 2) (D := fun _ => 0)
    (X := fun _ => BI.emp) (Y := fun _ => BI.emp) (R := fun _ => BI.emp) (W := U31 m) (hS := Pipeline.arrRefs_sub_ucRefs _ (launch2 (F := F)).win.arr_unscoped) (hS' := Pipeline.tblRefs_sub_ucRefs _ (launch2 (F := F)).pre.unscoped)
    (kit := launch2) (hbody := loose2 m) (howed := fun _ _ => rfl) (hrec := fun _ => rfl) (hshare := full2 m) (hin := fun _ => in_emp' _ _) (hout := fun _ => out_emp' _ _) (b := fun _ => 0) (hcut := cut m 2) (hW := fun _ _ => rfl) (hT := tables_at2 m) c
theorem pre3 (c : Dev nD) : HeldAt c (U33 m c) ⊢ (R3 m).pre c :=
  RegionSeg.ofHeldIn_pre (pcs := pcfgs (F := F)) (a := adms m) (pdats := dats m) (ι := ()) (defs₀ := defs₀) (𝒱₀ := Variants.none) (L := L) (lv := lv) (p := 3) (D := fun _ => 0)
    (X := fun _ => BI.emp) (Y := fun _ => BI.emp) (R := fun _ => BI.emp) (W := U33 m) (hS := Pipeline.arrRefs_sub_ucRefs _ (launch3 (F := F)).win.arr_unscoped)
    (kit := launch3) (hK := rfl) (hbody := loose3 m) (howed := fun _ _ => rfl) (hrec := fun _ => rfl) (hshare := full3 m) (hin := enter3 m) (hout := leave3 m) (b := fun _ => 0) (hcut := cut m 3) (hW := starts3 m) c

theorem heldAt_congr (c : Dev nD) {V V' : Valuation τ sig (Elt F)} (h : ∀ b, V b = V' b) : (HeldAt c V : sProp 𝕄) ⊢ HeldAt c V' := by
  rw [show V = V' from funext h]

theorem post0 (c : Dev nD) : (R0 m).post c ⊢ HeldAt c (U3 m c) :=
  (RegionSeg.ofHeldIn_post (Pipeline.arrRefs_sub_ucRefs _ (launch0 (F := F)).win.arr_unscoped) c).trans <| heldAt_congr c
    (after_one (dat0 (U2 m) c) (U2 m c) winFacts0.arr_inj (fun _ => rfl) main_v9 (by decide))
theorem post1 (c : Dev nD) : (R1 m).post c ⊢ HeldAt c (U31 m c) :=
  (RegionSeg.ofHeldInT_post (Pipeline.arrRefs_sub_ucRefs _ (launch1 (F := F)).win.arr_unscoped) (Pipeline.tblRefs_sub_ucRefs _ (launch1 (F := F)).pre.unscoped) c).trans <| heldAt_congr c
    (after_one (dat1 (U30 m) (adm1 m) c) (U30 m c) winFacts1.arr_inj (fun _ => rfl) main_v189 (fun | 0, _ => rfl | 1, _ => rfl | 2, _ => rfl | 3, _ => rfl | 4, h => absurd rfl h))
theorem post2 (c : Dev nD) : (R2 m).post c ⊢ HeldAt c (U32 m c) :=
  (RegionSeg.ofHeldInT_post (Pipeline.arrRefs_sub_ucRefs _ (launch2 (F := F)).win.arr_unscoped) (Pipeline.tblRefs_sub_ucRefs _ (launch2 (F := F)).pre.unscoped) c).trans <| heldAt_congr c
    (after_one (dat2 (U31 m) (adm2 m) c) (U31 m c) winFacts2.arr_inj (fun _ => rfl) main_v190 (fun | 0, _ => rfl | 1, _ => rfl | 2, h => absurd rfl h))
theorem post3 (c : Dev nD) : (R3 m).post c ⊢ HeldAt c (U34 m c) :=
  (RegionSeg.ofHeldIn_post (Pipeline.arrRefs_sub_ucRefs _ (launch3 (F := F)).win.arr_unscoped) c).trans <| heldAt_congr c
    (after_two (dat3 (U33 m) c) (U33 m c) winFacts3.arr_inj (fun _ => rfl) main_v211_0 main_v211_1 (by decide))

/-- The rest, the same beside every item. -/
abbrev E (_ : Fin 5) (c : Dev nD) : sProp 𝕄 := Rest c

theorem rest_owes (c : Dev nD) : (Rest c : sProp 𝕄) ⊢ iprop(∃ W, owes (c : Thread nD τ) (0 : CellTallies nD τ sig Unit) W) := by
  unfold Rest
  iintro ⟨H, _⟩
  iexact H

theorem rest_start (c : Dev nD) (ρ : Dev nD → PrngReg) :
    iprop(iprop(unscopedSems0 c ∗ owes (c : Thread nD τ) (0 : CellTallies nD τ sig Unit) ∅ ∗ Pipeline.launchCred (fun _ => 0) c ∗ prngReg c (ρ c) ∗ BI.emp)
      ∗ levAts L lv) ⊢ (|={Set.univ}=> Rest c : sProp 𝕄) := by
  unfold Rest
  iintro ⟨⟨_, HO, _⟩, _⟩
  imodintro
  isplitl [HO]; · iexists _; iexact HO
  iapply (out_emp (BI.emp : sProp 𝕄))
  iempintro

theorem chain_prog (c : Dev nD) :
    (segs m (outs m) Variants.none L lv E () (adms m) (dats m) (R0 m) (R1 m) (R2 m) (R3 m) c).map Pipeline.Seg.prog = [
      StableHlo.seq hostOps0, StableHlo.seq hostOps0_1, Prog.lift (.customCall (Pipeline.entry 0) ()), StableHlo.seq hostOps1, StableHlo.seq hostOps1_1,
      StableHlo.seq hostOps1_2, StableHlo.seq hostOps1_3, StableHlo.seq hostOps1_4, StableHlo.seq hostOps1_5, StableHlo.seq hostOps1_6,
      StableHlo.seq hostOps1_7, StableHlo.seq hostOps1_8, StableHlo.seq hostOps1_9, StableHlo.seq hostOps1_10, StableHlo.seq hostOps1_11,
      StableHlo.seq hostOps1_12, StableHlo.seq hostOps1_13, StableHlo.seq hostOps1_14, StableHlo.seq hostOps1_15, StableHlo.seq hostOps1_16,
      StableHlo.seq hostOps1_17, StableHlo.seq hostOps1_18, StableHlo.seq hostOps1_19, StableHlo.seq hostOps1_20, StableHlo.seq hostOps1_21,
      StableHlo.seq hostOps1_22, StableHlo.seq hostOps1_23, StableHlo.seq hostOps1_24, StableHlo.seq hostOps1_25, StableHlo.seq hostOps1_26,
      Prog.lift (.customCall (Pipeline.entry 1) ()), Prog.lift (.customCall (Pipeline.entry 2) ()), StableHlo.seq hostOps3,
      Prog.lift (.customCall (Pipeline.entry 3) ())] := rfl

set_option backward.isDefEq.respectTransparency.types false in
/-- THE RUN: every fair run from memory `m` with zero counters ends with each unscoped buffer at the last contents and every counter at zero. -/
theorem run_main (ρ : Dev nD → PrngReg) :
    θ_run defs (onTc (τ := τ) (main (F := F))) ⟨m, fun _ => 0, ρ⟩ (fun r =>
      (∀ c : Dev nD, ∀ b ∈ Pipeline.ucRefs τ sig, r.2.mem ((c : Thread nD τ).1, b) = V34 m (outs m) c b) ∧ r.2.sem = fun _ => 0) := by
  refine Pipeline.θ_run_regions_kit_dev_sems (pcfgs (F := F)) (adms m) (dats m) () (cellOf_inj (adms m)) (emb₁ (A := UU)) defs₀ Variants.none L lv m ρ main
    (segs m (outs m) Variants.none L lv E () (adms m) (dats m) (R0 m) (R1 m) (R2 m) (R3 m))
    (fun c Q => by
      rewrite [main_chain c, Pipeline.Seg.run_eq_chain, chain_prog m c]
      exact .rfl)
    (fun c => by simp only [segs, Pipeline.Seg.pipes_host, Pipeline.Seg.pipes_region, Pipeline.Seg.pipes_nil]; decide) (fun _ => 0)
    (fun g h => if_neg h) (fun _ => BI.emp)
    (initOf (Pipeline.cells (Pipeline.pin (pcfgs (F := F)) (adms m)) (cellOf_inj (adms m))) (Pipeline.launchToks (Pipeline.pin (pcfgs (F := F)) (adms m)) (cellOf_inj (adms m)))) ?_
    (T₀ := fun c => HeldAt c (V0 m c))
    (Tₙ := fun c => StableHlo.held (c : Thread nD τ) (Pipeline.ucRefs τ sig) (V34 m (outs m) c))
    (hch := fun c => ⟨.rfl, .rfl, pre0 m c, post0 m c, .rfl, .rfl, .rfl, .rfl, .rfl, .rfl, .rfl, .rfl, .rfl, .rfl, .rfl, .rfl, .rfl, .rfl, .rfl, .rfl, .rfl, .rfl, .rfl,
      .rfl, .rfl, .rfl, .rfl, .rfl, .rfl, .rfl, (heldAt_congr c fun b => congrFun (V30_eq m c) b).trans (pre1 m c), (post1 m c).trans (pre2 m c),
      (post2 m c).trans (heldAt_congr c fun b => congrFun (V32_eq m c).symm b), (heldAt_congr c fun b => congrFun (V33_eq m c) b).trans (pre3 m c),
      (post3 m c).trans ((heldAt_congr c fun b => congrFun (V34_eq m c).symm b).trans (sep_mono .rfl (rest_owes c)))⟩)
    (hinit := ?_) (QY := fun c s => ∀ b ∈ Pipeline.ucRefs τ sig, s.mem ((c : Thread nD τ).1, b) = V34 m (outs m) c b)
    (hfin := fun c s' => ?_) (hQ := fun _ h hz => ⟨h, funext fun g => hz g (.inr (regions_no_unscoped g.2))⟩)
  · iintro Hu
    imodintro
    isplitl [Hu]
    · iapply (show (ownU _ : sProp 𝕄) ⊢ BI.own (emb₁ (A := UU) _) from .rfl)
      iexact Hu
    · rw [bigSep_emp_const]; iempintro
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp) : sProp 𝕄)
        ⊢ bigSep Finset.univ fun c : Dev nD => iprop(StableHlo.held (c : Thread nD τ) (Pipeline.ucRefs τ sig) (V0 m c)
            ∗ iprop(unscopedSems0 c ∗ owes (c : Thread nD τ) (0 : CellTallies nD τ sig Unit) ∅ ∗ Pipeline.launchCred (fun _ => 0) c ∗ prngReg c (ρ c) ∗ BI.emp)) :=
      bigSep_mono fun c _ => by rw [← Pipeline.unscopedBufs_held (Ix := Unit) (Name := ℕ) (U := UU) (Lvl := ℕ) c (V0 m c)]; exact BI.Entails.refl _
    refine (BIClass.sep_mono hsplit (BI.Entails.refl _)).trans (Pipeline.initEach L lv fun c => ?_)
    iintro ⟨⟨Hh, Hr⟩, Hla⟩
    imod (rest_start c ρ) $$ [Hr Hla] with HE
    · isplitl [Hr]; · iexact Hr
      iexact Hla
    imodintro
    isplitl [Hh]; · iexact Hh
    iexact HE
  · unfold StableHlo.held
    iintro ⟨Hh, HSI⟩
    ihave Hr := (pointsTo_read_all (Pipeline.ucRefs τ sig) (fun b => ((c : Thread nD τ).1, b)) (V34 m (outs m) c) s') $$ [Hh HSI]
    · isplitl [Hh] <;> iassumption
    icases Hr with ⟨%h, HSI⟩
    imodintro
    isplitr
    · ipureintro; exact h
    · iexact HSI

end Cert.MoE

end
-- ==== Proof.RefRun.lean ====
/-
  The reference's run: its operations as a list, cut at the steps of the layer, and every buffer at the end of a run read as what the list leaves there.
-/
module

public import proofs.«01_k».proof.Proof.Gen.ReferenceIdeal
public import Idealize.ShloMosaic.Lib.StableHlo.Run

@[expose] public section

noncomputable section

namespace Cert.MoE.Ref

open Cert.ReferenceIdeal Cert.ReferenceIdeal.Gen Idealize.ShloMosaic Idealize.ShloMosaic.TcCoe Idealize.SL.Sem Idealize.ShloMosaic.StableHlo

variable {F : FTy → Type} [FloatOps F]

/-- Step of the reference: the slices of the layer, the scaled input, the group logits. -/
abbrev logitOps : List (HloOp τ sig (Elt F)) :=
  [ unary main_arg1 main_v0 ((extractStridedSlice S1x4096x4 ![1, 0, 0] · slices_S2x4096x4_S1x4096x4_1_0_0) : (⟨S2x4096x4, .f32⟩ : BufTy).Contents (Elt F) → (⟨S1x4096x4, .f32⟩ : BufTy).Contents (Elt F)),
    reshape main_v0 main_v1 (rfl : (.f32 : EltTy) = .f32) shapeCasts_S1x4096x4_S4096x4,
    unary main_arg2 main_v2 ((extractStridedSlice S1x4 ![1, 0] · slices_S2x4_S1x4_1_0) : (⟨S2x4, .f32⟩ : BufTy).Contents (Elt F) → (⟨S1x4, .f32⟩ : BufTy).Contents (Elt F)),
    reshape main_v2 main_v3 (rfl : (.f32 : EltTy) = .f32) shapeCasts_S1x4_S4,
    unary main_arg3 main_v4 ((extractStridedSlice S1x4x4096x8 ![1, 0, 0, 0] · slices_S2x4x4096x8_S1x4x4096x8_1_0_0_0) : (⟨S2x4x4096x8, .f32⟩ : BufTy).Contents (Elt F) → (⟨S1x4x4096x8, .f32⟩ : BufTy).Contents (Elt F)),
    reshape main_v4 main_v5 (rfl : (.f32 : EltTy) = .f32) shapeCasts_S1x4x4096x8_S4x4096x8,
    unary main_arg4 main_v6 ((extractStridedSlice S1x4x8 ![1, 0, 0] · slices_S2x4x8_S1x4x8_1_0_0) : (⟨S2x4x8, .f32⟩ : BufTy).Contents (Elt F) → (⟨S1x4x8, .f32⟩ : BufTy).Contents (Elt F)),
    reshape main_v6 main_v7 (rfl : (.f32 : EltTy) = .f32) shapeCasts_S1x4x8_S4x8,
    unary main_arg5 main_v8 ((extractStridedSlice S1x32x4096x512 ![1, 0, 0, 0] · slices_S2x32x4096x512_S1x32x4096x512_1_0_0_0) : (⟨S2x32x4096x512, .f32⟩ : BufTy).Contents (Elt F) → (⟨S1x32x4096x512, .f32⟩ : BufTy).Contents (Elt F)),
    reshape main_v8 main_v9 (rfl : (.f32 : EltTy) = .f32) shapeCasts_S1x32x4096x512_S32x4096x512,
    unary main_arg6 main_v10 ((extractStridedSlice S1x32x4096x512 ![1, 0, 0, 0] · slices_S2x32x4096x512_S1x32x4096x512_1_0_0_0) : (⟨S2x32x4096x512, .f32⟩ : BufTy).Contents (Elt F) → (⟨S1x32x4096x512, .f32⟩ : BufTy).Contents (Elt F)),
    reshape main_v10 main_v11 (rfl : (.f32 : EltTy) = .f32) shapeCasts_S1x32x4096x512_S32x4096x512,
    unary main_arg7 main_v12 ((extractStridedSlice S1x32x512x4096 ![1, 0, 0, 0] · slices_S2x32x512x4096_S1x32x512x4096_1_0_0_0) : (⟨S2x32x512x4096, .f32⟩ : BufTy).Contents (Elt F) → (⟨S1x32x512x4096, .f32⟩ : BufTy).Contents (Elt F)),
    reshape main_v12 main_v13 (rfl : (.f32 : EltTy) = .f32) shapeCasts_S1x32x512x4096_S32x512x4096,
    nullary main_cst (constant S_ .f32 0x3FB504F3#32),
    unary main_cst main_v14 (broadcastInDim S8704x4096 ![] bcast_S_S8704x4096 : (⟨S_, .f32⟩ : BufTy).Contents (Elt F) → (⟨S8704x4096, .f32⟩ : BufTy).Contents (Elt F)),
    binary main_v14 main_arg0 main_v15 (mulf : (⟨S8704x4096, .f32⟩ : BufTy).Contents (Elt F) → (⟨S8704x4096, .f32⟩ : BufTy).Contents (Elt F) → (⟨S8704x4096, .f32⟩ : BufTy).Contents (Elt F)),
    binary main_arg0 main_v1 main_v16 ((fun l r => Host.dotGeneral dot_S8704x4096_S4096x4_S8704x4_1_0_0_1_n_n none l r) : (⟨S8704x4096, .f32⟩ : BufTy).Contents (Elt F) → (⟨S4096x4, .f32⟩ : BufTy).Contents (Elt F) → (⟨S8704x4, .f32⟩ : BufTy).Contents (Elt F)),
    unary main_v3 main_v17 (broadcastInDim S1x4 ![1] bcast_S4_S1x4_1 : (⟨S4, .f32⟩ : BufTy).Contents (Elt F) → (⟨S1x4, .f32⟩ : BufTy).Contents (Elt F)),
    unary main_v17 main_v18 (broadcastInDim S8704x4 ![0, 1] bcast_S1x4_S8704x4_0_1 : (⟨S1x4, .f32⟩ : BufTy).Contents (Elt F) → (⟨S8704x4, .f32⟩ : BufTy).Contents (Elt F)),
    binary main_v16 main_v18 main_v19 (addf : (⟨S8704x4, .f32⟩ : BufTy).Contents (Elt F) → (⟨S8704x4, .f32⟩ : BufTy).Contents (Elt F) → (⟨S8704x4, .f32⟩ : BufTy).Contents (Elt F)) ]

/-- Step of the reference: the group with the largest logit. -/
abbrev argOps : List (HloOp τ sig (Elt F)) :=
  [ TRef.nullary (TRef.of (T := ⟨S8704x4, .i32⟩) main_call0_v0) (iotaInDim S8704x4 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S8704x4, .f32⟩) main_v19) (TRef.of (T := ⟨S8704x4, .i32⟩) main_call0_v0) (TRef.of (T := ⟨S_, .f32⟩) main_call0_cst) (TRef.of (T := ⟨S_, .i32⟩) main_call0_c) (TRef.of (T := ⟨S8704, .f32⟩) main_call0_v1_0) (fun x y u v j => (Host.argReduce reducer_argmax_f32_i32 x y u v reducesTo_S8704x4_S8704_d1 h_S_ j).1),
    TRef.quaternary (TRef.of (T := ⟨S8704x4, .f32⟩) main_v19) (TRef.of (T := ⟨S8704x4, .i32⟩) main_call0_v0) (TRef.of (T := ⟨S_, .f32⟩) main_call0_cst) (TRef.of (T := ⟨S_, .i32⟩) main_call0_c) (TRef.of (T := ⟨S8704, .i32⟩) main_v20) (fun x y u v j => (Host.argReduce reducer_argmax_f32_i32 x y u v reducesTo_S8704x4_S8704_d1 h_S_ j).2) ]

/-- Step of the reference: the weight of that group. -/
abbrev weightOps : List (HloOp τ sig (Elt F)) :=
  [ nullary main_cst_0 (constant S_ .f32 0xFF800000#32),
    binary main_v19 main_cst_0 main_v21 ((fun x v => Host.reduce FloatOps.maximumf x v reducesTo_S8704x4_S8704_d1 h_S_) : (⟨S8704x4, .f32⟩ : BufTy).Contents (Elt F) → (⟨S_, .f32⟩ : BufTy).Contents (Elt F) → (⟨S8704, .f32⟩ : BufTy).Contents (Elt F)),
    nullary main_cst_1 (constant S_ .f32 0xFF800000#32),
    unary main_cst_1 main_v22 (broadcastInDim S8704 ![] bcast_S_S8704 : (⟨S_, .f32⟩ : BufTy).Contents (Elt F) → (⟨S8704, .f32⟩ : BufTy).Contents (Elt F)),
    binary main_v22 main_v21 main_v23 (maximumf : (⟨S8704, .f32⟩ : BufTy).Contents (Elt F) → (⟨S8704, .f32⟩ : BufTy).Contents (Elt F) → (⟨S8704, .f32⟩ : BufTy).Contents (Elt F)),
    unary main_v23 main_v24 (broadcastInDim S8704x1 ![0] bcast_S8704_S8704x1_0 : (⟨S8704, .f32⟩ : BufTy).Contents (Elt F) → (⟨S8704x1, .f32⟩ : BufTy).Contents (Elt F)),
    unary main_v24 main_v25 (broadcastInDim S8704x4 ![0, 1] bcast_S8704x1_S8704x4_0_1 : (⟨S8704x1, .f32⟩ : BufTy).Contents (Elt F) → (⟨S8704x4, .f32⟩ : BufTy).Contents (Elt F)),
    binary main_v19 main_v25 main_v26 (subf : (⟨S8704x4, .f32⟩ : BufTy).Contents (Elt F) → (⟨S8704x4, .f32⟩ : BufTy).Contents (Elt F) → (⟨S8704x4, .f32⟩ : BufTy).Contents (Elt F)),
    unary main_v26 main_v27 (Host.exp : (⟨S8704x4, .f32⟩ : BufTy).Contents (Elt F) → (⟨S8704x4, .f32⟩ : BufTy).Contents (Elt F)),
    nullary main_cst_2 (constant S_ .f32 0x00000000#32),
    binary main_v27 main_cst_2 main_v28 ((fun x v => Host.reduceAdd x v reducesTo_S8704x4_S8704_d1 h_S_) : (⟨S8704x4, .f32⟩ : BufTy).Contents (Elt F) → (⟨S_, .f32⟩ : BufTy).Contents (Elt F) → (⟨S8704, .f32⟩ : BufTy).Contents (Elt F)),
    unary main_v28 main_v29 (broadcastInDim S8704x1 ![0] bcast_S8704_S8704x1_0 : (⟨S8704, .f32⟩ : BufTy).Contents (Elt F) → (⟨S8704x1, .f32⟩ : BufTy).Contents (Elt F)),
    unary main_v29 main_v30 (broadcastInDim S8704x4 ![0, 1] bcast_S8704x1_S8704x4_0_1 : (⟨S8704x1, .f32⟩ : BufTy).Contents (Elt F) → (⟨S8704x4, .f32⟩ : BufTy).Contents (Elt F)),
    binary main_v27 main_v30 main_v31 (Host.divf : (⟨S8704x4, .f32⟩ : BufTy).Contents (Elt F) → (⟨S8704x4, .f32⟩ : BufTy).Contents (Elt F) → (⟨S8704x4, .f32⟩ : BufTy).Contents (Elt F)),
    nullary main_cst_3 (constant S_ .f32 0xFF800000#32),
    binary main_v31 main_cst_3 main_v32 ((fun x v => Host.reduce FloatOps.maximumf x v reducesTo_S8704x4_S8704_d1 h_S_) : (⟨S8704x4, .f32⟩ : BufTy).Contents (Elt F) → (⟨S_, .f32⟩ : BufTy).Contents (Elt F) → (⟨S8704, .f32⟩ : BufTy).Contents (Elt F)) ]

/-- Step of the reference: the logits inside every group. -/
abbrev innerOps : List (HloOp τ sig (Elt F)) :=
  [ binary main_arg0 main_v5 main_v33 ((fun l r => Host.dotGeneral dot_S8704x4096_S4x4096x8_S8704x4x8_1_1_0_02_n_n none l r) : (⟨S8704x4096, .f32⟩ : BufTy).Contents (Elt F) → (⟨S4x4096x8, .f32⟩ : BufTy).Contents (Elt F) → (⟨S8704x4x8, .f32⟩ : BufTy).Contents (Elt F)),
    unary main_v7 main_v34 (broadcastInDim S1x4x8 ![1, 2] bcast_S4x8_S1x4x8_1_2 : (⟨S4x8, .f32⟩ : BufTy).Contents (Elt F) → (⟨S1x4x8, .f32⟩ : BufTy).Contents (Elt F)),
    unary main_v34 main_v35 (broadcastInDim S8704x4x8 ![0, 1, 2] bcast_S1x4x8_S8704x4x8_0_1_2 : (⟨S1x4x8, .f32⟩ : BufTy).Contents (Elt F) → (⟨S8704x4x8, .f32⟩ : BufTy).Contents (Elt F)),
    binary main_v33 main_v35 main_v36 (addf : (⟨S8704x4x8, .f32⟩ : BufTy).Contents (Elt F) → (⟨S8704x4x8, .f32⟩ : BufTy).Contents (Elt F) → (⟨S8704x4x8, .f32⟩ : BufTy).Contents (Elt F)) ]

/-- Step of the reference: the logits inside the chosen group and the two largest. -/
abbrev pickOps : List (HloOp τ sig (Elt F)) :=
  [ TRef.unary (TRef.of (T := ⟨S8704, .i32⟩) main_v20) (TRef.of (T := ⟨S8704x1, .i32⟩) main_call1_v0) (broadcastInDim S8704x1 ![0] bcast_S8704_S8704x1_0),
    TRef.nullary (TRef.of (T := ⟨S1x4, .i32⟩) main_call1_v1) (iotaInDim S1x4 32 1),
    TRef.unary (TRef.of (T := ⟨S8704x1, .i32⟩) main_call1_v0) (TRef.of (T := ⟨S8704x4, .i32⟩) main_call1_v2) (broadcastInDim S8704x4 ![0, 1] bcast_S8704x1_S8704x4_0_1),
    TRef.unary (TRef.of (T := ⟨S1x4, .i32⟩) main_call1_v1) (TRef.of (T := ⟨S8704x4, .i32⟩) main_call1_v3) (broadcastInDim S8704x4 ![0, 1] bcast_S1x4_S8704x4_0_1),
    TRef.binary (TRef.of (T := ⟨S8704x4, .i32⟩) main_call1_v2) (TRef.of (T := ⟨S8704x4, .i32⟩) main_call1_v3) (TRef.of (T := ⟨S8704x4, .i1⟩) main_call1_v4) (cmpi .eq),
    TRef.unary (TRef.of (T := ⟨S8704x4, .i1⟩) main_call1_v4) (TRef.of (T := ⟨S8704x4, .f32⟩) main_v37) (uitofp .f32),
    binary main_v36 main_v37 main_v38 ((fun l r => Host.dotGeneral dot_S8704x4x8_S8704x4_S8704x8_1_1_2_n_0_0 none l r) : (⟨S8704x4x8, .f32⟩ : BufTy).Contents (Elt F) → (⟨S8704x4, .f32⟩ : BufTy).Contents (Elt F) → (⟨S8704x8, .f32⟩ : BufTy).Contents (Elt F)),
    unary main_v38 main_values ((fun x => (Host.topK S8704x2 1 (FloatOps.cmpfTotal .gt) x sliceFits_S8704x8_S8704x2).1) : (⟨S8704x8, .f32⟩ : BufTy).Contents (Elt F) → (⟨S8704x2, .f32⟩ : BufTy).Contents (Elt F)),
    unary main_v38 main_indices ((fun x => (Host.topK S8704x2 1 (FloatOps.cmpfTotal .gt) x sliceFits_S8704x8_S8704x2).2) : (⟨S8704x8, .f32⟩ : BufTy).Contents (Elt F) → (⟨S8704x2, .i32⟩ : BufTy).Contents (Elt F)) ]

/-- Step of the reference: the two gates and the two expert numbers. -/
abbrev gateOps : List (HloOp τ sig (Elt F)) :=
  [ unary main_v32 main_v39 (broadcastInDim S8704x1 ![0] bcast_S8704_S8704x1_0 : (⟨S8704, .f32⟩ : BufTy).Contents (Elt F) → (⟨S8704x1, .f32⟩ : BufTy).Contents (Elt F)),
    nullary main_cst_4 (constant S_ .f32 0xFF800000#32),
    binary main_values main_cst_4 main_v40 ((fun x v => Host.reduce FloatOps.maximumf x v reducesTo_S8704x2_S8704_d1 h_S_) : (⟨S8704x2, .f32⟩ : BufTy).Contents (Elt F) → (⟨S_, .f32⟩ : BufTy).Contents (Elt F) → (⟨S8704, .f32⟩ : BufTy).Contents (Elt F)),
    nullary main_cst_5 (constant S_ .f32 0xFF800000#32),
    unary main_cst_5 main_v41 (broadcastInDim S8704 ![] bcast_S_S8704 : (⟨S_, .f32⟩ : BufTy).Contents (Elt F) → (⟨S8704, .f32⟩ : BufTy).Contents (Elt F)),
    binary main_v41 main_v40 main_v42 (maximumf : (⟨S8704, .f32⟩ : BufTy).Contents (Elt F) → (⟨S8704, .f32⟩ : BufTy).Contents (Elt F) → (⟨S8704, .f32⟩ : BufTy).Contents (Elt F)),
    unary main_v42 main_v43 (broadcastInDim S8704x1 ![0] bcast_S8704_S8704x1_0 : (⟨S8704, .f32⟩ : BufTy).Contents (Elt F) → (⟨S8704x1, .f32⟩ : BufTy).Contents (Elt F)),
    unary main_v43 main_v44 (broadcastInDim S8704x2 ![0, 1] bcast_S8704x1_S8704x2_0_1 : (⟨S8704x1, .f32⟩ : BufTy).Contents (Elt F) → (⟨S8704x2, .f32⟩ : BufTy).Contents (Elt F)),
    binary main_values main_v44 main_v45 (subf : (⟨S8704x2, .f32⟩ : BufTy).Contents (Elt F) → (⟨S8704x2, .f32⟩ : BufTy).Contents (Elt F) → (⟨S8704x2, .f32⟩ : BufTy).Contents (Elt F)),
    unary main_v45 main_v46 (Host.exp : (⟨S8704x2, .f32⟩ : BufTy).Contents (Elt F) → (⟨S8704x2, .f32⟩ : BufTy).Contents (Elt F)),
    nullary main_cst_6 (constant S_ .f32 0x00000000#32),
    binary main_v46 main_cst_6 main_v47 ((fun x v => Host.reduceAdd x v reducesTo_S8704x2_S8704_d1 h_S_) : (⟨S8704x2, .f32⟩ : BufTy).Contents (Elt F) → (⟨S_, .f32⟩ : BufTy).Contents (Elt F) → (⟨S8704, .f32⟩ : BufTy).Contents (Elt F)),
    unary main_v47 main_v48 (broadcastInDim S8704x1 ![0] bcast_S8704_S8704x1_0 : (⟨S8704, .f32⟩ : BufTy).Contents (Elt F) → (⟨S8704x1, .f32⟩ : BufTy).Contents (Elt F)),
    unary main_v48 main_v49 (broadcastInDim S8704x2 ![0, 1] bcast_S8704x1_S8704x2_0_1 : (⟨S8704x1, .f32⟩ : BufTy).Contents (Elt F) → (⟨S8704x2, .f32⟩ : BufTy).Contents (Elt F)),
    binary main_v46 main_v49 main_v50 (Host.divf : (⟨S8704x2, .f32⟩ : BufTy).Contents (Elt F) → (⟨S8704x2, .f32⟩ : BufTy).Contents (Elt F) → (⟨S8704x2, .f32⟩ : BufTy).Contents (Elt F)),
    unary main_v39 main_v51 (broadcastInDim S8704x2 ![0, 1] bcast_S8704x1_S8704x2_0_1 : (⟨S8704x1, .f32⟩ : BufTy).Contents (Elt F) → (⟨S8704x2, .f32⟩ : BufTy).Contents (Elt F)),
    binary main_v51 main_v50 main_v52 (mulf : (⟨S8704x2, .f32⟩ : BufTy).Contents (Elt F) → (⟨S8704x2, .f32⟩ : BufTy).Contents (Elt F) → (⟨S8704x2, .f32⟩ : BufTy).Contents (Elt F)),
    unary main_v20 main_v53 (broadcastInDim S8704x1 ![0] bcast_S8704_S8704x1_0 : (⟨S8704, .i32⟩ : BufTy).Contents (Elt F) → (⟨S8704x1, .i32⟩ : BufTy).Contents (Elt F)),
    nullary main_c (constantI S_ 32 8#32),
    unary main_c main_v54 (broadcastInDim S8704x1 ![] bcast_S_S8704x1 : (⟨S_, .i32⟩ : BufTy).Contents (Elt F) → (⟨S8704x1, .i32⟩ : BufTy).Contents (Elt F)),
    binary main_v53 main_v54 main_v55 (muli : (⟨S8704x1, .i32⟩ : BufTy).Contents (Elt F) → (⟨S8704x1, .i32⟩ : BufTy).Contents (Elt F) → (⟨S8704x1, .i32⟩ : BufTy).Contents (Elt F)),
    unary main_v55 main_v56 (broadcastInDim S8704x2 ![0, 1] bcast_S8704x1_S8704x2_0_1 : (⟨S8704x1, .i32⟩ : BufTy).Contents (Elt F) → (⟨S8704x2, .i32⟩ : BufTy).Contents (Elt F)),
    binary main_v56 main_indices main_v57 (addi : (⟨S8704x2, .i32⟩ : BufTy).Contents (Elt F) → (⟨S8704x2, .i32⟩ : BufTy).Contents (Elt F) → (⟨S8704x2, .i32⟩ : BufTy).Contents (Elt F)) ]

/-- Step of the reference: the weight of every expert. -/
abbrev combineOps : List (HloOp τ sig (Elt F)) :=
  [ TRef.unary (TRef.of (T := ⟨S8704x2, .i32⟩) main_v57) (TRef.of (T := ⟨S8704x2x1, .i32⟩) main_call2_v0) (broadcastInDim S8704x2x1 ![0, 1] bcast_S8704x2_S8704x2x1_0_1),
    TRef.nullary (TRef.of (T := ⟨S1x1x32, .i32⟩) main_call2_v1) (iotaInDim S1x1x32 32 2),
    TRef.unary (TRef.of (T := ⟨S8704x2x1, .i32⟩) main_call2_v0) (TRef.of (T := ⟨S8704x2x32, .i32⟩) main_call2_v2) (broadcastInDim S8704x2x32 ![0, 1, 2] bcast_S8704x2x1_S8704x2x32_0_1_2),
    TRef.unary (TRef.of (T := ⟨S1x1x32, .i32⟩) main_call2_v1) (TRef.of (T := ⟨S8704x2x32, .i32⟩) main_call2_v3) (broadcastInDim S8704x2x32 ![0, 1, 2] bcast_S1x1x32_S8704x2x32_0_1_2),
    TRef.binary (TRef.of (T := ⟨S8704x2x32, .i32⟩) main_call2_v2) (TRef.of (T := ⟨S8704x2x32, .i32⟩) main_call2_v3) (TRef.of (T := ⟨S8704x2x32, .i1⟩) main_call2_v4) (cmpi .eq),
    TRef.unary (TRef.of (T := ⟨S8704x2x32, .i1⟩) main_call2_v4) (TRef.of (T := ⟨S8704x2x32, .f32⟩) main_v58) (uitofp .f32),
    binary main_v52 main_v58 main_v59 ((fun l r => Host.dotGeneral dot_S8704x2_S8704x2x32_S8704x32_1_1_n_2_0_0 none l r) : (⟨S8704x2, .f32⟩ : BufTy).Contents (Elt F) → (⟨S8704x2x32, .f32⟩ : BufTy).Contents (Elt F) → (⟨S8704x32, .f32⟩ : BufTy).Contents (Elt F)) ]

/-- Step of the reference: the experts and their weighted sum. -/
abbrev expertOps : List (HloOp τ sig (Elt F)) :=
  [ binary main_v9 main_arg0 main_v60 ((fun l r => Host.dotGeneral dot_S32x4096x512_S8704x4096_S32x512x8704_1_1_02_0_n_n none l r) : (⟨S32x4096x512, .f32⟩ : BufTy).Contents (Elt F) → (⟨S8704x4096, .f32⟩ : BufTy).Contents (Elt F) → (⟨S32x512x8704, .f32⟩ : BufTy).Contents (Elt F)),
    unary main_v60 main_v61 ((transpose S32x8704x512 [0, 2, 1] · transposes_S32x512x8704_S32x8704x512_0_2_1) : (⟨S32x512x8704, .f32⟩ : BufTy).Contents (Elt F) → (⟨S32x8704x512, .f32⟩ : BufTy).Contents (Elt F)),
    binary main_v11 main_arg0 main_v62 ((fun l r => Host.dotGeneral dot_S32x4096x512_S8704x4096_S32x512x8704_1_1_02_0_n_n none l r) : (⟨S32x4096x512, .f32⟩ : BufTy).Contents (Elt F) → (⟨S8704x4096, .f32⟩ : BufTy).Contents (Elt F) → (⟨S32x512x8704, .f32⟩ : BufTy).Contents (Elt F)),
    unary main_v62 main_v63 ((transpose S32x8704x512 [0, 2, 1] · transposes_S32x512x8704_S32x8704x512_0_2_1) : (⟨S32x512x8704, .f32⟩ : BufTy).Contents (Elt F) → (⟨S32x8704x512, .f32⟩ : BufTy).Contents (Elt F)),
    TRef.unary (TRef.of (T := ⟨S32x8704x512, .f32⟩) main_v61) (TRef.of (T := ⟨S32x8704x512, .f32⟩) main_call3_v0) Host.negf,
    TRef.unary (TRef.of (T := ⟨S32x8704x512, .f32⟩) main_call3_v0) (TRef.of (T := ⟨S32x8704x512, .f32⟩) main_call3_v1) Host.exp,
    TRef.nullary (TRef.of (T := ⟨S_, .f32⟩) main_call3_cst) (constant S_ .f32 0x3F800000#32),
    TRef.unary (TRef.of (T := ⟨S_, .f32⟩) main_call3_cst) (TRef.of (T := ⟨S32x8704x512, .f32⟩) main_call3_v2) (broadcastInDim S32x8704x512 ![] bcast_S_S32x8704x512),
    TRef.binary (TRef.of (T := ⟨S32x8704x512, .f32⟩) main_call3_v2) (TRef.of (T := ⟨S32x8704x512, .f32⟩) main_call3_v1) (TRef.of (T := ⟨S32x8704x512, .f32⟩) main_call3_v3) addf,
    TRef.nullary (TRef.of (T := ⟨S_, .f32⟩) main_call3_cst_0) (constant S_ .f32 0x3F800000#32),
    TRef.unary (TRef.of (T := ⟨S_, .f32⟩) main_call3_cst_0) (TRef.of (T := ⟨S32x8704x512, .f32⟩) main_call3_v4) (broadcastInDim S32x8704x512 ![] bcast_S_S32x8704x512),
    TRef.binary (TRef.of (T := ⟨S32x8704x512, .f32⟩) main_call3_v4) (TRef.of (T := ⟨S32x8704x512, .f32⟩) main_call3_v3) (TRef.of (T := ⟨S32x8704x512, .f32⟩) main_call3_v5) Host.divf,
    TRef.binary (TRef.of (T := ⟨S32x8704x512, .f32⟩) main_v61) (TRef.of (T := ⟨S32x8704x512, .f32⟩) main_call3_v5) (TRef.of (T := ⟨S32x8704x512, .f32⟩) main_v64) mulf,
    binary main_v64 main_v63 main_v65 (mulf : (⟨S32x8704x512, .f32⟩ : BufTy).Contents (Elt F) → (⟨S32x8704x512, .f32⟩ : BufTy).Contents (Elt F) → (⟨S32x8704x512, .f32⟩ : BufTy).Contents (Elt F)),
    unary main_v59 main_v66 ((transpose S32x8704 [1, 0] · transposes_S8704x32_S32x8704_1_0) : (⟨S8704x32, .f32⟩ : BufTy).Contents (Elt F) → (⟨S32x8704, .f32⟩ : BufTy).Contents (Elt F)),
    unary main_v66 main_v67 (broadcastInDim S32x8704x1 ![0, 1] bcast_S32x8704_S32x8704x1_0_1 : (⟨S32x8704, .f32⟩ : BufTy).Contents (Elt F) → (⟨S32x8704x1, .f32⟩ : BufTy).Contents (Elt F)),
    unary main_v67 main_v68 (broadcastInDim S32x8704x512 ![0, 1, 2] bcast_S32x8704x1_S32x8704x512_0_1_2 : (⟨S32x8704x1, .f32⟩ : BufTy).Contents (Elt F) → (⟨S32x8704x512, .f32⟩ : BufTy).Contents (Elt F)),
    binary main_v65 main_v68 main_v69 (mulf : (⟨S32x8704x512, .f32⟩ : BufTy).Contents (Elt F) → (⟨S32x8704x512, .f32⟩ : BufTy).Contents (Elt F) → (⟨S32x8704x512, .f32⟩ : BufTy).Contents (Elt F)),
    binary main_v69 main_v13 main_v70 ((fun l r => Host.dotGeneral dot_S32x8704x512_S32x512x4096_S8704x4096_02_01_1_2_n_n none l r) : (⟨S32x8704x512, .f32⟩ : BufTy).Contents (Elt F) → (⟨S32x512x4096, .f32⟩ : BufTy).Contents (Elt F) → (⟨S8704x4096, .f32⟩ : BufTy).Contents (Elt F)) ]

/-- Step of the reference: the residual and the layer norm. -/
abbrev normOps : List (HloOp τ sig (Elt F)) :=
  [ binary main_v15 main_v70 main_v71 (addf : (⟨S8704x4096, .f32⟩ : BufTy).Contents (Elt F) → (⟨S8704x4096, .f32⟩ : BufTy).Contents (Elt F) → (⟨S8704x4096, .f32⟩ : BufTy).Contents (Elt F)),
    unary main_arg8 main_v72 ((extractStridedSlice S1x4096 ![1, 0] · slices_S2x4096_S1x4096_1_0) : (⟨S2x4096, .f32⟩ : BufTy).Contents (Elt F) → (⟨S1x4096, .f32⟩ : BufTy).Contents (Elt F)),
    reshape main_v72 main_v73 (rfl : (.f32 : EltTy) = .f32) shapeCasts_S1x4096_S4096,
    unary main_arg9 main_v74 ((extractStridedSlice S1x4096 ![1, 0] · slices_S2x4096_S1x4096_1_0) : (⟨S2x4096, .f32⟩ : BufTy).Contents (Elt F) → (⟨S1x4096, .f32⟩ : BufTy).Contents (Elt F)),
    reshape main_v74 main_v75 (rfl : (.f32 : EltTy) = .f32) shapeCasts_S1x4096_S4096,
    nullary main_cst_7 (constant S_ .f32 0x00000000#32),
    binary main_v71 main_cst_7 main_v76 ((fun x v => Host.reduceAdd x v reducesTo_S8704x4096_S8704_d1 h_S_) : (⟨S8704x4096, .f32⟩ : BufTy).Contents (Elt F) → (⟨S_, .f32⟩ : BufTy).Contents (Elt F) → (⟨S8704, .f32⟩ : BufTy).Contents (Elt F)),
    unary main_v76 main_v77 (broadcastInDim S8704x1 ![0] bcast_S8704_S8704x1_0 : (⟨S8704, .f32⟩ : BufTy).Contents (Elt F) → (⟨S8704x1, .f32⟩ : BufTy).Contents (Elt F)),
    nullary main_cst_8 (constant S_ .f32 0x45800000#32),
    unary main_cst_8 main_v78 (broadcastInDim S8704x1 ![] bcast_S_S8704x1 : (⟨S_, .f32⟩ : BufTy).Contents (Elt F) → (⟨S8704x1, .f32⟩ : BufTy).Contents (Elt F)),
    binary main_v77 main_v78 main_v79 (Host.divf : (⟨S8704x1, .f32⟩ : BufTy).Contents (Elt F) → (⟨S8704x1, .f32⟩ : BufTy).Contents (Elt F) → (⟨S8704x1, .f32⟩ : BufTy).Contents (Elt F)),
    unary main_v79 main_v80 (broadcastInDim S8704x4096 ![0, 1] bcast_S8704x1_S8704x4096_0_1 : (⟨S8704x1, .f32⟩ : BufTy).Contents (Elt F) → (⟨S8704x4096, .f32⟩ : BufTy).Contents (Elt F)),
    binary main_v71 main_v80 main_v81 (subf : (⟨S8704x4096, .f32⟩ : BufTy).Contents (Elt F) → (⟨S8704x4096, .f32⟩ : BufTy).Contents (Elt F) → (⟨S8704x4096, .f32⟩ : BufTy).Contents (Elt F)),
    binary main_v81 main_v81 main_v82 (mulf : (⟨S8704x4096, .f32⟩ : BufTy).Contents (Elt F) → (⟨S8704x4096, .f32⟩ : BufTy).Contents (Elt F) → (⟨S8704x4096, .f32⟩ : BufTy).Contents (Elt F)),
    nullary main_cst_9 (constant S_ .f32 0x00000000#32),
    binary main_v82 main_cst_9 main_v83 ((fun x v => Host.reduceAdd x v reducesTo_S8704x4096_S8704_d1 h_S_) : (⟨S8704x4096, .f32⟩ : BufTy).Contents (Elt F) → (⟨S_, .f32⟩ : BufTy).Contents (Elt F) → (⟨S8704, .f32⟩ : BufTy).Contents (Elt F)),
    unary main_v83 main_v84 (broadcastInDim S8704x1 ![0] bcast_S8704_S8704x1_0 : (⟨S8704, .f32⟩ : BufTy).Contents (Elt F) → (⟨S8704x1, .f32⟩ : BufTy).Contents (Elt F)),
    nullary main_cst_10 (constant S_ .f32 0x45800000#32),
    unary main_cst_10 main_v85 (broadcastInDim S8704x1 ![] bcast_S_S8704x1 : (⟨S_, .f32⟩ : BufTy).Contents (Elt F) → (⟨S8704x1, .f32⟩ : BufTy).Contents (Elt F)),
    binary main_v84 main_v85 main_v86 (Host.divf : (⟨S8704x1, .f32⟩ : BufTy).Contents (Elt F) → (⟨S8704x1, .f32⟩ : BufTy).Contents (Elt F) → (⟨S8704x1, .f32⟩ : BufTy).Contents (Elt F)),
    unary main_v79 main_v87 (broadcastInDim S8704x4096 ![0, 1] bcast_S8704x1_S8704x4096_0_1 : (⟨S8704x1, .f32⟩ : BufTy).Contents (Elt F) → (⟨S8704x4096, .f32⟩ : BufTy).Contents (Elt F)),
    binary main_v71 main_v87 main_v88 (subf : (⟨S8704x4096, .f32⟩ : BufTy).Contents (Elt F) → (⟨S8704x4096, .f32⟩ : BufTy).Contents (Elt F) → (⟨S8704x4096, .f32⟩ : BufTy).Contents (Elt F)),
    nullary main_cst_11 (constant S_ .f32 0x3727C5AC#32),
    unary main_cst_11 main_v89 (broadcastInDim S8704x1 ![] bcast_S_S8704x1 : (⟨S_, .f32⟩ : BufTy).Contents (Elt F) → (⟨S8704x1, .f32⟩ : BufTy).Contents (Elt F)),
    binary main_v86 main_v89 main_v90 (addf : (⟨S8704x1, .f32⟩ : BufTy).Contents (Elt F) → (⟨S8704x1, .f32⟩ : BufTy).Contents (Elt F) → (⟨S8704x1, .f32⟩ : BufTy).Contents (Elt F)),
    unary main_v90 main_v91 (Host.rsqrt : (⟨S8704x1, .f32⟩ : BufTy).Contents (Elt F) → (⟨S8704x1, .f32⟩ : BufTy).Contents (Elt F)),
    unary main_v91 main_v92 (broadcastInDim S8704x4096 ![0, 1] bcast_S8704x1_S8704x4096_0_1 : (⟨S8704x1, .f32⟩ : BufTy).Contents (Elt F) → (⟨S8704x4096, .f32⟩ : BufTy).Contents (Elt F)),
    binary main_v88 main_v92 main_v93 (mulf : (⟨S8704x4096, .f32⟩ : BufTy).Contents (Elt F) → (⟨S8704x4096, .f32⟩ : BufTy).Contents (Elt F) → (⟨S8704x4096, .f32⟩ : BufTy).Contents (Elt F)),
    unary main_v73 main_v94 (broadcastInDim S1x4096 ![1] bcast_S4096_S1x4096_1 : (⟨S4096, .f32⟩ : BufTy).Contents (Elt F) → (⟨S1x4096, .f32⟩ : BufTy).Contents (Elt F)),
    unary main_v94 main_v95 (broadcastInDim S8704x4096 ![0, 1] bcast_S1x4096_S8704x4096_0_1 : (⟨S1x4096, .f32⟩ : BufTy).Contents (Elt F) → (⟨S8704x4096, .f32⟩ : BufTy).Contents (Elt F)),
    binary main_v93 main_v95 main_v96 (mulf : (⟨S8704x4096, .f32⟩ : BufTy).Contents (Elt F) → (⟨S8704x4096, .f32⟩ : BufTy).Contents (Elt F) → (⟨S8704x4096, .f32⟩ : BufTy).Contents (Elt F)),
    unary main_v75 main_v97 (broadcastInDim S1x4096 ![1] bcast_S4096_S1x4096_1 : (⟨S4096, .f32⟩ : BufTy).Contents (Elt F) → (⟨S1x4096, .f32⟩ : BufTy).Contents (Elt F)),
    unary main_v97 main_v98 (broadcastInDim S8704x4096 ![0, 1] bcast_S1x4096_S8704x4096_0_1 : (⟨S1x4096, .f32⟩ : BufTy).Contents (Elt F) → (⟨S8704x4096, .f32⟩ : BufTy).Contents (Elt F)),
    binary main_v96 main_v98 main_v99 (addf : (⟨S8704x4096, .f32⟩ : BufTy).Contents (Elt F) → (⟨S8704x4096, .f32⟩ : BufTy).Contents (Elt F) → (⟨S8704x4096, .f32⟩ : BufTy).Contents (Elt F)) ]

/-- All of the reference. -/
abbrev ops : List (HloOp τ sig (Elt F)) :=
  logitOps ++ (argOps ++ (weightOps ++ (innerOps ++ (pickOps ++ (gateOps ++ (combineOps ++ (expertOps ++ (normOps))))))))

set_option maxRecDepth 8192 in
set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem forall_append {α : Type*} {p : α → Prop} {l k : List α} (h : l.Forall p) (h' : k.Forall p) : (l ++ k).Forall p :=
  List.forall_iff_forall_mem.2 fun x hx => (List.mem_append.1 hx).elim (List.forall_iff_forall_mem.1 h x) (List.forall_iff_forall_mem.1 h' x)

theorem logitOps_sub : (logitOps : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., binary_bufs_sub .., unary_bufs_sub .., unary_bufs_sub .., binary_bufs_sub ..⟩

theorem logitOps_fresh : (logitOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

theorem argOps_sub : (argOps : List (HloOp τ sig (Elt F))).Forall fun op => op.bufs ⊆ tcRefs τ sig :=
  ⟨nullary_bufs_sub .., nullary_bufs_sub .., nullary_bufs_sub .., quaternary_bufs_sub .., quaternary_bufs_sub ..⟩

theorem argOps_fresh : (argOps : List (HloOp τ sig (Elt F))).Forall fun op => op.fresh = ∅ :=
  ⟨rfl, rfl, rfl, rfl, rfl⟩

theorem weightOps_sub : (weightOps : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., binary_bufs_sub ..⟩

theorem weightOps_fresh : (weightOps : List (HloOp τ sig (Elt F))).Forall fun op => op.fresh = ∅ :=
  ⟨rfl, rfl, rfl, rfl, rfl, rfl, rfl, rfl, rfl, rfl, rfl, rfl, rfl, rfl, rfl, rfl⟩

theorem innerOps_sub : (innerOps : List (HloOp τ sig (Elt F))).Forall fun op => op.bufs ⊆ tcRefs τ sig :=
  ⟨binary_bufs_sub .., unary_bufs_sub .., unary_bufs_sub .., binary_bufs_sub ..⟩

theorem innerOps_fresh : (innerOps : List (HloOp τ sig (Elt F))).Forall fun op => op.fresh = ∅ :=
  ⟨rfl, rfl, rfl, rfl⟩

theorem pickOps_sub : (pickOps : List (HloOp τ sig (Elt F))).Forall fun op => op.bufs ⊆ tcRefs τ sig :=
  ⟨unary_bufs_sub .., nullary_bufs_sub .., unary_bufs_sub .., unary_bufs_sub .., binary_bufs_sub .., unary_bufs_sub .., binary_bufs_sub .., unary_bufs_sub .., unary_bufs_sub ..⟩

theorem pickOps_fresh : (pickOps : List (HloOp τ sig (Elt F))).Forall fun op => op.fresh = ∅ :=
  ⟨rfl, rfl, rfl, rfl, rfl, rfl, rfl, rfl, rfl⟩

theorem gateOps_sub : (gateOps : List (HloOp τ sig (Elt F))).Forall fun op => op.bufs ⊆ tcRefs τ sig :=
  ⟨unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., unary_bufs_sub .., nullary_bufs_sub .., unary_bufs_sub .., binary_bufs_sub .., unary_bufs_sub .., binary_bufs_sub ..⟩

theorem gateOps_fresh : (gateOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

theorem combineOps_sub : (combineOps : List (HloOp τ sig (Elt F))).Forall fun op => op.bufs ⊆ tcRefs τ sig :=
  ⟨unary_bufs_sub .., nullary_bufs_sub .., unary_bufs_sub .., unary_bufs_sub .., binary_bufs_sub .., unary_bufs_sub .., binary_bufs_sub ..⟩

theorem combineOps_fresh : (combineOps : List (HloOp τ sig (Elt F))).Forall fun op => op.fresh = ∅ :=
  ⟨rfl, rfl, rfl, rfl, rfl, rfl, rfl⟩

theorem expertOps_sub : (expertOps : List (HloOp τ sig (Elt F))).Forall fun op => op.bufs ⊆ tcRefs τ sig :=
  ⟨binary_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., unary_bufs_sub .., binary_bufs_sub .., binary_bufs_sub ..⟩

theorem expertOps_fresh : (expertOps : List (HloOp τ sig (Elt F))).Forall fun op => op.fresh = ∅ :=
  ⟨rfl, rfl, rfl, rfl, rfl, rfl, rfl, rfl, rfl, rfl, rfl, rfl, rfl, rfl, rfl, rfl, rfl, rfl, rfl⟩

theorem normOps_sub : (normOps : List (HloOp τ sig (Elt F))).Forall fun op => op.bufs ⊆ tcRefs τ sig :=
  ⟨binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

theorem normOps_fresh : (normOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_sub : (ops : List (HloOp τ sig (Elt F))).Forall fun op => op.bufs ⊆ tcRefs τ sig :=
  forall_append logitOps_sub (forall_append argOps_sub (forall_append weightOps_sub (forall_append innerOps_sub (forall_append pickOps_sub (forall_append gateOps_sub (forall_append combineOps_sub (forall_append expertOps_sub (normOps_sub))))))))

theorem ops_fresh : (ops : List (HloOp τ sig (Elt F))).Forall fun op => op.fresh = ∅ :=
  forall_append logitOps_fresh (forall_append argOps_fresh (forall_append weightOps_fresh (forall_append innerOps_fresh (forall_append pickOps_fresh (forall_append gateOps_fresh (forall_append combineOps_fresh (forall_append expertOps_fresh (normOps_fresh))))))))

/-- The run: every buffer ends at what the operations leave there, and nothing is counted. -/
theorem run (m : (ℓ : Loc nD τ sig) → Buf (Elt F) ℓ) (ρ : Dev nD → PrngReg) :
    θ_run defs (onTc (τ := τ) (main (F := F))) ⟨m, fun _ => 0, ρ⟩ fun r =>
      (∀ (c : Dev nD) (b : Ref sig .tc), r.2.mem ((c.tc : Thread nD τ).loc b) = after ops (launchContents m c) (Proc.devRef .tc b))
        ∧ r.2.sem = fun _ => 0 :=
  (θ_run defs _ _).mono (fun r h => ⟨h, funext fun s => by obtain ⟨c, s⟩ := s; cases s <;> (rename_i k; exact k.elim0)⟩)
    (run_seq scopedRefs_eq scopedSems_eq defs main (fun _ => ops) main_eq (fun _ => ops_sub) m ρ
      (fun _ => List.forall_iff_forall_mem.1 ops_fresh))

/-- What `logitOps` writes. -/
abbrev logitOps_W : List (Ref sig .tc) := [main_v0, main_v1, main_v2, main_v3, main_v4, main_v5, main_v6, main_v7, main_v8, main_v9, main_v10, main_v11, main_v12, main_v13, main_cst, main_v14, main_v15, main_v16, main_v17, main_v18, main_v19]
theorem logitOps_keeps (V : Valuation τ sig (Elt F)) (r : Ref sig .tc) (h : r ∉ logitOps_W) : after logitOps V (Proc.devRef .tc r) = V (Proc.devRef .tc r) :=
  after_of_writes_sub _ V (forall_writes_sub_of_map (W := logitOps_W) rfl) h

/-- What `argOps` writes. -/
abbrev argOps_W : List (Ref sig .tc) := [main_call0_v0, main_call0_cst, main_call0_c, main_call0_v1_0, main_v20]
theorem argOps_keeps (V : Valuation τ sig (Elt F)) (r : Ref sig .tc) (h : r ∉ argOps_W) : after argOps V (Proc.devRef .tc r) = V (Proc.devRef .tc r) :=
  after_of_writes_sub _ V (forall_writes_sub_of_map (W := argOps_W) rfl) h

/-- What `weightOps` writes. -/
abbrev weightOps_W : List (Ref sig .tc) := [main_cst_0, main_v21, main_cst_1, main_v22, main_v23, main_v24, main_v25, main_v26, main_v27, main_cst_2, main_v28, main_v29, main_v30, main_v31, main_cst_3, main_v32]
theorem weightOps_keeps (V : Valuation τ sig (Elt F)) (r : Ref sig .tc) (h : r ∉ weightOps_W) : after weightOps V (Proc.devRef .tc r) = V (Proc.devRef .tc r) :=
  after_of_writes_sub _ V (forall_writes_sub_of_map (W := weightOps_W) rfl) h

/-- What `innerOps` writes. -/
abbrev innerOps_W : List (Ref sig .tc) := [main_v33, main_v34, main_v35, main_v36]
theorem innerOps_keeps (V : Valuation τ sig (Elt F)) (r : Ref sig .tc) (h : r ∉ innerOps_W) : after innerOps V (Proc.devRef .tc r) = V (Proc.devRef .tc r) :=
  after_of_writes_sub _ V (forall_writes_sub_of_map (W := innerOps_W) rfl) h

/-- What `pickOps` writes. -/
abbrev pickOps_W : List (Ref sig .tc) := [main_call1_v0, main_call1_v1, main_call1_v2, main_call1_v3, main_call1_v4, main_v37, main_v38, main_values, main_indices]
theorem pickOps_keeps (V : Valuation τ sig (Elt F)) (r : Ref sig .tc) (h : r ∉ pickOps_W) : after pickOps V (Proc.devRef .tc r) = V (Proc.devRef .tc r) :=
  after_of_writes_sub _ V (forall_writes_sub_of_map (W := pickOps_W) rfl) h

/-- What `gateOps` writes. -/
abbrev gateOps_W : List (Ref sig .tc) := [main_v39, main_cst_4, main_v40, main_cst_5, main_v41, main_v42, main_v43, main_v44, main_v45, main_v46, main_cst_6, main_v47, main_v48, main_v49, main_v50, main_v51, main_v52, main_v53, main_c, main_v54, main_v55, main_v56, main_v57]
theorem gateOps_keeps (V : Valuation τ sig (Elt F)) (r : Ref sig .tc) (h : r ∉ gateOps_W) : after gateOps V (Proc.devRef .tc r) = V (Proc.devRef .tc r) :=
  after_of_writes_sub _ V (forall_writes_sub_of_map (W := gateOps_W) rfl) h

/-- What `combineOps` writes. -/
abbrev combineOps_W : List (Ref sig .tc) := [main_call2_v0, main_call2_v1, main_call2_v2, main_call2_v3, main_call2_v4, main_v58, main_v59]
theorem combineOps_keeps (V : Valuation τ sig (Elt F)) (r : Ref sig .tc) (h : r ∉ combineOps_W) : after combineOps V (Proc.devRef .tc r) = V (Proc.devRef .tc r) :=
  after_of_writes_sub _ V (forall_writes_sub_of_map (W := combineOps_W) rfl) h

/-- What `expertOps` writes. -/
abbrev expertOps_W : List (Ref sig .tc) := [main_v60, main_v61, main_v62, main_v63, main_call3_v0, main_call3_v1, main_call3_cst, main_call3_v2, main_call3_v3, main_call3_cst_0, main_call3_v4, main_call3_v5, main_v64, main_v65, main_v66, main_v67, main_v68, main_v69, main_v70]
theorem expertOps_keeps (V : Valuation τ sig (Elt F)) (r : Ref sig .tc) (h : r ∉ expertOps_W) : after expertOps V (Proc.devRef .tc r) = V (Proc.devRef .tc r) :=
  after_of_writes_sub _ V (forall_writes_sub_of_map (W := expertOps_W) rfl) h

/-- What `normOps` writes. -/
abbrev normOps_W : List (Ref sig .tc) := [main_v71, main_v72, main_v73, main_v74, main_v75, main_cst_7, main_v76, main_v77, main_cst_8, main_v78, main_v79, main_v80, main_v81, main_v82, main_cst_9, main_v83, main_v84, main_cst_10, main_v85, main_v86, main_v87, main_v88, main_cst_11, main_v89, main_v90, main_v91, main_v92, main_v93, main_v94, main_v95, main_v96, main_v97, main_v98, main_v99]
theorem normOps_keeps (V : Valuation τ sig (Elt F)) (r : Ref sig .tc) (h : r ∉ normOps_W) : after normOps V (Proc.devRef .tc r) = V (Proc.devRef .tc r) :=
  after_of_writes_sub _ V (forall_writes_sub_of_map (W := normOps_W) rfl) h

/-- What the steps write. -/
abbrev ops_W : List (Ref sig .tc) := logitOps_W ++ (argOps_W ++ (weightOps_W ++ (innerOps_W ++ (pickOps_W ++ (gateOps_W ++ (combineOps_W ++ (expertOps_W ++ (normOps_W))))))))

/-- A buffer no step writes is kept: the arguments among them. -/
theorem ops_keeps (V : Valuation τ sig (Elt F)) (r : Ref sig .tc) (h : r ∉ ops_W) :
    after ops V (Proc.devRef .tc r) = V (Proc.devRef .tc r) :=
  after_of_writes_sub _ V (forall_writes_sub_of_map (W := ops_W) rfl) h

end Cert.MoE.Ref

end
-- ==== Proof.Layer.lean ====
/-
  The layer's arithmetic over the extended reals, row by row: an expert's hidden row, its output, the normalized residual.
-/
module

public import Idealize.ShloMosaic.Lib.Pointwise

@[expose] public section

noncomputable section

namespace Cert.MoE

open Idealize.ShloMosaic

/-- Sums and products of extended reals, by name. -/
def plus (a b : EReal) : EReal := a + b
def times (a b : EReal) : EReal := a * b

/-- A logit: a row against a column, and the bias. -/
def logit (x w : Fin 4096 → EReal) (b : EReal) : EReal := ∑ k, x k * w k + b

/-- Below every real: the word a maximum starts from. -/
def low : EReal := Ideal.ofBits FTy.f32 0xFF800000#32

/-- Entry `s` of a softmax. -/
def soft {n : ℕ} (v : Fin n → EReal) (s : Fin n) : EReal :=
  Ideal.div (Ideal.exp (v s - max low (Finset.fold max low v Finset.univ)))
    (∑ x, Ideal.exp (v x - max low (Finset.fold max low v Finset.univ)))

/-- The weight of the chosen group: the largest entry of the softmax. -/
def weight (v : Fin 4 → EReal) : EReal := Finset.fold max low (soft v) Finset.univ

/-- Entry `f` of one expert's hidden row. -/
def hidden (x : Fin 4096 → EReal) (wg wu : Fin 4096 → Fin 512 → EReal) (f : Fin 512) : EReal :=
  (∑ k, x k * wg k f) * Ideal.div 1 (1 + Ideal.exp (-∑ k, x k * wg k f)) * ∑ k, x k * wu k f

theorem hidden_comm (x : Fin 4096 → EReal) (wg wu : Fin 4096 → Fin 512 → EReal) (f : Fin 512) :
    (∑ k, wg k f * x k) * Ideal.div 1 (1 + Ideal.exp (-∑ k, wg k f * x k)) * ∑ k, wu k f * x k = hidden x wg wu f := by
  unfold hidden
  simp only [mul_comm (x _)]

/-- Entry `k` of one expert's weighted output. -/
def output (h : Fin 512 → EReal) (gate : EReal) (wd : Fin 512 → Fin 4096 → EReal) (k : Fin 4096) : EReal :=
  ∑ f, h f * gate * wd f k

/-- The mean of a row. -/
def mean (y : Fin 4096 → EReal) : EReal := Ideal.div (∑ k, y k) (Ideal.ofBits FTy.f32 0x45800000#32)

/-- The normalized row. -/
def normed (y g b : Fin 4096 → EReal) (k : Fin 4096) : EReal :=
  (y k - mean y) * Ideal.rsqrt (mean (fun k => (y k - mean y) * (y k - mean y)) + Ideal.ofBits FTy.f32 0x3727C5AC#32) * g k + b k

/-- The scaled residual. -/
def scaled (x : EReal) : EReal := Ideal.ofBits FTy.f32 0x3FB504F3#32 * x

/-! ## Rows with an infinite entry -/

theorem infinite_sub (v : EReal) {M : EReal} (h : M = ⊤ ∨ M = ⊥) : v - M = ⊤ ∨ v - M = ⊥ := by
  rcases h with rfl | rfl
  · exact Or.inr (by rw [sub_eq_add_neg, EReal.neg_top, EReal.add_bot])
  · rw [sub_eq_add_neg, EReal.neg_bot]
    induction v with
    | bot => exact Or.inr rfl
    | coe r => exact Or.inl rfl
    | top => exact Or.inl rfl

theorem infinite_add {u : EReal} (h : u = ⊤ ∨ u = ⊥) (v : EReal) : u + v = ⊤ ∨ u + v = ⊥ := by
  rcases h with rfl | rfl
  · rw [add_comm, ← EReal.neg_bot, ← sub_eq_add_neg]
    exact infinite_sub v (Or.inr rfl)
  · exact Or.inr (EReal.bot_add v)

theorem infinite_sum {y : Fin 4096 → EReal} {i : Fin 4096} (h : y i = ⊤ ∨ y i = ⊥) : ∑ k, y k = ⊤ ∨ ∑ k, y k = ⊥ := by
  rw [← Finset.add_sum_erase Finset.univ y (Finset.mem_univ i)]
  exact infinite_add h _

theorem row_length : Ideal.ofBits FTy.f32 0x45800000#32 = ((4096 : ℝ) : EReal) := by
  simp [Ideal.ofBits, Ideal.ieee]
  rw [← EReal.coe_mul]
  exact congrArg Real.toEReal (by norm_num)

theorem mean_top {y : Fin 4096 → EReal} (h : ∑ k, y k = ⊤) : mean y = ⊤ := by
  unfold mean Ideal.div
  rw [h, row_length, if_neg (by norm_num), ← EReal.coe_inv]
  exact EReal.top_mul_coe_of_pos (by norm_num)

theorem mean_bot {y : Fin 4096 → EReal} (h : ∑ k, y k = ⊥) : mean y = ⊥ := by
  unfold mean Ideal.div
  rw [h, row_length, if_neg (by norm_num), ← EReal.coe_inv]
  exact EReal.bot_mul_coe_of_pos (by norm_num)

/-- An infinite entry in a row leaves every normalized entry the shift alone: the mean is infinite, so is every deviation, and the
reciprocal of the root of their mean square is zero. -/
theorem normed_infinite (y g b : Fin 4096 → EReal) (i : Fin 4096) (hi : y i = ⊤ ∨ y i = ⊥) (k : Fin 4096) : normed y g b k = b k := by
  have hm : mean y = ⊤ ∨ mean y = ⊥ := (infinite_sum hi).imp mean_top mean_bot
  have hs : ∀ k, (y k - mean y) * (y k - mean y) = ⊤ := fun k => by
    rcases infinite_sub (y k) hm with e | e <;> rw [e] <;> rfl
  have hv : mean (fun k => (y k - mean y) * (y k - mean y)) = ⊤ := by
    refine mean_top ?_
    rcases infinite_sum (y := fun k => (y k - mean y) * (y k - mean y)) (i := i) (Or.inl (hs i)) with e | e
    · exact e
    · refine absurd e (ne_of_gt (lt_of_lt_of_le EReal.bot_lt_zero (Finset.sum_nonneg fun k _ => ?_)))
      rw [hs k]; exact le_top
  have he : (⊤ : EReal) + Ideal.ofBits FTy.f32 0x3727C5AC#32 = ⊤ := by
    refine EReal.top_add_of_ne_bot ?_
    simp [Ideal.ofBits, Ideal.ieee]
    exact EReal.coe_ne_bot _
  unfold normed
  rw [hv, he, show Ideal.rsqrt ⊤ = 0 from rfl, mul_zero, zero_mul, zero_add]

theorem infinite_of {x : EReal} (h : ¬ x - x = 0) : x = ⊤ ∨ x = ⊥ := by
  by_contra hn
  rw [not_or] at hn
  exact h (EReal.sub_self hn.1 hn.2)

theorem scaled_infinite {x : EReal} (h : x = ⊤ ∨ x = ⊥) : scaled x = ⊤ ∨ scaled x = ⊥ := by
  have hc : (0 : EReal) < Ideal.ofBits FTy.f32 0x3FB504F3#32 := by
    simp [Ideal.ofBits, Ideal.ieee]
    exact_mod_cast (by norm_num : (0 : ℝ) < 11863283 * (2 ^ 23)⁻¹)
  unfold scaled
  exact h.imp (fun e => by rw [e]; exact EReal.mul_top_of_pos hc) (fun e => by rw [e]; exact EReal.mul_bot_of_pos hc)

/-- Weighted outputs of all experts, when only two of them have weight: the two outputs. -/
theorem sum_two (h : Fin 32 → Fin 512 → EReal) (wd : Fin 32 → Fin 512 → EReal) (c : Fin 32 → EReal) (e₀ e₁ : Fin 32) (hne : e₀ ≠ e₁)
    (h0 : ∀ e, e ≠ e₀ → e ≠ e₁ → c e = 0) :
    ∑ e, ∑ f, h e f * c e * wd e f = ∑ f, h e₀ f * c e₀ * wd e₀ f + ∑ f, h e₁ f * c e₁ * wd e₁ f := by
  rw [← Finset.sum_pair (f := fun e => ∑ f, h e f * c e * wd e f) hne]
  refine (Finset.sum_subset (Finset.subset_univ _) fun e _ he => ?_).symm
  simp only [Finset.mem_insert, Finset.mem_singleton, not_or] at he
  simp only [h0 e he.1 he.2, mul_zero, zero_mul, Finset.sum_const_zero]

/-- A one-hot sum: the entry at the hot place. -/
theorem sum_hot {n : ℕ} (x : Fin n → EReal) (p : Fin n) (d : Fin n → EReal) (hp : d p = 1) (h0 : ∀ i, i ≠ p → d i = 0) : ∑ i, x i * d i = x p := by
  rw [Finset.sum_eq_single p (fun i _ hi => by rw [h0 i hi, mul_zero]) (fun h => absurd (Finset.mem_univ p) h), hp, mul_one]

/-- The hot entry of an indicator word. -/
theorem hot_one (v w : BitVec 32) (h : v = w) : (FloatOps.uitofp FTy.f32 (IntOp.cmpi .eq v w) : Ideal .f32) = (1 : EReal) := by
  subst h
  rw [show IntOp.cmpi .eq v v = 1#1 from by simp [IntOp.cmpi]]
  simp [FloatOps.uitofp]
theorem hot_zero (v w : BitVec 32) (h : v ≠ w) : (FloatOps.uitofp FTy.f32 (IntOp.cmpi .eq v w) : Ideal .f32) = (0 : EReal) := by
  rw [show IntOp.cmpi .eq v w = 0#1 from by show BitVec.ofBool (v == w) = _; rw [beq_false_of_ne h]; rfl]
  simp [FloatOps.uitofp]

end Cert.MoE

end
-- ==== Proof.Picks.lean ====
/-
  The choices a router makes, read at an index: the position of the largest logit, the positions of the two largest, the row of a
  batch that a table of indices picks, and the words of the expert numbers.
-/
module

public import proofs.«01_k».proof.Proof.Gen.KernelIdeal
public import Idealize.ShloMosaic.Lib.Pointwise
public import Idealize.ShloMosaic.Lib.SortFacts
public import Idealize.ShloMosaic.Lib.StableHlo.Predicate

@[expose] public section

noncomputable section

namespace Cert.MoE

open Cert.KernelIdeal Cert.KernelIdeal.Gen
open Idealize.ShloMosaic

/-- The position of the largest entry of every row. -/
def argmax (x : FVec Ideal S8704x4 .f32) : IVec S8704 32 := fun j =>
  (Host.argReduce reducer_argmax_f32_i32 x (iotaInDim S8704x4 32 1) (constant S_ .f32 0xFF800000#32) (constantI S_ 32 0#32)
    reducesTo_S8704x4_S8704_d1 h_S_ j).2

theorem foldl_second {α : Type} (P : BitVec 32 → Prop) (f : α × BitVec 32 → α × BitVec 32 → α × BitVec 32)
    (hf : ∀ a b, P a.2 → P b.2 → P (f a b).2) (l : List (α × BitVec 32)) (hl : ∀ p ∈ l, P p.2) (z : α × BitVec 32) (hz : P z.2) :
    P (l.foldl f z).2 := by
  induction l generalizing z with
  | nil => exact hz
  | cons p l ih =>
    exact ih (fun q hq => hl q (List.mem_cons_of_mem _ hq)) _ (hf _ _ hz (hl p List.mem_cons_self))

theorem argmax_lt (x : FVec Ideal S8704x4 .f32) (n : Fin 8704) : ∃ g : Fin 4, argmax x (ix1 n) = BitVec.ofNat 32 g.val := by
  unfold argmax
  rw [Ideal.argReduce_eq_reduce2, Host.reduce2_eq_foldl_fiber]
  refine foldl_second (fun w => ∃ g : Fin 4, w = BitVec.ofNat 32 g.val) _ (fun a b ha hb => ?_) _ (fun p hp => ?_) _ ⟨0, rfl⟩
  · show ∃ g : Fin 4, Scalar.select _ a.2 b.2 = BitVec.ofNat 32 g.val
    unfold Scalar.select
    split
    · exact ha
    · exact hb
  · unfold Host.argReduceFiber at hp
    obtain ⟨i, -, rfl⟩ := List.mem_map.1 hp
    exact ⟨_, rfl⟩

/-- The position of the largest entry of a row depends on the row alone. -/
theorem argmax_row (x y : FVec Ideal S8704x4 .f32) (n : Fin 8704) (h : ∀ g, x (ix2 n g) = y (ix2 n g)) : argmax x (ix1 n) = argmax y (ix1 n) := by
  unfold argmax
  rw [Ideal.argReduce_eq_reduce2, Ideal.argReduce_eq_reduce2, Host.reduce2_eq_foldl_fiber, Host.reduce2_eq_foldl_fiber]
  refine congrArg (fun l => (List.foldl reducer_argmax_f32_i32 _ l).2) ?_
  unfold Host.argReduceFiber
  refine List.map_congr_left fun i hi => Prod.ext ?_ rfl
  have e := congrFun (of_decide_eq_true (List.mem_filter.1 hi).2) 0
  have e0 : (S8704x4.rowMajor.symm i) 0 = n := e
  show x (S8704x4.rowMajor.symm i) = y (S8704x4.rowMajor.symm i)
  rw [eq_ix2 (S8704x4.rowMajor.symm i), e0]
  exact h _

/-- The order of a row. -/
def order {α : Type} {b : ℕ} (gt : α → α → BitVec 1) (v : Fin b → α) : Fin b → Fin b := sortedFrom fun k k' => gt (v k) (v k') == 1#1

/-- The two largest entries of a row and their positions are the first two of its order. -/
theorem top_reads {α : Type} {a b : ℕ} (hb : 2 ≤ b) (gt : α → α → BitVec 1) (x : (⟨2, ![a, b]⟩ : Shape).Idx → α)
    (h : (⟨2, ![a, b]⟩ : Shape).Slices (fun _ => 0) ⟨2, ![a, 2]⟩) (n : Fin a) (s : Fin 2) :
    (Host.topK ⟨2, ![a, 2]⟩ 1 gt x h).1 (ix2 n s) = x (ix2 n (order gt (fun k => x (ix2 n k)) (s.castLE hb)))
      ∧ (Host.topK ⟨2, ![a, 2]⟩ 1 gt x h).2 (ix2 n s) = BitVec.ofNat 32 (order gt (fun k => x (ix2 n k)) (s.castLE hb)).val := by
  have hd : 1 < (⟨2, ![a, b]⟩ : Shape).rank := Nat.lt_succ_self 1
  have e : ∀ (j : (⟨2, ![a, b]⟩ : Shape).Idx) (c : Fin b) (_ : j 0 = n), j.along (⟨1, hd⟩ : Fin (⟨2, ![a, b]⟩ : Shape).rank) c = ix2 n c := by
    intro j c hj
    funext q
    match q with
    | ⟨0, _⟩ => exact (Function.update_of_ne (fun h => absurd (congrArg Fin.val h) Nat.zero_ne_one) _ _).trans hj
    | ⟨1, _⟩ => exact Function.update_self ..
  have o : ∀ (j : (⟨2, ![a, b]⟩ : Shape).Idx) (u : Fin b) (_ : j 0 = n) (_ : u = s.castLE hb),
      sortedFrom (n := b) (fun k k' => gt (x (j.along (⟨1, hd⟩ : Fin (⟨2, ![a, b]⟩ : Shape).rank) k)) (x (j.along (⟨1, hd⟩ : Fin (⟨2, ![a, b]⟩ : Shape).rank) k')) == 1#1) u
        = order gt (fun k => x (ix2 n k)) (s.castLE hb) := by
    intro j u hj hu
    subst hu
    unfold order
    congr 1
    funext u v
    rw [e j u hj, e j v hj]
  unfold Host.topK extractStridedSlice Host.sort2
  dsimp only
  rw [dif_pos hd]
  refine ⟨?_, ?_⟩
  · refine congrArg x ((e _ _ (Fin.ext (Nat.zero_add n.val))).trans (congrArg (ix2 n) ?_))
    exact o _ _ (Fin.ext (Nat.zero_add n.val)) (Fin.ext (Nat.zero_add s.val))
  · show (if hd : 1 < (⟨2, ![a, b]⟩ : Shape).rank then iotaInDim (⟨2, ![a, b]⟩ : Shape) 32 ⟨1, hd⟩ (Shape.Idx.along _ _ _) else 0#32) = _
    rw [dif_pos hd]
    refine (congrArg (iotaInDim (⟨2, ![a, b]⟩ : Shape) 32 ⟨1, hd⟩) (e _ _ (Fin.ext (Nat.zero_add n.val)))).trans ?_
    show BitVec.ofNat 32 (Fin.val _) = _
    exact congrArg (fun q : Fin b => BitVec.ofNat 32 q.val) (o _ _ (Fin.ext (Nat.zero_add n.val)) (Fin.ext (Nat.zero_add s.val)))

/-- The positions of the two largest entries of a row are two positions of the row. -/
theorem top_index {α : Type} {a b : ℕ} (hb : 2 ≤ b) (gt : α → α → BitVec 1) (x : (⟨2, ![a, b]⟩ : Shape).Idx → α)
    (h : (⟨2, ![a, b]⟩ : Shape).Slices (fun _ => 0) ⟨2, ![a, 2]⟩) (n : Fin a) :
    ∃ π : Fin 2 → Fin b, Function.Injective π ∧
      ∀ s : Fin 2, (Host.topK ⟨2, ![a, 2]⟩ 1 gt x h).2 (ix2 n s) = BitVec.ofNat 32 (π s).val :=
  ⟨fun s => order gt (fun k => x (ix2 n k)) (s.castLE hb), fun _ _ hst => Fin.castLE_injective hb (sortedFrom_injective _ hst),
    fun s => (top_reads hb gt x h n s).2⟩

/-- The two largest logits and where they are. -/
def top (x : FVec Ideal S8704x8 .f32) : FVec Ideal S8704x2 .f32 × IVec S8704x2 32 :=
  Host.topK S8704x2 1 (FloatOps.cmpfTotal .gt) x sliceFits_S8704x8_S8704x2

theorem top_at (x : FVec Ideal S8704x8 .f32) (n : Fin 8704) :
    ∃ π : Fin 2 → Fin 8, Function.Injective π ∧ ∀ s : Fin 2, (top x).2 (ix2 n s) = BitVec.ofNat 32 (π s).val :=
  top_index (by decide) (FloatOps.cmpfTotal .gt) x sliceFits_S8704x8_S8704x2 n

/-- The two largest logits of a row and where they are depend on the row alone. -/
theorem top_row (x y : FVec Ideal S8704x8 .f32) (n : Fin 8704) (h : ∀ i, x (ix2 n i) = y (ix2 n i)) (s : Fin 2) :
    (top x).1 (ix2 n s) = (top y).1 (ix2 n s) ∧ (top x).2 (ix2 n s) = (top y).2 (ix2 n s) := by
  have p := top_reads (by decide) (FloatOps.cmpfTotal (F := Ideal) (φ := .f32) .gt) x sliceFits_S8704x8_S8704x2 n s
  have q := top_reads (by decide) (FloatOps.cmpfTotal (F := Ideal) (φ := .f32) .gt) y sliceFits_S8704x8_S8704x2 n s
  rw [funext h, h] at p
  exact ⟨p.1.trans q.1.symm, p.2.trans q.2.symm⟩

/-- One row of a batch entry, picked by a word that holds the row's number. -/
theorem gather_batch {α : Type} {N A B : ℕ} (d : GatherDims ⟨3, ![N, A, B]⟩ ⟨3, ![N, 1, 1]⟩ ⟨3, ![N, 1, B]⟩) (hoff : d.offsetDims = [2])
    (hcoll : d.collapsedSliceDims = [1]) (hob : d.operandBatchingDims = [0]) (hsb : d.startIndicesBatchingDims = [0])
    (hsim : d.startIndexMap = [1]) (hivd : d.indexVectorDim = 2) (x : (⟨3, ![N, A, B]⟩ : Shape).Idx → α) (idx : IVec ⟨3, ![N, 1, 1]⟩ 32)
    (n : Fin N) (i : Fin B) (g : Fin A) (hg : idx (ix3 n 0 0) = BitVec.ofNat 32 g.val) (hA : A < 2 ^ 31) :
    Host.gather d x idx (ix3 n 0 i) = x (ix3 n g i) := by
  have hsl : d.sliceSizes 1 = 1 := d.slice_collapsed 1 (by rw [hcoll]; exact List.mem_singleton.2 rfl)
  obtain ⟨od, cd, bd, sd, sm, iv, ss, wf⟩ := d
  subst hoff hcoll hob hsb hsim hivd
  unfold Host.gather
  refine congrArg x (funext fun a => Fin.ext ?_)
  match a with
  | ⟨0, _⟩ =>
    show GatherDims.start _ _ idx 0 + GatherDims.batchCoord _ _ 0 + GatherDims.offCoord _ _ 0 = n.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  | ⟨1, _⟩ =>
    show GatherDims.start _ _ idx 1 + GatherDims.batchCoord _ _ 1 + GatherDims.offCoord _ _ 1 = g.val
    rw [GatherDims.batchCoord_eq_zero _ _ _ (fun h => absurd (congrArg Fin.val (List.mem_singleton.mp h)) Nat.one_ne_zero),
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine (congrArg (fun q => min (idx q).toInt.toNat (A - ss 1)) (a₂ := ix3 n 0 0) ?_).trans ?_
    · funext b; refine Fin.ext ?_
      match b with
      | ⟨0, _⟩ => rfl
      | ⟨1, _⟩ => rfl
      | ⟨2, _⟩ => rfl
    · have hgl := g.isLt
      rw [hg, show ss 1 = 1 from hsl, StableHlo.Predicate.toInt_ofNat_small _ (by omega)]
      omega
  | ⟨2, _⟩ =>
    show GatherDims.start _ _ idx 2 + GatherDims.batchCoord _ _ 2 + GatherDims.offCoord _ _ 2 = i.val
    rw [GatherDims.batchCoord_eq_zero _ _ _ (fun h => absurd (congrArg Fin.val (List.mem_singleton.mp h)) (show ¬(2 = 0) by decide))]
    unfold GatherDims.start
    rw [dif_neg (fun h => absurd (congrArg Fin.val (List.mem_singleton.mp h)) (show ¬(2 = 1) by decide))]
    simp only [Nat.zero_add, Nat.add_zero]
    unfold GatherDims.offCoord
    rw [dif_pos ((GatherDims.mem_sKept _ _).mpr ⟨fun h => absurd (congrArg Fin.val (List.mem_singleton.mp h)) (show ¬(2 = 1) by decide),
      fun h => absurd (congrArg Fin.val (List.mem_singleton.mp h)) (show ¬(2 = 0) by decide)⟩)]
    rfl

end Cert.MoE

end
-- ==== Proof.RefReads.lean ====
/-
  What the reference's steps leave over the extended reals, at an index.
-/
module

public import proofs.«01_k».proof.Proof.RefRun
public import proofs.«01_k».proof.Proof.Layer
public import proofs.«01_k».proof.Proof.Picks
public import Idealize.ShloMosaic.Lib.StableHlo.ReadAt

@[expose] public section

set_option maxRecDepth 16384

noncomputable section

namespace Cert.MoE.Ref

open Cert.ReferenceIdeal Cert.ReferenceIdeal.Gen
open Idealize.ShloMosaic
open Idealize.ShloMosaic.TcCoe Idealize.ShloMosaic.Tactic
open Idealize.ShloMosaic.StableHlo (after)

variable (V : Valuation τ sig (Elt Ideal))

theorem at_v15 (n : Fin 8704) (k : Fin 4096) :
    (after logitOps V main_v15 : Vec Ideal S8704x4096 .f32) (ix2 n k) = scaled ((V main_arg0 : Vec Ideal S8704x4096 .f32) (ix2 n k)) := by
  after_reads_at
  rfl

theorem at_v19 (n : Fin 8704) (g : Fin 4) :
    (after logitOps V main_v19 : Vec Ideal S8704x4 .f32) (ix2 n g)
      = logit (fun k => (V main_arg0 : Vec Ideal S8704x4096 .f32) (ix2 n k)) (fun k => (V main_arg1 : Vec Ideal S2x4096x4 .f32) (ix3 1 k g))
        ((V main_arg2 : Vec Ideal S2x4 .f32) (ix2 1 g)) := by
  after_reads_at
  rfl

theorem at_v5 (g : Fin 4) (k : Fin 4096) (i : Fin 8) :
    (after logitOps V main_v5 : Vec Ideal S4x4096x8 .f32) (ix3 g k i) = (V main_arg3 : Vec Ideal S2x4x4096x8 .f32) (ix4 1 g k i) := by
  after_reads_at
theorem at_v7 (g : Fin 4) (i : Fin 8) :
    (after logitOps V main_v7 : Vec Ideal S4x8 .f32) (ix2 g i) = (V main_arg4 : Vec Ideal S2x4x8 .f32) (ix3 1 g i) := by
  after_reads_at
theorem at_v9 (e : Fin 32) (k : Fin 4096) (f : Fin 512) :
    (after logitOps V main_v9 : Vec Ideal S32x4096x512 .f32) (ix3 e k f) = (V main_arg5 : Vec Ideal S2x32x4096x512 .f32) (ix4 1 e k f) := by
  after_reads_at
theorem at_v11 (e : Fin 32) (k : Fin 4096) (f : Fin 512) :
    (after logitOps V main_v11 : Vec Ideal S32x4096x512 .f32) (ix3 e k f) = (V main_arg6 : Vec Ideal S2x32x4096x512 .f32) (ix4 1 e k f) := by
  after_reads_at
theorem at_v13 (e : Fin 32) (f : Fin 512) (k : Fin 4096) :
    (after logitOps V main_v13 : Vec Ideal S32x512x4096 .f32) (ix3 e f k) = (V main_arg7 : Vec Ideal S2x32x512x4096 .f32) (ix4 1 e f k) := by
  after_reads_at

theorem at_v36 (n : Fin 8704) (g : Fin 4) (i : Fin 8) :
    (after innerOps V main_v36 : Vec Ideal S8704x4x8 .f32) (ix3 n g i)
      = logit (fun k => (V main_arg0 : Vec Ideal S8704x4096 .f32) (ix2 n k)) (fun k => (V main_v5 : Vec Ideal S4x4096x8 .f32) (ix3 g k i))
        ((V main_v7 : Vec Ideal S4x8 .f32) (ix2 g i)) := by
  after_reads_at
  rfl

/-- The logits inside the chosen group. -/
theorem at_v38 (n : Fin 8704) (i : Fin 8) (g : Fin 4) (hg : (V main_v20 : Vec Ideal S8704 .i32) (ix1 n) = BitVec.ofNat 32 g.val) :
    (after pickOps V main_v38 : Vec Ideal S8704x8 .f32) (ix2 n i) = (V main_v36 : Vec Ideal S8704x4x8 .f32) (ix3 n g i) := by
  after_reads_at
  refine sum_hot (fun g => (V main_v36 : Vec Ideal S8704x4x8 .f32) (ix3 n g i)) g _ (hot_one _ _ hg) fun p hp => hot_zero _ _ ?_
  rw [hg]
  exact fun h => hp (Fin.ext (by
    have := congrArg BitVec.toNat h
    simp only [BitVec.toNat_ofNat] at this
    omega))

theorem at_v20 : (after argOps V main_v20 : Vec Ideal S8704 .i32) = argmax (V main_v19 : Vec Ideal S8704x4 .f32) := by
  after_reads_simp
  simp -implicitDefEqProofs only [StableHlo.TRef.toBuf, StableHlo.TRef.ofBuf, cast_cast, cast_eq]
  rfl

theorem at_v32 (n : Fin 8704) :
    (after weightOps V main_v32 : Vec Ideal S8704 .f32) (ix1 n) = weight (fun g => (V main_v19 : Vec Ideal S8704x4 .f32) (ix2 n g)) := by
  after_reads_at
  rfl

theorem pick_split (V : Valuation τ sig (Elt Ideal)) : after pickOps V = after (pickOps.drop 7) (after (pickOps.take 7) V) := rfl

theorem at_values : (after pickOps V main_values : Vec Ideal S8704x2 .f32) = (top (after pickOps V main_v38 : Vec Ideal S8704x8 .f32)).1 := by
  have e : ∀ W : Valuation τ sig (Elt Ideal), (after (pickOps.drop 7) W main_v38 : Vec Ideal S8704x8 .f32) = W main_v38 := fun W =>
    StableHlo.after_of_writes_sub _ W (StableHlo.forall_writes_sub_of_map (W := pickOps_W.drop 7) rfl) (by decide)
  rw [pick_split, e]
  generalize after (pickOps.take 7) V = W
  simp only [List.drop]
  after_reads_simp
  rfl

theorem at_indices : (after pickOps V main_indices : Vec Ideal S8704x2 .i32) = (top (after pickOps V main_v38 : Vec Ideal S8704x8 .f32)).2 := by
  have e : ∀ W : Valuation τ sig (Elt Ideal), (after (pickOps.drop 7) W main_v38 : Vec Ideal S8704x8 .f32) = W main_v38 := fun W =>
    StableHlo.after_of_writes_sub _ W (StableHlo.forall_writes_sub_of_map (W := pickOps_W.drop 7) rfl) (by decide)
  rw [pick_split, e]
  generalize after (pickOps.take 7) V = W
  simp only [List.drop]
  after_reads_simp
  rfl

theorem at_v52 (n : Fin 8704) (s : Fin 2) :
    (after gateOps V main_v52 : Vec Ideal S8704x2 .f32) (ix2 n s)
      = times ((V main_v32 : Vec Ideal S8704 .f32) (ix1 n)) (soft (fun s => (V main_values : Vec Ideal S8704x2 .f32) (ix2 n s)) s) := by
  after_reads_at
  rfl

theorem at_v57 (n : Fin 8704) (s : Fin 2) :
    (after gateOps V main_v57 : Vec Ideal S8704x2 .i32) (ix2 n s)
      = IntOp.addi (IntOp.muli ((V main_v20 : Vec Ideal S8704 .i32) (ix1 n)) 8#32) ((V main_indices : Vec Ideal S8704x2 .i32) (ix2 n s)) := by
  after_reads_at

theorem at_v59 (n : Fin 8704) (e : Fin 32) :
    (after combineOps V main_v59 : Vec Ideal S8704x32 .f32) (ix2 n e)
      = ∑ s : Fin 2, times ((V main_v52 : Vec Ideal S8704x2 .f32) (ix2 n s))
        (FloatOps.uitofp FTy.f32 (IntOp.cmpi .eq ((V main_v57 : Vec Ideal S8704x2 .i32) (ix2 n s)) (BitVec.ofNat 32 e.val)) : Ideal .f32) := by
  after_reads_at
  rfl

theorem at_v70 (n : Fin 8704) (k : Fin 4096) :
    (after expertOps V main_v70 : Vec Ideal S8704x4096 .f32) (ix2 n k)
      = ∑ e : Fin 32, ∑ f : Fin 512, times (times (hidden (fun k => (V main_arg0 : Vec Ideal S8704x4096 .f32) (ix2 n k))
          (fun k f => (V main_v9 : Vec Ideal S32x4096x512 .f32) (ix3 e k f)) (fun k f => (V main_v11 : Vec Ideal S32x4096x512 .f32) (ix3 e k f)) f)
          ((V main_v59 : Vec Ideal S8704x32 .f32) (ix2 n e))) ((V main_v13 : Vec Ideal S32x512x4096 .f32) (ix3 e f k)) := by
  after_reads_at
  refine Finset.sum_congr rfl fun e _ => Finset.sum_congr rfl fun f _ => ?_
  exact congrArg (fun t : EReal => times (times t ((V main_v59 : Vec Ideal S8704x32 .f32) (ix2 n e))) ((V main_v13 : Vec Ideal S32x512x4096 .f32) (ix3 e f k)))
    (hidden_comm (fun k => (V main_arg0 : Vec Ideal S8704x4096 .f32) (ix2 n k))
      (fun k f => (V main_v9 : Vec Ideal S32x4096x512 .f32) (ix3 e k f)) (fun k f => (V main_v11 : Vec Ideal S32x4096x512 .f32) (ix3 e k f)) f)

theorem at_v99 (n : Fin 8704) (k : Fin 4096) :
    (after normOps V main_v99 : Vec Ideal S8704x4096 .f32) (ix2 n k)
      = normed (fun k => plus ((V main_v15 : Vec Ideal S8704x4096 .f32) (ix2 n k)) ((V main_v70 : Vec Ideal S8704x4096 .f32) (ix2 n k)))
        (fun k => (V main_arg8 : Vec Ideal S2x4096 .f32) (ix2 1 k)) (fun k => (V main_arg9 : Vec Ideal S2x4096 .f32) (ix2 1 k)) k := by
  after_reads_at
  rfl

end Cert.MoE.Ref

end
-- ==== Proof.Spec.lean ====
/-
  What the layer returns, entry by entry, as a function of its arguments: the chosen group of a token, the two experts of that group
  and their gates, the two experts' outputs added up, and the normalized residual.
-/
module

public import proofs.«01_k».proof.Proof.Layer
public import proofs.«01_k».proof.Proof.Picks

@[expose] public section

noncomputable section

namespace Cert.MoE

open Cert.KernelIdeal Cert.KernelIdeal.Gen
open Idealize.ShloMosaic

variable (x : FVec Ideal S8704x4096 .f32) (wg : FVec Ideal S2x4096x4 .f32) (bg : FVec Ideal S2x4 .f32)
  (wr : FVec Ideal S2x4x4096x8 .f32) (br : FVec Ideal S2x4x8 .f32)

/-- The logit of a group, -/
def groupLogit (n : Fin 8704) (g : Fin 4) : EReal := logit (fun k => x (ix2 n k)) (fun k => wg (ix3 1 k g)) (bg (ix2 1 g))
def groupLogits : FVec Ideal S8704x4 .f32 := fun i => groupLogit x wg bg (i 0) (i 1)

/-- of an expert inside a group. -/
def innerLogit (n : Fin 8704) (g : Fin 4) (i : Fin 8) : EReal :=
  logit (fun k => x (ix2 n k)) (fun k => wr (ix4 1 g k i)) (br (ix3 1 g i))

/-- The group a token takes, -/
def group (n : Fin 8704) : Fin 4 := (argmax_lt (groupLogits x wg bg) n).choose

theorem group_word (n : Fin 8704) : argmax (groupLogits x wg bg) (ix1 n) = BitVec.ofNat 32 (group x wg bg n).val :=
  (argmax_lt (groupLogits x wg bg) n).choose_spec

/-- the logits of its experts, -/
def innerLogits : FVec Ideal S8704x8 .f32 := fun i => innerLogit x wr br (i 0) (group x wg bg (i 0)) (i 1)

/-- the two largest of them, -/
def slot (n : Fin 8704) : Fin 2 → Fin 8 := (top_at (innerLogits x wg bg wr br) n).choose

theorem slot_injective (n : Fin 8704) : Function.Injective (slot x wg bg wr br n) := (top_at (innerLogits x wg bg wr br) n).choose_spec.1

theorem slot_word (n : Fin 8704) (s : Fin 2) :
    (top (innerLogits x wg bg wr br)).2 (ix2 n s) = BitVec.ofNat 32 (slot x wg bg wr br n s).val :=
  (top_at (innerLogits x wg bg wr br) n).choose_spec.2 s

/-- the two experts there, -/
def expert (n : Fin 8704) (s : Fin 2) : Fin 32 :=
  ⟨(group x wg bg n).val * 8 + (slot x wg bg wr br n s).val, by have := (group x wg bg n).isLt; have := (slot x wg bg wr br n s).isLt; omega⟩

theorem expert_ne (n : Fin 8704) : expert x wg bg wr br n 0 ≠ expert x wg bg wr br n 1 := fun h => by
  have e : (slot x wg bg wr br n 0).val = (slot x wg bg wr br n 1).val := Nat.add_left_cancel (congrArg Fin.val h)
  exact absurd (slot_injective x wg bg wr br n (Fin.ext e)) (by decide)

theorem expert_word (n : Fin 8704) (s : Fin 2) :
    IntOp.addi (IntOp.muli (argmax (groupLogits x wg bg) (ix1 n)) 8#32) ((top (innerLogits x wg bg wr br)).2 (ix2 n s))
      = BitVec.ofNat 32 (expert x wg bg wr br n s).val := by
  rw [group_word, slot_word]
  show BitVec.ofNat 32 _ * BitVec.ofNat 32 8 + BitVec.ofNat 32 _ = _
  rw [← BitVec.ofNat_mul, ← BitVec.ofNat_add]
  rfl

/-- and their gates. -/
def gate (n : Fin 8704) (s : Fin 2) : EReal :=
  times (weight (groupLogit x wg bg n)) (soft (fun s => (top (innerLogits x wg bg wr br)).1 (ix2 n s)) s)

variable (w₁ w₂ : FVec Ideal S2x32x4096x512 .f32) (w₃ : FVec Ideal S2x32x512x4096 .f32)

/-- One expert's weighted output at a token, -/
def part (n : Fin 8704) (s : Fin 2) (k : Fin 4096) : EReal :=
  output (hidden (fun k => x (ix2 n k)) (fun k f => w₁ (ix4 1 (expert x wg bg wr br n s) k f)) (fun k f => w₂ (ix4 1 (expert x wg bg wr br n s) k f)))
    (gate x wg bg wr br n s) (fun f k => w₃ (ix4 1 (expert x wg bg wr br n s) f k)) k

/-- and what the layer returns. -/
def result (γ β : FVec Ideal S2x4096 .f32) (n : Fin 8704) (k : Fin 4096) : EReal :=
  normed (fun k => plus (scaled (x (ix2 n k))) (plus (part x wg bg wr br w₁ w₂ w₃ n 0 k) (part x wg bg wr br w₁ w₂ w₃ n 1 k)))
    (fun k => γ (ix2 1 k)) (fun k => β (ix2 1 k)) k

/-- A row with an infinite entry: the shift. -/
theorem result_infinite (γ β : FVec Ideal S2x4096 .f32) (n : Fin 8704) (i k : Fin 4096) (h : scaled (x (ix2 n i)) = ⊤ ∨ scaled (x (ix2 n i)) = ⊥) :
    result x wg bg wr br w₁ w₂ w₃ γ β n k = β (ix2 1 k) := by
  unfold result
  exact normed_infinite _ _ _ i (infinite_add h _) k

/-- The gate of an expert, spread over all the experts: the sum over a token's two choices. -/
theorem spread_hit (c : Fin 2 → EReal) (e : Fin 2 → Fin 32) (hne : e 0 ≠ e 1) (s : Fin 2) :
    ∑ t : Fin 2, times (c t) (FloatOps.uitofp FTy.f32 (IntOp.cmpi .eq (BitVec.ofNat 32 (e t).val) (BitVec.ofNat 32 (e s).val)) : Ideal .f32) = c s := by
  have hw : ∀ u v : Fin 32, u ≠ v → BitVec.ofNat 32 u.val ≠ BitVec.ofNat 32 v.val := fun u v h h' => h (Fin.ext (by
    have := congrArg BitVec.toNat h'
    simp only [BitVec.toNat_ofNat] at this
    omega))
  rw [Fin.sum_univ_two]
  unfold times
  match s with
  | 0 => rw [hot_one _ _ rfl, hot_zero _ _ (hw _ _ hne.symm), mul_one, mul_zero, add_zero]
  | 1 => rw [hot_one _ _ rfl, hot_zero _ _ (hw _ _ hne), mul_one, mul_zero, zero_add]

theorem spread_miss (c : Fin 2 → EReal) (e : Fin 2 → Fin 32) (u : Fin 32) (h0 : u ≠ e 0) (h1 : u ≠ e 1) :
    ∑ t : Fin 2, times (c t) (FloatOps.uitofp FTy.f32 (IntOp.cmpi .eq (BitVec.ofNat 32 (e t).val) (BitVec.ofNat 32 u.val)) : Ideal .f32) = 0 := by
  have hw : ∀ u v : Fin 32, u ≠ v → BitVec.ofNat 32 u.val ≠ BitVec.ofNat 32 v.val := fun u v h h' => h (Fin.ext (by
    have := congrArg BitVec.toNat h'
    simp only [BitVec.toNat_ofNat] at this
    omega))
  rw [Fin.sum_univ_two]
  unfold times
  rw [hot_zero _ _ (hw _ _ h0.symm), hot_zero _ _ (hw _ _ h1.symm), mul_zero, mul_zero, add_zero]

end Cert.MoE

end
-- ==== Proof.RefValue.lean ====
/-
  What the reference returns: its steps in order, each read at an index.
-/
module

public import proofs.«01_k».proof.Proof.RefReads
public import proofs.«01_k».proof.Proof.Spec

@[expose] public section

set_option maxRecDepth 16384

noncomputable section

namespace Cert.MoE.Ref

open Cert.ReferenceIdeal Cert.ReferenceIdeal.Gen
open Idealize.ShloMosaic
open Idealize.ShloMosaic.TcCoe Idealize.ShloMosaic.Tactic
open Idealize.ShloMosaic.StableHlo (after)

variable (V : Valuation τ sig (Elt Ideal))

/-- The contents after each step. -/
def R1 : Valuation τ sig (Elt Ideal) := after logitOps V
def R2 : Valuation τ sig (Elt Ideal) := after argOps (R1 V)
def R3 : Valuation τ sig (Elt Ideal) := after weightOps (R2 V)
def R4 : Valuation τ sig (Elt Ideal) := after innerOps (R3 V)
def R5 : Valuation τ sig (Elt Ideal) := after pickOps (R4 V)
def R6 : Valuation τ sig (Elt Ideal) := after gateOps (R5 V)
def R7 : Valuation τ sig (Elt Ideal) := after combineOps (R6 V)
def R8 : Valuation τ sig (Elt Ideal) := after expertOps (R7 V)

theorem ops_eq : after ops V = after normOps (R8 V) := rfl

theorem keep2 (b : Ref sig .tc) (h : b ∉ argOps_W) : R2 V b = R1 V b := argOps_keeps _ b h
theorem keep3 (b : Ref sig .tc) (h : b ∉ argOps_W ++ weightOps_W) : R3 V b = R1 V b :=
  (weightOps_keeps _ b fun h' => h (List.mem_append_right _ h')).trans (keep2 V b fun h' => h (List.mem_append_left _ h'))
theorem keep6 (b : Ref sig .tc) (h : b ∉ argOps_W ++ weightOps_W ++ (innerOps_W ++ pickOps_W ++ gateOps_W)) : R6 V b = R1 V b :=
  (gateOps_keeps _ b fun h' => h (List.mem_append_right _ (List.mem_append_right _ h'))).trans <|
  (pickOps_keeps _ b fun h' => h (List.mem_append_right _ (List.mem_append_left _ (List.mem_append_right _ h')))).trans <|
  (innerOps_keeps _ b fun h' => h (List.mem_append_right _ (List.mem_append_left _ (List.mem_append_left _ h')))).trans <|
  keep3 V b fun h' => h (List.mem_append_left _ h')
theorem keep7 (b : Ref sig .tc) (h : b ∉ argOps_W ++ weightOps_W ++ (innerOps_W ++ pickOps_W ++ gateOps_W) ++ combineOps_W) : R7 V b = R1 V b :=
  (combineOps_keeps _ b fun h' => h (List.mem_append_right _ h')).trans (keep6 V b fun h' => h (List.mem_append_left _ h'))
theorem keep8 (b : Ref sig .tc) (h : b ∉ argOps_W ++ weightOps_W ++ (innerOps_W ++ pickOps_W ++ gateOps_W) ++ combineOps_W ++ expertOps_W) :
    R8 V b = R1 V b :=
  (expertOps_keeps _ b fun h' => h (List.mem_append_right _ h')).trans (keep7 V b fun h' => h (List.mem_append_left _ h'))
theorem keep1 (b : Ref sig .tc) (h : b ∉ logitOps_W) : R1 V b = V b := logitOps_keeps V b h

/-- The arguments, by name. -/
abbrev aX : FVec Ideal S8704x4096 .f32 := V main_arg0
abbrev aG : FVec Ideal S2x4096x4 .f32 := V main_arg1
abbrev aBg : FVec Ideal S2x4 .f32 := V main_arg2
abbrev aR : FVec Ideal S2x4x4096x8 .f32 := V main_arg3
abbrev aBr : FVec Ideal S2x4x8 .f32 := V main_arg4

theorem r19 : (R1 V main_v19 : Vec Ideal S8704x4 .f32) = groupLogits (aX V) (aG V) (aBg V) := by
  funext i
  rw [eq_ix2 i]
  exact at_v19 V (i 0) (i 1)

theorem r20 : (R2 V main_v20 : Vec Ideal S8704 .i32) = argmax (groupLogits (aX V) (aG V) (aBg V)) :=
  (at_v20 (R1 V)).trans (congrArg argmax (r19 V))

theorem r32 (n : Fin 8704) : (R3 V main_v32 : Vec Ideal S8704 .f32) (ix1 n) = weight (groupLogit (aX V) (aG V) (aBg V) n) := by
  refine (at_v32 (R2 V) n).trans ?_
  rw [show R2 V main_v19 = R1 V main_v19 from keep2 V main_v19 (by decide), r19]
  rfl

theorem r36 (n : Fin 8704) (g : Fin 4) (i : Fin 8) : (R4 V main_v36 : Vec Ideal S8704x4x8 .f32) (ix3 n g i) = innerLogit (aX V) (aR V) (aBr V) n g i := by
  refine (at_v36 (R3 V) n g i).trans ?_
  rw [show R3 V main_arg0 = V main_arg0 from (keep3 V main_arg0 (by decide)).trans (keep1 V main_arg0 (by decide)),
    show R3 V main_v5 = R1 V main_v5 from keep3 V main_v5 (by decide), show R3 V main_v7 = R1 V main_v7 from keep3 V main_v7 (by decide)]
  exact congrArg₂ (logit fun k => aX V (ix2 n k)) (funext fun k => at_v5 V g k i) (at_v7 V g i)

theorem r38 : (R5 V main_v38 : Vec Ideal S8704x8 .f32) = innerLogits (aX V) (aG V) (aBg V) (aR V) (aBr V) := by
  funext i
  rw [eq_ix2 i]
  refine (at_v38 (R4 V) (i 0) (i 1) (group (aX V) (aG V) (aBg V) (i 0)) ?_).trans (r36 V (i 0) _ (i 1))
  rw [show R4 V main_v20 = R2 V main_v20 from (innerOps_keeps _ main_v20 (by decide)).trans (weightOps_keeps _ main_v20 (by decide)), r20]
  exact group_word (aX V) (aG V) (aBg V) (i 0)

theorem r52 (n : Fin 8704) (s : Fin 2) : (R6 V main_v52 : Vec Ideal S8704x2 .f32) (ix2 n s) = gate (aX V) (aG V) (aBg V) (aR V) (aBr V) n s := by
  refine (at_v52 (R5 V) n s).trans ?_
  rw [show R5 V main_v32 = R3 V main_v32 from (pickOps_keeps _ main_v32 (by decide)).trans (innerOps_keeps _ main_v32 (by decide)), r32,
    show R5 V main_values = _ from (at_values (R4 V)).trans (congrArg (fun x => (top x).1) (r38 V))]
  rfl

theorem r57 (n : Fin 8704) (s : Fin 2) :
    (R6 V main_v57 : Vec Ideal S8704x2 .i32) (ix2 n s) = BitVec.ofNat 32 (expert (aX V) (aG V) (aBg V) (aR V) (aBr V) n s).val := by
  refine (at_v57 (R5 V) n s).trans ?_
  rw [show R5 V main_v20 = R2 V main_v20 from (pickOps_keeps _ main_v20 (by decide)).trans <| (innerOps_keeps _ main_v20 (by decide)).trans
      (weightOps_keeps _ main_v20 (by decide)), r20,
    show R5 V main_indices = _ from (at_indices (R4 V)).trans (congrArg (fun x => (top x).2) (r38 V))]
  exact expert_word (aX V) (aG V) (aBg V) (aR V) (aBr V) n s

theorem r59 (n : Fin 8704) (e : Fin 32) :
    (R7 V main_v59 : Vec Ideal S8704x32 .f32) (ix2 n e) = ∑ s : Fin 2, times (gate (aX V) (aG V) (aBg V) (aR V) (aBr V) n s)
        (FloatOps.uitofp FTy.f32 (IntOp.cmpi .eq (BitVec.ofNat 32 (expert (aX V) (aG V) (aBg V) (aR V) (aBr V) n s).val) (BitVec.ofNat 32 e.val)) : Ideal .f32) := by
  refine (at_v59 (R6 V) n e).trans ?_
  exact congrArg (fun c : Fin 2 → EReal => ∑ s, c s) (funext fun s => congrArg₂
    (fun c w => times c (FloatOps.uitofp FTy.f32 (IntOp.cmpi .eq w (BitVec.ofNat 32 e.val)) : Ideal .f32)) (r52 V n s) (r57 V n s))

/-- The experts' weighted sum: the two experts' outputs. -/
theorem r70 (n : Fin 8704) (k : Fin 4096) :
    (R8 V main_v70 : Vec Ideal S8704x4096 .f32) (ix2 n k)
      = plus (part (aX V) (aG V) (aBg V) (aR V) (aBr V) (V main_arg5) (V main_arg6) (V main_arg7) n 0 k)
          (part (aX V) (aG V) (aBg V) (aR V) (aBr V) (V main_arg5) (V main_arg6) (V main_arg7) n 1 k) := by
  refine (at_v70 (R7 V) n k).trans ?_
  rw [show R7 V main_arg0 = V main_arg0 from (keep7 V main_arg0 (by decide)).trans (keep1 V main_arg0 (by decide)),
    show R7 V main_v9 = R1 V main_v9 from keep7 V main_v9 (by decide), show R7 V main_v11 = R1 V main_v11 from keep7 V main_v11 (by decide),
    show R7 V main_v13 = R1 V main_v13 from keep7 V main_v13 (by decide)]
  refine (Finset.sum_congr rfl fun e _ => Finset.sum_congr rfl fun f _ => congrArg₂ times (congrArg₂ times
    (congrArg₂ (fun a b => hidden (fun k => aX V (ix2 n k)) a b f) (funext₂ fun k f => at_v9 V e k f) (funext₂ fun k f => at_v11 V e k f))
    (r59 V n e)) (at_v13 V e f k)).trans ?_
  have hne := expert_ne (aX V) (aG V) (aBg V) (aR V) (aBr V) n
  refine (sum_two
    (fun e f => hidden (fun k => aX V (ix2 n k)) (fun k f => (V main_arg5 : Vec Ideal S2x32x4096x512 .f32) (ix4 1 e k f))
      (fun k f => (V main_arg6 : Vec Ideal S2x32x4096x512 .f32) (ix4 1 e k f)) f)
    (fun e f => (V main_arg7 : Vec Ideal S2x32x512x4096 .f32) (ix4 1 e f k)) _ _ _ hne
    (fun u h0 h1 => spread_miss (gate (aX V) (aG V) (aBg V) (aR V) (aBr V) n) _ u h0 h1)).trans ?_
  rw [spread_hit (gate (aX V) (aG V) (aBg V) (aR V) (aBr V) n) _ hne 0, spread_hit (gate (aX V) (aG V) (aBg V) (aR V) (aBr V) n) _ hne 1]
  rfl

theorem value (n : Fin 8704) (k : Fin 4096) :
    (after ops V main_v99 : Vec Ideal S8704x4096 .f32) (ix2 n k)
      = result (aX V) (aG V) (aBg V) (aR V) (aBr V) (V main_arg5) (V main_arg6) (V main_arg7) (V main_arg8) (V main_arg9) n k := by
  rw [ops_eq]
  refine (at_v99 (R8 V) n k).trans ?_
  rw [show R8 V main_v15 = R1 V main_v15 from keep8 V main_v15 (by decide),
    show R8 V main_arg8 = V main_arg8 from (keep8 V main_arg8 (by decide)).trans (keep1 V main_arg8 (by decide)),
    show R8 V main_arg9 = V main_arg9 from (keep8 V main_arg9 (by decide)).trans (keep1 V main_arg9 (by decide))]
  exact congrArg (fun y => normed y (fun k => (V main_arg8 : Vec Ideal S2x4096 .f32) (ix2 1 k)) (fun k => (V main_arg9 : Vec Ideal S2x4096 .f32) (ix2 1 k)) k)
    (funext fun k => congrArg₂ plus (at_v15 V n k) (r70 V n k))

end Cert.MoE.Ref

end
-- ==== Proof.Front.lean ====
/-
  What the host computes before the sorting, over the extended reals and at an index: the router's weights side by side, the logits,
  the group and the experts chosen, the gates.
-/
module

public import proofs.«01_k».proof.Proof.Outs
public import proofs.«01_k».proof.Proof.Layer
public import proofs.«01_k».proof.Proof.Picks
public import Idealize.ShloMosaic.Lib.StableHlo.ReadAt

@[expose] public section

set_option maxRecDepth 16384

noncomputable section

namespace Cert.MoE

open Cert.KernelIdeal Cert.KernelIdeal.Gen
open Idealize.ShloMosaic
open Idealize.ShloMosaic.TcCoe Idealize.ShloMosaic.Tactic
open Idealize.ShloMosaic.StableHlo (after)

variable (V : Valuation τ sig (Elt Ideal))

/-! ## Before the router -/

theorem at_v0 (n : Fin 8704) (k : Fin 4096) :
    (after hostOps0 V main_v0 : Vec Ideal S8704x4096 .bf16) (ix2 n k) = (V main_arg0 : Vec Ideal S8704x4096 .f32) (ix2 n k) := by
  after_reads_at

theorem at_v7_group (k : Fin 4096) (j : Fin 36) (g : Fin 4) (hj : j.val = g.val) :
    (after hostOps0 V main_v7 : Vec Ideal S4096x36 .f32) (ix2 k j) = (V main_arg1 : Vec Ideal S2x4096x4 .f32) (ix3 1 k g) := by
  after_reads_at
  rw [dif_pos (by omega)]
  congr 2
  exact Fin.ext hj

theorem at_v7_expert (k : Fin 4096) (j : Fin 36) (g : Fin 4) (i : Fin 8) (hj : j.val = 4 + (g.val * 8 + i.val)) :
    (after hostOps0 V main_v7 : Vec Ideal S4096x36 .f32) (ix2 k j) = (V main_arg3 : Vec Ideal S2x4x4096x8 .f32) (ix4 1 g k i) := by
  after_reads_at
  rw [dif_neg (by omega)]
  congr 2
  · exact Fin.ext (by show (j.val - 4) / 8 = g.val; omega)
  · exact Fin.ext (by show (j.val - 4) % 8 = i.val; omega)

theorem at_v8 (k : Fin 4096) (j : Fin 128) (hj : j.val < 36) :
    (after hostOps0_1 V main_v8 : Vec Ideal S4096x128 .f32) (ix2 k j) = (V main_v7 : Vec Ideal S4096x36 .f32) (ix2 k ⟨j.val, hj⟩) := by
  after_reads_at
  rw [dif_pos hj]

/-! ## The logits -/

theorem at_v15 (n : Fin 8704) (g : Fin 4) :
    (after hostOps1 V main_v15 : Vec Ideal S8704x4 .f32) (ix2 n g)
      = plus ((V main_v9 : Vec Ideal S8704x128 .f32) (ix2 n ⟨g.val, by omega⟩)) ((V main_arg2 : Vec Ideal S2x4 .f32) (ix2 1 g)) := by
  after_reads_at
  rfl

theorem at_v16 : (after hostOps1_1 V main_v16 : Vec Ideal S8704 .i32) = argmax (V main_v15) := by
  after_reads_simp
  simp -implicitDefEqProofs only [StableHlo.TRef.toBuf, StableHlo.TRef.ofBuf, cast_cast, cast_eq]
  rfl

theorem at_v28 (n : Fin 8704) :
    (after hostOps1_2 V main_v28 : Vec Ideal S8704 .f32) (ix1 n) = weight (fun g => (V main_v15 : Vec Ideal S8704x4 .f32) (ix2 n g)) := by
  after_reads_at
  rfl

theorem at_v35 (n : Fin 8704) (g : Fin 4) (i : Fin 8) :
    (after hostOps1_2 V main_v35 : Vec Ideal S8704x4x8 .f32) (ix3 n g i)
      = plus ((V main_v9 : Vec Ideal S8704x128 .f32) (ix2 n ⟨4 + (g.val * 8 + i.val), by omega⟩)) ((V main_arg4 : Vec Ideal S2x4x8 .f32) (ix3 1 g i)) := by
  after_reads_at
  rfl

theorem at_v36 (n : Fin 8704) :
    (after hostOps1_2 V main_v36 : Vec Ideal S8704x1x1 .i32) (ix3 n 0 0) = (V main_v16 : Vec Ideal S8704 .i32) (ix1 n) := by
  after_reads_at

/-- The wrapped word of a natural is the word. -/
theorem wrapped (g : Fin 4) :
    Scalar.select (IntOp.cmpi .slt (BitVec.ofNat 32 g.val) 0#32) (IntOp.addi (BitVec.ofNat 32 g.val) 4#32) (BitVec.ofNat 32 g.val)
      = BitVec.ofNat 32 g.val := by
  revert g; decide

theorem in_range (g : Fin 4) :
    IntOp.andi (IntOp.andi (IntOp.cmpi .sge (BitVec.ofNat 32 g.val) 0#32) (IntOp.cmpi .sle (BitVec.ofNat 32 g.val) 3#32)) 1#1 = 1#1 := by
  revert g; decide

/-- The logits inside the chosen group. -/
theorem at_v37 (n : Fin 8704) (i : Fin 8) (g : Fin 4) (hg : (V main_v36 : Vec Ideal S8704x1x1 .i32) (ix3 n 0 0) = BitVec.ofNat 32 g.val) :
    (after hostOps1_3 V main_v37 : Vec Ideal S8704x1x8 .f32) (ix3 n 0 i) = (V main_v35 : Vec Ideal S8704x4x8 .f32) (ix3 n g i) := by
  after_reads_at
  rw [gather_batch gather_S8704x4x8_S8704x1x1_S8704x1x8_2_1_0_0_1_2_118 rfl rfl rfl rfl rfl rfl _ _ n i g ?_ (by decide)]
  · refine (congrArg (fun p => Scalar.select p _ _) ?_).trans (if_pos rfl)
    refine (Finset.fold_singleton (a := (0 : Fin 1))).trans ?_
    rw [hg, wrapped]
    exact in_range g
  · show Scalar.select (IntOp.cmpi .slt ((V main_v36 : Vec Ideal S8704x1x1 .i32) (ix3 n 0 0)) 0#32)
      (IntOp.addi ((V main_v36 : Vec Ideal S8704x1x1 .i32) (ix3 n 0 0)) 4#32) ((V main_v36 : Vec Ideal S8704x1x1 .i32) (ix3 n 0 0)) = _
    rw [hg, wrapped]

/-! ## The experts and their gates -/

theorem at_v38 (n : Fin 8704) (i : Fin 8) :
    (after hostOps1_4 V main_v38 : Vec Ideal S8704x8 .f32) (ix2 n i) = (V main_v37 : Vec Ideal S8704x1x8 .f32) (ix3 n 0 i) := by
  after_reads_at

theorem at_values : (after hostOps1_4 V main_values : Vec Ideal S8704x2 .f32) = (top (after hostOps1_4 V main_v38)).1 := by
  after_reads_simp
  rfl

theorem at_indices : (after hostOps1_4 V main_indices : Vec Ideal S8704x2 .i32) = (top (after hostOps1_4 V main_v38)).2 := by
  after_reads_simp
  rfl

theorem split4 (V : Valuation τ sig (Elt Ideal)) : after hostOps1_4 V = after (hostOps1_4.drop 3) (after (hostOps1_4.take 3) V) := rfl

theorem rest4_keeps (V : Valuation τ sig (Elt Ideal)) (b : Ref sig .tc) (h : b ∉ hostOps1_4_W.drop 3) :
    after (hostOps1_4.drop 3) V b = V b :=
  StableHlo.after_of_writes_sub _ V (StableHlo.forall_writes_sub_of_map (W := hostOps1_4_W.drop 3) rfl) h

theorem at_v52 (n : Fin 8704) (s : Fin 2) :
    (after hostOps1_4 V main_v52 : Vec Ideal S8704x2 .f32) (ix2 n s)
      = times ((V main_v28 : Vec Ideal S8704 .f32) (ix1 n)) (soft (fun s => (after hostOps1_4 V main_values : Vec Ideal S8704x2 .f32) (ix2 n s)) s) := by
  have e : (after hostOps1_4 V main_values : Vec Ideal S8704x2 .f32) = after (hostOps1_4.take 3) V main_values :=
    (congrFun (split4 V) _).trans (rest4_keeps _ main_values (by decide))
  have e' : (after (hostOps1_4.take 3) V main_v28 : Vec Ideal S8704 .f32) = V main_v28 :=
    StableHlo.after_of_writes_sub _ V (StableHlo.forall_writes_sub_of_map (W := hostOps1_4_W.take 3) rfl) (by decide)
  rw [e, split4, ← e']
  generalize after (hostOps1_4.take 3) V = W
  simp only [List.drop]
  after_reads_at
  rfl

theorem at_v57 (n : Fin 8704) (s : Fin 2) :
    (after hostOps1_4 V main_v57 : Vec Ideal S8704x2 .i32) (ix2 n s)
      = IntOp.addi (IntOp.muli ((V main_v16 : Vec Ideal S8704 .i32) (ix1 n)) 8#32) ((after hostOps1_4 V main_indices : Vec Ideal S8704x2 .i32) (ix2 n s)) := by
  have e : (after hostOps1_4 V main_indices : Vec Ideal S8704x2 .i32) = after (hostOps1_4.take 3) V main_indices :=
    (congrFun (split4 V) _).trans (rest4_keeps _ main_indices (by decide))
  have e' : (after (hostOps1_4.take 3) V main_v16 : Vec Ideal S8704 .i32) = V main_v16 :=
    StableHlo.after_of_writes_sub _ V (StableHlo.forall_writes_sub_of_map (W := hostOps1_4_W.take 3) rfl) (by decide)
  rw [e, split4, ← e']
  generalize after (hostOps1_4.take 3) V = W
  simp only [List.drop]
  after_reads_at

theorem at_v58 (n : Fin 8704) (s : Fin 2) (a : Fin 17408) (ha : a.val = n.val * 2 + s.val) :
    (after hostOps1_4 V main_v58 : Vec Ideal S17408 .i32) (ix1 a) = (after hostOps1_4 V main_v57 : Vec Ideal S8704x2 .i32) (ix2 n s) := by
  have e : after hostOps1_4 V = after (hostOps1_4.drop 26) (after (hostOps1_4.take 26) V) := rfl
  have e' : ∀ W : Valuation τ sig (Elt Ideal), (after (hostOps1_4.drop 26) W main_v57 : Vec Ideal S8704x2 .i32) = W main_v57 := fun W =>
    StableHlo.after_of_writes_sub _ W (StableHlo.forall_writes_sub_of_map (W := hostOps1_4_W.drop 26) rfl) (by decide)
  rw [e, e']
  generalize after (hostOps1_4.take 26) V = W
  simp only [List.drop]
  after_reads_at
  congr 2
  · exact Fin.ext (by show a.val / 2 = n.val; omega)
  · exact Fin.ext (by show a.val % 2 = s.val; omega)

end Cert.MoE

end
-- ==== Proof.Words1.lean ====
/-
  Reading the host's index arithmetic at an index: a negative index wrapped round its extent, the rows a table of indices picks, and
  the stable sort of words that hold naturals.
-/
module

public import Idealize.ShloMosaic.Lib.Routing.OpsSearch
public import Idealize.ShloMosaic.Lib.PlanTiles.Rows
public import Idealize.ShloMosaic.Lib.SortFacts

@[expose] public section

namespace Cert.MoE

open Idealize.ShloMosaic Idealize.ShloMosaic.ValueIdx Idealize.ShloMosaic.WordCmp
open Idealize.ShloMosaic.Routing

/-- A word that holds a natural is not negative: the wrapped index is the index. -/
theorem wrap_col {n N : ℕ} {i0 iN : IVec shape0 32} (x : IVec (shape1 n) 32) (h0 : shape0.BroadcastsInDim (shape1 n) (![] : Fin 0 → Fin (shape1 n).rank))
    (h1 : (shape1 n).BroadcastsInDim (shape2 n 1) (![0] : Fin 1 → Fin (shape2 n 1).rank)) (p : Fin n) {k : ℕ} (hk : k < 2 ^ 31)
    (hx : x (ix1 p) = BitVec.ofNat 32 k) (hi : i0 = constantI shape0 32 0#32) (_ : iN = constantI shape0 32 (BitVec.ofNat 32 N)) :
    broadcastInDim (shape2 n 1) ![0] h1 (select (cmpi .slt x (broadcastInDim (shape1 n) ![] h0 i0))
      (addi x (broadcastInDim (shape1 n) ![] h0 iN)) x) (ix2 p (0 : Fin 1)) = BitVec.ofNat 32 k := by
  rw [bcCol]
  show Scalar.select (IntOp.cmpi .slt (x (ix1 p)) (broadcastInDim (shape1 n) ![] h0 i0 (ix1 p))) _ (x (ix1 p)) = _
  rw [bc0, hi, hx]
  show Scalar.select (IntOp.cmpi .slt (BitVec.ofNat 32 k) (BitVec.ofNat 32 0)) _ _ = _
  rw [select_of_eq_zero ((cmpi_slt_ofNat_eq_zero_iff hk (by decide)).2 (Nat.not_lt_zero k))]

/-- The entry that a table of words picks, the words holding naturals inside the table. -/
theorem take_wrap {α : Type} {n N : ℕ} {i0 iN : IVec shape0 32} (d : GatherDims (shape1 N) (shape2 n 1) (shape1 n)) (hcoll : d.collapsedSliceDims = [0]) (hob : d.operandBatchingDims = [])
    (hsim : d.startIndexMap = [0]) (hivd : d.indexVectorDim = 1) (t : (shape1 N).Idx → α) (x : IVec (shape1 n) 32)
    (h0 : shape0.BroadcastsInDim (shape1 n) (![] : Fin 0 → Fin (shape1 n).rank))
    (h1 : (shape1 n).BroadcastsInDim (shape2 n 1) (![0] : Fin 1 → Fin (shape2 n 1).rank)) (p : Fin n) {k : ℕ} (hk : k < N) (h31 : k < 2 ^ 31)
    (hx : x (ix1 p) = BitVec.ofNat 32 k) (hi : i0 = constantI shape0 32 0#32) (hN : iN = constantI shape0 32 (BitVec.ofNat 32 N)) :
    Host.gather d t (broadcastInDim (shape2 n 1) ![0] h1 (select (cmpi .slt x (broadcastInDim (shape1 n) ![] h0 i0))
      (addi x (broadcastInDim (shape1 n) ![] h0 iN)) x)) (ix1 p) = t (ix1 ⟨k, hk⟩) :=
  take_ap d hcoll hob hsim hivd t _ p hk h31 (wrap_col x h0 h1 p h31 hx hi hN)

/-- Comparing two naturals' words. -/
theorem slt_beq {a b : ℕ} (ha : a < 2 ^ 31) (hb : b < 2 ^ 31) :
    (IntOp.cmpi .slt (BitVec.ofNat 32 a) (BitVec.ofNat 32 b) == 1#1) = decide (a < b) := by
  by_cases h : a < b
  · rw [(cmpi_slt_ofNat_eq_one_iff ha hb).2 h, decide_eq_true h]; rfl
  · rw [(cmpi_slt_ofNat_eq_zero_iff ha hb).2 h, decide_eq_false h]; rfl

/-- Where the stable sort of `x`'s words takes its entry `p` from. -/
def ord {n : ℕ} (x : IVec (shape1 n) 32) : Fin n → Fin n :=
  sortedFrom fun a b => IntOp.cmpi .slt (x (ix1 a)) (x (ix1 b)) == 1#1

theorem ord_injective {n : ℕ} (x : IVec (shape1 n) 32) : Function.Injective (ord x) := sortedFrom_injective _

/-- The sort of `x` carrying the positions leaves `ord x`. -/
theorem argsort_read {n : ℕ} (x : IVec (shape1 n) 32) (cmp : BitVec 32 × BitVec 32 → BitVec 32 × BitVec 32 → BitVec 1)
    (hc : cmp = fun l r => IntOp.cmpi .slt l.1 r.1) (p : Fin n) :
    (Host.sort2 (shape1 n) 0 cmp x (iotaInDim (shape1 n) 32 0)).2 (ix1 p) = BitVec.ofNat 32 (ord x p).val := by
  subst hc
  have hd : 0 < (shape1 n).rank := Nat.zero_lt_one
  have e : ∀ (j : (shape1 n).Idx) (c : Fin n), j.along (⟨0, hd⟩ : Fin (shape1 n).rank) c = ix1 c := fun j c =>
    (Shape.Idx.along_rank1 j c).trans (ofFin_eq_ix1 c)
  unfold Host.sort2
  rw [dif_pos hd]
  refine (congrArg (iotaInDim (shape1 n) 32 0) (e (ix1 p) _)).trans ?_
  refine congrArg (fun q : Fin n => BitVec.ofNat 32 q.val) ?_
  show sortedFrom (n := n) (fun k k' => IntOp.cmpi .slt (x ((ix1 p : (shape1 n).Idx).along (⟨0, hd⟩ : Fin (shape1 n).rank) k))
    (x ((ix1 p : (shape1 n).Idx).along (⟨0, hd⟩ : Fin (shape1 n).rank) k')) == 1#1) p = sortedFrom _ p
  congr 1
  funext a b
  exact congrArg₂ (fun u v => IntOp.cmpi .slt (x u) (x v) == 1#1) (e _ a) (e _ b)

/-- The sort of words that hold naturals puts them in order. -/
theorem ord_monotone {n : ℕ} (x : IVec (shape1 n) 32) (f : Fin n → ℕ) (hf : ∀ i, f i < 2 ^ 31) (hx : ∀ i, x (ix1 i) = BitVec.ofNat 32 (f i)) :
    Monotone (f ∘ ord x) := by
  intro a b hab
  rcases hab.lt_or_eq with h | rfl
  · have e : ord x = sortedFrom fun a b => decide (f a < f b) := by
      unfold ord; congr 1; funext a b; rw [hx, hx, slt_beq (hf a) (hf b)]
    have := sortedFrom_noInversion (fun a b => decide (f a < f b)) (fun a b => decide (f a < f b)) (fun a b h => by
      simp only [decide_eq_true_eq, decide_eq_false_iff_not] at h ⊢; omega) (fun a b h => h) (fun a b c h h' => by
      simp only [decide_eq_false_iff_not] at h h' ⊢; omega) a b h
    rw [← e] at this
    simp only [decide_eq_false_iff_not] at this
    exact not_lt.1 this
  · exact le_rfl

/-- Sorting the positions that a sort left inverts it. -/
theorem ord_ord {n : ℕ} (hn : n < 2 ^ 31) (x y : IVec (shape1 n) 32) (hy : ∀ i, y (ix1 i) = BitVec.ofNat 32 (ord x i).val) (i : Fin n) :
    ord x (ord y i) = i := by
  have hm : Monotone ((fun i => (ord x i).val) ∘ ord y) := ord_monotone y _ (fun i => by have := (ord x i).isLt; omega) hy
  have hs : StrictMono (fun i => ord x (ord y i)) := Monotone.strictMono_of_injective (fun a b h => hm h)
    ((ord_injective x).comp (ord_injective y))
  have hb : Function.Surjective (fun i => ord x (ord y i)) := Finite.surjective_of_injective hs.injective
  exact congrFun ((StrictMono.range_inj hs strictMono_id).1 (by rw [hb.range_eq, Set.range_id])) i

/-- How many words of `x` are below a word of `y`. -/
theorem count_slt {n m : ℕ} (hn : n < 2 ^ 31) (x : IVec (shape1 n) 32) (y : IVec (shape1 m) 32)
    (h₁ : (shape1 n).BroadcastsInDim (shape2 n 1) (![0] : Fin 1 → Fin (shape2 n 1).rank))
    (h₂ : (shape2 n 1).BroadcastsInDim (shape2 n m) (![0, 1] : Fin 2 → Fin (shape2 n m).rank))
    (h₃ : (shape1 m).BroadcastsInDim (shape2 1 m) (![1] : Fin 1 → Fin (shape2 1 m).rank))
    (h₄ : (shape2 1 m).BroadcastsInDim (shape2 n m) (![0, 1] : Fin 2 → Fin (shape2 n m).rank)) (hw : 1 < 32)
    (h : (shape2 n m).ReducesTo [0] (shape1 m)) (hu : 0 < shape0.numel) (a : Fin n → ℕ) (b : ℕ) (j : Fin m)
    (ha : ∀ p, a p < 2 ^ 31) (hb : b < 2 ^ 31) (hx : ∀ p, x (ix1 p) = BitVec.ofNat 32 (a p)) (hy : y (ix1 j) = BitVec.ofNat 32 b) :
    Host.reduce IntOp.addi (extui 32 (cmpi .slt (broadcastInDim (shape2 n m) ![0, 1] h₂ (broadcastInDim (shape2 n 1) ![0] h₁ x))
        (broadcastInDim (shape2 n m) ![0, 1] h₄ (broadcastInDim (shape2 1 m) ![1] h₃ y))) hw) (constantI shape0 32 0#32) h hu (ix1 j)
      = BitVec.ofNat 32 (Finset.univ.filter fun p : Fin n => a p < b).card := by
  apply BitVec.eq_of_toNat_eq
  rw [StableHlo.Predicate.toNat_reduce_count_rows (by omega) _ hw h hu (ix1 j), BitVec.toNat_ofNat,
    Nat.mod_eq_of_lt (((Finset.card_le_univ _).trans_eq (Fintype.card_fin n)).trans_lt (by omega))]
  refine congrArg Finset.card (Finset.filter_congr fun p _ => ?_)
  have e : ∀ q : (shape2 n m).Idx, q = ix2 p j → (cmpi .slt (broadcastInDim (shape2 n m) ![0, 1] h₂ (broadcastInDim (shape2 n 1) ![0] h₁ x))
      (broadcastInDim (shape2 n m) ![0, 1] h₄ (broadcastInDim (shape2 1 m) ![1] h₃ y)) q = 1#1 ↔ a p < b) := by
    rintro _ rfl
    show IntOp.cmpi .slt (broadcastInDim (shape2 n m) ![0, 1] h₂ (broadcastInDim (shape2 n 1) ![0] h₁ x) (ix2 p j))
      (broadcastInDim (shape2 n m) ![0, 1] h₄ (broadcastInDim (shape2 1 m) ![1] h₃ y) (ix2 p j)) = 1#1 ↔ _
    rw [bcRows, bcCols, hx, hy]
    exact cmpi_slt_ofNat_eq_one_iff (ha p) hb
  exact e _ (ij_eq_ix2 p j)

/-- How many words of `x` are at most a word of `y`. -/
theorem count_sle {n m : ℕ} (hn : n < 2 ^ 31) (x : IVec (shape1 n) 32) (y : IVec (shape1 m) 32)
    (h₁ : (shape1 n).BroadcastsInDim (shape2 n 1) (![0] : Fin 1 → Fin (shape2 n 1).rank))
    (h₂ : (shape2 n 1).BroadcastsInDim (shape2 n m) (![0, 1] : Fin 2 → Fin (shape2 n m).rank))
    (h₃ : (shape1 m).BroadcastsInDim (shape2 1 m) (![1] : Fin 1 → Fin (shape2 1 m).rank))
    (h₄ : (shape2 1 m).BroadcastsInDim (shape2 n m) (![0, 1] : Fin 2 → Fin (shape2 n m).rank)) (hw : 1 < 32)
    (h : (shape2 n m).ReducesTo [0] (shape1 m)) (hu : 0 < shape0.numel) (a : Fin n → ℕ) (b : ℕ) (j : Fin m)
    (ha : ∀ p, a p < 2 ^ 31) (hb : b < 2 ^ 31) (hx : ∀ p, x (ix1 p) = BitVec.ofNat 32 (a p)) (hy : y (ix1 j) = BitVec.ofNat 32 b) :
    Host.reduce IntOp.addi (extui 32 (cmpi .sle (broadcastInDim (shape2 n m) ![0, 1] h₂ (broadcastInDim (shape2 n 1) ![0] h₁ x))
        (broadcastInDim (shape2 n m) ![0, 1] h₄ (broadcastInDim (shape2 1 m) ![1] h₃ y))) hw) (constantI shape0 32 0#32) h hu (ix1 j)
      = BitVec.ofNat 32 (Finset.univ.filter fun p : Fin n => a p ≤ b).card := by
  apply BitVec.eq_of_toNat_eq
  rw [StableHlo.Predicate.toNat_reduce_count_rows (by omega) _ hw h hu (ix1 j), BitVec.toNat_ofNat,
    Nat.mod_eq_of_lt (((Finset.card_le_univ _).trans_eq (Fintype.card_fin n)).trans_lt (by omega))]
  refine congrArg Finset.card (Finset.filter_congr fun p _ => ?_)
  have e : ∀ q : (shape2 n m).Idx, q = ix2 p j → (cmpi .sle (broadcastInDim (shape2 n m) ![0, 1] h₂ (broadcastInDim (shape2 n 1) ![0] h₁ x))
      (broadcastInDim (shape2 n m) ![0, 1] h₄ (broadcastInDim (shape2 1 m) ![1] h₃ y)) q = 1#1 ↔ a p ≤ b) := by
    rintro _ rfl
    show IntOp.cmpi .sle (broadcastInDim (shape2 n m) ![0, 1] h₂ (broadcastInDim (shape2 n 1) ![0] h₁ x) (ix2 p j))
      (broadcastInDim (shape2 n m) ![0, 1] h₄ (broadcastInDim (shape2 1 m) ![1] h₃ y) (ix2 p j)) = 1#1 ↔ _
    rw [bcRows, bcCols, hx, hy]
    exact cmpi_sle_ofNat_eq_one_iff (ha p) hb
  exact e _ (ij_eq_ix2 p j)

/-- The positions below a word, as words 0 and 1. -/
theorem below_at {m : ℕ} (hm : m < 2 ^ 31) (x : IVec shape0 32) (n : ℕ) (hn : n < 2 ^ 31) (hx : x ix0 = BitVec.ofNat 32 n)
    (h0 : shape0.BroadcastsInDim (shape1 m) (![] : Fin 0 → Fin (shape1 m).rank)) (hw : 1 < 32) (t : Fin m) (ht : t.val < n) :
    extui 32 (cmpi .slt (iotaInDim (shape1 m) 32 0) (broadcastInDim (shape1 m) ![] h0 x)) hw (ix1 t) = 1#32 := by
  show (IntOp.cmpi .slt (iotaInDim (shape1 m) 32 0 (ix1 t)) (broadcastInDim (shape1 m) ![] h0 x (ix1 t))).setWidth 32 = 1#32
  rw [bc0, hx, iota1_ap, (cmpi_slt_ofNat_eq_one_iff (by have := t.isLt; omega) hn).2 ht]
  rfl

/-- One entry of a vector, as a scalar. -/
theorem entry_at {α : Type} {m o : ℕ} (x : (shape1 m).Idx → α) (h : (shape1 m).Slices ![o] (shape1 1)) (hc : (shape1 1).ShapeCasts shape0) (ho : o < m) :
    shapeCast shape0 (extractStridedSlice (shape1 1) ![o] x h) hc ix0 = x (ix1 ⟨o, ho⟩) :=
  (shapeCast_apply _ hc _ (ix1 (0 : Fin 1)) (by
    have h1 := ((shape1 1).rowMajor (ix1 (0 : Fin 1))).isLt
    have h2 := (shape0.rowMajor ix0).isLt
    have e1 : (shape1 1).numel = 1 := numel1 1
    have e2 : shape0.numel = 1 := hc.symm.trans e1
    omega)).trans (slice1 o x h 0 ho)

end Cert.MoE
-- ==== Proof.Tiles.lean ====
/-
  Counting: where the rows of the sorted assignments go when each expert's rows are padded to whole tiles of 256. Statements on
  natural numbers alone.
-/
module

public import Mathlib.Algebra.BigOperators.Fin
public import Mathlib.Algebra.Order.BigOperators.Group.Finset
public import Mathlib.Data.Fintype.Card
public import Mathlib.Tactic.Ring

@[expose] public section

namespace Cert.MoE.Tiles

/-- How many of the sorted assignments go to an expert before `j`. -/
def bound {n : ℕ} (es : Fin n → ℕ) (j : ℕ) : ℕ := (Finset.univ.filter fun p => es p < j).card

/-- How many go to expert `j`. -/
def cnt {n : ℕ} (es : Fin n → ℕ) (j : ℕ) : ℕ := bound es (j + 1) - bound es j

/-- How many tiles expert `j` takes. -/
def tiles {n : ℕ} (es : Fin n → ℕ) (j : ℕ) : ℕ := (cnt es j + 255) / 256

/-- The tile after expert `j`'s last. -/
def tend {n : ℕ} (es : Fin n → ℕ) (j : ℕ) : ℕ := ∑ i ∈ Finset.range (j + 1), tiles es i

/-- Expert `j`'s first row. -/
def start {n : ℕ} (es : Fin n → ℕ) (j : ℕ) : ℕ := (tend es j - tiles es j) * 256

/-- The row of the sorted assignment `p`. -/
def row {n : ℕ} (es : Fin n → ℕ) (p : Fin n) : ℕ := start es (es p) + (p.val - bound es (es p))

variable {n : ℕ} (es : Fin n → ℕ)

theorem bound_mono {i j : ℕ} (h : i ≤ j) : bound es i ≤ bound es j :=
  Finset.card_le_card fun p hp => by
    rw [Finset.mem_filter] at hp ⊢
    exact ⟨hp.1, hp.2.trans_le h⟩

theorem bound_le (j : ℕ) : bound es j ≤ n := (Finset.card_le_univ _).trans_eq (Fintype.card_fin n)

theorem bound_le_pos (hm : Monotone es) (p : Fin n) : bound es (es p) ≤ p.val := by
  refine (Finset.card_le_card (t := Finset.univ.filter fun q : Fin n => q < p) fun q hq => ?_).trans_eq ?_
  · rw [Finset.mem_filter] at hq ⊢
    exact ⟨hq.1, lt_of_not_ge fun h => absurd (hm h) (not_le.2 hq.2)⟩
  · rw [show (Finset.univ.filter fun q : Fin n => q < p) = Finset.Iio p from by ext q; simp, Fin.card_Iio]

theorem pos_lt_bound (hm : Monotone es) (p : Fin n) : p.val < bound es (es p + 1) := by
  refine Nat.lt_of_lt_of_le (Nat.lt_succ_self _) ((Eq.le ?_).trans (Finset.card_le_card (s := Finset.univ.filter fun q : Fin n => q ≤ p) fun q hq => ?_))
  · rw [show (Finset.univ.filter fun q : Fin n => q ≤ p) = Finset.Iic p from by ext q; simp, Fin.card_Iic]
  · rw [Finset.mem_filter] at hq ⊢
    exact ⟨hq.1, Nat.lt_succ_of_le (hm hq.2)⟩

theorem off_lt_cnt (hm : Monotone es) (p : Fin n) : p.val - bound es (es p) < cnt es (es p) := by
  have := bound_le_pos es hm p
  have := pos_lt_bound es hm p
  unfold cnt; omega

theorem tend_succ (j : ℕ) : tend es (j + 1) = tend es j + tiles es (j + 1) := Finset.sum_range_succ _ _

theorem tiles_le_tend (j : ℕ) : tiles es j ≤ tend es j :=
  Finset.single_le_sum (f := tiles es) (fun _ _ => Nat.zero_le _) (Finset.mem_range.2 (Nat.lt_succ_self j))

theorem tend_mono {i j : ℕ} (h : i ≤ j) : tend es i ≤ tend es j :=
  Finset.sum_le_sum_of_subset (Finset.range_mono (Nat.succ_le_succ h))

theorem tend_before {i j : ℕ} (h : i < j) : tend es i ≤ tend es j - tiles es j := by
  obtain ⟨k, rfl⟩ : ∃ k, j = k + 1 := ⟨j - 1, by omega⟩
  rw [tend_succ, Nat.add_sub_cancel]
  exact tend_mono es (Nat.lt_succ_iff.1 h)

theorem tend_bound (j : ℕ) : 256 * tend es j ≤ bound es (j + 1) + 255 * (j + 1) := by
  induction j with
  | zero =>
    have : tend es 0 = tiles es 0 := by simp [tend]
    rw [this]; unfold tiles cnt; omega
  | succ j ih =>
    rw [tend_succ]
    have := bound_mono es (show j + 1 ≤ j + 1 + 1 by omega)
    unfold tiles cnt; omega

/-- The tile of a sorted assignment lies among its expert's tiles. -/
theorem row_tile (hm : Monotone es) (p : Fin n) :
    tend es (es p) - tiles es (es p) ≤ row es p / 256 ∧ row es p / 256 < tend es (es p) := by
  have h1 := off_lt_cnt es hm p
  have h2 := tiles_le_tend es (es p)
  have h3 : (p.val - bound es (es p)) / 256 < tiles es (es p) := by unfold tiles; omega
  unfold row start
  constructor <;> omega

/-- The number of experts whose tiles end by a sorted assignment's tile is its expert. -/
theorem count_tend (hm : Monotone es) (p : Fin n) (h : es p < 32) :
    (Finset.univ.filter fun j : Fin 32 => tend es j.val ≤ row es p / 256).card = es p := by
  obtain ⟨h1, h2⟩ := row_tile es hm p
  rw [show (Finset.univ.filter fun j : Fin 32 => tend es j.val ≤ row es p / 256) = Finset.Iio (⟨es p, h⟩ : Fin 32) from ?_, Fin.card_Iio]
  ext j
  simp only [Finset.mem_filter, Finset.mem_univ, true_and, Finset.mem_Iio]
  refine ⟨fun hj => ?_, fun hj => (tend_before es (show j.val < es p from hj)).trans h1⟩
  by_contra hc
  have : es p ≤ j.val := not_lt.1 hc
  have := tend_mono es this
  omega

end Cert.MoE.Tiles
-- ==== Proof.Stage1.lean ====
/-
  What the host leaves between the router and the tables, read at an index: the order of the assignments, the bounds of the experts'
  segments, the tiles they take.
-/
module

public import proofs.«01_k».proof.Proof.Outs
public import proofs.«01_k».proof.Proof.Words1
public import proofs.«01_k».proof.Proof.Tiles

@[expose] public section

noncomputable section

namespace Cert.MoE

open Cert.KernelIdeal Cert.KernelIdeal.Gen
open Idealize.ShloMosaic Idealize.ShloMosaic.ValueIdx Idealize.ShloMosaic.WordCmp
open Idealize.ShloMosaic.Routing
open Idealize.ShloMosaic.TcCoe Idealize.ShloMosaic.Tactic
open Idealize.ShloMosaic.StableHlo (after)

variable {F : FTy → Type} [FloatOps F] (V : Valuation τ sig (Elt F))

theorem at_v59 (p : Fin 17408) : (after hostOps1_5 V main_v59 : Vec F S17408 .i32) (ix1 p) = BitVec.ofNat 32 (ord (V main_v58 : Vec F S17408 .i32) p).val := by
  have e : (after hostOps1_5 V main_v59 : Vec F S17408 .i32)
      = (Host.sort2 S17408 0 comparator_i32_i32_d0 (V main_v58 : Vec F S17408 .i32) (iotaInDim S17408 32 0)).2 := by
    after_reads_simp
    simp -implicitDefEqProofs only [StableHlo.TRef.toBuf, StableHlo.TRef.ofBuf, cast_cast, cast_eq]
  rw [e]
  exact argsort_read (n := 17408) _ _ rfl p

theorem at_v66 (e : Fin 17408 → ℕ) (σ : Fin 17408 → Fin 17408) (h58 : ∀ i, (V main_v58 : Vec F S17408 .i32) (ix1 i) = BitVec.ofNat 32 (e i))
    (h59 : ∀ i, (V main_v59 : Vec F S17408 .i32) (ix1 i) = BitVec.ofNat 32 (σ i).val) (p : Fin 17408) :
    (after hostOps1_6 V main_v66 : Vec F S17408 .i32) (ix1 p) = BitVec.ofNat 32 (e (σ p)) := by
  after_results
  exact (take_wrap (n := 17408) (N := 17408) _ rfl rfl rfl rfl _ (V main_v59 : Vec F S17408 .i32) _ _ p (σ p).isLt (by have := (σ p).isLt; omega) (h59 p) rfl rfl).trans (h58 _)

theorem at_v67 : (after hostOps1_6 V main_v67 : Vec F S33 .i32) = iotaInDim S33 32 0 := by
  after_results

theorem at_v68 (es : Fin 17408 → ℕ) (hes : ∀ p, es p < 2 ^ 31) (h66 : ∀ p, (V main_v66 : Vec F S17408 .i32) (ix1 p) = BitVec.ofNat 32 (es p))
    (h67 : (V main_v67 : Vec F S33 .i32) = iotaInDim S33 32 0) (j : Fin 33) :
    (after hostOps1_7 V main_v68 : Vec F S33 .i32) (ix1 j) = BitVec.ofNat 32 (Tiles.bound es j.val) := by
  have e : (after hostOps1_7 V main_v68 : Vec F S33 .i32) = Host.reduce IntOp.addi (extui 32 (cmpi .slt
        (broadcastInDim S17408x33 ![0, 1] bcast_S17408x1_S17408x33_0_1 (broadcastInDim S17408x1 ![0] bcast_S17408_S17408x1_0 (V main_v66 : Vec F S17408 .i32)))
        (broadcastInDim S17408x33 ![0, 1] bcast_S1x33_S17408x33_0_1 (broadcastInDim S1x33 ![1] bcast_S33_S1x33_1 (V main_v67 : Vec F S33 .i32)))) natLt_1_32)
      (constantI S_ 32 0#32) reducesTo_S17408x33_S33_d0 h_S_ := by
    after_reads_simp
    simp -implicitDefEqProofs only [StableHlo.TRef.toBuf, StableHlo.TRef.ofBuf, cast_cast, cast_eq]
  rw [e]
  exact count_slt (n := 17408) (m := 33) (by decide) _ _ _ _ _ _ _ _ _ es j.val j hes (by have := j.isLt; omega) h66 (by rw [h67]; rfl)

theorem at_v69 (B : ℕ → ℕ) (h68 : ∀ j : Fin 33, (V main_v68 : Vec F S33 .i32) (ix1 j) = BitVec.ofNat 32 (B j.val)) (j : Fin 32) :
    (after hostOps1_8 V main_v69 : Vec F S32 .i32) (ix1 j) = BitVec.ofNat 32 (B j.val) := by
  after_results
  refine (slice1 (m := 33) (n := 32) 0 _ _ j (by have := j.isLt; omega)).trans ((h68 _).trans ?_)
  show BitVec.ofNat 32 (B (0 + j.val)) = _
  rw [Nat.zero_add]

theorem at_v72 (B : ℕ → ℕ) (hB : ∀ j, B j ≤ B (j + 1)) (h68 : ∀ j : Fin 33, (V main_v68 : Vec F S33 .i32) (ix1 j) = BitVec.ofNat 32 (B j.val)) (j : Fin 32) :
    (after hostOps1_8 V main_v72 : Vec F S32 .i32) (ix1 j) = BitVec.ofNat 32 (B (j.val + 1) - B j.val) := by
  after_results
  refine (congrArg₂ (fun a b : BitVec 32 => a - b) ((slice1 (m := 33) (n := 32) 1 _ _ j (by have := j.isLt; omega)).trans (h68 _))
    ((slice1 (m := 33) (n := 32) 0 _ _ j (by have := j.isLt; omega)).trans (h68 _))).trans ?_
  show BitVec.ofNat 32 (B (1 + j.val)) - BitVec.ofNat 32 (B (0 + j.val)) = _
  rw [Nat.zero_add, Nat.add_comm 1, ofNat32_sub (hB _)]

theorem at_v76 (B : ℕ → ℕ) (hB : ∀ j, B j ≤ B (j + 1)) (h68 : ∀ j : Fin 33, (V main_v68 : Vec F S33 .i32) (ix1 j) = BitVec.ofNat 32 (B j.val)) (j : Fin 32) :
    (after hostOps1_8 V main_v76 : Vec F S32 .i32) (ix1 j) = BitVec.ofNat 32 (B (j.val + 1) - B j.val + 255) := by
  after_results
  refine (congrArg (fun a : BitVec 32 => a + BitVec.ofNat 32 256 - BitVec.ofNat 32 1)
    (congrArg₂ (fun a b : BitVec 32 => a - b) ((slice1 (m := 33) (n := 32) 1 _ _ j (by have := j.isLt; omega)).trans (h68 _))
    ((slice1 (m := 33) (n := 32) 0 _ _ j (by have := j.isLt; omega)).trans (h68 _)))).trans ?_
  show BitVec.ofNat 32 (B (1 + j.val)) - BitVec.ofNat 32 (B (0 + j.val)) + BitVec.ofNat 32 256 - BitVec.ofNat 32 1 = _
  rw [Nat.zero_add, Nat.add_comm 1, ofNat32_sub (hB _), BitVec.ofNat_add_ofNat, ofNat32_sub (by omega)]
  rfl

theorem at_c11 : (after hostOps1_8 V main_c_11 : Vec F S_ .i32) = constantI S_ 32 256#32 := by
  after_results

theorem at_v77 (f : Fin 32 → ℕ) (hf : ∀ j, f j < 2 ^ 31) (h76 : ∀ j, (V main_v76 : Vec F S32 .i32) (ix1 j) = BitVec.ofNat 32 (f j))
    (hc : (V main_c_11 : Vec F S_ .i32) = constantI S_ 32 256#32) (j : Fin 32) :
    (after hostOps1_9 V main_v77 : Vec F S32 .i32) (ix1 j) = BitVec.ofNat 32 (f j / 256) := by
  have e : (after hostOps1_9 V main_v77 : Vec F S32 .i32) = pyDiv bcast_S_S32 (V main_v76 : Vec F S32 .i32) (V main_c_11 : Vec F S_ .i32) := by
    after_reads_simp
    simp -implicitDefEqProofs only [StableHlo.TRef.toBuf, StableHlo.TRef.ofBuf, cast_cast, cast_eq]
    rfl
  rw [e]
  exact pyDiv_ap bcast_S_S32 _ _ _ (h76 j) (by rw [hc]; rfl) (hf j) (by decide) (by decide)

theorem at_v78 (T : ℕ → ℕ) (h77 : ∀ j : Fin 32, (V main_v77 : Vec F S32 .i32) (ix1 j) = BitVec.ofNat 32 (T j.val)) (j : Fin 32) :
    (after hostOps1_10 V main_v78 : Vec F S32 .i32) (ix1 j) = BitVec.ofNat 32 (∑ i ∈ Finset.range (j.val + 1), T i) := by
  have e : (after hostOps1_10 V main_v78 : Vec F S32 .i32) = Host.reduceWindow IntOp.addi ![32] ![1] ![31] ![0] (V main_v77 : Vec F S32 .i32)
      (broadcastInDim S_ ![] bcast_S_S_ (constantI S_ 32 0#32)) reduceWindows_S32_S32_w32s1p31_0 h_S_ := by
    after_reads_simp
    simp -implicitDefEqProofs only [StableHlo.TRef.toBuf, StableHlo.TRef.ofBuf, cast_cast, cast_eq]
  rw [e]
  exact cumsum1 (N := 32) (Nm1 := 31) rfl _ T h77 _ rfl _ _ j

theorem at_v81 (TE T : Fin 32 → ℕ) (hT : ∀ j, T j ≤ TE j) (h77 : ∀ j, (V main_v77 : Vec F S32 .i32) (ix1 j) = BitVec.ofNat 32 (T j))
    (h78 : ∀ j, (V main_v78 : Vec F S32 .i32) (ix1 j) = BitVec.ofNat 32 (TE j)) (j : Fin 32) :
    (after hostOps1_11 V main_v81 : Vec F S32 .i32) (ix1 j) = BitVec.ofNat 32 ((TE j - T j) * 256) := by
  after_results
  refine (congrArg₂ (fun a b : BitVec 32 => (a - b) * BitVec.ofNat 32 256) (h78 j) (h77 j)).trans ?_
  show (BitVec.ofNat 32 (TE j) - BitVec.ofNat 32 (T j)) * BitVec.ofNat 32 256 = _
  rw [ofNat32_sub (hT j), ← BitVec.ofNat_mul]

theorem at_v82 : (after hostOps1_11 V main_v82 : Vec F S100 .i32) = iotaInDim S100 32 0 := by
  after_results

theorem at_v87 (n : ℕ) (hn : n < 2 ^ 31) (h78 : (V main_v78 : Vec F S32 .i32) (ix1 ⟨31, by decide⟩) = BitVec.ofNat 32 n) (t : Fin 100) (ht : t.val < n) :
    (after hostOps1_11 V main_v87 : Vec F S100 .i32) (ix1 t) = 1#32 := by
  rw [after_v87]
  exact below_at (m := 100) (by decide) _ n hn ((entry_at (m := 32) (o := 31) _ _ _ (by decide)).trans h78) _ _ t ht

theorem at_v88 (TE : Fin 32 → ℕ) (hTE : ∀ j, TE j < 2 ^ 31) (h78 : ∀ j, (V main_v78 : Vec F S32 .i32) (ix1 j) = BitVec.ofNat 32 (TE j))
    (h82 : (V main_v82 : Vec F S100 .i32) = iotaInDim S100 32 0) (t : Fin 100) :
    (after hostOps1_12 V main_v88 : Vec F S100 .i32) (ix1 t) = BitVec.ofNat 32 (Finset.univ.filter fun j : Fin 32 => TE j ≤ t.val).card := by
  rw [after_v88]
  exact count_sle (n := 32) (m := 100) (by decide) _ _ _ _ _ _ _ _ _ TE t.val t hTE (by have := t.isLt; omega) h78 (by rw [h82]; rfl)

theorem at_v90 (t : Fin 100) (k : ℕ) (hk : k < 32) (h88 : (V main_v88 : Vec F S100 .i32) (ix1 t) = BitVec.ofNat 32 k) :
    (after hostOps1_13 V main_v90 : Vec F S100 .i32) (ix1 t) = BitVec.ofNat 32 k := by
  rw [after_v90]
  show IntOp.minsi ((V main_v88 : Vec F S100 .i32) (ix1 t)) (BitVec.ofNat 32 31) = _
  rw [h88, PlanTiles.minsi_word (by omega) (by decide), Nat.min_eq_right (by omega)]

theorem at_v92 (t : Fin 100) (h87 : (V main_v87 : Vec F S100 .i32) (ix1 t) = 1#32) :
    (after hostOps1_13 V main_v92 : Vec F S100 .i1) (ix1 t) = 1#1 := by
  after_results
  refine (congrArg (fun a : BitVec 32 => IntOp.cmpi .sgt a 0#32) h87).trans ?_
  decide

theorem at_v102 (t : Fin 100) (k : ℕ) (h92 : (V main_v92 : Vec F S100 .i1) (ix1 t) = 1#1) (h90 : (V main_v90 : Vec F S100 .i32) (ix1 t) = BitVec.ofNat 32 k) :
    (after hostOps1_14 V main_v102 : Vec F S100 .i32) (ix1 t) = BitVec.ofNat 32 k := by
  rw [after_v102]
  exact (select_of_eq_one h92 _ _).trans h90

end Cert.MoE

end
-- ==== Proof.Stage2.lean ====
/-
  What the host leaves between the tables and the expert products, read at the row of a sorted assignment: the assignment it holds,
  its token, its gate; and the rows of an assignment, read at a token.
-/
module

public import proofs.«01_k».proof.Proof.Stage1

@[expose] public section

noncomputable section

namespace Cert.MoE

open Cert.KernelIdeal Cert.KernelIdeal.Gen
open Idealize.ShloMosaic Idealize.ShloMosaic.ValueIdx Idealize.ShloMosaic.WordCmp
open Idealize.ShloMosaic.Routing
open Idealize.ShloMosaic.TcCoe Idealize.ShloMosaic.Tactic
open Idealize.ShloMosaic.StableHlo (after)

/-- The entries of a vector, each repeated: entry `r` is the one at `r / k`. -/
theorem repeat_at {α : Type} {m k n : ℕ} (x : (shape1 m).Idx → α) (h : (shape1 m).BroadcastsInDim (shape2 m k) (![0] : Fin 1 → Fin (shape2 m k).rank))
    (hc : (shape2 m k).ShapeCasts (shape1 n)) (r : Fin n) (t : Fin m) (l : Fin k) (hr : r.val = t.val * k + l.val) :
    shapeCast (shape1 n) (broadcastInDim (shape2 m k) ![0] h x) hc (ix1 r) = x (ix1 t) := by
  rw [cast21 _ hc t l r hr]
  refine broadcastInDim_apply _ h x _ _ fun a => ?_
  match a with
  | ⟨0, _⟩ =>
    show t.val = if m = 1 then 0 else t.val
    have := t.isLt
    split <;> omega

variable {F : FTy → Type} [FloatOps F] (V : Valuation τ sig (Elt F))

/-- The row `r` of tile `t`. -/
theorem tile_row (r : Fin 25600) (t : Fin 100) (ht : t.val = r.val / 256) : r.val = t.val * 256 + (r.val % 256) := by
  rw [ht]; omega

section At

variable (r : Fin 25600) (t : Fin 100) (ht : t.val = r.val / 256) (j : ℕ) (hj : j < 32)
  (h102 : (V main_v102 : Vec F S100 .i32) (ix1 t) = BitVec.ofNat 32 j)
include ht h102

theorem v105_word : shapeCast S25600 (broadcastInDim S100x256 ![0] bcast_S100_S100x256_0 (V main_v102 : Vec F S100 .i32)) shapeCasts_S100x256_S25600 (ix1 r)
    = BitVec.ofNat 32 j :=
  (repeat_at (m := 100) (k := 256) (n := 25600) _ _ _ r t ⟨r.val % 256, Nat.mod_lt _ (by decide)⟩ (tile_row r t ht)).trans h102

theorem at_v113 (s : ℕ) (hs : s ≤ r.val) (h81 : (V main_v81 : Vec F S32 .i32) (ix1 ⟨j, hj⟩) = BitVec.ofNat 32 s) :
    (after hostOps1_15 V main_v113 : Vec F S25600 .i32) (ix1 r) = BitVec.ofNat 32 (r.val - s) := by
  after_results
  refine (congrArg (fun a : BitVec 32 => BitVec.ofNat 32 r.val - a) ((take_wrap (n := 25600) (N := 32) _ rfl rfl rfl rfl
    (V main_v81 : Vec F S32 .i32) _ _ _ r hj (by omega) (v105_word V r t ht j h102) rfl rfl).trans h81)).trans ?_
  exact ofNat32_sub hs

theorem at_v126 (s n : ℕ) (hs : s ≤ r.val) (hn : r.val - s < n) (hn31 : n < 2 ^ 31) (h81 : (V main_v81 : Vec F S32 .i32) (ix1 ⟨j, hj⟩) = BitVec.ofNat 32 s)
    (h72 : (V main_v72 : Vec F S32 .i32) (ix1 ⟨j, hj⟩) = BitVec.ofNat 32 n)
    (h87 : (V main_v87 : Vec F S100 .i32) (ix1 t) = 1#32) :
    (after hostOps1_15 V main_v126 : Vec F S25600 .i1) (ix1 r) = 1#1 := by
  after_results
  refine (congrArg₂ (fun (u : BitVec 1) (v : BitVec 32) => IntOp.andi u (IntOp.cmpi .sgt v 0#32))
    (congrArg₂ (fun a b : BitVec 32 => IntOp.cmpi .slt (BitVec.ofNat 32 r.val - a) b)
      ((take_wrap (n := 25600) (N := 32) _ rfl rfl rfl rfl (V main_v81 : Vec F S32 .i32) _ _ _ r hj (by omega) (v105_word V r t ht j h102) rfl rfl).trans h81)
      ((take_wrap (n := 25600) (N := 32) _ rfl rfl rfl rfl (V main_v72 : Vec F S32 .i32) _ _ _ r hj (by omega) (v105_word V r t ht j h102) rfl rfl).trans h72))
    ((repeat_at (m := 100) (k := 256) (n := 25600) _ _ _ r t ⟨r.val % 256, Nat.mod_lt _ (by decide)⟩ (tile_row r t ht)).trans h87)).trans ?_
  show IntOp.andi (IntOp.cmpi .slt (BitVec.ofNat 32 r.val - BitVec.ofNat 32 s) (BitVec.ofNat 32 n)) _ = _
  rw [ofNat32_sub hs, (cmpi_slt_ofNat_eq_one_iff (by have := r.isLt; omega) hn31).2 hn]
  decide

theorem at_v134 (s b : ℕ) (hs : s ≤ r.val) (h81 : (V main_v81 : Vec F S32 .i32) (ix1 ⟨j, hj⟩) = BitVec.ofNat 32 s)
    (h69 : (V main_v69 : Vec F S32 .i32) (ix1 ⟨j, hj⟩) = BitVec.ofNat 32 b) :
    (after hostOps1_15 V main_v134 : Vec F S25600 .i32) (ix1 r) = BitVec.ofNat 32 (b + (r.val - s)) := by
  after_results
  refine (congrArg₂ (fun a b : BitVec 32 => b + (BitVec.ofNat 32 r.val - a))
    ((take_wrap (n := 25600) (N := 32) _ rfl rfl rfl rfl (V main_v81 : Vec F S32 .i32) _ _ _ r hj (by omega) (v105_word V r t ht j h102) rfl rfl).trans h81)
    ((take_wrap (n := 25600) (N := 32) _ rfl rfl rfl rfl (V main_v69 : Vec F S32 .i32) _ _ _ r hj (by omega) (v105_word V r t ht j h102) rfl rfl).trans h69)).trans ?_
  show BitVec.ofNat 32 b + (BitVec.ofNat 32 r.val - BitVec.ofNat 32 s) = _
  rw [ofNat32_sub hs, BitVec.ofNat_add_ofNat]

end At

theorem at_c26 : (after hostOps1_15 V main_c_26 : Vec F S_ .i32) = constantI S_ 32 0#32 := by
  after_results

theorem at_c27 : (after hostOps1_15 V main_c_27 : Vec F S_ .i32) = constantI S_ 32 17407#32 := by
  after_results

theorem at_v135 (r : Fin 25600) (p : Fin 17408) (h134 : (V main_v134 : Vec F S25600 .i32) (ix1 r) = BitVec.ofNat 32 p.val)
    (h26 : (V main_c_26 : Vec F S_ .i32) = constantI S_ 32 0#32) (h27 : (V main_c_27 : Vec F S_ .i32) = constantI S_ 32 17407#32) :
    (after hostOps1_16 V main_v135 : Vec F S25600 .i32) (ix1 r) = BitVec.ofNat 32 p.val := by
  have e : (after hostOps1_16 V main_v135 : Vec F S25600 .i32) = minsi (broadcastInDim S25600 ![] bcast_S_S25600 (V main_c_27 : Vec F S_ .i32))
      (maxsi (broadcastInDim S25600 ![] bcast_S_S25600 (V main_c_26 : Vec F S_ .i32)) (V main_v134 : Vec F S25600 .i32)) := by
    after_results
    rfl
  rw [e, h26, h27]
  show IntOp.minsi (BitVec.ofNat 32 17407) (IntOp.maxsi (BitVec.ofNat 32 0) ((V main_v134 : Vec F S25600 .i32) (ix1 r))) = _
  rw [h134, clip_word (by have := p.isLt; omega) (by decide) (by decide)]
  congr 1
  have := p.isLt; omega

theorem at_v142 (r : Fin 25600) (p : Fin 17408) (a : ℕ) (h135 : (V main_v135 : Vec F S25600 .i32) (ix1 r) = BitVec.ofNat 32 p.val)
    (h59 : (V main_v59 : Vec F S17408 .i32) (ix1 p) = BitVec.ofNat 32 a) :
    (after hostOps1_17 V main_v142 : Vec F S25600 .i32) (ix1 r) = BitVec.ofNat 32 a := by
  after_results
  exact (take_wrap (n := 25600) (N := 17408) _ rfl rfl rfl rfl (V main_v59 : Vec F S17408 .i32) _ _ _ r p.isLt (by have := p.isLt; omega) h135 rfl rfl).trans h59

theorem at_c30 : (after hostOps1_17 V main_c_30 : Vec F S_ .i32) = constantI S_ 32 2#32 := by
  after_results

theorem at_v143 (r : Fin 25600) (a : ℕ) (ha : a < 2 ^ 31) (h142 : (V main_v142 : Vec F S25600 .i32) (ix1 r) = BitVec.ofNat 32 a)
    (hc : (V main_c_30 : Vec F S_ .i32) = constantI S_ 32 2#32) :
    (after hostOps1_18 V main_v143 : Vec F S25600 .i32) (ix1 r) = BitVec.ofNat 32 (a / 2) := by
  have e : (after hostOps1_18 V main_v143 : Vec F S25600 .i32) = pyDiv bcast_S_S25600 (V main_v142 : Vec F S25600 .i32) (V main_c_30 : Vec F S_ .i32) := by
    after_reads_simp
    simp -implicitDefEqProofs only [StableHlo.TRef.toBuf, StableHlo.TRef.ofBuf, cast_cast, cast_eq]
    rfl
  rw [e]
  exact pyDiv_ap bcast_S_S25600 _ _ _ h142 (by rw [hc]; rfl) ha (by decide) (by decide)

theorem at_v145 (r : Fin 25600) (a : ℕ) (h126 : (V main_v126 : Vec F S25600 .i1) (ix1 r) = 1#1)
    (h143 : (V main_v143 : Vec F S25600 .i32) (ix1 r) = BitVec.ofNat 32 a) :
    (after hostOps1_21 V main_v145 : Vec F S25600 .i32) (ix1 r) = BitVec.ofNat 32 a := by
  have e : (after hostOps1_21 V main_v145 : Vec F S25600 .i32) = select (V main_v126 : Vec F S25600 .i1) (V main_v143 : Vec F S25600 .i32) (V main_v144 : Vec F S25600 .i32) := by
    after_results
    rfl
  rw [e]
  exact (select_of_eq_one h126 _ _).trans h143

theorem at_v153 (r : Fin 25600) (i : Fin 8704) (s : Fin 2) (h142 : (V main_v142 : Vec F S25600 .i32) (ix1 r) = BitVec.ofNat 32 (i.val * 2 + s.val)) :
    (after hostOps1_22 V main_v153 : Vec F S25600 .f32) (ix1 r) = (V main_v52 : Vec F S8704x2 .f32) (ix2 i s) := by
  after_results
  have hi : i.val * 2 + s.val < 17408 := by have := i.isLt; have := s.isLt; omega
  exact (take_wrap (n := 25600) (N := 17408) _ rfl rfl rfl rfl (shapeCast S17408 (V main_v52 : Vec F S8704x2 .f32) shapeCasts_S8704x2_S17408) _ _ _ r hi (by omega) h142 rfl rfl).trans
    (cast21 (a := 8704) (b := 2) (n := 17408) _ _ i s _ rfl)

theorem at_v154 (r : Fin 25600) (h126 : (V main_v126 : Vec F S25600 .i1) (ix1 r) = 1#1) :
    (after hostOps1_23 V main_v154 : Vec F S25600 .f32) (ix1 r) = (V main_v153 : Vec F S25600 .f32) (ix1 r) := by
  have e : (after hostOps1_23 V main_v154 : Vec F S25600 .f32) = select (V main_v126 : Vec F S25600 .i1) (V main_v153 : Vec F S25600 .f32)
      (broadcastInDim S25600 ![] bcast_S_S25600 (V main_cst_34 : Vec F S_ .f32)) := by
    after_results
    rfl
  rw [e]
  exact select_of_eq_one h126 _ _

theorem at_v171 (p : Fin 17408) (j : ℕ) (hj : j < 32) (s b : ℕ) (hb : b ≤ p.val) (h66 : (V main_v66 : Vec F S17408 .i32) (ix1 p) = BitVec.ofNat 32 j)
    (h81 : (V main_v81 : Vec F S32 .i32) (ix1 ⟨j, hj⟩) = BitVec.ofNat 32 s) (h69 : (V main_v69 : Vec F S32 .i32) (ix1 ⟨j, hj⟩) = BitVec.ofNat 32 b) :
    (after hostOps1_24 V main_v171 : Vec F S17408 .i32) (ix1 p) = BitVec.ofNat 32 (s + (p.val - b)) := by
  after_results
  refine (congrArg₂ (fun a b : BitVec 32 => a + (BitVec.ofNat 32 p.val - b))
    ((take_wrap (n := 17408) (N := 32) _ rfl rfl rfl rfl (V main_v81 : Vec F S32 .i32) _ _ _ p hj (by omega) h66 rfl rfl).trans h81)
    ((take_wrap (n := 17408) (N := 32) _ rfl rfl rfl rfl (V main_v69 : Vec F S32 .i32) _ _ _ p hj (by omega) h66 rfl rfl).trans h69)).trans ?_
  show BitVec.ofNat 32 s + (BitVec.ofNat 32 p.val - BitVec.ofNat 32 b) = _
  rw [ofNat32_sub hb, BitVec.ofNat_add_ofNat]

theorem at_v172 (p : Fin 17408) : (after hostOps1_25 V main_v172 : Vec F S17408 .i32) (ix1 p) = BitVec.ofNat 32 (ord (V main_v59 : Vec F S17408 .i32) p).val := by
  have e : (after hostOps1_25 V main_v172 : Vec F S17408 .i32)
      = (Host.sort2 S17408 0 comparator_i32_i32_d0 (V main_v59 : Vec F S17408 .i32) (iotaInDim S17408 32 0)).2 := by
    after_reads_simp
    simp -implicitDefEqProofs only [StableHlo.TRef.toBuf, StableHlo.TRef.ofBuf, cast_cast, cast_eq]
  rw [e]
  exact argsort_read (n := 17408) _ _ rfl p

theorem at_v180 (i : Fin 8704) (s : Fin 2) (a : Fin 17408) (ha : a.val = i.val * 2 + s.val) (q : Fin 17408) (w : ℕ)
    (h172 : (V main_v172 : Vec F S17408 .i32) (ix1 a) = BitVec.ofNat 32 q.val) (h171 : (V main_v171 : Vec F S17408 .i32) (ix1 q) = BitVec.ofNat 32 w) :
    (after hostOps1_26 V main_v180 : Vec F S8704x2 .i32) (ix2 i s) = BitVec.ofNat 32 w := by
  after_results
  exact (cast12 (a := 8704) (b := 2) (n := 17408) _ _ i s a ha).trans
    ((take_wrap (n := 17408) (N := 17408) _ rfl rfl rfl rfl (V main_v171 : Vec F S17408 .i32) _ _ _ a q.isLt (by have := q.isLt; omega) h172 rfl rfl).trans h171)

theorem at_v187 (r : Fin 25600) (i : Fin 8704) (h145 : (V main_v145 : Vec F S25600 .i32) (ix1 r) = BitVec.ofNat 32 i.val) (k : Fin 4096) :
    (after hostOps1_26 V main_v187 : Vec F S25600x4096 .bf16) (ix2 r k) = (V main_v0 : Vec F S8704x4096 .bf16) (ix2 i k) := by
  after_results
  exact gather_row (nb := 8704) (B := 4096) (n := 25600) _ rfl rfl rfl rfl rfl _ _ r k i
    (wrap_col (n := 25600) (N := 8704) _ _ _ r (by have := i.isLt; omega) h145 rfl rfl) (by decide)

theorem at_v188 (r : Fin 25600) :
    (after hostOps1_26 V main_v188 : Vec F S25600x1 .f32) (ix2 r (0 : Fin 1)) = (V main_v154 : Vec F S25600 .f32) (ix1 r) := by
  after_results
  exact bcCol (n := 25600) _ _ r

/-- A column of an array of two columns, as a vector. -/
theorem col_at {α : Type} {n : ℕ} (x : (shape2 n 2).Idx → α) (o : ℕ) (ho : o < 2) (h : (shape2 n 2).Slices ![0, o] (shape2 n 1)) (hc : (shape2 n 1).ShapeCasts (shape1 n)) (i : Fin n) :
    shapeCast (shape1 n) (extractStridedSlice (shape2 n 1) ![0, o] x h) hc (ix1 i) = x (ix2 i ⟨o, ho⟩) := by
  rw [cast21 _ hc i (0 : Fin 1) i (by simp)]
  unfold extractStridedSlice
  refine congrArg x (funext fun a' => Fin.ext ?_)
  match a' with
  | ⟨0, _⟩ => show 0 + i.val = i.val; exact Nat.zero_add _
  | ⟨1, _⟩ => rfl

theorem at_v199 (i : Fin 8704) (w : Fin 25600) (h180 : (V main_v180 : Vec F S8704x2 .i32) (ix2 i (0 : Fin 2)) = BitVec.ofNat 32 w.val) (k : Fin 4096) :
    (after hostOps3 V main_v199 : Vec F S8704x4096 .f32) (ix2 i k) = (V main_v190 : Vec F S25600x4096 .f32) (ix2 w k) := by
  after_results
  exact gather_row (nb := 25600) (B := 4096) (n := 8704) _ rfl rfl rfl rfl rfl _ _ i k w
    (wrap_col (n := 8704) (N := 25600) _ _ _ i (by have := w.isLt; omega) ((col_at (n := 8704) _ 0 (by decide) _ _ i).trans h180) rfl rfl) (by decide)

theorem at_v208 (i : Fin 8704) (w : Fin 25600) (h180 : (V main_v180 : Vec F S8704x2 .i32) (ix2 i (1 : Fin 2)) = BitVec.ofNat 32 w.val) (k : Fin 4096) :
    (after hostOps3 V main_v208 : Vec F S8704x4096 .f32) (ix2 i k) = (V main_v190 : Vec F S25600x4096 .f32) (ix2 w k) := by
  after_results
  exact gather_row (nb := 25600) (B := 4096) (n := 8704) _ rfl rfl rfl rfl rfl _ _ i k w
    (wrap_col (n := 8704) (N := 25600) _ _ _ i (by have := w.isLt; omega) ((col_at (n := 8704) _ 1 (by decide) _ _ i).trans h180) rfl rfl) (by decide)

end Cert.MoE

end
-- ==== Proof.Stage3.lean ====
/-
  The host's routing: every token's two assignments have a row of the sorted order, in a used tile of the assignment's expert, that
  holds the token and the assignment's gate.
-/
module

public import proofs.«01_k».proof.Proof.Stage2

@[expose] public section

noncomputable section

namespace Cert.MoE

open Cert.KernelIdeal Cert.KernelIdeal.Gen
open Idealize.ShloMosaic Idealize.ShloMosaic.ValueIdx Idealize.ShloMosaic.WordCmp
open Idealize.ShloMosaic.TcCoe Idealize.ShloMosaic.Tactic
open Idealize.ShloMosaic.StableHlo (after)

variable {F : FTy → Type} [FloatOps F]

/-- The stretches after the expert numbers are known, in order, -/
def opsAt : ℕ → List (HloOp τ sig (Elt F))
  | 0 => hostOps1_5 | 1 => hostOps1_6 | 2 => hostOps1_7 | 3 => hostOps1_8 | 4 => hostOps1_9 | 5 => hostOps1_10
  | 6 => hostOps1_11 | 7 => hostOps1_12 | 8 => hostOps1_13 | 9 => hostOps1_14 | 10 => hostOps1_15 | 11 => hostOps1_16
  | 12 => hostOps1_17 | 13 => hostOps1_18 | 14 => hostOps1_19 | 15 => hostOps1_20 | 16 => hostOps1_21 | 17 => hostOps1_22
  | 18 => hostOps1_23 | 19 => hostOps1_24 | 20 => hostOps1_25 | 21 => hostOps1_26 | _ => []

/-- and what each writes. -/
def wAt : ℕ → List (Ref sig .tc)
  | 0 => hostOps1_5_W | 1 => hostOps1_6_W | 2 => hostOps1_7_W | 3 => hostOps1_8_W | 4 => hostOps1_9_W | 5 => hostOps1_10_W
  | 6 => hostOps1_11_W | 7 => hostOps1_12_W | 8 => hostOps1_13_W | 9 => hostOps1_14_W | 10 => hostOps1_15_W | 11 => hostOps1_16_W
  | 12 => hostOps1_17_W | 13 => hostOps1_18_W | 14 => hostOps1_19_W | 15 => hostOps1_20_W | 16 => hostOps1_21_W | 17 => hostOps1_22_W
  | 18 => hostOps1_23_W | 19 => hostOps1_24_W | 20 => hostOps1_25_W | 21 => hostOps1_26_W | _ => []

theorem opsAt_keeps (V : Valuation τ sig (Elt F)) (b : Ref sig .tc) : (k : ℕ) → b ∉ wAt k → after (opsAt k) V b = V b
  | 0, h => StableHlo.after_of_writes_sub hostOps1_5 V hostOps1_5_writes h
  | 1, h => StableHlo.after_of_writes_sub hostOps1_6 V hostOps1_6_writes h
  | 2, h => StableHlo.after_of_writes_sub hostOps1_7 V hostOps1_7_writes h
  | 3, h => StableHlo.after_of_writes_sub hostOps1_8 V hostOps1_8_writes h
  | 4, h => StableHlo.after_of_writes_sub hostOps1_9 V hostOps1_9_writes h
  | 5, h => StableHlo.after_of_writes_sub hostOps1_10 V hostOps1_10_writes h
  | 6, h => StableHlo.after_of_writes_sub hostOps1_11 V hostOps1_11_writes h
  | 7, h => StableHlo.after_of_writes_sub hostOps1_12 V hostOps1_12_writes h
  | 8, h => StableHlo.after_of_writes_sub hostOps1_13 V hostOps1_13_writes h
  | 9, h => StableHlo.after_of_writes_sub hostOps1_14 V hostOps1_14_writes h
  | 10, h => StableHlo.after_of_writes_sub hostOps1_15 V hostOps1_15_writes h
  | 11, h => StableHlo.after_of_writes_sub hostOps1_16 V hostOps1_16_writes h
  | 12, h => StableHlo.after_of_writes_sub hostOps1_17 V hostOps1_17_writes h
  | 13, h => StableHlo.after_of_writes_sub hostOps1_18 V hostOps1_18_writes h
  | 14, h => StableHlo.after_of_writes_sub hostOps1_19 V hostOps1_19_writes h
  | 15, h => StableHlo.after_of_writes_sub hostOps1_20 V hostOps1_20_writes h
  | 16, h => StableHlo.after_of_writes_sub hostOps1_21 V hostOps1_21_writes h
  | 17, h => StableHlo.after_of_writes_sub hostOps1_22 V hostOps1_22_writes h
  | 18, h => StableHlo.after_of_writes_sub hostOps1_23 V hostOps1_23_writes h
  | 19, h => StableHlo.after_of_writes_sub hostOps1_24 V hostOps1_24_writes h
  | 20, h => StableHlo.after_of_writes_sub hostOps1_25 V hostOps1_25_writes h
  | 21, h => StableHlo.after_of_writes_sub hostOps1_26 V hostOps1_26_writes h
  | _ + 22, _ => rfl

/-- What is held after the first `k` of the stretches. -/
def seg (W : Valuation τ sig (Elt F)) : ℕ → Valuation τ sig (Elt F)
  | 0 => W
  | k + 1 => after (opsAt k) (seg W k)

variable (W : Valuation τ sig (Elt F))

theorem seg_keeps (b : Ref sig .tc) (i : ℕ) : (d : ℕ) → (∀ k < d, b ∉ wAt (i + k)) → seg W (i + d) b = seg W i b
  | 0, _ => rfl
  | d + 1, h => (opsAt_keeps _ b _ (h d (Nat.lt_succ_self d))).trans (seg_keeps b i d fun k hk => h k (Nat.lt_succ_of_lt hk))

section Routed

variable (e : Fin 17408 → ℕ) (he : ∀ i, e i < 32) (h58 : ∀ i, (W main_v58 : Vec F S17408 .i32) (ix1 i) = BitVec.ofNat 32 (e i))

/-- The sorted order of the assignments, -/
def srt : Fin 17408 → Fin 17408 := ord (W main_v58 : Vec F S17408 .i32)
/-- the experts in that order. -/
def sorted : Fin 17408 → ℕ := fun p => e (srt W p)

include h58 in
theorem s_mono (he : ∀ i, e i < 32) : Monotone (sorted W e) := ord_monotone _ e (fun i => by have := he i; omega) h58

theorem s59 (p) : (seg W 1 main_v59 : Vec F S17408 .i32) (ix1 p) = BitVec.ofNat 32 (srt W p).val := at_v59 (seg W 0) p

include h58 in
theorem s66 (p) : (seg W 2 main_v66 : Vec F S17408 .i32) (ix1 p) = BitVec.ofNat 32 (sorted W e p) :=
  at_v66 (seg W 1) e (srt W) (fun i => (congrFun (seg_keeps W main_v58 0 1 (by decide)) (ix1 i)).trans (h58 i)) (s59 W) p

include h58 he in
theorem s68 (j : Fin 33) : (seg W 3 main_v68 : Vec F S33 .i32) (ix1 j) = BitVec.ofNat 32 (Tiles.bound (sorted W e) j.val) :=
  at_v68 (seg W 2) (sorted W e) (fun p => by have := he (srt W p); unfold sorted; omega) (s66 W e h58) (at_v67 (seg W 1)) j

theorem b_mono (j : ℕ) : Tiles.bound (sorted W e) j ≤ Tiles.bound (sorted W e) (j + 1) := Tiles.bound_mono _ (Nat.le_succ j)

include h58 he in
theorem s69 (j : Fin 32) : (seg W 4 main_v69 : Vec F S32 .i32) (ix1 j) = BitVec.ofNat 32 (Tiles.bound (sorted W e) j.val) :=
  at_v69 (seg W 3) _ (s68 W e he h58) j

include h58 he in
theorem s72 (j : Fin 32) : (seg W 4 main_v72 : Vec F S32 .i32) (ix1 j) = BitVec.ofNat 32 (Tiles.cnt (sorted W e) j.val) :=
  at_v72 (seg W 3) _ (b_mono W e) (s68 W e he h58) j

theorem cnt_le (j : ℕ) : Tiles.cnt (sorted W e) j ≤ 17408 := (Nat.sub_le _ _).trans (Tiles.bound_le _ _)

include h58 he in
theorem s77 (j : Fin 32) : (seg W 5 main_v77 : Vec F S32 .i32) (ix1 j) = BitVec.ofNat 32 (Tiles.tiles (sorted W e) j.val) :=
  at_v77 (seg W 4) (fun j => Tiles.cnt (sorted W e) j.val + 255) (fun j => by have := cnt_le W e j.val; omega)
    (at_v76 (seg W 3) _ (b_mono W e) (s68 W e he h58)) (at_c11 (seg W 3)) j

include h58 he in
theorem s78 (j : Fin 32) : (seg W 6 main_v78 : Vec F S32 .i32) (ix1 j) = BitVec.ofNat 32 (Tiles.tend (sorted W e) j.val) :=
  at_v78 (seg W 5) _ (s77 W e he h58) j

include h58 he in
theorem s81 (j : Fin 32) : (seg W 7 main_v81 : Vec F S32 .i32) (ix1 j) = BitVec.ofNat 32 (Tiles.start (sorted W e) j.val) :=
  at_v81 (seg W 6) (fun j => Tiles.tend (sorted W e) j.val) (fun j => Tiles.tiles (sorted W e) j.val) (fun j => Tiles.tiles_le_tend _ _)
    (fun j => (congrFun (seg_keeps W main_v77 5 1 (by decide)) (ix1 j)).trans (s77 W e he h58 j)) (s78 W e he h58) j

theorem tend_le (j : ℕ) (hj : j < 32) : Tiles.tend (sorted W e) j ≤ 99 := by
  have h1 := Tiles.tend_bound (sorted W e) j
  have h2 := Tiles.bound_le (sorted W e) (j + 1)
  omega

include h58 he in
theorem s87 (t : Fin 100) (ht : t.val < Tiles.tend (sorted W e) 31) : (seg W 7 main_v87 : Vec F S100 .i32) (ix1 t) = 1#32 :=
  at_v87 (seg W 6) (Tiles.tend (sorted W e) 31) (by have := tend_le W e 31 (by decide); omega) (s78 W e he h58 ⟨31, by decide⟩) t ht

include h58 he in
theorem s102 (p : Fin 17408) (t : Fin 100) (ht : t.val = Tiles.row (sorted W e) p / 256) :
    (seg W 10 main_v102 : Vec F S100 .i32) (ix1 t) = BitVec.ofNat 32 (sorted W e p) := by
  have hp : sorted W e p < 32 := he _
  have hr := Tiles.row_tile (sorted W e) (s_mono W e h58 he) p
  have h87 := s87 W e he h58 t (by
    rw [ht]; exact hr.2.trans_le (Tiles.tend_mono _ (by omega)))
  have h88 := at_v88 (seg W 7) (fun j => Tiles.tend (sorted W e) j.val) (fun j => by have := tend_le W e j.val j.isLt; show Tiles.tend (sorted W e) j.val < _; omega)
    (fun j => (congrFun (seg_keeps W main_v78 6 1 (by decide)) (ix1 j)).trans (s78 W e he h58 j)) (at_v82 (seg W 6)) t
  rw [ht, Tiles.count_tend _ (s_mono W e h58 he) p hp] at h88
  exact at_v102 (seg W 9) t _ (at_v92 (seg W 8) t ((congrFun (seg_keeps W main_v87 7 1 (by decide)) (ix1 t)).trans h87))
    (at_v90 (seg W 8) t _ hp h88)

/-- The row of the sorted assignment `p` is one of the rows. -/
theorem row_lt (h58 : ∀ i, (W main_v58 : Vec F S17408 .i32) (ix1 i) = BitVec.ofNat 32 (e i)) (he : ∀ i, e i < 32) (p : Fin 17408) :
    Tiles.row (sorted W e) p < 25600 := by
  have hr := Tiles.row_tile (sorted W e) (s_mono W e h58 he) p
  have := tend_le W e (sorted W e p) (he _)
  omega

/-- What the routing leaves at assignment `s` of token `n`, whose expert is `j`, with row `w`. -/
structure Routed (U : Valuation τ sig (Elt F)) (n : Fin 8704) (s : Fin 2) (j : ℕ) (w : Fin 25600) (t : Fin 100) : Prop where
  tile : t.val = w.val / 256
  used : (U main_v87 : Vec F S100 .i32) (ix1 t) = 1#32
  expert : (U main_v102 : Vec F S100 .i32) (ix1 t) = BitVec.ofNat 32 j
  row : (U main_v180 : Vec F S8704x2 .i32) (ix2 n s) = BitVec.ofNat 32 w.val
  token : ∀ k, (U main_v187 : Vec F S25600x4096 .bf16) (ix2 w k) = (W main_v0 : Vec F S8704x4096 .bf16) (ix2 n k)
  gate : (U main_v188 : Vec F S25600x1 .f32) (ix2 w (0 : Fin 1)) = (W main_v52 : Vec F S8704x2 .f32) (ix2 n s)

/-- The tile of the row of the sorted assignment `p`. -/
theorem tile_lt (h58 : ∀ i, (W main_v58 : Vec F S17408 .i32) (ix1 i) = BitVec.ofNat 32 (e i)) (he : ∀ i, e i < 32) (p : Fin 17408) :
    Tiles.row (sorted W e) p / 256 < Tiles.tend (sorted W e) 31 :=
  (Tiles.row_tile (sorted W e) (s_mono W e h58 he) p).2.trans_le (Tiles.tend_mono _ (by have := he (srt W p); show e (srt W p) ≤ 31; omega))

section Row

variable (p : Fin 17408) (w : Fin 25600) (hw : w.val = Tiles.row (sorted W e) p) (t : Fin 100) (ht : t.val = w.val / 256)

include h58 he hw in
theorem row_off : Tiles.start (sorted W e) (sorted W e p) ≤ w.val
    ∧ w.val - Tiles.start (sorted W e) (sorted W e p) = p.val - Tiles.bound (sorted W e) (sorted W e p)
    ∧ Tiles.bound (sorted W e) (sorted W e p) ≤ p.val
    ∧ p.val - Tiles.bound (sorted W e) (sorted W e p) < Tiles.cnt (sorted W e) (sorted W e p) := by
  have h1 := Tiles.off_lt_cnt (sorted W e) (s_mono W e h58 he) p
  have h2 := Tiles.bound_le_pos (sorted W e) (s_mono W e h58 he) p
  unfold Tiles.row at hw
  exact ⟨by omega, by omega, h2, h1⟩

include h58 he in
theorem s69' (k : ℕ) (h : ∀ l < k, main_v69 ∉ wAt (4 + l)) : (seg W (4 + k) main_v69 : Vec F S32 .i32) (ix1 ⟨sorted W e p, he _⟩)
    = BitVec.ofNat 32 (Tiles.bound (sorted W e) (sorted W e p)) :=
  (congrFun (seg_keeps W main_v69 4 k h) (ix1 _)).trans (s69 W e he h58 ⟨_, he _⟩)

include h58 he in
theorem s81' (k : ℕ) (h : ∀ l < k, main_v81 ∉ wAt (7 + l)) : (seg W (7 + k) main_v81 : Vec F S32 .i32) (ix1 ⟨sorted W e p, he _⟩)
    = BitVec.ofNat 32 (Tiles.start (sorted W e) (sorted W e p)) :=
  (congrFun (seg_keeps W main_v81 7 k h) (ix1 _)).trans (s81 W e he h58 ⟨_, he _⟩)

include h58 he hw ht in
theorem s126 : (seg W 11 main_v126 : Vec F S25600 .i1) (ix1 w) = 1#1 := by
  obtain ⟨h1, h2, h3, h4⟩ := row_off W e he h58 p w hw
  have h102 := s102 W e he h58 p t (by rw [ht, hw])
  have h72 : (seg W 10 main_v72 : Vec F S32 .i32) (ix1 ⟨sorted W e p, he _⟩) = BitVec.ofNat 32 (Tiles.cnt (sorted W e) (sorted W e p)) :=
    (congrFun (seg_keeps W main_v72 4 6 (by decide)) (ix1 _)).trans (s72 W e he h58 ⟨_, he _⟩)
  have h87 := s87 W e he h58 t (by rw [ht, hw]; exact tile_lt W e h58 he p)
  have hc := cnt_le W e (sorted W e p)
  exact at_v126 (seg W 10) w t ht _ (he _) h102 _ _ h1 (by rw [h2]; exact h4) (by omega) (s81' W e he h58 p 3 (by decide)) h72
    ((congrFun (seg_keeps W main_v87 7 3 (by decide)) (ix1 t)).trans h87)

include h58 he hw ht in
theorem s135 : (seg W 12 main_v135 : Vec F S25600 .i32) (ix1 w) = BitVec.ofNat 32 p.val := by
  obtain ⟨h1, h2, h3, h4⟩ := row_off W e he h58 p w hw
  have h102 := s102 W e he h58 p t (by rw [ht, hw])
  have h134 : (seg W 11 main_v134 : Vec F S25600 .i32) (ix1 w) = BitVec.ofNat 32 p.val :=
    (at_v134 (seg W 10) w t ht _ (he _) h102 _ _ h1 (s81' W e he h58 p 3 (by decide)) (s69' W e he h58 p 6 (by decide))).trans
      (congrArg (BitVec.ofNat 32) (by rw [h2]; omega))
  exact at_v135 (seg W 11) w p h134 (at_c26 (seg W 10)) (at_c27 (seg W 10))

theorem s59' (k : ℕ) (h : ∀ l < k, main_v59 ∉ wAt (1 + l)) : (seg W (1 + k) main_v59 : Vec F S17408 .i32) (ix1 p) = BitVec.ofNat 32 (srt W p).val :=
  (congrFun (seg_keeps W main_v59 1 k h) (ix1 p)).trans (s59 W p)

include h58 he hw ht in
theorem s142 : (seg W 13 main_v142 : Vec F S25600 .i32) (ix1 w) = BitVec.ofNat 32 (srt W p).val :=
  at_v142 (seg W 12) w p (srt W p).val (s135 W e he h58 p w hw t ht) (s59' W p 11 (by decide))

include h58 he hw ht in
theorem s145 : (seg W 17 main_v145 : Vec F S25600 .i32) (ix1 w) = BitVec.ofNat 32 ((srt W p).val / 2) :=
  at_v145 (seg W 16) w _ ((congrFun (seg_keeps W main_v126 11 5 (by decide)) (ix1 w)).trans (s126 W e he h58 p w hw t ht))
    ((congrFun (seg_keeps W main_v143 14 2 (by decide)) (ix1 w)).trans
      (at_v143 (seg W 13) w (srt W p).val (by have := (srt W p).isLt; omega) (s142 W e he h58 p w hw t ht) (at_c30 (seg W 12))))

include h58 he hw ht in
theorem s154 (n : Fin 8704) (s : Fin 2) (ha : (srt W p).val = n.val * 2 + s.val) :
    (seg W 19 main_v154 : Vec F S25600 .f32) (ix1 w) = (W main_v52 : Vec F S8704x2 .f32) (ix2 n s) :=
  (at_v154 (seg W 18) w ((congrFun (seg_keeps W main_v126 11 7 (by decide)) (ix1 w)).trans (s126 W e he h58 p w hw t ht))).trans
    ((at_v153 (seg W 17) w n s (((congrFun (seg_keeps W main_v142 13 4 (by decide)) (ix1 w)).trans (s142 W e he h58 p w hw t ht)).trans
      (congrArg (BitVec.ofNat 32) ha))).trans (congrFun (seg_keeps W main_v52 0 17 (by decide)) (ix2 n s)))

include h58 he hw in
theorem s171 : (seg W 20 main_v171 : Vec F S17408 .i32) (ix1 p) = BitVec.ofNat 32 w.val := by
  obtain ⟨h1, h2, h3, h4⟩ := row_off W e he h58 p w hw
  exact (at_v171 (seg W 19) p _ (he _) _ _ h3 ((congrFun (seg_keeps W main_v66 2 17 (by decide)) (ix1 p)).trans (s66 W e h58 p))
    (s81' W e he h58 p 12 (by decide)) (s69' W e he h58 p 15 (by decide))).trans (congrArg (BitVec.ofNat 32) (by omega))

end Row

/-- Where the sorted order holds assignment `a`. -/
def place (a : Fin 17408) : Fin 17408 := ord (seg W 20 main_v59 : Vec F S17408 .i32) a

theorem srt_place (a : Fin 17408) : srt W (place W a) = a :=
  ord_ord (n := 17408) (by decide) (W main_v58 : Vec F S17408 .i32) (seg W 20 main_v59) (fun i => s59' W i 19 (by decide)) a

theorem s172 (a : Fin 17408) : (seg W 21 main_v172 : Vec F S17408 .i32) (ix1 a) = BitVec.ofNat 32 (place W a).val := at_v172 (seg W 20) a

include h58 he in
theorem routed (n : Fin 8704) (s : Fin 2) (a : Fin 17408) (ha : a.val = n.val * 2 + s.val) :
    ∃ w t, Routed W (seg W 22) n s (e a) w t := by
  have hσ := srt_place W a
  have hn : (srt W (place W a)).val / 2 = n.val := by rw [hσ]; have := s.isLt; omega
  have htl := tile_lt W e h58 he (place W a)
  have htl' := tend_le W e 31 (by decide)
  obtain ⟨w, hw⟩ : ∃ w : Fin 25600, w.val = Tiles.row (sorted W e) (place W a) := ⟨⟨_, row_lt W e h58 he (place W a)⟩, rfl⟩
  obtain ⟨t, ht⟩ : ∃ t : Fin 100, t.val = w.val / 256 := ⟨⟨w.val / 256, by omega⟩, rfl⟩
  have hp : sorted W e (place W a) = e a := congrArg e hσ
  refine ⟨w, t, ht, ?_, ?_, ?_, ?_, ?_⟩
  · exact (congrFun (seg_keeps W main_v87 7 15 (by decide)) (ix1 t)).trans (s87 W e he h58 t (by rw [ht, hw]; exact htl))
  · exact ((congrFun (seg_keeps W main_v102 10 12 (by decide)) (ix1 t)).trans (s102 W e he h58 _ t (by rw [ht, hw]))).trans (congrArg _ hp)
  · exact at_v180 (seg W 21) n s a ha (place W a) w.val (s172 W a)
      ((congrFun (seg_keeps W main_v171 20 1 (by decide)) (ix1 _)).trans (s171 W e he h58 _ w hw))
  · exact fun k => (at_v187 (seg W 21) w n (((congrFun (seg_keeps W main_v145 17 4 (by decide)) (ix1 w)).trans (s145 W e he h58 _ w hw t ht)).trans
      (congrArg _ hn)) k).trans (congrFun (seg_keeps W main_v0 0 21 (by decide)) (ix2 n k))
  · exact (at_v188 (seg W 21) w).trans ((congrFun (seg_keeps W main_v154 19 2 (by decide)) (ix1 w)).trans
      (s154 W e he h58 _ w hw t ht n s (by rw [hσ, ha])))

end Routed

end Cert.MoE

end
-- ==== Proof.Reads.lean ====
/-
  What the four regions leave, at an index: the array of an output window, read in the tile of one grid point, is what the body left
  there, over the tiles of the input arrays.
-/
module

public import proofs.«01_k».proof.Proof.Outs
public import proofs.«01_k».proof.Proof.Gen.KernelIdeal.Points
public import Idealize.ShloMosaic.Lib.Pipeline.ValueKit

@[expose] public section

set_option maxRecDepth 16384

noncomputable section

namespace Cert.MoE

open Cert.KernelIdeal Cert.KernelIdeal.Gen
open Idealize.ShloMosaic hiding ix1 ix2 ix3 ix4
open Idealize.ShloMosaic.ValueIdx
open Idealize.ShloMosaic.TcCoe Idealize.ShloMosaic.Tactic
open Idealize.ShloMosaic.Pipeline (Dat Cfg Window afterRegion)

variable {F : FTy → Type} [FloatOps F]
variable (V : Dev nD → Valuation τ sig (Elt F))

theorem point0 : ∀ t : Fin grid0.N, (grid0.coords t 0).val = t.val := by decide +kernel
theorem point1 : ∀ t : Fin grid1.N, (grid1.coords t 0).val = t.val := by decide +kernel
theorem point2 : ∀ t : Fin grid2.N, (grid2.coords t 0).val = t.val := by decide +kernel
theorem point3 : ∀ t : Fin grid3.N, (grid3.coords t 0).val = t.val := by decide +kernel

theorem index0 : ∀ t : Fin grid0.N, win0_0.index t = ![t.val, 0] ∧ win0_1.index t = ![0, 0] ∧ win0_2.index t = ![t.val, 0] := by decide +kernel
theorem index3 : ∀ t : Fin grid3.N, win3_0.index t = ![t.val, 0] ∧ win3_1.index t = ![t.val, 0] ∧ win3_2.index t = ![t.val, 0]
    ∧ win3_3.index t = ![1, 0, 0] ∧ win3_4.index t = ![1, 0, 0] ∧ win3_5.index t = ![t.val, 0] ∧ win3_6.index t = ![t.val, 0] := by decide +kernel

/-- The array of a window that writes every point's tile, at an index of one tile. -/
theorem arr_at {cfg : Cfg sig Λ₀} {c : Dev nD} (dat : Dat τ (Elt F) Unit ℕ UU ℕ cfg c) (w : Fin cfg.W)
    (hf : ∀ t, (cfg.win w).flush t = true) (hi : ∀ t t', (cfg.win w).index t = (cfg.win w).index t' → t = t')
    (t : Fin cfg.N) (y : ((cfg.win w).xblock (cfg.grid.coords t)).Idx) :
    dat.arrAt w cfg.N (((cfg.win w).blk t).view.emb y)
      = _root_.cast (congrArg (Elt F) ((cfg.win w).blk t).view.elt_eq.symm) (dat.flushed w t y) :=
  dat.arrAt_emb_eq_flushed w ((cfg.win w).hdisj_of_index_inj fun t t' _ _ h => hi t t' h) t (hf t) y

/-- An index of a point's tile, placed in the array. -/
theorem emb_of {G : Pipeline.Grid} (w : Window sig G) (t : Fin G.N) (y : (w.xblock (G.coords t)).Idx) (i : w.shape.Idx) (n : Fin w.shape.rank → ℕ)
    (hk : w.kind = .blocked) (hn : w.index t = n) (h : ∀ a, n a * w.size a + (y a).val = (i a).val) :
    (w.blk t).view.emb y = w.arr.view.emb i := by
  show w.arr.view.emb ((w.rect t).emb y) = _
  refine congrArg _ (funext fun a => Fin.ext ?_)
  rw [w.rect_emb_val t y a hk, hn]
  exact h a

/-- The router's logits in the tile of point `t`. -/
theorem router_at (c : Dev nD) (t : Fin 34) (r : Fin 256) (j : Fin 128) (n : Fin 8704) (hn : n.val = t.val * 256 + r.val) :
    (afterRegion (dat0 V c) (V c) main_v9 : Vec F S8704x128 .f32) (ix2 n j) = (out0 V c t : Vec F S256x128 .f32) (ix2 r j) := by
  have h := arr_at (dat0 V c) 2 flush0_2 (fun t t' h => by
    have := congrFun h 0
    rw [show (cfg0.win 2).index t = _ from (index0 t).2.2, show (cfg0.win 2).index t' = _ from (index0 t').2.2] at this
    exact Fin.ext this) t (ix2 r j)
  rw [Pipeline.afterRegion_arr (dat0 V c) (V c) (by decide) 2]
  have e : ((cfg0.win 2).blk t).view.emb (ix2 r j) = (ix2 n j : S8704x128.Idx) := by
    blk_ext [index0 t, hn]
  rw [← e]
  exact h

theorem blk0_0_at (c : Dev nD) (t : Fin 34) (r : Fin 256) (k : Fin 4096) (n : Fin 8704) (hn : n.val = t.val * 256 + r.val) :
    (blk0 V c 0 t : Vec F S256x4096 .f32) (ix2 r k) = (V c main_arg0 : Vec F S8704x4096 .f32) (ix2 n k) := by
  blk_ext [blk0, index0 t, hn]

theorem blk0_1_at (c : Dev nD) (t : Fin 34) (k : Fin 4096) (j : Fin 128) :
    (blk0 V c 1 t : Vec F S4096x128 .f32) (ix2 k j) = (V c main_v8 : Vec F S4096x128 .f32) (ix2 k j) := by
  blk_ext [blk0, index0 t]

/-! ## The normalization -/

/-- The normalized rows in the tile of point `t`. -/
theorem norm_at (c : Dev nD) (t : Fin 68) (r : Fin 128) (k : Fin 4096) (n : Fin 8704) (hn : n.val = t.val * 128 + r.val) :
    (afterRegion (dat3 V c) (V c) main_v211_0 : Vec F S8704x4096 .f32) (ix2 n k) = (out3 V c t : Vec F S128x4096 .f32) (ix2 r k) := by
  have h := arr_at (dat3 V c) 5 flush3_5 (fun t t' h => by
    have := congrFun h 0
    rw [show (cfg3.win 5).index t = _ from (index3 t).2.2.2.2.2.1, show (cfg3.win 5).index t' = _ from (index3 t').2.2.2.2.2.1] at this
    exact Fin.ext this) t (ix2 r k)
  rw [Pipeline.afterRegion_arr (dat3 V c) (V c) (by decide) 5]
  have e : ((cfg3.win 5).blk t).view.emb (ix2 r k) = (ix2 n k : S8704x4096.Idx) := by
    blk_ext [index3 t, hn]
  rw [← e]
  exact h

theorem blk3_0_at (c : Dev nD) (t : Fin 68) (r : Fin 128) (k : Fin 4096) (n : Fin 8704) (hn : n.val = t.val * 128 + r.val) :
    (blk3 V c 0 t : Vec F S128x4096 .f32) (ix2 r k) = (V c main_arg0 : Vec F S8704x4096 .f32) (ix2 n k) := by
  blk_ext [blk3, index3 t, hn]
theorem blk3_1_at (c : Dev nD) (t : Fin 68) (r : Fin 128) (k : Fin 4096) (n : Fin 8704) (hn : n.val = t.val * 128 + r.val) :
    (blk3 V c 1 t : Vec F S128x4096 .f32) (ix2 r k) = (V c main_v199 : Vec F S8704x4096 .f32) (ix2 n k) := by
  blk_ext [blk3, index3 t, hn]
theorem blk3_2_at (c : Dev nD) (t : Fin 68) (r : Fin 128) (k : Fin 4096) (n : Fin 8704) (hn : n.val = t.val * 128 + r.val) :
    (blk3 V c 2 t : Vec F S128x4096 .f32) (ix2 r k) = (V c main_v208 : Vec F S8704x4096 .f32) (ix2 n k) := by
  blk_ext [blk3, index3 t, hn]
theorem blk3_3_at (c : Dev nD) (t : Fin 68) (k : Fin 4096) :
    (blk3 V c 3 t : Vec F S1x1x4096 .f32) (ix3 0 0 k) = (V c main_v209 : Vec F S2x1x4096 .f32) (ix3 1 0 k) := by
  blk_ext [blk3, index3 t]
theorem blk3_4_at (c : Dev nD) (t : Fin 68) (k : Fin 4096) :
    (blk3 V c 4 t : Vec F S1x1x4096 .f32) (ix3 0 0 k) = (V c main_v210 : Vec F S2x1x4096 .f32) (ix3 1 0 k) := by
  blk_ext [blk3, index3 t]

/-! ## The expert products -/

section Up

variable (a : (pcfg1 (F := F)).Adm)

theorem index1_0 (t : Fin 100) : ((pcfg1 (F := F)).win a 0).index t = ![t.val, 0] := by
  show cc1_transform_0 (grid1.coords t) = _
  have := point1 t
  funext i; fin_cases i
  · show (BitVec.ofNat 32 (grid1.coords t 0).val).toNat = t.val
    rw [this, BitVec.toNat_ofNat]; exact Nat.mod_eq_of_lt (by have := t.isLt; omega)
  · rfl
theorem index1_1 (t : Fin 100) : ((pcfg1 (F := F)).win a 1).index t = ![t.val, 0] := index1_0 a t
theorem index1_4 (t : Fin 100) : ((pcfg1 (F := F)).win a 4).index t = ![t.val, 0] := index1_0 a t

/-- The expert of point `t`, in the table. -/
theorem word1_at (T : Vec F S100 .i32) (t : Fin 100) : word1 T (grid1.coords t) = T (ix1 t) := by
  have := point1 t
  unfold word1
  refine congrArg T (funext fun i => Fin.ext ?_)
  obtain rfl : i = 0 := Subsingleton.elim _ _
  show k1_off1 (grid1.coords t) 0 + 1 * 0 = t.val
  rw [k1_off1_eq]
  exact this

theorem index1_2 (t : Fin 100) : ((pcfg1 (F := F)).win a 2).index t = ![1, (tblA a.1 (ix1 t)).toNat, 0, 0] := by
  show cc1_transform_2 _ _ a.1 (grid1.coords t) = _
  rw [← word1_at (tblA a.1) t]
  rfl
theorem index1_3 (t : Fin 100) : ((pcfg1 (F := F)).win a 3).index t = ![1, (tblA a.1 (ix1 t)).toNat, 0, 0] := index1_2 a t

theorem flush1_4 (t : Fin 100) : ((cfg1 a).win 4).flush t = true := by
  refine Bool.and_eq_true_iff.mpr ⟨rfl, Bool.or_eq_true_iff.mpr ?_⟩
  by_cases h : t.val + 1 = 100
  · exact .inl (decide_eq_true h)
  · refine .inr (decide_eq_true ⟨by show t.val + 1 < 100; omega, fun e => ?_⟩)
    have := congrFun ((index1_4 a ⟨t.val + 1, by omega⟩).symm.trans (e.trans (index1_4 a t))) 0
    exact absurd this (Nat.succ_ne_self _)

theorem inj1 : Function.Injective (Pipeline.arrRef (cfg1 a).spec) :=
  (by decide : Function.Injective (Pipeline.arrRef spec1))

/-- The first product's rows in the tile of point `t`. -/
theorem up_at (c : Dev nD) (t : Fin 100) (r : Fin 256) (f : Fin 512) (w : Fin 25600) (hw : w.val = t.val * 256 + r.val) :
    (afterRegion (dat1 V a c) (V c) main_v189 : Vec F S25600x512 .bf16) (ix2 w f) = (out1 V a c t : Vec F S256x512 .bf16) (ix2 r f) := by
  have h := arr_at (dat1 V a c) 4 (flush1_4 a) (fun t t' h => by
    have := congrFun ((index1_4 a t).symm.trans (h.trans (index1_4 a t'))) 0
    exact Fin.ext this) t (ix2 r f)
  refine (congrFun (Pipeline.afterRegion_arr (dat1 V a c) (V c) (inj1 a) 4) _).trans ?_
  have e : (((cfg1 a).win 4).blk t).view.emb (ix2 r f) = (ix2 w f : S25600x512.Idx) := by
    blk_ext [index1_4 a t, hw]
  rw [← e]
  exact h

theorem blk1_0_at (c : Dev nD) (t : Fin 100) (r : Fin 256) (k : Fin 4096) (w : Fin 25600) (hw : w.val = t.val * 256 + r.val) :
    (blk1 V a c 0 t : Vec F S256x4096 .bf16) (ix2 r k) = (V c main_v187 : Vec F S25600x4096 .bf16) (ix2 w k) :=
  congrArg (V c main_v187) (emb_of ((pcfg1 (F := F)).win a 0) t (ix2 r k) (ix2 w k) _ rfl (index1_0 a t) fun
    | ⟨0, _⟩ => hw.symm
    | ⟨1, _⟩ => by show 0 * 4096 + k.val = k.val; omega)
theorem blk1_1_at (c : Dev nD) (t : Fin 100) (r : Fin 256) (w : Fin 25600) (hw : w.val = t.val * 256 + r.val) :
    (blk1 V a c 1 t : Vec F S256x1 .f32) (ix2 r 0) = (V c main_v188 : Vec F S25600x1 .f32) (ix2 w 0) :=
  congrArg (V c main_v188) (emb_of ((pcfg1 (F := F)).win a 1) t (ix2 r 0) (ix2 w 0) _ rfl (index1_1 a t) fun
    | ⟨0, _⟩ => hw.symm
    | ⟨1, _⟩ => rfl)
theorem blk1_2_at (c : Dev nD) (t : Fin 100) (k : Fin 4096) (f : Fin 512) (j : Fin 32) (hj : (tblA a.1 (ix1 t)).toNat = j.val) :
    (blk1 V a c 2 t : Vec F S1x1x4096x512 .f32) (ix4 0 0 k f) = (V c main_arg5 : Vec F S2x32x4096x512 .f32) (ix4 1 j k f) :=
  congrArg (V c main_arg5) (emb_of ((pcfg1 (F := F)).win a 2) t (ix4 0 0 k f) (ix4 1 j k f) _ rfl (index1_2 a t) fun
    | ⟨0, _⟩ => rfl
    | ⟨1, _⟩ => by show (tblA a.1 (ix1 t)).toNat * 1 + 0 = j.val; omega
    | ⟨2, _⟩ => by show 0 * 4096 + k.val = k.val; omega
    | ⟨3, _⟩ => by show 0 * 512 + f.val = f.val; omega)
theorem blk1_3_at (c : Dev nD) (t : Fin 100) (k : Fin 4096) (f : Fin 512) (j : Fin 32) (hj : (tblA a.1 (ix1 t)).toNat = j.val) :
    (blk1 V a c 3 t : Vec F S1x1x4096x512 .f32) (ix4 0 0 k f) = (V c main_arg6 : Vec F S2x32x4096x512 .f32) (ix4 1 j k f) :=
  congrArg (V c main_arg6) (emb_of ((pcfg1 (F := F)).win a 3) t (ix4 0 0 k f) (ix4 1 j k f) _ rfl (index1_3 a t) fun
    | ⟨0, _⟩ => rfl
    | ⟨1, _⟩ => by show (tblA a.1 (ix1 t)).toNat * 1 + 0 = j.val; omega
    | ⟨2, _⟩ => by show 0 * 4096 + k.val = k.val; omega
    | ⟨3, _⟩ => by show 0 * 512 + f.val = f.val; omega)

end Up

section Down

variable (a : (pcfg2 (F := F)).Adm)

theorem index2_0 (t : Fin 100) : ((pcfg2 (F := F)).win a 0).index t = ![t.val, 0] := by
  show cc2_transform_0 (grid2.coords t) = _
  have := point2 t
  funext i; fin_cases i
  · show (BitVec.ofNat 32 (grid2.coords t 0).val).toNat = t.val
    rw [this, BitVec.toNat_ofNat]; exact Nat.mod_eq_of_lt (by have := t.isLt; omega)
  · rfl
theorem index2_2 (t : Fin 100) : ((pcfg2 (F := F)).win a 2).index t = ![t.val, 0] := index2_0 a t

theorem word2_at (T : Vec F S100 .i32) (t : Fin 100) : word2 T (grid2.coords t) = T (ix1 t) := word1_at T t

theorem index2_1 (t : Fin 100) : ((pcfg2 (F := F)).win a 1).index t = ![1, (tblA a.1 (ix1 t)).toNat, 0, 0] := by
  show cc2_transform_1 _ _ a.1 (grid2.coords t) = _
  rw [← word2_at (tblA a.1) t]
  rfl

theorem flush2_2 (t : Fin 100) : ((cfg2 a).win 2).flush t = true := by
  refine Bool.and_eq_true_iff.mpr ⟨rfl, Bool.or_eq_true_iff.mpr ?_⟩
  by_cases h : t.val + 1 = 100
  · exact .inl (decide_eq_true h)
  · refine .inr (decide_eq_true ⟨by show t.val + 1 < 100; omega, fun e => ?_⟩)
    have := congrFun ((index2_2 a ⟨t.val + 1, by omega⟩).symm.trans (e.trans (index2_2 a t))) 0
    exact absurd this (Nat.succ_ne_self _)

theorem inj2 : Function.Injective (Pipeline.arrRef (cfg2 a).spec) :=
  (by decide : Function.Injective (Pipeline.arrRef spec2))

/-- The second product's rows in the tile of point `t`. -/
theorem down_at (c : Dev nD) (t : Fin 100) (r : Fin 256) (k : Fin 4096) (w : Fin 25600) (hw : w.val = t.val * 256 + r.val) :
    (afterRegion (dat2 V a c) (V c) main_v190 : Vec F S25600x4096 .f32) (ix2 w k) = (out2 V a c t : Vec F S256x4096 .f32) (ix2 r k) := by
  have h := arr_at (dat2 V a c) 2 (flush2_2 a) (fun t t' h => by
    have := congrFun ((index2_2 a t).symm.trans (h.trans (index2_2 a t'))) 0
    exact Fin.ext this) t (ix2 r k)
  refine (congrFun (Pipeline.afterRegion_arr (dat2 V a c) (V c) (inj2 a) 2) _).trans ?_
  have e : (((cfg2 a).win 2).blk t).view.emb (ix2 r k) = (ix2 w k : S25600x4096.Idx) :=
    emb_of ((pcfg2 (F := F)).win a 2) t (ix2 r k) (ix2 w k) _ rfl (index2_2 a t) fun
    | ⟨0, _⟩ => hw.symm
    | ⟨1, _⟩ => by show 0 * 4096 + k.val = k.val; omega
  rw [← e]
  exact h

theorem blk2_0_at (c : Dev nD) (t : Fin 100) (r : Fin 256) (f : Fin 512) (w : Fin 25600) (hw : w.val = t.val * 256 + r.val) :
    (blk2 V a c 0 t : Vec F S256x512 .bf16) (ix2 r f) = (V c main_v189 : Vec F S25600x512 .bf16) (ix2 w f) :=
  congrArg (V c main_v189) (emb_of ((pcfg2 (F := F)).win a 0) t (ix2 r f) (ix2 w f) _ rfl (index2_0 a t) fun
    | ⟨0, _⟩ => hw.symm
    | ⟨1, _⟩ => by show 0 * 512 + f.val = f.val; omega)
theorem blk2_1_at (c : Dev nD) (t : Fin 100) (f : Fin 512) (k : Fin 4096) (j : Fin 32) (hj : (tblA a.1 (ix1 t)).toNat = j.val) :
    (blk2 V a c 1 t : Vec F S1x1x512x4096 .f32) (ix4 0 0 f k) = (V c main_arg7 : Vec F S2x32x512x4096 .f32) (ix4 1 j f k) :=
  congrArg (V c main_arg7) (emb_of ((pcfg2 (F := F)).win a 1) t (ix4 0 0 f k) (ix4 1 j f k) _ rfl (index2_1 a t) fun
    | ⟨0, _⟩ => rfl
    | ⟨1, _⟩ => by show (tblA a.1 (ix1 t)).toNat * 1 + 0 = j.val; omega
    | ⟨2, _⟩ => by show 0 * 512 + f.val = f.val; omega
    | ⟨3, _⟩ => by show 0 * 4096 + k.val = k.val; omega)

end Down

end Cert.MoE

end
-- ==== Proof.Pays.lean ====
/-
  What the four kernels compute over the extended reals, at an index of their tiles.
-/
module

public import proofs.«01_k».proof.Proof.Gen.KernelIdeal.Skeleton
public import proofs.«01_k».proof.Proof.Layer

@[expose] public section

set_option maxRecDepth 16384

noncomputable section

namespace Cert.MoE

open Cert.KernelIdeal Cert.KernelIdeal.Gen
open Idealize.ShloMosaic

theorem pay1_at (x : Vec Ideal S256x4096 .bf16) (wg wu : Vec Ideal S1x1x4096x512 .f32) (g : Vec Ideal S256x1 .f32) (r : Fin 256) (f : Fin 512) :
    k1_pay1 x wg wu g (ix2 r f)
      = hidden (fun k => x (ix2 r k)) (fun k f => wg (ix4 0 0 k f)) (fun k f => wu (ix4 0 0 k f)) f * g (ix2 r 0) := by
  pointwise [k1_pay1]
  rw [zero_sub]
  rfl

theorem pay2_at (a : Vec Ideal S256x512 .bf16) (wd : Vec Ideal S1x1x512x4096 .f32) (r : Fin 256) (k : Fin 4096) :
    k2_pay1 a wd (ix2 r k) = ∑ f : Fin 512, a (ix2 r f) * wd (ix4 0 0 f k) := by
  pointwise [k2_pay1]

/-- The router's sum of three products is one product where the factors are finite. -/
theorem pay0_at (x : Vec Ideal S256x4096 .f32) (w : Vec Ideal S4096x128 .f32) (r : Fin 256) (j : Fin 128)
    (hx : ∀ k, (x (ix2 r k) : EReal) - x (ix2 r k) = 0) (hw : ∀ k, (w (ix2 k j) : EReal) - w (ix2 k j) = 0) :
    k0_pay1 x w (ix2 r j) = ∑ k : Fin 4096, x (ix2 r k) * w (ix2 k j) := by
  pointwise [k0_pay1]
  simp only [hx, hw, mul_zero, zero_mul, Finset.sum_const_zero, add_zero]

theorem pay3_at (y0 y1 x : Vec Ideal S128x4096 .f32) (g b : Vec Ideal S1x1x4096 .f32) (r : Fin 128) (k : Fin 4096) :
    k3_pay1 y0 y1 x g b (ix2 r k)
      = normed (fun k => scaled (x (ix2 r k)) + (y0 (ix2 r k) + y1 (ix2 r k))) (fun k => g (ix3 0 0 k)) (fun k => b (ix3 0 0 k)) k := by
  pointwise [k3_pay1]
  rfl

end Cert.MoE

end
-- ==== Proof.KernelRoute.lean ====
/-
  The kernel's logits, group, experts and gates over the extended reals, and the row that each assignment of a token to an expert gets.
-/
module

public import proofs.«01_k».proof.Proof.Front
public import proofs.«01_k».proof.Proof.Spec
public import proofs.«01_k».proof.Proof.Stage3
public import proofs.«01_k».proof.Proof.Reads
public import proofs.«01_k».proof.Proof.Pays
public import Idealize.ShloMosaic.Lib.Pointwise.IndexBridge

@[expose] public section

set_option maxRecDepth 16384

noncomputable section

namespace Cert.MoE

open Cert.KernelIdeal Cert.KernelIdeal.Gen
open Idealize.ShloMosaic
open Idealize.ShloMosaic.TcCoe Idealize.ShloMosaic.Tactic
open Idealize.ShloMosaic.StableHlo (after)
open Idealize.ShloMosaic.Pipeline (afterRegion)

variable (m : (ℓ : Loc nD τ sig) → Buf (Elt Ideal) ℓ)

/-- The arguments, by name. -/
abbrev kX : FVec Ideal S8704x4096 .f32 := V0 m 0 main_arg0
abbrev kG : FVec Ideal S2x4096x4 .f32 := V0 m 0 main_arg1
abbrev kBg : FVec Ideal S2x4 .f32 := V0 m 0 main_arg2
abbrev kR : FVec Ideal S2x4x4096x8 .f32 := V0 m 0 main_arg3
abbrev kBr : FVec Ideal S2x4x8 .f32 := V0 m 0 main_arg4

/-- The router's weights are finite. -/
structure Finite : Prop where
  g : ∀ k g, (kG m (ix3 1 k g) : EReal) - kG m (ix3 1 k g) = 0
  r : ∀ g k i, (kR m (ix4 1 g k i) : EReal) - kR m (ix4 1 g k i) = 0

/-- A row is finite. -/
def FiniteRow (n : Fin 8704) : Prop := ∀ k, (kX m (ix2 n k) : EReal) - kX m (ix2 n k) = 0

/-! ## The router's logits, at a finite row -/

theorem u2_keep (b : Ref sig .tc) (h : b ∉ hostOps0_W ++ hostOps0_1_W) : U2 m 0 b = V0 m 0 b :=
  (StableHlo.after_of_writes_sub hostOps0_1 _ hostOps0_1_writes fun h' => h (List.mem_append_right _ h')).trans
    (StableHlo.after_of_writes_sub hostOps0 _ hostOps0_writes fun h' => h (List.mem_append_left _ h'))

theorem u3_keep (b : Ref sig .tc) (h : b ∉ hostOps0_W ++ hostOps0_1_W) (h9 : b ∉ [main_v9]) : U3 m 0 b = V0 m 0 b :=
  (V3_of m (outs m) 0 b h9).trans (u2_keep m b h)

theorem u2_group (k : Fin 4096) (j : Fin 128) (g : Fin 4) (hj : j.val = g.val) :
    (U2 m 0 main_v8 : Vec Ideal S4096x128 .f32) (ix2 k j) = kG m (ix3 1 k g) :=
  (at_v8 (V1 m 0) k j (by omega)).trans (at_v7_group (V0 m 0) k _ g hj)

theorem u2_expert (k : Fin 4096) (j : Fin 128) (g : Fin 4) (i : Fin 8) (hj : j.val = 4 + (g.val * 8 + i.val)) :
    (U2 m 0 main_v8 : Vec Ideal S4096x128 .f32) (ix2 k j) = kR m (ix4 1 g k i) :=
  (at_v8 (V1 m 0) k j (by omega)).trans (at_v7_expert (V0 m 0) k _ g i hj)

theorem u3_v9 (n : Fin 8704) (hx : FiniteRow m n) (j : Fin 128) (w : Fin 4096 → EReal)
    (hw : ∀ k, (U2 m 0 main_v8 : Vec Ideal S4096x128 .f32) (ix2 k j) = w k) (hf : ∀ k, w k - w k = 0) :
    (U3 m 0 main_v9 : Vec Ideal S8704x128 .f32) (ix2 n j) = ∑ k, (kX m (ix2 n k) : EReal) * w k := by
  obtain ⟨t, ht⟩ : ∃ t : Fin 34, t.val = n.val / 256 := ⟨⟨n.val / 256, by omega⟩, rfl⟩
  obtain ⟨r, hr⟩ : ∃ r : Fin 256, r.val = n.val % 256 := ⟨⟨n.val % 256, by omega⟩, rfl⟩
  have hn : n.val = t.val * 256 + r.val := by omega
  have e : (U3 m 0 main_v9 : Vec Ideal S8704x128 .f32) (ix2 n j) = (out0 (U2 m) 0 t : Vec Ideal S256x128 .f32) (ix2 r j) := by
    have e9 : U3 m 0 main_v9 = afterRegion (dat0 (U2 m) 0) (U2 m 0) main_v9 := Function.update_self _ _ _
    rw [e9]
    simp only [ix2_eq_valueIdx]
    exact router_at (U2 m) 0 t r j n hn
  have b0 : ∀ k, (blk0 (U2 m) 0 0 t : Vec Ideal S256x4096 .f32) (ix2 r k) = kX m (ix2 n k) := fun k => by
    simp only [ix2_eq_valueIdx]
    exact (blk0_0_at (U2 m) 0 t r k n hn).trans (congrFun (u2_keep m main_arg0 (by decide)) _)
  have b1 : ∀ k, (blk0 (U2 m) 0 1 t : Vec Ideal S4096x128 .f32) (ix2 k j) = w k := fun k => by
    rw [← hw k]
    simp only [ix2_eq_valueIdx]
    exact blk0_1_at (U2 m) 0 t k j
  refine e.trans ((pay0_at _ _ r j (fun k => ?_) fun k => ?_).trans (Finset.sum_congr rfl fun k _ => ?_))
  · rw [b0]; exact hx k
  · rw [b1]; exact hf k
  · rw [b0, b1]

theorem u3_group (h : Finite m) (n : Fin 8704) (hx : FiniteRow m n) (g : Fin 4) :
    plus ((U3 m 0 main_v9 : Vec Ideal S8704x128 .f32) (ix2 n ⟨g.val, by omega⟩)) (kBg m (ix2 1 g)) = groupLogit (kX m) (kG m) (kBg m) n g :=
  congrArg (fun v => plus v (kBg m (ix2 1 g))) (u3_v9 m n hx _ (fun k => kG m (ix3 1 k g)) (fun k => u2_group m k _ g rfl) fun k => h.g k g)

theorem u3_expert (h : Finite m) (n : Fin 8704) (hx : FiniteRow m n) (g : Fin 4) (i : Fin 8) :
    plus ((U3 m 0 main_v9 : Vec Ideal S8704x128 .f32) (ix2 n ⟨4 + (g.val * 8 + i.val), by omega⟩)) (kBr m (ix3 1 g i))
      = innerLogit (kX m) (kR m) (kBr m) n g i :=
  congrArg (fun v => plus v (kBr m (ix3 1 g i)))
    (u3_v9 m n hx _ (fun k => kR m (ix4 1 g k i)) (fun k => u2_expert m k _ g i rfl) fun k => h.r g k i)

/-! ## The choice -/

/-- The contents after each of the first stretches. -/
def S1 : Valuation τ sig (Elt Ideal) := after hostOps1 (U3 m 0)
def S2 : Valuation τ sig (Elt Ideal) := after hostOps1_1 (S1 m)
def S3 : Valuation τ sig (Elt Ideal) := after hostOps1_2 (S2 m)
def S4 : Valuation τ sig (Elt Ideal) := after hostOps1_3 (S3 m)
def S5 : Valuation τ sig (Elt Ideal) := after hostOps1_4 (S4 m)

theorem s2_keep (b : Ref sig .tc) (h : b ∉ hostOps1_W ++ hostOps1_1_W) : S2 m b = U3 m 0 b :=
  (StableHlo.after_of_writes_sub hostOps1_1 _ hostOps1_1_writes fun h' => h (List.mem_append_right _ h')).trans
    (StableHlo.after_of_writes_sub hostOps1 _ hostOps1_writes fun h' => h (List.mem_append_left _ h'))
theorem s4_keep (b : Ref sig .tc) (h : b ∉ hostOps1_2_W ++ hostOps1_3_W) : S4 m b = S2 m b :=
  (StableHlo.after_of_writes_sub hostOps1_3 _ hostOps1_3_writes fun h' => h (List.mem_append_right _ h')).trans
    (StableHlo.after_of_writes_sub hostOps1_2 _ hostOps1_2_writes fun h' => h (List.mem_append_left _ h'))

theorem c15 (h : Finite m) (n : Fin 8704) (hx : FiniteRow m n) (g : Fin 4) :
    (S1 m main_v15 : Vec Ideal S8704x4 .f32) (ix2 n g) = groupLogit (kX m) (kG m) (kBg m) n g := by
  refine (at_v15 (U3 m 0) n g).trans (Eq.trans ?_ (u3_group m h n hx g))
  exact congrArg (fun b : EReal => plus _ b) (congrFun (u3_keep m main_arg2 (by decide) (by decide)) _)

theorem c16 (h : Finite m) (n : Fin 8704) (hx : FiniteRow m n) :
    (S2 m main_v16 : Vec Ideal S8704 .i32) (ix1 n) = argmax (groupLogits (kX m) (kG m) (kBg m)) (ix1 n) :=
  (congrFun (at_v16 (S1 m)) _).trans (argmax_row _ _ n fun g => c15 m h n hx g)

theorem c28 (h : Finite m) (n : Fin 8704) (hx : FiniteRow m n) :
    (S3 m main_v28 : Vec Ideal S8704 .f32) (ix1 n) = weight (groupLogit (kX m) (kG m) (kBg m) n) := by
  refine (at_v28 (S2 m) n).trans (congrArg weight (funext fun g => ?_))
  rw [show S2 m main_v15 = S1 m main_v15 from StableHlo.after_of_writes_sub hostOps1_1 _ hostOps1_1_writes (by decide)]
  exact c15 m h n hx g

theorem c35 (h : Finite m) (n : Fin 8704) (hx : FiniteRow m n) (g : Fin 4) (i : Fin 8) :
    (S3 m main_v35 : Vec Ideal S8704x4x8 .f32) (ix3 n g i) = innerLogit (kX m) (kR m) (kBr m) n g i := by
  refine (at_v35 (S2 m) n g i).trans (Eq.trans ?_ (u3_expert m h n hx g i))
  rw [show S2 m main_v9 = U3 m 0 main_v9 from s2_keep m main_v9 (by decide),
    show S2 m main_arg4 = V0 m 0 main_arg4 from (s2_keep m main_arg4 (by decide)).trans (u3_keep m main_arg4 (by decide) (by decide))]

theorem c36 (h : Finite m) (n : Fin 8704) (hx : FiniteRow m n) :
    (S3 m main_v36 : Vec Ideal S8704x1x1 .i32) (ix3 n 0 0) = BitVec.ofNat 32 (group (kX m) (kG m) (kBg m) n).val :=
  (at_v36 (S2 m) n).trans ((c16 m h n hx).trans (group_word _ _ _ n))

theorem c38 (h : Finite m) (n : Fin 8704) (hx : FiniteRow m n) (i : Fin 8) :
    (S5 m main_v38 : Vec Ideal S8704x8 .f32) (ix2 n i) = innerLogits (kX m) (kG m) (kBg m) (kR m) (kBr m) (ix2 n i) :=
  (at_v38 (S4 m) n i).trans ((at_v37 (S3 m) n i _ (c36 m h n hx)).trans (c35 m h n hx _ i))

theorem c52 (h : Finite m) (n : Fin 8704) (hx : FiniteRow m n) (s : Fin 2) :
    (S5 m main_v52 : Vec Ideal S8704x2 .f32) (ix2 n s) = gate (kX m) (kG m) (kBg m) (kR m) (kBr m) n s := by
  refine (at_v52 (S4 m) n s).trans ?_
  refine congrArg₂ times ?_ (congrArg (fun v => soft v s) (funext fun s =>
    (congrFun (at_values (S4 m)) (ix2 n s)).trans (top_row _ _ n (c38 m h n hx) s).1))
  exact (congrFun (StableHlo.after_of_writes_sub hostOps1_3 (S3 m) hostOps1_3_writes (r := main_v28) (by decide)) (ix1 n)).trans (c28 m h n hx)

theorem c57 (h : Finite m) (n : Fin 8704) (hx : FiniteRow m n) (s : Fin 2) :
    (S5 m main_v57 : Vec Ideal S8704x2 .i32) (ix2 n s) = BitVec.ofNat 32 (expert (kX m) (kG m) (kBg m) (kR m) (kBr m) n s).val := by
  refine (at_v57 (S4 m) n s).trans (Eq.trans ?_ (expert_word _ _ _ _ _ n s))
  refine congrArg₂ (fun a b => IntOp.addi (IntOp.muli a 8#32) b) ?_ ((congrFun (at_indices (S4 m)) (ix2 n s)).trans
    (top_row _ _ n (c38 m h n hx) s).2)
  exact (congrFun (s4_keep m main_v16 (by decide)) (ix1 n)).trans (c16 m h n hx)

/-- At any row, what the kernel takes is an expert's number. -/
theorem c57_expert (n : Fin 8704) (s : Fin 2) : ∃ e : Fin 32, (S5 m main_v57 : Vec Ideal S8704x2 .i32) (ix2 n s) = BitVec.ofNat 32 e.val := by
  obtain ⟨g, hg⟩ := argmax_lt (S1 m main_v15) n
  obtain ⟨π, -, hπ⟩ := top_at (S5 m main_v38) n
  refine ⟨⟨g.val * 8 + (π s).val, by have := g.isLt; have := (π s).isLt; omega⟩, (at_v57 (S4 m) n s).trans ?_⟩
  rw [show (S4 m main_v16 : Vec Ideal S8704 .i32) (ix1 n) = BitVec.ofNat 32 g.val from
      (congrFun (s4_keep m main_v16 (by decide)) (ix1 n)).trans ((congrFun (at_v16 (S1 m)) _).trans hg),
    show (after hostOps1_4 (S4 m) main_indices : Vec Ideal S8704x2 .i32) (ix2 n s) = BitVec.ofNat 32 (π s).val from
      (congrFun (at_indices (S4 m)) (ix2 n s)).trans (hπ s)]
  show BitVec.ofNat 32 _ * BitVec.ofNat 32 8 + BitVec.ofNat 32 _ = _
  rw [← BitVec.ofNat_mul, ← BitVec.ofNat_add]

theorem c0 (n : Fin 8704) (k : Fin 4096) : (S5 m main_v0 : Vec Ideal S8704x4096 .bf16) (ix2 n k) = kX m (ix2 n k) := by
  have e : (S5 m main_v0 : Vec Ideal S8704x4096 .bf16) = V1 m 0 main_v0 :=
    (StableHlo.after_of_writes_sub hostOps1_4 _ hostOps1_4_writes (by decide)).trans <| (s4_keep m main_v0 (by decide)).trans <|
    (s2_keep m main_v0 (by decide)).trans <| (V3_of m (outs m) 0 main_v0 (by decide)).trans
    (StableHlo.after_of_writes_sub hostOps0_1 _ hostOps0_1_writes (by decide))
  exact (congrFun e _).trans (at_v0 (V0 m 0) n k)

/-! ## The rows -/

theorem u30_seg : U30 m 0 = seg (S5 m) 22 := rfl

/-- What the expert products find at a token's choice of an expert, with its gate: the tile is in use and holds the expert, and the row is
the token's. -/
structure Placed (n : Fin 8704) (s : Fin 2) (e : Fin 32) (g : EReal) (w : Fin 25600) (t : Fin 100) : Prop where
  tile : t.val = w.val / 256
  used : (U30 m 0 main_v87 : Vec Ideal S100 .i32) (ix1 t) = 1#32
  expert : (U30 m 0 main_v102 : Vec Ideal S100 .i32) (ix1 t) = BitVec.ofNat 32 e.val
  row : (U30 m 0 main_v180 : Vec Ideal S8704x2 .i32) (ix2 n s) = BitVec.ofNat 32 w.val
  token : ∀ k, (U30 m 0 main_v187 : Vec Ideal S25600x4096 .bf16) (ix2 w k) = kX m (ix2 n k)
  gate : (U30 m 0 main_v188 : Vec Ideal S25600x1 .f32) (ix2 w 0) = g

/-- Every choice is placed, at the kernel's own number of an expert and its own gate. -/
theorem placed (n : Fin 8704) (s : Fin 2) : ∃ (e : Fin 32) (w : Fin 25600) (t : Fin 100),
    (S5 m main_v57 : Vec Ideal S8704x2 .i32) (ix2 n s) = BitVec.ofNat 32 e.val
      ∧ Placed m n s e ((S5 m main_v52 : Vec Ideal S8704x2 .f32) (ix2 n s)) w t := by
  choose c hc using c57_expert m
  obtain ⟨e, he⟩ : ∃ e : Fin 17408 → ℕ, ∀ i, e i = (c ⟨i.val / 2, by omega⟩ ⟨i.val % 2, by omega⟩).val := ⟨_, fun _ => rfl⟩
  obtain ⟨a, ha⟩ : ∃ a : Fin 17408, a.val = n.val * 2 + s.val := ⟨⟨n.val * 2 + s.val, by omega⟩, rfl⟩
  have ea : e a = (c n s).val := by
    rw [he]
    have e1 : (⟨a.val / 2, by omega⟩ : Fin 8704) = n := Fin.ext (by show a.val / 2 = n.val; omega)
    have e2 : (⟨a.val % 2, by omega⟩ : Fin 2) = s := Fin.ext (by show a.val % 2 = s.val; omega)
    rw [e1, e2]
  have h58 : ∀ i, (S5 m main_v58 : Vec Ideal S17408 .i32) (ValueIdx.ix1 i) = BitVec.ofNat 32 (e i) := fun i => by
    rw [← ix1_eq_valueIdx, he]
    exact (at_v58 (S4 m) ⟨i.val / 2, by omega⟩ ⟨i.val % 2, by omega⟩ i (by show i.val = i.val / 2 * 2 + i.val % 2; omega)).trans (hc _ _)
  obtain ⟨w, t, q⟩ := routed (S5 m) e (fun i => by rw [he]; exact Fin.isLt _) h58 n s a ha
  refine ⟨c n s, w, t, hc n s, q.tile, ?_, ?_, ?_, fun k => ?_, ?_⟩
  · rw [ix1_eq_valueIdx]; exact q.used
  · rw [ix1_eq_valueIdx, ← ea]; exact q.expert
  · rw [ix2_eq_valueIdx]; exact q.row
  · rw [← c0 m n k, ix2_eq_valueIdx, ix2_eq_valueIdx]; exact q.token k
  · rw [ix2_eq_valueIdx, ix2_eq_valueIdx]; exact q.gate

/-- At a finite row, the expert and the gate are the layer's. -/
theorem placed_finite (h : Finite m) (n : Fin 8704) (hx : FiniteRow m n) (s : Fin 2) :
    ∃ w t, Placed m n s (expert (kX m) (kG m) (kBg m) (kR m) (kBr m) n s) (gate (kX m) (kG m) (kBg m) (kR m) (kBr m) n s) w t := by
  obtain ⟨e, w, t, he, q⟩ := placed m n s
  have ee : e = Cert.MoE.expert (kX m) (kG m) (kBg m) (kR m) (kBr m) n s := Fin.ext (by
    have := congrArg BitVec.toNat (he.symm.trans (c57 m h n hx s))
    simp only [BitVec.toNat_ofNat] at this
    omega)
  rw [ee, c52 m h n hx s] at q
  exact ⟨w, t, q⟩

end Cert.MoE

end
-- ==== Proof.KernelValue.lean ====
/-
  What the kernel returns: the two expert products at the rows of a token's choices, the sum of the two, and the normalization.
-/
module

public import proofs.«01_k».proof.Proof.KernelRoute

@[expose] public section

set_option maxRecDepth 16384

noncomputable section

namespace Cert.MoE

open Cert.KernelIdeal Cert.KernelIdeal.Gen
open Idealize.ShloMosaic hiding ix1 ix2 ix3 ix4
open Idealize.ShloMosaic.ValueIdx
open Idealize.ShloMosaic.TcCoe Idealize.ShloMosaic.Tactic
open Idealize.ShloMosaic.StableHlo (after)
open Idealize.ShloMosaic.Pipeline (afterRegion)

variable (m : (ℓ : Loc nD τ sig) → Buf (Elt Ideal) ℓ)

abbrev kW₁ : FVec Ideal S2x32x4096x512 .f32 := V0 m 0 main_arg5
abbrev kW₂ : FVec Ideal S2x32x4096x512 .f32 := V0 m 0 main_arg6
abbrev kW₃ : FVec Ideal S2x32x512x4096 .f32 := V0 m 0 main_arg7
abbrev kγ : FVec Ideal S2x4096 .f32 := V0 m 0 main_arg8
abbrev kβ : FVec Ideal S2x4096 .f32 := V0 m 0 main_arg9

/-- What is neither a host result nor a region's is at the end what it was before. -/
theorem u33_end (b : Ref sig .tc) (h : b ∉ [main_v211_0, main_v211_1]) : U33 m 0 b = V34 m (outs m) 0 b :=
  (congrFun (V33_eq m 0) _).symm.trans (V34_of m (outs m) 0 b h).symm
theorem u32_end (b : Ref sig .tc) (h : b ∉ [main_v211_0, main_v211_1]) (h3 : b ∉ hostOps3_W) : U32 m 0 b = V34 m (outs m) 0 b :=
  ((congrFun (V32_eq m 0) _).symm.trans (V33_of m (outs m) 0 b h3).symm).trans (V34_of m (outs m) 0 b h).symm
theorem u31_u30 (b : Ref sig .tc) (h : b ∉ [main_v189]) : U31 m 0 b = U30 m 0 b :=
  (congrFun (V31_eq m 0) _).symm.trans ((V31_of m (outs m) 0 b h).trans (congrFun (V30_eq m 0) _))
theorem u32_u31 (b : Ref sig .tc) (h : b ∉ [main_v190]) : U32 m 0 b = U31 m 0 b :=
  (congrFun (V32_eq m 0) _).symm.trans ((V32_of m (outs m) 0 b h).trans (congrFun (V31_eq m 0) _))
theorem u31_end (b : Ref sig .tc) (h : b ∉ [main_v211_0, main_v211_1]) (h3 : b ∉ hostOps3_W) (h2 : b ∉ [main_v190]) :
    U31 m 0 b = V34 m (outs m) 0 b := (u32_u31 m b h2).symm.trans (u32_end m b h h3)
theorem u30_end (b : Ref sig .tc) (h : b ∉ [main_v211_0, main_v211_1]) (h3 : b ∉ hostOps3_W) (h2 : b ∉ [main_v190]) (h1 : b ∉ [main_v189]) :
    U30 m 0 b = V34 m (outs m) 0 b := (u31_u30 m b h1).symm.trans (u31_end m b h h3 h2)

section Row

variable {m}
variable {n : Fin 8704} {s : Fin 2} {e : Fin 32} {g : EReal} {w : Fin 25600} {t : Fin 100} (q : Placed m n s e g w t)

/-- The hidden row of expert `e` at token `n`. -/
abbrev hid (m : (ℓ : Loc nD τ sig) → Buf (Elt Ideal) ℓ) (n : Fin 8704) (e : Fin 32) : Fin 512 → EReal :=
  hidden (fun k => kX m (ix2 n k)) (fun k f => kW₁ m (ix4 1 e k f)) (fun k f => kW₂ m (ix4 1 e k f))

include q in
theorem holds_expert : (tblA (tabs (U30 m 0)) (ix1 t)).toNat = e.val := by
  refine (tabs_expert (U30 m 0) (ix1 t)).trans ?_
  rw [← ix1_eq_valueIdx, q.expert, BitVec.toNat_ofNat]
  exact Nat.mod_eq_of_lt (by omega)

theorem adm1_tabs : (adm1 m).1 = tabs (U30 m 0) := rfl
theorem adm2_tabs : (adm2 m).1 = tabs (U30 m 0) := rfl

include q in
theorem holds_expert1 : (tblA (adm1 m).1 (ix1 t)).toNat = e.val := by rw [adm1_tabs]; exact holds_expert q
include q in
theorem holds_expert2 : (tblA (adm2 m).1 (ix1 t)).toNat = e.val := by rw [adm2_tabs]; exact holds_expert q

theorem tabs_used (V : Valuation τ sig (Elt Ideal)) (t : Fin 100) : tblB (tabs V) (ix1 t) = (V main_v87 : Vec Ideal S100 .i32) (ix1 t) := rfl

theorem out1_used (V : Dev nD → Valuation τ sig (Elt Ideal)) (a : (pcfg1 (F := Ideal)).Adm) (c : Dev nD) (t : Fin 100) (h : tblB a.1 (ix1 t) = 1#32) :
    (out1 V a c t : Vec Ideal S256x512 .bf16) = k1_pay1 (blk1 V a c 0 t) (blk1 V a c 2 t) (blk1 V a c 3 t) (blk1 V a c 1 t) :=
  if_pos ((word1_at (tblB a.1) t).trans h)

theorem out2_used (V : Dev nD → Valuation τ sig (Elt Ideal)) (a : (pcfg2 (F := Ideal)).Adm) (c : Dev nD) (t : Fin 100) (h : tblB a.1 (ix1 t) = 1#32) :
    (out2 V a c t : Vec Ideal S256x4096 .f32) = k2_pay1 (blk2 V a c 0 t) (blk2 V a c 1 t) :=
  if_pos ((word2_at (tblB a.1) t).trans h)

include q in
theorem is_used : tblB (tabs (U30 m 0)) (ix1 t) = 1#32 := by
  refine (tabs_used (U30 m 0) t).trans ?_
  rw [← ix1_eq_valueIdx]; exact q.used

theorem pay1_at' (x : Vec Ideal S256x4096 .bf16) (wg wu : Vec Ideal S1x1x4096x512 .f32) (g : Vec Ideal S256x1 .f32) (r : Fin 256) (f : Fin 512)
    (x' : Fin 4096 → EReal) (wg' wu' : Fin 4096 → Fin 512 → EReal) (g' : EReal)
    (hx : ∀ k, x (ix2 r k) = x' k) (hg : ∀ k f, wg (ix4 0 0 k f) = wg' k f) (hu : ∀ k f, wu (ix4 0 0 k f) = wu' k f) (hq : g (ix2 r 0) = g') :
    k1_pay1 x wg wu g (ix2 r f) = times (hidden x' wg' wu' f) g' := by
  obtain rfl := funext hx
  obtain rfl := funext fun k => funext (hg k)
  obtain rfl := funext fun k => funext (hu k)
  obtain rfl := hq
  simp only [← ix2_eq_valueIdx, ← ix4_eq_valueIdx]
  exact pay1_at x wg wu g r f

theorem pay2_at' (a : Vec Ideal S256x512 .bf16) (wd : Vec Ideal S1x1x512x4096 .f32) (r : Fin 256) (k : Fin 4096) (h : Fin 512 → EReal) (g : EReal)
    (wd' : Fin 512 → Fin 4096 → EReal) (ha : ∀ f, a (ix2 r f) = times (h f) g) (hd : ∀ f k, wd (ix4 0 0 f k) = wd' f k) :
    k2_pay1 a wd (ix2 r k) = output h g wd' k := by
  obtain rfl := funext fun f => funext (hd f)
  have e := pay2_at a wd r k
  simp only [ix2_eq_valueIdx, ix4_eq_valueIdx, ha] at e
  exact e

theorem pay3_at' (y0 y1 x : Vec Ideal S128x4096 .f32) (g b : Vec Ideal S1x1x4096 .f32) (r : Fin 128) (k : Fin 4096)
    (x' a0 a1 g' b' : Fin 4096 → EReal) (hx : ∀ k, x (ix2 r k) = x' k) (h0 : ∀ k, y0 (ix2 r k) = a0 k) (h1 : ∀ k, y1 (ix2 r k) = a1 k)
    (hg : ∀ k, g (ix3 0 0 k) = g' k) (hb : ∀ k, b (ix3 0 0 k) = b' k) :
    k3_pay1 y0 y1 x g b (ix2 r k) = normed (fun k => plus (scaled (x' k)) (plus (a0 k) (a1 k))) g' b' k := by
  obtain rfl := funext hx
  obtain rfl := funext h0
  obtain rfl := funext h1
  obtain rfl := funext hg
  obtain rfl := funext hb
  simp only [← ix2_eq_valueIdx, ← ix3_eq_valueIdx]
  exact pay3_at y0 y1 x g b r k

include q in
/-- The hidden row, weighted by the gate, is in the row's place. -/
theorem up_value (f : Fin 512) : (U31 m 0 main_v189 : Vec Ideal S25600x512 .bf16) (ix2 w f) = times (hid m n e f) g := by
  obtain ⟨r, hr⟩ : ∃ r : Fin 256, r.val = w.val % 256 := ⟨⟨w.val % 256, by omega⟩, rfl⟩
  have hw : w.val = t.val * 256 + r.val := by rw [q.tile]; omega
  have e9 : U31 m 0 main_v189 = afterRegion (dat1 (U30 m) (adm1 m) 0) (U30 m 0) main_v189 := Function.update_self _ _ _
  rw [e9]
  refine (up_at (U30 m) (adm1 m) 0 t r f w hw).trans ?_
  refine (congrFun (out1_used (U30 m) (adm1 m) 0 t (is_used q)) (ix2 r f)).trans ?_
  refine pay1_at' _ _ _ _ r f _ _ _ _ (fun k => ?_) (fun k f => ?_) (fun k f => ?_) ?_
  · refine (blk1_0_at (U30 m) (adm1 m) 0 t r k w hw).trans ?_
    have := q.token k
    rw [ix2_eq_valueIdx, ix2_eq_valueIdx] at this
    exact this
  · refine (blk1_2_at (U30 m) (adm1 m) 0 t k f e (holds_expert1 q)).trans (congrFun ?_ _)
    exact (u30_end m main_arg5 (by decide) (by decide) (by decide) (by decide)).trans (V34_main_arg5 m (outs m) 0)
  · refine (blk1_3_at (U30 m) (adm1 m) 0 t k f e (holds_expert1 q)).trans (congrFun ?_ _)
    exact (u30_end m main_arg6 (by decide) (by decide) (by decide) (by decide)).trans (V34_main_arg6 m (outs m) 0)
  · refine (blk1_1_at (U30 m) (adm1 m) 0 t r w hw).trans ?_
    have := q.gate
    rw [ix2_eq_valueIdx] at this
    exact this

include q in
/-- The expert's weighted output is in the row's place. -/
theorem down_value (k : Fin 4096) : (U32 m 0 main_v190 : Vec Ideal S25600x4096 .f32) (ix2 w k)
    = output (hid m n e) g (fun f k => kW₃ m (ix4 1 e f k)) k := by
  obtain ⟨r, hr⟩ : ∃ r : Fin 256, r.val = w.val % 256 := ⟨⟨w.val % 256, by omega⟩, rfl⟩
  have hw : w.val = t.val * 256 + r.val := by rw [q.tile]; omega
  have e9 : U32 m 0 main_v190 = afterRegion (dat2 (U31 m) (adm2 m) 0) (U31 m 0) main_v190 := Function.update_self _ _ _
  rw [e9]
  refine (down_at (U31 m) (adm2 m) 0 t r k w hw).trans ?_
  refine (congrFun (out2_used (U31 m) (adm2 m) 0 t (is_used q)) (ix2 r k)).trans ?_
  refine pay2_at' _ _ r k _ _ _ (fun f => ?_) (fun f k => ?_)
  · exact (blk2_0_at (U31 m) (adm2 m) 0 t r f w hw).trans (up_value q f)
  · refine (blk2_1_at (U31 m) (adm2 m) 0 t f k e (holds_expert2 q)).trans (congrFun ?_ _)
    exact (u31_end m main_arg7 (by decide) (by decide) (by decide)).trans (V34_main_arg7 m (outs m) 0)

end Row

section Norm

variable {m}
variable {n : Fin 8704} {e₀ e₁ : Fin 32} {g₀ g₁ : EReal} {w₀ w₁ : Fin 25600} {t₀ t₁ : Fin 100}
  (q₀ : Placed m n 0 e₀ g₀ w₀ t₀) (q₁ : Placed m n 1 e₁ g₁ w₁ t₁)

theorem u32_row : U32 m 0 main_v180 = U30 m 0 main_v180 := (u32_u31 m main_v180 (by decide)).trans (u31_u30 m main_v180 (by decide))

/-- The normalization's scale and shift, spread. -/
theorem u33_scale (k : Fin 4096) : (U33 m 0 main_v209 : Vec Ideal S2x1x4096 .f32) (ix3 1 0 k) = kγ m (ix2 1 k) := by
  have e : (after hostOps3 (U32 m 0) main_v209 : Vec Ideal S2x1x4096 .f32) (Idealize.ShloMosaic.ix3 1 0 k)
      = (U32 m 0 main_arg8 : Vec Ideal S2x4096 .f32) (Idealize.ShloMosaic.ix2 1 k) := by after_reads_at
  rw [ix2_eq_valueIdx, ix3_eq_valueIdx] at e
  exact e.trans (congrFun ((u32_end m main_arg8 (by decide) (by decide)).trans (V34_main_arg8 m (outs m) 0)) _)
theorem u33_shift (k : Fin 4096) : (U33 m 0 main_v210 : Vec Ideal S2x1x4096 .f32) (ix3 1 0 k) = kβ m (ix2 1 k) := by
  have e : (after hostOps3 (U32 m 0) main_v210 : Vec Ideal S2x1x4096 .f32) (Idealize.ShloMosaic.ix3 1 0 k)
      = (U32 m 0 main_arg9 : Vec Ideal S2x4096 .f32) (Idealize.ShloMosaic.ix2 1 k) := by after_reads_at
  rw [ix2_eq_valueIdx, ix3_eq_valueIdx] at e
  exact e.trans (congrFun ((u32_end m main_arg9 (by decide) (by decide)).trans (V34_main_arg9 m (outs m) 0)) _)

include q₀ q₁ in
/-- The returned row. -/
theorem norm_value (k : Fin 4096) : (U34 m 0 main_v211_0 : Vec Ideal S8704x4096 .f32) (ix2 n k)
    = normed (fun k => plus (scaled (kX m (ix2 n k))) (plus (output (hid m n e₀) g₀ (fun f k => kW₃ m (ix4 1 e₀ f k)) k)
        (output (hid m n e₁) g₁ (fun f k => kW₃ m (ix4 1 e₁ f k)) k))) (fun k => kγ m (ix2 1 k)) (fun k => kβ m (ix2 1 k)) k := by
  obtain ⟨t, ht⟩ : ∃ t : Fin 68, t.val = n.val / 128 := ⟨⟨n.val / 128, by omega⟩, rfl⟩
  obtain ⟨r, hr⟩ : ∃ r : Fin 128, r.val = n.val % 128 := ⟨⟨n.val % 128, by omega⟩, rfl⟩
  have hn : n.val = t.val * 128 + r.val := by omega
  have e9 : U34 m 0 main_v211_0 = afterRegion (dat3 (U33 m) 0) (U33 m 0) main_v211_0 :=
    (Function.update_of_ne (by decide) _ _).trans (Function.update_self _ _ _)
  rw [e9]
  refine (norm_at (U33 m) 0 t r k n hn).trans ?_
  refine pay3_at' _ _ _ _ _ r k _ _ _ _ _ (fun k => ?_) (fun k => ?_) (fun k => ?_) (fun k => ?_) (fun k => ?_)
  · refine (blk3_0_at (U33 m) 0 t r k n hn).trans (congrFun ?_ _)
    exact (u33_end m main_arg0 (by decide)).trans (V34_main_arg0 m (outs m) 0)
  · refine (blk3_1_at (U33 m) 0 t r k n hn).trans ((at_v199 (U32 m 0) n w₀ ?_ k).trans (down_value q₀ k))
    rw [u32_row, ← ix2_eq_valueIdx]
    exact q₀.row
  · refine (blk3_2_at (U33 m) 0 t r k n hn).trans ((at_v208 (U32 m 0) n w₁ ?_ k).trans (down_value q₁ k))
    rw [u32_row, ← ix2_eq_valueIdx]
    exact q₁.row
  · exact (blk3_3_at (U33 m) 0 t k).trans (u33_scale k)
  · exact (blk3_4_at (U33 m) 0 t k).trans (u33_shift k)

end Norm

/-- What the kernel returns, entry by entry. A row with an infinite entry takes experts of its own, but all that is left of it is the shift. -/
theorem value (h : Finite m) (n : Fin 8704) (k : Fin 4096) : (U34 m 0 main_v211_0 : Vec Ideal S8704x4096 .f32) (Idealize.ShloMosaic.ix2 n k)
    = result (kX m) (kG m) (kBg m) (kR m) (kBr m) (kW₁ m) (kW₂ m) (kW₃ m) (kγ m) (kβ m) n k := by
  by_cases hx : FiniteRow m n
  · obtain ⟨w₀, t₀, q₀⟩ := placed_finite m h n hx 0
    obtain ⟨w₁, t₁, q₁⟩ := placed_finite m h n hx 1
    have e := norm_value q₀ q₁ k
    simp only [hid, ← ix2_eq_valueIdx, ← ix4_eq_valueIdx] at e
    exact e
  · obtain ⟨i, hi⟩ := not_forall.1 hx
    have hs := scaled_infinite (infinite_of hi)
    obtain ⟨e₀, w₀, t₀, -, q₀⟩ := placed m n 0
    obtain ⟨e₁, w₁, t₁, -, q₁⟩ := placed m n 1
    have e := norm_value q₀ q₁ k
    simp only [hid, ← ix2_eq_valueIdx, ← ix4_eq_valueIdx] at e
    exact e.trans ((normed_infinite _ _ _ i (infinite_add hs _) k).trans (result_infinite _ _ _ _ _ _ _ _ _ _ n i k hs).symm)

end Cert.MoE

end
-- ==== Proof.Inputs.lean ====
/-
  The precondition at an index: the router's weights are finite.
-/
module

public import proofs.«01_k».proof.Pre_finite_router
public import proofs.«01_k».proof.Proof.KernelRoute
public import Idealize.ShloMosaic.Lib.Pointwise

@[expose] public section

noncomputable section

namespace Cert.MoE.Inputs

open Cert.Pre_finite_router
open Idealize.ShloMosaic

instance facts : Facts where
  slices_S2x4096x4_S1x4096x4_1_0_0 := by decide
  shapeCasts_S1x4096x4_S4096x4 := by decide
  bcast_S_S4096x4 := by decide
  slices_S2x4x4096x8_S1x4x4096x8_1_0_0_0 := by decide
  shapeCasts_S1x4x4096x8_S4x4096x8 := by decide
  bcast_S_S4x4096x8 := by decide

/-- Below the infinity word in absolute value: the difference with itself is zero. -/
theorem finite_of_lt (x : EReal) (h : BitVec.ofBool (decide (max x (-x) < Ideal.ofBits FTy.f32 2139095040#32)) = 1#1) : x - x = 0 := by
  have top : Ideal.ofBits .f32 2139095040#32 = ⊤ := by simp [Ideal.ofBits, Ideal.ieee]
  rw [top] at h
  have hlt : max x (-x) < ⊤ := by
    by_contra hn
    rw [decide_eq_false hn] at h
    exact absurd h (by decide)
  rw [max_lt_iff] at hlt
  exact EReal.sub_self (ne_of_lt hlt.1) fun hb => by rw [hb] at hlt; exact absurd hlt.2 (by simp)

variable (x : FVec Ideal S8704x4096 .f32) (g : FVec Ideal S2x4096x4 .f32) (bg : FVec Ideal S2x4 .f32) (r : FVec Ideal S2x4x4096x8 .f32)
  (br : FVec Ideal S2x4x8 .f32) (w₁ w₂ : FVec Ideal S2x32x4096x512 .f32) (w₃ : FVec Ideal S2x32x512x4096 .f32) (γ β : FVec Ideal S2x4096 .f32)

theorem g_finite (h : (fn (F := Ideal) x g bg r br w₁ w₂ w₃ γ β).1 = fun _ => 1#1) (k : Fin 4096) (j : Fin 4) :
    (g (ix3 1 k j) : EReal) - g (ix3 1 k j) = 0 := by
  have e := congrFun h (ix2 k j)
  revert e
  pointwise [fn]
  exact finite_of_lt _

theorem r_finite (h : (fn (F := Ideal) x g bg r br w₁ w₂ w₃ γ β).2 = fun _ => 1#1) (j : Fin 4) (k : Fin 4096) (i : Fin 8) :
    (r (ix4 1 j k i) : EReal) - r (ix4 1 j k i) = 0 := by
  have e := congrFun h (ix3 j k i)
  revert e
  pointwise [fn]
  exact finite_of_lt _

end Cert.MoE.Inputs

end
-- ==== Proof.FoxRun.lean ====
/-
  The projections of the attention: the run of the two regions, and what each leaves at an index of its output.
-/
module

public import proofs.«01_k».proof.Proof.Gen.Kernel2Ideal.Frame
public import Idealize.ShloMosaic.Lib.Pipeline.ValueKit
public import Idealize.ShloMosaic.Lib.StableHlo.ReadAt

@[expose] public section

set_option maxRecDepth 16384

noncomputable section

namespace Cert.Fox

open Cert.Kernel2Ideal Cert.Kernel2Ideal.Gen
open Idealize.ShloMosaic hiding ix1 ix2 ix3 ix4
open Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: every buffer that outlives the regions ends at what the last host operations leave there, and nothing is counted. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W9 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => ⟨h, funext fun g => hz g (.inr (no_unscoped g.2))⟩)

/-! ## The tiles -/

theorem index0 : ∀ t : Fin grid0.N, win0_0.index t = ![t.val, 0] ∧ win0_1.index t = ![0, 0, 0] ∧ win0_2.index t = ![t.val, 0] := by decide +kernel
theorem index1 : ∀ t : Fin grid1.N, win1_0.index t = ![t.val, 4] ∧ win1_1.index t = ![0, 0] ∧ win1_2.index t = ![t.val, 0] := by decide +kernel

variable (V : (c : Dev nD) → (b : Ref sig .tc) → Buf (Elt F) ((c : Thread nD τ).loc b))

theorem out0_eq (x : Vec F S1088x4096 .bf16) (w : Vec F S1x4096x640 .f32) : out0_2 x w = k0_pay1 x w := by
  unfold out0_2
  rw [View.canon_unit_zero (by decide), View.ld_unit_zero (by decide), View.ld_unit_zero (by decide)]

theorem out1_eq (z : Vec F S512x128 .f32) (b : Vec F S1x128 .f32) : out1_2 z b = k1_pay1 z b := by
  unfold out1_2
  rw [View.canon_unit_zero (by decide), View.ld_unit_zero (by decide), View.ld_unit_zero (by decide)]

/-- The product in the tile of point `t`. -/
theorem product_at (c : Dev nD) (t : Fin 8) (r : Fin 1088) (j : Fin 640) (n : Fin 8704) (hn : n.val = t.val * 1088 + r.val) :
    ((dat0 V c).arrAt 2 cfg0.N : Vec F S8704x640 .f32) (ix2 n j) = k0_pay1 (iblk0 V c 0 t) (iblk0 V c 1 t) (ix2 r j) := by
  have hi : ∀ t t', (cfg0.win 2).index t = (cfg0.win 2).index t' → t = t' := fun t t' h => by
    have := congrFun h 0
    rw [show (cfg0.win 2).index t = _ from (index0 t).2.2, show (cfg0.win 2).index t' = _ from (index0 t').2.2] at this
    exact Fin.ext this
  have h := (dat0 V c).arrAt_emb_eq_flushed 2 ((cfg0.win 2).hdisj_of_index_inj fun t t' _ _ h => hi t t' h) t (flush0_2 t) (ix2 r j)
  have e : ((cfg0.win 2).blk t).view.emb (ix2 r j) = (ix2 n j : S8704x640.Idx) := by
    blk_ext [index0 t, hn]
  rw [← e]
  refine h.trans ?_
  exact (congrFun (after0_2 V c t) (ix2 r j)).trans (congrFun (out0_eq _ _) _)

/-- The gates in the tile of point `t`. -/
theorem gates_at (c : Dev nD) (t : Fin 17) (r : Fin 512) (j : Fin 128) (n : Fin 8704) (hn : n.val = t.val * 512 + r.val) :
    ((dat1 V c).arrAt 2 cfg1.N : Vec F S8704x128 .f32) (ix2 n j) = k1_pay1 (iblk1 V c 0 t) (iblk1 V c 1 t) (ix2 r j) := by
  have hi : ∀ t t', (cfg1.win 2).index t = (cfg1.win 2).index t' → t = t' := fun t t' h => by
    have := congrFun h 0
    rw [show (cfg1.win 2).index t = _ from (index1 t).2.2, show (cfg1.win 2).index t' = _ from (index1 t').2.2] at this
    exact Fin.ext this
  have h := (dat1 V c).arrAt_emb_eq_flushed 2 ((cfg1.win 2).hdisj_of_index_inj fun t t' _ _ h => hi t t' h) t (flush1_2 t) (ix2 r j)
  have e : ((cfg1.win 2).blk t).view.emb (ix2 r j) = (ix2 n j : S8704x128.Idx) := by
    blk_ext [index1 t, hn]
  rw [← e]
  refine h.trans ?_
  exact (congrFun (after1_2 V c t) (ix2 r j)).trans (congrFun (out1_eq _ _) _)

theorem blk0_0_at (c : Dev nD) (t : Fin 8) (r : Fin 1088) (k : Fin 4096) (n : Fin 8704) (hn : n.val = t.val * 1088 + r.val) :
    (iblk0 V c 0 t : Vec F S1088x4096 .bf16) (ix2 r k) = (V c main_v0 : Vec F S8704x4096 .bf16) (ix2 n k) := by
  blk_ext [iblk0, index0 t, hn]

theorem blk0_1_at (c : Dev nD) (t : Fin 8) (k : Fin 4096) (j : Fin 640) :
    (iblk0 V c 1 t : Vec F S1x4096x640 .f32) (ix3 0 k j) = (V c main_v4 : Vec F S1x4096x640 .f32) (ix3 0 k j) := by
  blk_ext [iblk0, index0 t]

theorem blk1_0_at (c : Dev nD) (t : Fin 17) (r : Fin 512) (j : Fin 128) (n : Fin 8704) (i : Fin 640) (hn : n.val = t.val * 512 + r.val)
    (hi : i.val = 512 + j.val) :
    (iblk1 V c 0 t : Vec F S512x128 .f32) (ix2 r j) = (V c main_v5 : Vec F S8704x640 .f32) (ix2 n i) := by
  blk_ext [iblk1, index1 t, hn, hi]

theorem blk1_1_at (c : Dev nD) (t : Fin 17) (j : Fin 128) :
    (iblk1 V c 1 t : Vec F S1x128 .f32) (ix2 0 j) = (V c main_v8 : Vec F S1x128 .f32) (ix2 0 j) := by
  blk_ext [iblk1, index1 t]

end Cert.Fox

end
-- ==== Proof.FoxPays.lean ====
/-
  The projections of the attention over the extended reals: the two kernels at an index of their tiles, the host operations around
  them, and the logarithm of the logistic function in the reference's form.
-/
module

public import proofs.«01_k».proof.Proof.Gen.Kernel2Ideal.Frame
public import proofs.«01_k».proof.Proof.Gen.Reference2Ideal.Run
public import Idealize.ShloMosaic.Lib.Pointwise
public import Idealize.ShloMosaic.Lib.StableHlo.ReadAt

@[expose] public section

set_option maxRecDepth 16384

noncomputable section

namespace Cert.Fox

open Cert.Kernel2Ideal Cert.Kernel2Ideal.Gen
open Idealize.ShloMosaic
open Idealize.ShloMosaic.TcCoe Idealize.ShloMosaic.Tactic
open Idealize.ShloMosaic.StableHlo (after)

/-- The logarithm of the logistic function. -/
def logSigmoid (z : EReal) : EReal := min z 0 - Ideal.log (1 + Ideal.exp (-max z (-z)))

theorem product_pay (x : Vec Ideal S1088x4096 .bf16) (w : Vec Ideal S1x4096x640 .f32) (r : Fin 1088) (j : Fin 640) :
    k0_pay1 x w (ix2 r j) = ∑ k : Fin 4096, x (ix2 r k) * w (ix3 0 k j) := by
  pointwise [k0_pay1]

theorem gate_pay (z : Vec Ideal S512x128 .f32) (b : Vec Ideal S1x128 .f32) (r : Fin 512) (j : Fin 128) :
    k1_pay1 z b (ix2 r j) = logSigmoid (z (ix2 r j) + b (ix2 0 j)) := by
  pointwise [k1_pay1]
  rw [zero_sub]
  rfl

variable (V : Valuation τ sig (Elt Ideal))

theorem at_v0 (n : Fin 8704) (k : Fin 4096) :
    (after hostOps0 V main_v0 : Vec Ideal S8704x4096 .bf16) (ix2 n k) = (V main_arg0 : Vec Ideal S8704x4096 .f32) (ix2 n k) := by
  after_reads_at
theorem at_v2 (k : Fin 4096) (j : Fin 544) (i : Fin 4640) (hi : i.val = 4096 + j.val) :
    (after hostOps0 V main_v2 : Vec Ideal S4096x544 .f32) (ix2 k j) = (V main_arg1 : Vec Ideal S1x4096x4640 .f32) (ix3 0 k i) := by
  after_reads_at
  exact congrArg (fun i => (V main_arg1 : Vec Ideal S1x4096x4640 .f32) (ix3 0 k i)) (Fin.ext hi.symm)
theorem at_v3 (k : Fin 4096) (j : Fin 640) (hj : j.val < 544) :
    (after hostOps0_1 V main_v3 : Vec Ideal S4096x640 .f32) (ix2 k j) = (V main_v2 : Vec Ideal S4096x544 .f32) (ix2 k ⟨j.val, hj⟩) := by
  after_reads_at
  rw [dif_pos hj]
theorem at_v4 (k : Fin 4096) (j : Fin 640) :
    (after hostOps0_2 V main_v4 : Vec Ideal S1x4096x640 .f32) (ix3 0 k j) = (V main_v3 : Vec Ideal S4096x640 .f32) (ix2 k j) := by
  after_reads_at
theorem at_v6 (h : Fin 32) :
    (after hostOps1 V main_v6 : Vec Ideal S32 .f32) (ix1 h) = (V main_arg2 : Vec Ideal S1x32 .f32) (ix2 0 h) := by
  after_reads_at
theorem at_v7 (h : Fin 128) (hh : h.val < 32) :
    (after hostOps1_1 V main_v7 : Vec Ideal S128 .f32) (ix1 h) = (V main_v6 : Vec Ideal S32 .f32) (ix1 ⟨h.val, hh⟩) := by
  after_reads_at
  rw [dif_pos hh]
theorem at_v8 (h : Fin 128) :
    (after hostOps1_2 V main_v8 : Vec Ideal S1x128 .f32) (ix2 0 h) = (V main_v7 : Vec Ideal S128 .f32) (ix1 h) := by
  after_reads_at
theorem at_v10 (n : Fin 8704) (h : Fin 32) :
    (after hostOps2 V main_v10 : Vec Ideal S8704x32 .f32) (ix2 n h) = (V main_v9 : Vec Ideal S8704x128 .f32) (ix2 n ⟨h.val, by omega⟩) := by
  after_reads_at
theorem at_v11 (n : Fin 8704) (j : Fin 256) :
    (after hostOps2 V main_v11 : Vec Ideal S8704x256 .f32) (ix2 n j) = (V main_v5 : Vec Ideal S8704x640 .f32) (ix2 n ⟨j.val, by omega⟩) := by
  after_reads_at
theorem at_v12 (n : Fin 8704) (j : Fin 256) :
    (after hostOps2 V main_v12 : Vec Ideal S8704x256 .f32) (ix2 n j) = (V main_v5 : Vec Ideal S8704x640 .f32) (ix2 n ⟨256 + j.val, by omega⟩) := by
  after_reads_at

theorem log_real (e : EReal) (h0 : 0 ≤ e) (h1 : e ≤ 1) : ∃ l : ℝ, Ideal.log (1 + e) = (l : EReal) := by
  induction e with
  | bot => exact absurd h0 (by simp)
  | top => exact absurd h1 (not_le.mpr (EReal.coe_lt_top 1))
  | coe e =>
    have h0' : 0 ≤ e := by exact_mod_cast h0
    refine ⟨Real.log (1 + e), ?_⟩
    show Ideal.log ((1 : ℝ) + (e : ℝ)) = _
    rw [← EReal.coe_add]
    show (if 1 + e ≤ 0 then ⊥ else _) = _
    rw [if_neg (by linarith)]

theorem exp_abs (z : EReal) : 0 ≤ Ideal.exp (-max z (-z)) ∧ Ideal.exp (-max z (-z)) ≤ 1 := by
  induction z with
  | bot => exact ⟨le_refl (0 : EReal), (zero_le_one : (0 : EReal) ≤ 1)⟩
  | top => exact ⟨le_refl (0 : EReal), (zero_le_one : (0 : EReal) ≤ 1)⟩
  | coe z =>
    have h : -max (z : EReal) (-(z : EReal)) = ((-max z (-z) : ℝ) : EReal) := by
      rw [← EReal.coe_neg, ← EReal.coe_strictMono.monotone.map_max, ← EReal.coe_neg]
    rw [h]
    show (0 : EReal) ≤ ((Real.exp (-max z (-z)) : ℝ) : EReal) ∧ ((Real.exp (-max z (-z)) : ℝ) : EReal) ≤ 1
    refine ⟨by exact_mod_cast (Real.exp_pos _).le, ?_⟩
    have : Real.exp (-max z (-z)) ≤ 1 := Real.exp_le_one_iff.mpr (neg_nonpos.mpr (abs_nonneg z))
    exact_mod_cast this

/-- The reference's form: the negative of the logarithm of one plus an exponential, at the negative. -/
theorem logSigmoid_eq (z : EReal) :
    -(max (-z) 0 + Ideal.log (1 + Ideal.exp (-max (-z) (- -z)))) = logSigmoid z := by
  unfold logSigmoid
  rw [neg_neg, max_comm (-z) z]
  obtain ⟨l, hl⟩ := log_real _ (exp_abs z).1 (exp_abs z).2
  rw [hl, EReal.neg_add (.inr (EReal.coe_ne_top l)) (.inr (EReal.coe_ne_bot l))]
  congr 1
  rcases le_total z 0 with h | h
  · rw [min_eq_left h, max_eq_left (by simpa using EReal.neg_le_neg_iff.mpr h), neg_neg]
  · rw [min_eq_right h, max_eq_right (by simpa using EReal.neg_le_neg_iff.mpr h), neg_zero]

end Cert.Fox

end
-- ==== Proof.FoxValue.lean ====
/-
  The projections of the attention over the extended reals: the program's three results and the reference's, at an index.
-/
module

public import proofs.«01_k».proof.Proof.FoxRun
public import proofs.«01_k».proof.Proof.FoxPays
public import proofs.«01_k».proof.Proof.Gen.Reference2Ideal
public import Idealize.ShloMosaic.Lib.Pointwise.IndexBridge

@[expose] public section

set_option maxRecDepth 16384

noncomputable section

namespace Cert.Fox

open Idealize.ShloMosaic
open Idealize.ShloMosaic.TcCoe Idealize.ShloMosaic.Tactic
open Idealize.ShloMosaic.StableHlo (after)

/-- A row of the activations times a column of the weights. -/
def product (x : FVec Ideal Cert.Kernel2Ideal.S8704x4096 .f32) (w : FVec Ideal Cert.Kernel2Ideal.S1x4096x4640 .f32) (n : Fin 8704) (i : Fin 4640) : EReal :=
  ∑ k : Fin 4096, x (ix2 n k) * w (ix3 0 k i)

section Kernel
open Cert.Kernel2Ideal Cert.Kernel2Ideal.Gen

variable (m : (ℓ : Loc nD τ sig) → Buf (Elt Ideal) ℓ) (ρ : Dev nD → PrngReg) (c : Dev nD)

/-- The first region's output, where its columns are the weights'. -/
theorem w4_v5 (n : Fin 8704) (j : Fin 640) (i : Fin 4640) (hj : j.val < 544) (hi : i.val = 4096 + j.val) :
    (W4 m ρ c (Proc.devRef .tc main_v5) : Vec Ideal S8704x640 .f32) (ix2 n j)
      = product (m ((c : Thread nD τ).loc main_arg0)) (m ((c : Thread nD τ).loc main_arg1)) n i := by
  have hq := product_at (V3 m ρ) c ⟨n.val / 1088, by omega⟩ ⟨n.val % 1088, by omega⟩ j n (by show n.val = n.val / 1088 * 1088 + n.val % 1088; omega)
  simp only [← ix2_eq_valueIdx] at hq
  refine (congrFun (W4_arr m ρ c 2) (ix2 n j)).trans (hq.trans ((product_pay _ _ _ _).trans (Finset.sum_congr rfl fun k _ => ?_)))
  have h0 := blk0_0_at (V3 m ρ) c ⟨n.val / 1088, by omega⟩ ⟨n.val % 1088, by omega⟩ k n (by show n.val = n.val / 1088 * 1088 + n.val % 1088; omega)
  have h1 := blk0_1_at (V3 m ρ) c ⟨n.val / 1088, by omega⟩ k j
  simp only [← ix2_eq_valueIdx, ← ix3_eq_valueIdx] at h0 h1
  have g0 : (V3 m ρ c main_v0 : Vec Ideal S8704x4096 .bf16) (ix2 n k) = (m ((c : Thread nD τ).loc main_arg0) : Vec Ideal S8704x4096 .f32) (ix2 n k) :=
    (congrFun ((W3_of m ρ c main_v0 (by decide)).trans (W2_of m ρ c main_v0 (by decide))) _).trans (at_v0 (W0 m ρ c) n k)
  have g1 : (V3 m ρ c main_v4 : Vec Ideal S1x4096x640 .f32) (ix3 0 k j) = (m ((c : Thread nD τ).loc main_arg1) : Vec Ideal S1x4096x4640 .f32) (ix3 0 k i) :=
    (at_v4 (W2 m ρ c) k j).trans ((at_v3 (W1 m ρ c) k j hj).trans (at_v2 (W0 m ρ c) k ⟨j.val, hj⟩ i hi))
  exact congrArg₂ (fun a b : EReal => a * b) (h0.trans g0) (h1.trans g1)

theorem w8_v5 : W8 m ρ c (Proc.devRef .tc main_v5) = W4 m ρ c (Proc.devRef .tc main_v5) :=
  (W8_of m ρ c main_v5 (by decide)).trans ((W7_of m ρ c main_v5 (by decide)).trans ((W6_of m ρ c main_v5 (by decide)).trans (W5_of m ρ c main_v5 (by decide))))

/-- The keys. -/
theorem keys (n : Fin 8704) (j : Fin 256) :
    (W9 m ρ c (Proc.devRef .tc main_v11) : Vec Ideal S8704x256 .f32) (ix2 n j)
      = product (m ((c : Thread nD τ).loc main_arg0)) (m ((c : Thread nD τ).loc main_arg1)) n ⟨4096 + j.val, by omega⟩ :=
  (at_v11 (W8 m ρ c) n j).trans ((congrFun (w8_v5 m ρ c) _).trans (w4_v5 m ρ c n _ _ (by show j.val < 544; omega) rfl))

/-- The values. -/
theorem vals (n : Fin 8704) (j : Fin 256) :
    (W9 m ρ c (Proc.devRef .tc main_v12) : Vec Ideal S8704x256 .f32) (ix2 n j)
      = product (m ((c : Thread nD τ).loc main_arg0)) (m ((c : Thread nD τ).loc main_arg1)) n ⟨4352 + j.val, by omega⟩ :=
  (at_v12 (W8 m ρ c) n j).trans ((congrFun (w8_v5 m ρ c) _).trans
    (w4_v5 m ρ c n _ _ (by show 256 + j.val < 544; omega) (by show 4352 + j.val = 4096 + (256 + j.val); omega)))

/-- The logarithms of the forget gates. -/
theorem gates (n : Fin 8704) (h : Fin 32) :
    (W9 m ρ c (Proc.devRef .tc main_v10) : Vec Ideal S8704x32 .f32) (ix2 n h)
      = logSigmoid (product (m ((c : Thread nD τ).loc main_arg0)) (m ((c : Thread nD τ).loc main_arg1)) n ⟨4608 + h.val, by omega⟩
          + (m ((c : Thread nD τ).loc main_arg2) : Vec Ideal S1x32 .f32) (ix2 0 h)) := by
  have hq := gates_at (V7 m ρ) c ⟨n.val / 512, by omega⟩ ⟨n.val % 512, by omega⟩ ⟨h.val, by omega⟩ n (by show n.val = n.val / 512 * 512 + n.val % 512; omega)
  simp only [← ix2_eq_valueIdx] at hq
  refine (at_v10 (W8 m ρ c) n h).trans ((congrFun (W8_arr m ρ c 2) _).trans (hq.trans ((gate_pay _ _ _ _).trans ?_)))
  have h0 := blk1_0_at (V7 m ρ) c ⟨n.val / 512, by omega⟩ ⟨n.val % 512, by omega⟩ ⟨h.val, by omega⟩ n ⟨512 + h.val, by omega⟩
    (by show n.val = n.val / 512 * 512 + n.val % 512; omega) rfl
  have h1 := blk1_1_at (V7 m ρ) c ⟨n.val / 512, by omega⟩ ⟨h.val, by omega⟩
  simp only [← ix2_eq_valueIdx] at h0 h1
  have g0 : (V7 m ρ c main_v5 : Vec Ideal S8704x640 .f32) (ix2 n ⟨512 + h.val, by omega⟩)
      = product (m ((c : Thread nD τ).loc main_arg0)) (m ((c : Thread nD τ).loc main_arg1)) n ⟨4608 + h.val, by omega⟩ :=
    (congrFun ((W7_of m ρ c main_v5 (by decide)).trans ((W6_of m ρ c main_v5 (by decide)).trans (W5_of m ρ c main_v5 (by decide)))) _).trans
      (w4_v5 m ρ c n _ _ (by show 512 + h.val < 544; omega) (by show 4608 + h.val = 4096 + (512 + h.val); omega))
  have g1 : (V7 m ρ c main_v8 : Vec Ideal S1x128 .f32) (ix2 0 ⟨h.val, by omega⟩) = (m ((c : Thread nD τ).loc main_arg2) : Vec Ideal S1x32 .f32) (ix2 0 h) :=
    (at_v8 (W6 m ρ c) _).trans ((at_v7 (W5 m ρ c) ⟨h.val, by omega⟩ h.isLt).trans ((at_v6 (W4 m ρ c) h).trans (congrFun (W4_args m ρ c main_arg2 (by decide)) _)))
  exact congrArg₂ (fun a b : EReal => logSigmoid (a + b)) (h0.trans g0) (h1.trans g1)

end Kernel

section Reference
open Cert.Reference2Ideal Cert.Reference2Ideal.Gen Cert.Reference2Ideal.Value

variable (V : Valuation τ sig (Elt Ideal))

theorem ref_keys (n : Fin 8704) (j : Fin 256) :
    (after ops V main_v2 : Vec Ideal S8704x256 .f32) (ix2 n j) = product (V main_arg0) (V main_arg1) n ⟨4096 + j.val, by omega⟩ := by
  after_reads_at
  rfl

theorem ref_vals (n : Fin 8704) (j : Fin 256) :
    (after ops V main_v3 : Vec Ideal S8704x256 .f32) (ix2 n j) = product (V main_arg0) (V main_arg1) n ⟨4352 + j.val, by omega⟩ := by
  after_reads_at
  rfl

theorem ref_gates (n : Fin 8704) (h : Fin 32) :
    (after ops V main_v9 : Vec Ideal S8704x32 .f32) (ix2 n h)
      = logSigmoid (product (V main_arg0) (V main_arg1) n ⟨4608 + h.val, by omega⟩ + (V main_arg2 : Vec Ideal S1x32 .f32) (ix2 0 h)) := by
  rw [← logSigmoid_eq]
  after_reads_at
  rw [if_neg fun h => h rfl]
  rfl

theorem ref_arg0 : after ops V (Proc.devRef .tc main_arg0) = V (Proc.devRef .tc main_arg0) := by after_results <;> rfl
theorem ref_arg1 : after ops V (Proc.devRef .tc main_arg1) = V (Proc.devRef .tc main_arg1) := by after_results <;> rfl
theorem ref_arg2 : after ops V (Proc.devRef .tc main_arg2) = V (Proc.devRef .tc main_arg2) := by after_results <;> rfl

/-- The reference's run: every buffer ends at what the operations leave there, and nothing is counted. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ (c : Dev nD) (b : Ref sig .tc), r.2.mem ((c.tc : Thread nD τ).loc b) = after ops (StableHlo.launchContents m c) (Proc.devRef .tc b))
        ∧ r.2.sem = fun _ => 0 :=
  (θ_run defs _ _).mono (fun r h => ⟨h, funext fun s => by obtain ⟨c, s⟩ := s; cases s <;> (rename_i k; exact k.elim0)⟩)
    (StableHlo.run_seq scopedRefs_eq scopedSems_eq defs main (fun _ => ops) main_eq (fun _ => ops_sub) m ρ)

end Reference

end Cert.Fox

end
-- ==== Proof.AbRun.lean ====
/-
  The front of layer 0: the run of the three regions, and what each leaves at an index of its outputs.
-/
module

public import proofs.«01_k».proof.Proof.Gen.Kernel3Ideal.Frame
public import Idealize.ShloMosaic.Lib.Pipeline.ValueKit
public import Idealize.ShloMosaic.Lib.StableHlo.ReadAt

@[expose] public section

set_option maxRecDepth 16384

noncomputable section

namespace Cert.Ab

open Cert.Kernel3Ideal Cert.Kernel3Ideal.Gen
open Idealize.ShloMosaic hiding ix1 ix2 ix3 ix4
open Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: every buffer that outlives the regions ends at what the last host operations leave there, and nothing is counted. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W11 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => ⟨h, funext fun g => hz g (.inr (no_unscoped g.2))⟩)

/-! ## The tiles -/

theorem index0 : ∀ t : Fin grid0.N, win0_0.index t = ![t.val, 0] ∧ win0_1.index t = ![0, 0, 0] ∧ win0_2.index t = ![t.val, 0] := by decide +kernel
theorem index1 : ∀ t : Fin grid1.N, win1_0.index t = ![t.val / 12, 0] ∧ win1_1.index t = ![0, 0, t.val % 12]
    ∧ win1_2.index t = ![t.val / 12, t.val % 12] := by decide +kernel
theorem index2 : ∀ t : Fin grid2.N, win2_0.index t = ![t.val, 2] ∧ win2_1.index t = ![0, 0] ∧ win2_2.index t = ![t.val, 0]
    ∧ win2_3.index t = ![t.val, 0] ∧ win2_4.index t = ![t.val, 0] ∧ win2_5.index t = ![0, 0] ∧ win2_6.index t = ![0, 0] := by decide +kernel
theorem index2_out : ∀ t : Fin grid2.N, win2_7.index t = ![t.val, 0] ∧ win2_8.index t = ![t.val, 0] ∧ win2_9.index t = ![t.val, 0] := by decide +kernel

variable (V : (c : Dev nD) → (b : Ref sig .tc) → Buf (Elt F) ((c : Thread nD τ).loc b))

theorem out0_eq (x : Vec F S1088x4096 .bf16) (w : Vec F S1x4096x256 .f32) : out0_2 x w = k0_pay1 x w := by
  unfold out0_2
  rw [View.canon_unit_zero (by decide), View.ld_unit_zero (by decide), View.ld_unit_zero (by decide)]

theorem out1_eq (x : Vec F S1088x4096 .bf16) (w : Vec F S1x4096x512 .f32) : out1_2 x w = k1_pay1 x w := by
  unfold out1_2
  rw [View.canon_unit_zero (by decide), View.ld_unit_zero (by decide), View.ld_unit_zero (by decide)]

/-- What the third kernel leaves in the tile of the rotated key. -/
def turned (x : Vec F S256x256 .f32) (a s : Vec F S256x128 .f32) : FVec F S256x128 .f32 :=
  k2_pay1 (k2_pay5 x) (k2_pay6 s) (k2_pay7 x a) (Scalar.select (Scalar.cmpi .eq 64#32 0#32) 1#32 64#32) k2_pay8 k2_pay9 k2_pay10

theorem out2_7_eq (z : Vec F S256x512 .f32) (g : Vec F S1x512 .f32) (x : Vec F S256x256 .f32) (a s : Vec F S256x128 .f32) (b k : Vec F S1x128 .f32) :
    out2_7 z g x a s b k = k2_pay3 z g := by
  unfold out2_7
  rw [View.canon_unit_zero (by decide), View.ld_unit_zero (by decide), View.ld_unit_zero (by decide)]
theorem out2_8_eq (z : Vec F S256x512 .f32) (g : Vec F S1x512 .f32) (x : Vec F S256x256 .f32) (a s : Vec F S256x128 .f32) (b k : Vec F S1x128 .f32) :
    out2_8 z g x a s b k = turned x a s := by
  unfold out2_8
  rw [View.canon_unit_zero (by decide), View.ld_unit_zero (by decide), View.ld_unit_zero (by decide), View.ld_unit_zero (by decide)]
  rfl
theorem out2_9_eq (z : Vec F S256x512 .f32) (g : Vec F S1x512 .f32) (x : Vec F S256x256 .f32) (a s : Vec F S256x128 .f32) (b k : Vec F S1x128 .f32) :
    out2_9 z g x a s b k = k2_pay2 (k2_pay4 x) b k := by
  unfold out2_9
  rw [View.canon_unit_zero (by decide), View.ld_unit_zero (by decide), View.ld_unit_zero (by decide), View.ld_unit_zero (by decide)]

/-- The narrow product in the tile of point `t`. -/
theorem small_at (c : Dev nD) (t : Fin 8) (r : Fin 1088) (j : Fin 256) (n : Fin 8704) (hn : n.val = t.val * 1088 + r.val) :
    ((dat0 V c).arrAt 2 cfg0.N : Vec F S8704x256 .f32) (ix2 n j) = k0_pay1 (iblk0 V c 0 t) (iblk0 V c 1 t) (ix2 r j) := by
  have hi : ∀ t t', (cfg0.win 2).index t = (cfg0.win 2).index t' → t = t' := fun t t' h => by
    have := congrFun h 0
    rw [show (cfg0.win 2).index t = _ from (index0 t).2.2, show (cfg0.win 2).index t' = _ from (index0 t').2.2] at this
    exact Fin.ext this
  have h := (dat0 V c).arrAt_emb_eq_flushed 2 ((cfg0.win 2).hdisj_of_index_inj fun t t' _ _ h => hi t t' h) t (flush0_2 t) (ix2 r j)
  have e : ((cfg0.win 2).blk t).view.emb (ix2 r j) = (ix2 n j : S8704x256.Idx) := by
    blk_ext [index0 t, hn]
  rw [← e]
  refine h.trans ?_
  exact (congrFun (after0_2 V c t) (ix2 r j)).trans (congrFun (out0_eq _ _) _)

/-- The wide product in the tile of point `t`. -/
theorem wide_at (c : Dev nD) (t : Fin 96) (r : Fin 1088) (q : Fin 512) (n : Fin 8704) (j : Fin 6144) (hn : n.val = t.val / 12 * 1088 + r.val)
    (hj : j.val = t.val % 12 * 512 + q.val) :
    ((dat1 V c).arrAt 2 cfg1.N : Vec F S8704x6144 .f32) (ix2 n j) = k1_pay1 (iblk1 V c 0 t) (iblk1 V c 1 t) (ix2 r q) := by
  have hi : ∀ t t', (cfg1.win 2).index t = (cfg1.win 2).index t' → t = t' := fun t t' h => by
    have h0 := congrFun h 0
    have h1 := congrFun h 1
    rw [show (cfg1.win 2).index t = _ from (index1 t).2.2, show (cfg1.win 2).index t' = _ from (index1 t').2.2] at h0 h1
    refine Fin.ext ?_
    have h0 : t.val / 12 = t'.val / 12 := h0
    have h1 : t.val % 12 = t'.val % 12 := h1
    omega
  have h := (dat1 V c).arrAt_emb_eq_flushed 2 ((cfg1.win 2).hdisj_of_index_inj fun t t' _ _ h => hi t t' h) t (flush1_2 t) (ix2 r q)
  have e : ((cfg1.win 2).blk t).view.emb (ix2 r q) = (ix2 n j : S8704x6144.Idx) := by
    blk_ext [index1 t, hn, hj]
  rw [← e]
  refine h.trans ?_
  exact (congrFun (after1_2 V c t) (ix2 r q)).trans (congrFun (out1_eq _ _) _)

/-- The latents in the tile of point `t`. -/
theorem latent_at (c : Dev nD) (t : Fin 34) (r : Fin 256) (j : Fin 512) (n : Fin 8704) (hn : n.val = t.val * 256 + r.val) :
    ((dat2 V c).arrAt 7 cfg2.N : Vec F S8704x512 .f32) (ix2 n j) = k2_pay3 (iblk2 V c 0 t) (iblk2 V c 1 t) (ix2 r j) := by
  have hi : ∀ t t', (cfg2.win 7).index t = (cfg2.win 7).index t' → t = t' := fun t t' h => by
    have := congrFun h 0
    rw [show (cfg2.win 7).index t = _ from (index2_out t).1, show (cfg2.win 7).index t' = _ from (index2_out t').1] at this
    exact Fin.ext this
  have h := (dat2 V c).arrAt_emb_eq_flushed 7 ((cfg2.win 7).hdisj_of_index_inj fun t t' _ _ h => hi t t' h) t (flush2_7 t) (ix2 r j)
  have e : ((cfg2.win 7).blk t).view.emb (ix2 r j) = (ix2 n j : S8704x512.Idx) := by
    blk_ext [index2_out t, hn]
  rw [← e]
  refine h.trans ?_
  exact (congrFun (after2_7 V c t) (ix2 r j)).trans (congrFun (out2_7_eq _ _ _ _ _ _ _) _)

/-- The rotated keys in the tile of point `t`. -/
theorem turned_at (c : Dev nD) (t : Fin 34) (r : Fin 256) (j : Fin 128) (n : Fin 8704) (hn : n.val = t.val * 256 + r.val) :
    ((dat2 V c).arrAt 8 cfg2.N : Vec F S8704x128 .f32) (ix2 n j) = turned (iblk2 V c 2 t) (iblk2 V c 3 t) (iblk2 V c 4 t) (ix2 r j) := by
  have hi : ∀ t t', (cfg2.win 8).index t = (cfg2.win 8).index t' → t = t' := fun t t' h => by
    have := congrFun h 0
    rw [show (cfg2.win 8).index t = _ from (index2_out t).2.1, show (cfg2.win 8).index t' = _ from (index2_out t').2.1] at this
    exact Fin.ext this
  have h := (dat2 V c).arrAt_emb_eq_flushed 8 ((cfg2.win 8).hdisj_of_index_inj fun t t' _ _ h => hi t t' h) t (flush2_8 t) (ix2 r j)
  have e : ((cfg2.win 8).blk t).view.emb (ix2 r j) = (ix2 n j : S8704x128.Idx) := by
    blk_ext [index2_out t, hn]
  rw [← e]
  refine h.trans ?_
  exact (congrFun (after2_8 V c t) (ix2 r j)).trans (congrFun (out2_8_eq _ _ _ _ _ _ _) _)

/-- The gates in the tile of point `t`. -/
theorem gates_at (c : Dev nD) (t : Fin 34) (r : Fin 256) (j : Fin 128) (n : Fin 8704) (hn : n.val = t.val * 256 + r.val) :
    ((dat2 V c).arrAt 9 cfg2.N : Vec F S8704x128 .f32) (ix2 n j)
      = k2_pay2 (k2_pay4 (iblk2 V c 2 t)) (iblk2 V c 5 t) (iblk2 V c 6 t) (ix2 r j) := by
  have hi : ∀ t t', (cfg2.win 9).index t = (cfg2.win 9).index t' → t = t' := fun t t' h => by
    have := congrFun h 0
    rw [show (cfg2.win 9).index t = _ from (index2_out t).2.2, show (cfg2.win 9).index t' = _ from (index2_out t').2.2] at this
    exact Fin.ext this
  have h := (dat2 V c).arrAt_emb_eq_flushed 9 ((cfg2.win 9).hdisj_of_index_inj fun t t' _ _ h => hi t t' h) t (flush2_9 t) (ix2 r j)
  have e : ((cfg2.win 9).blk t).view.emb (ix2 r j) = (ix2 n j : S8704x128.Idx) := by
    blk_ext [index2_out t, hn]
  rw [← e]
  refine h.trans ?_
  exact (congrFun (after2_9 V c t) (ix2 r j)).trans (congrFun (out2_9_eq _ _ _ _ _ _ _) _)

theorem blk0_0_at (c : Dev nD) (t : Fin 8) (r : Fin 1088) (k : Fin 4096) (n : Fin 8704) (hn : n.val = t.val * 1088 + r.val) :
    (iblk0 V c 0 t : Vec F S1088x4096 .bf16) (ix2 r k) = (V c main_v0 : Vec F S8704x4096 .bf16) (ix2 n k) := by
  blk_ext [iblk0, index0 t, hn]

theorem blk0_1_at (c : Dev nD) (t : Fin 8) (k : Fin 4096) (j : Fin 256) :
    (iblk0 V c 1 t : Vec F S1x4096x256 .f32) (ix3 0 k j) = (V c main_v8 : Vec F S1x4096x256 .f32) (ix3 0 k j) := by
  blk_ext [iblk0, index0 t]

theorem blk1_0_at (c : Dev nD) (t : Fin 96) (r : Fin 1088) (k : Fin 4096) (n : Fin 8704) (hn : n.val = t.val / 12 * 1088 + r.val) :
    (iblk1 V c 0 t : Vec F S1088x4096 .bf16) (ix2 r k) = (V c main_v0 : Vec F S8704x4096 .bf16) (ix2 n k) := by
  blk_ext [iblk1, index1 t, hn]

theorem blk1_1_at (c : Dev nD) (t : Fin 96) (k : Fin 4096) (q : Fin 512) (j : Fin 6144) (hj : j.val = t.val % 12 * 512 + q.val) :
    (iblk1 V c 1 t : Vec F S1x4096x512 .f32) (ix3 0 k q) = (V c main_v12 : Vec F S1x4096x6144 .f32) (ix3 0 k j) := by
  blk_ext [iblk1, index1 t, hj]

theorem blk2_0_at (c : Dev nD) (t : Fin 34) (r : Fin 256) (j : Fin 512) (n : Fin 8704) (i : Fin 1536) (hn : n.val = t.val * 256 + r.val)
    (hi : i.val = 1024 + j.val) :
    (iblk2 V c 0 t : Vec F S256x512 .f32) (ix2 r j) = (V c main_arg2 : Vec F S8704x1536 .f32) (ix2 n i) := by
  blk_ext [iblk2, index2 t, hn, hi]

theorem blk2_1_at (c : Dev nD) (t : Fin 34) (j : Fin 512) :
    (iblk2 V c 1 t : Vec F S1x512 .f32) (ix2 0 j) = (V c main_v53 : Vec F S1x512 .f32) (ix2 0 j) := by
  blk_ext [iblk2, index2 t]

theorem blk2_2_at (c : Dev nD) (t : Fin 34) (r : Fin 256) (j : Fin 256) (n : Fin 8704) (hn : n.val = t.val * 256 + r.val) :
    (iblk2 V c 2 t : Vec F S256x256 .f32) (ix2 r j) = (V c main_v9 : Vec F S8704x256 .f32) (ix2 n j) := by
  blk_ext [iblk2, index2 t, hn]

theorem blk2_3_at (c : Dev nD) (t : Fin 34) (r : Fin 256) (j : Fin 128) (n : Fin 8704) (hn : n.val = t.val * 256 + r.val) :
    (iblk2 V c 3 t : Vec F S256x128 .f32) (ix2 r j) = (V c main_v38 : Vec F S8704x128 .f32) (ix2 n j) := by
  blk_ext [iblk2, index2 t, hn]

theorem blk2_4_at (c : Dev nD) (t : Fin 34) (r : Fin 256) (j : Fin 128) (n : Fin 8704) (hn : n.val = t.val * 256 + r.val) :
    (iblk2 V c 4 t : Vec F S256x128 .f32) (ix2 r j) = (V c main_v41 : Vec F S8704x128 .f32) (ix2 n j) := by
  blk_ext [iblk2, index2 t, hn]

theorem blk2_5_at (c : Dev nD) (t : Fin 34) (j : Fin 128) :
    (iblk2 V c 5 t : Vec F S1x128 .f32) (ix2 0 j) = (V c main_v46 : Vec F S1x128 .f32) (ix2 0 j) := by
  blk_ext [iblk2, index2 t]

theorem blk2_6_at (c : Dev nD) (t : Fin 34) (j : Fin 128) :
    (iblk2 V c 6 t : Vec F S1x128 .f32) (ix2 0 j) = (V c main_v51 : Vec F S1x128 .f32) (ix2 0 j) := by
  blk_ext [iblk2, index2 t]

end Cert.Ab

end
-- ==== Proof.AbPays.lean ====
/-
  The front of layer 0 over the extended reals: the three kernels at an index of their tiles, and the host operations around them.
-/
module

public import proofs.«01_k».proof.Proof.AbRun
public import proofs.«01_k».proof.Proof.FoxPays
public import Idealize.ShloMosaic.Lib.Pointwise
public import Idealize.ShloMosaic.Lib.StableHlo.ReadAt

@[expose] public section

set_option maxRecDepth 16384

noncomputable section

namespace Cert.Ab

open Cert.Kernel3Ideal Cert.Kernel3Ideal.Gen
open Idealize.ShloMosaic
open Idealize.ShloMosaic.TcCoe Idealize.ShloMosaic.Tactic
open Idealize.ShloMosaic.StableHlo (after)
open Cert.Fox (logSigmoid)

/-! ## The angles of the rotation -/

/-- The position of a row: within its sequence, the sample's rows after the past. -/
def pos (n : Fin 8704) : EReal :=
  if n.val < 8192 then FloatOps.sitofp (F := Ideal) FTy.f32 (BitVec.ofNat 32 (n.val % 2048))
  else (FloatOps.sitofp (F := Ideal) FTy.f32 (BitVec.ofNat 32 ((n.val - 8192) % 4)) : EReal) + Ideal.ofBits FTy.f32 1182793728#32

/-- The angle of row `n` at frequency `i`. -/
def angle (n : Fin 8704) (i : ℕ) : EReal :=
  pos n * Ideal.pow (Ideal.ofBits FTy.f32 1176256512#32)
    (Ideal.div (-(FloatOps.sitofp (F := Ideal) FTy.f32 (BitVec.ofNat 32 i) : EReal)) (Ideal.ofBits FTy.f32 1107296256#32))

/-! ## The kernels -/

theorem small_pay (x : Vec Ideal S1088x4096 .bf16) (w : Vec Ideal S1x4096x256 .f32) (r : Fin 1088) (j : Fin 256) :
    k0_pay1 x w (ix2 r j) = ∑ k : Fin 4096, x (ix2 r k) * w (ix3 0 k j) := by
  pointwise [k0_pay1]

theorem wide_pay (x : Vec Ideal S1088x4096 .bf16) (w : Vec Ideal S1x4096x512 .f32) (r : Fin 1088) (j : Fin 512) :
    k1_pay1 x w (ix2 r j) = ∑ k : Fin 4096, x (ix2 r k) * w (ix3 0 k j) := by
  pointwise [k1_pay1]

/-- One latent: an entry over the root of the mean square of its row, scaled. -/
def scaled (f : Fin 512 → EReal) (g : Fin 512 → EReal) (j : Fin 512) : EReal :=
  f j * Ideal.rsqrt (Ideal.div (∑ x, f x * f x) (Ideal.ofBits FTy.f32 1140850688#32) + Ideal.ofBits FTy.f32 897988541#32) * g j

theorem latent_pay (z : Vec Ideal S256x512 .f32) (g : Vec Ideal S1x512 .f32) (r : Fin 256) (j : Fin 512) :
    k2_pay3 z g (ix2 r j) = scaled (fun x => z (ix2 r x)) (fun x => g (ix2 0 x)) j := by
  pointwise [k2_pay3]
  rfl

/-- Which neighbour the rotation takes. -/
theorem half : ∀ j : Fin 128, j.val < 64 → IntOp.cmpi CmpIPredicate.slt
    (Scalar.select
      (IntOp.andi
        (IntOp.xori
          (IntOp.cmpi CmpIPredicate.slt
            (IntOp.remsi ArithUnit.vector (BitVec.ofNat 32 j.val) (Scalar.select (Scalar.cmpi CmpIPredicate.eq 64#32 0#32) 1#32 64#32)) 0#32)
          (Scalar.cmpi CmpIPredicate.slt (Scalar.select (Scalar.cmpi CmpIPredicate.eq 64#32 0#32) 1#32 64#32) 0#32))
        (IntOp.cmpi CmpIPredicate.ne
          (IntOp.remsi ArithUnit.vector (BitVec.ofNat 32 j.val) (Scalar.select (Scalar.cmpi CmpIPredicate.eq 64#32 0#32) 1#32 64#32)) 0#32))
      (IntOp.addi (IntOp.remsi ArithUnit.vector (BitVec.ofNat 32 j.val) (Scalar.select (Scalar.cmpi CmpIPredicate.eq 64#32 0#32) 1#32 64#32))
        (Scalar.select (Scalar.cmpi CmpIPredicate.eq 64#32 0#32) 1#32 64#32))
      (IntOp.remsi ArithUnit.vector (BitVec.ofNat 32 j.val) (Scalar.select (Scalar.cmpi CmpIPredicate.eq 64#32 0#32) 1#32 64#32)))
    32#32 = if j.val < 32 then 1#1 else 0#1 := by decide +kernel

theorem turned_pay (x : Vec Ideal S256x256 .f32) (a s : Vec Ideal S256x128 .f32) (r : Fin 256) (j : Fin 128) (hj : j.val < 64) (i i' : Fin 256)
    (hi : i.val = j.val) (hi' : i'.val = if j.val < 32 then j.val + 32 else j.val - 32) :
    turned x a s (ix2 r j) = x (ix2 r i) * a (ix2 r j) + x (ix2 r i') * s (ix2 r j) := by
  rw [show i = ⟨j.val, by omega⟩ from Fin.ext hi]
  pointwise [turned, k2_pay1, k2_pay4, k2_pay5, k2_pay6, k2_pay7, k2_pay8, k2_pay9, k2_pay10]
  rw [half j hj]
  refine congrArg (fun y : EReal => (x (ix2 r ⟨j.val, by omega⟩) : EReal) * a (ix2 r j) + y * s (ix2 r j)) ?_
  by_cases h : j.val < 32
  · rw [if_pos h] at hi' ⊢
    exact congrArg (fun i => x (ix2 r i)) (Fin.ext (by show (j.val + 128 - 96) % 128 = i'.val; omega))
  · rw [if_neg h] at hi' ⊢
    exact congrArg (fun i => x (ix2 r i)) (Fin.ext (by show (j.val + 128 - 32) % 128 = i'.val; omega))

theorem gate_pay (z : Vec Ideal S256x256 .f32) (b g : Vec Ideal S1x128 .f32) (r : Fin 256) (j : Fin 128) :
    k2_pay2 (k2_pay4 z) b g (ix2 r j) = if (0 : EReal) < g (ix2 0 j) then logSigmoid (z (ix2 r ⟨128 + j.val, by omega⟩) + b (ix2 0 j))
      else (z (ix2 r ⟨128 + j.val, by omega⟩) + b (ix2 0 j) : EReal) := by
  pointwise [k2_pay2, k2_pay4]
  rw [zero_sub]
  rfl

/-! ## The host operations -/

variable (V : Valuation τ sig (Elt Ideal))

theorem at_v0 (n : Fin 8704) (k : Fin 4096) :
    (after hostOps0 V main_v0 : Vec Ideal S8704x4096 .bf16) (ix2 n k) = (V main_arg0 : Vec Ideal S8704x4096 .f32) (ix2 n k) := by
  after_reads_at
/-- The narrow weights' first columns are the rope key's. -/
theorem at_v8 (k : Fin 4096) (j : Fin 256) (h : j.val < 64) :
    (after hostOps0 V main_v8 : Vec Ideal S1x4096x256 .f32) (ix3 0 k j)
      = (V main_arg1 : Vec Ideal S1x4096x7752 .f32) (ix3 0 k ⟨1536 + j.val, by omega⟩) := by
  after_reads_at
  rw [dif_pos h]
  after_reads_at
/-- Their columns from the hundred and twenty-eighth are the gates'. -/
theorem at_v8_gate (k : Fin 4096) (j : Fin 256) (i : Fin 7752) (h : 128 ≤ j.val) (h' : j.val < 136) (hi : i.val = 7744 + (j.val - 128)) :
    (after hostOps0 V main_v8 : Vec Ideal S1x4096x256 .f32) (ix3 0 k j) = (V main_arg1 : Vec Ideal S1x4096x7752 .f32) (ix3 0 k i) := by
  rw [show i = ⟨7744 + (j.val - 64 - 64), by omega⟩ from Fin.ext (by show i.val = 7744 + (j.val - 64 - 64); omega)]
  after_reads_at
  rw [dif_neg (by omega), dif_neg (by omega), dif_pos (by omega)]
  after_reads_at
theorem at_v12 (k : Fin 4096) (j : Fin 6144) :
    (after hostOps1 V main_v12 : Vec Ideal S1x4096x6144 .f32) (ix3 0 k j)
      = (V main_arg1 : Vec Ideal S1x4096x7752 .f32) (ix3 0 k ⟨1600 + j.val, by omega⟩) := by
  after_reads_at
/-- The positions of the prompt's rows. -/
theorem at_v17 (n : Fin 8192) : (after hostOps2 V main_v17 : Vec Ideal S8192 .f32) (ix1 n) = FloatOps.sitofp (F := Ideal) FTy.f32 (BitVec.ofNat 32 (n.val % 2048)) := by
  after_reads_at
/-- The positions of the sample's rows. -/
theorem at_v23 (n : Fin 512) : (after hostOps2 V main_v23 : Vec Ideal S512 .f32) (ix1 n)
    = (FloatOps.sitofp (F := Ideal) FTy.f32 (BitVec.ofNat 32 (n.val % 4)) : EReal) + Ideal.ofBits FTy.f32 1182793728#32 := by
  after_reads_at
theorem upto_v17 : (StableHlo.upto hostOps2 V 11 main_v17 : Vec Ideal S8192 .f32) = (after hostOps2 V main_v17 : Vec Ideal S8192 .f32) := by
  after_reads_simp
theorem upto_v23 : (StableHlo.upto hostOps2 V 11 main_v23 : Vec Ideal S512 .f32) = (after hostOps2 V main_v23 : Vec Ideal S512 .f32) := by
  after_reads_simp
theorem pos_eq (n : Fin 8704) : (if h : n.val < 8192 then (StableHlo.upto hostOps2 V 11 main_v17 : Vec Ideal S8192 .f32) (ix1 ⟨n.val, h⟩)
    else (StableHlo.upto hostOps2 V 11 main_v23 : Vec Ideal S512 .f32) (ix1 ⟨n.val - 8192, by omega⟩)) = pos n := by
  unfold pos
  split_ifs with h
  · exact (congrFun (upto_v17 V) _).trans (at_v17 V _)
  · exact (congrFun (upto_v23 V) _).trans (at_v23 V _)
/-- The cosines. -/
theorem at_v38 (n : Fin 8704) (j : Fin 128) (hj : j.val < 64) :
    (after hostOps2 V main_v38 : Vec Ideal S8704x128 .f32) (ix2 n j) = Ideal.cos (angle n (if j.val < 32 then j.val else j.val - 32)) := by
  after_reads_at
  by_cases h : j.val < 32
  · rw [dif_pos h, if_pos h]
    after_reads_at
    exact congrArg Ideal.cos (congrArg (· * _) (pos_eq V n))
  · rw [dif_neg h, if_neg h, dif_pos (by omega)]
    after_reads_at
    exact congrArg Ideal.cos (congrArg (· * _) (pos_eq V n))
/-- The sines, those of the first half negated. -/
theorem at_v41 (n : Fin 8704) (j : Fin 128) (hj : j.val < 64) :
    (after hostOps2 V main_v41 : Vec Ideal S8704x128 .f32) (ix2 n j)
      = if j.val < 32 then -Ideal.sin (angle n j.val) else Ideal.sin (angle n (j.val - 32)) := by
  after_reads_at
  by_cases h : j.val < 32
  · rw [dif_pos h, if_pos h]
    after_reads_at
    exact congrArg (fun e => -Ideal.sin e) (congrArg (· * _) (pos_eq V n))
  · rw [dif_neg h, if_neg h, dif_pos (by omega)]
    after_reads_at
    exact congrArg Ideal.sin (congrArg (· * _) (pos_eq V n))
theorem at_v44 (j : Fin 8) :
    (after hostOps2 V main_v44 : Vec Ideal S8 .f32) (ix1 j) = if h : j.val < 4 then (V main_arg4 : Vec Ideal S1x4 .f32) (ix2 0 ⟨j.val, h⟩)
      else (V main_arg5 : Vec Ideal S1x4 .f32) (ix2 0 ⟨j.val - 4, by omega⟩) := by
  after_reads_at
theorem at_v45 (j : Fin 128) (h : j.val < 8) :
    (after hostOps2_1 V main_v45 : Vec Ideal S128 .f32) (ix1 j) = (V main_v44 : Vec Ideal S8 .f32) (ix1 ⟨j.val, h⟩) := by
  after_reads_at
  rw [dif_pos h]
theorem at_v46 (j : Fin 128) :
    (after hostOps2_2 V main_v46 : Vec Ideal S1x128 .f32) (ix2 0 j) = (V main_v45 : Vec Ideal S128 .f32) (ix1 j) := by
  after_reads_at
theorem at_v49 (j : Fin 8) :
    (after hostOps2_2 V main_v49 : Vec Ideal S8 .f32) (ix1 j) = (if j.val < 4 then 0 else 1 : EReal) := by
  after_reads_at
  split_ifs <;> rfl
theorem at_v50 (j : Fin 128) (h : j.val < 8) :
    (after hostOps2_3 V main_v50 : Vec Ideal S128 .f32) (ix1 j) = (V main_v49 : Vec Ideal S8 .f32) (ix1 ⟨j.val, h⟩) := by
  after_reads_at
  rw [dif_pos h]
theorem at_v51 (j : Fin 128) :
    (after hostOps2_4 V main_v51 : Vec Ideal S1x128 .f32) (ix2 0 j) = (V main_v50 : Vec Ideal S128 .f32) (ix1 j) := by
  after_reads_at
theorem at_v53 (j : Fin 512) :
    (after hostOps2_4 V main_v53 : Vec Ideal S1x512 .f32) (ix2 0 j) = (V main_arg3 : Vec Ideal S1x512 .f32) (ix2 0 j) := by
  after_reads_at
theorem at_v55 (n : Fin 8704) (j : Fin 64) :
    (after hostOps3 V main_v55 : Vec Ideal S8704x64 .f32) (ix2 n j) = (V main_v54_1 : Vec Ideal S8704x128 .f32) (ix2 n ⟨j.val, by omega⟩) := by
  after_reads_at
theorem at_v56 (n : Fin 8704) (j : Fin 8) :
    (after hostOps3 V main_v56 : Vec Ideal S8704x8 .f32) (ix2 n j) = (V main_v54_2 : Vec Ideal S8704x128 .f32) (ix2 n ⟨j.val, by omega⟩) := by
  after_reads_at

end Cert.Ab

end
-- ==== Proof.AbValue.lean ====
/-
  The front of layer 0 over the extended reals: the program's four results and the reference's, at an index.
-/
module

public import proofs.«01_k».proof.Proof.AbRun
public import proofs.«01_k».proof.Proof.AbPays
public import proofs.«01_k».proof.Proof.Gen.Reference3Ideal
public import proofs.«01_k».proof.Proof.Gen.Reference3Ideal.Run
public import Idealize.ShloMosaic.Lib.Pointwise.IndexBridge

@[expose] public section

set_option maxRecDepth 16384

noncomputable section

namespace Cert.Ab

open Idealize.ShloMosaic
open Idealize.ShloMosaic.TcCoe Idealize.ShloMosaic.Tactic
open Idealize.ShloMosaic.StableHlo (after)
open Cert.Fox (logSigmoid logSigmoid_eq)

/-- The activations. -/
abbrev Acts := FVec Ideal Cert.Kernel3Ideal.S8704x4096 .f32
/-- The weights of the layer's front. -/
abbrev Weights := FVec Ideal Cert.Kernel3Ideal.S1x4096x7752 .f32
/-- A row of gate biases. -/
abbrev Biases := FVec Ideal Cert.Kernel3Ideal.S1x4 .f32

/-- A row of the activations times a column of the weights. -/
def product (x : Acts) (w : Weights) (n : Fin 8704) (i : Fin 7752) : EReal := ∑ k : Fin 4096, x (ix2 n k) * w (ix3 0 k i)

/-- The latents: the normalized columns of the projection from the thousand and twenty-fourth. -/
def latent (z : FVec Ideal Cert.Kernel3Ideal.S8704x1536 .f32) (g : FVec Ideal Cert.Kernel3Ideal.S1x512 .f32) (n : Fin 8704) (j : Fin 512) : EReal :=
  scaled (fun x => z (ix2 n ⟨1024 + x.val, by omega⟩)) (fun x => g (ix2 0 x)) j

/-- The rotated keys. -/
def rope (x : Acts) (w : Weights) (n : Fin 8704) (j : Fin 64) : EReal :=
  if j.val < 32 then product x w n ⟨1536 + j.val, by omega⟩ * Ideal.cos (angle n j.val)
    - product x w n ⟨1536 + (32 + j.val), by omega⟩ * Ideal.sin (angle n j.val)
  else product x w n ⟨1536 + (32 + (j.val - 32)), by omega⟩ * Ideal.cos (angle n (j.val - 32))
    + product x w n ⟨1536 + (j.val - 32), by omega⟩ * Ideal.sin (angle n (j.val - 32))

/-- The input gates, and the logarithms of the forget gates. -/
def gate (x : Acts) (w : Weights) (bi bf : Biases) (n : Fin 8704) (j : Fin 8) : EReal :=
  if h : j.val < 4 then product x w n ⟨7744 + j.val, by omega⟩ + bi (ix2 0 ⟨j.val, h⟩)
  else logSigmoid (product x w n ⟨7748 + (j.val - 4), by omega⟩ + bf (ix2 0 ⟨j.val - 4, by omega⟩))

section Kernel
open Cert.Kernel3Ideal Cert.Kernel3Ideal.Gen

variable (m : (ℓ : Loc nD τ sig) → Buf (Elt Ideal) ℓ) (ρ : Dev nD → PrngReg) (c : Dev nD)

/-- The narrow region's output, where its weights' column is column `i` of the layer's. -/
theorem w2_v9 (n : Fin 8704) (j : Fin 256) (i : Fin 7752)
    (hw : ∀ k : Fin 4096, (W1 m ρ c (Proc.devRef .tc main_v8) : Vec Ideal S1x4096x256 .f32) (ix3 0 k j)
      = (m ((c : Thread nD τ).loc main_arg1) : Vec Ideal S1x4096x7752 .f32) (ix3 0 k i)) :
    (W2 m ρ c (Proc.devRef .tc main_v9) : Vec Ideal S8704x256 .f32) (ix2 n j)
      = product (m ((c : Thread nD τ).loc main_arg0)) (m ((c : Thread nD τ).loc main_arg1)) n i := by
  have hn : n.val = n.val / 1088 * 1088 + n.val % 1088 := by omega
  have hq := small_at (V1 m ρ) c ⟨n.val / 1088, by omega⟩ ⟨n.val % 1088, by omega⟩ j n hn
  simp only [← ix2_eq_valueIdx] at hq
  refine (congrFun (W2_arr m ρ c 2) (ix2 n j)).trans (hq.trans ((small_pay _ _ _ _).trans (Finset.sum_congr rfl fun k _ => ?_)))
  have h0 := blk0_0_at (V1 m ρ) c ⟨n.val / 1088, by omega⟩ ⟨n.val % 1088, by omega⟩ k n hn
  have h1 := blk0_1_at (V1 m ρ) c ⟨n.val / 1088, by omega⟩ k j
  simp only [← ix2_eq_valueIdx, ← ix3_eq_valueIdx] at h0 h1
  exact congrArg₂ (fun a b : EReal => a * b) (h0.trans (at_v0 (W0 m ρ c) n k)) (h1.trans (hw k))

theorem w9_v9 : W9 m ρ c (Proc.devRef .tc main_v9) = W2 m ρ c (Proc.devRef .tc main_v9) :=
  (W9_of m ρ c main_v9 (by decide)).trans ((W8_of m ρ c main_v9 (by decide)).trans ((W7_of m ρ c main_v9 (by decide)).trans
    ((W6_of m ρ c main_v9 (by decide)).trans ((W5_of m ρ c main_v9 (by decide)).trans ((W4_of m ρ c main_v9 (by decide)).trans
      (W3_of m ρ c main_v9 (by decide)))))))

/-- The rope key before its rotation. -/
theorem key_at (n : Fin 8704) (j : Fin 256) (i : Fin 7752) (h : j.val < 64) (hi : i.val = 1536 + j.val) :
    (W9 m ρ c (Proc.devRef .tc main_v9) : Vec Ideal S8704x256 .f32) (ix2 n j)
      = product (m ((c : Thread nD τ).loc main_arg0)) (m ((c : Thread nD τ).loc main_arg1)) n i := by
  rw [show i = ⟨1536 + j.val, by omega⟩ from Fin.ext hi]
  exact (congrFun (w9_v9 m ρ c) _).trans (w2_v9 m ρ c n j _ fun k => at_v8 (W0 m ρ c) k j h)

/-- The gates before their biases. -/
theorem gate_at (n : Fin 8704) (j : Fin 256) (i : Fin 7752) (h : 128 ≤ j.val) (h' : j.val < 136) (hi : i.val = 7744 + (j.val - 128)) :
    (W9 m ρ c (Proc.devRef .tc main_v9) : Vec Ideal S8704x256 .f32) (ix2 n j)
      = product (m ((c : Thread nD τ).loc main_arg0)) (m ((c : Thread nD τ).loc main_arg1)) n i :=
  (congrFun (w9_v9 m ρ c) _).trans (w2_v9 m ρ c n j _ fun k => at_v8_gate (W0 m ρ c) k j i h h' hi)

/-- The mixer's projections. -/
theorem mixer (n : Fin 8704) (j : Fin 6144) :
    (W11 m ρ c (Proc.devRef .tc main_v13) : Vec Ideal S8704x6144 .f32) (ix2 n j)
      = product (m ((c : Thread nD τ).loc main_arg0)) (m ((c : Thread nD τ).loc main_arg1)) n ⟨1600 + j.val, by omega⟩ := by
  have hv : W11 m ρ c (Proc.devRef .tc main_v13) = W4 m ρ c (Proc.devRef .tc main_v13) :=
    (W11_of m ρ c main_v13 (by decide)).trans ((W10_of m ρ c main_v13 (by decide)).trans ((W9_of m ρ c main_v13 (by decide)).trans
      ((W8_of m ρ c main_v13 (by decide)).trans ((W7_of m ρ c main_v13 (by decide)).trans ((W6_of m ρ c main_v13 (by decide)).trans
        (W5_of m ρ c main_v13 (by decide)))))))
  have hn : n.val = (n.val / 1088 * 12 + j.val / 512) / 12 * 1088 + n.val % 1088 := by omega
  have hj : j.val = (n.val / 1088 * 12 + j.val / 512) % 12 * 512 + j.val % 512 := by omega
  have hq := wide_at (V3 m ρ) c ⟨n.val / 1088 * 12 + j.val / 512, by omega⟩ ⟨n.val % 1088, by omega⟩ ⟨j.val % 512, by omega⟩ n j hn hj
  simp only [← ix2_eq_valueIdx] at hq
  refine (congrFun hv _).trans ((congrFun (W4_arr m ρ c 2) (ix2 n j)).trans (hq.trans ((wide_pay _ _ _ _).trans (Finset.sum_congr rfl fun k _ => ?_))))
  have h0 := blk1_0_at (V3 m ρ) c ⟨n.val / 1088 * 12 + j.val / 512, by omega⟩ ⟨n.val % 1088, by omega⟩ k n hn
  have h1 := blk1_1_at (V3 m ρ) c ⟨n.val / 1088 * 12 + j.val / 512, by omega⟩ k ⟨j.val % 512, by omega⟩ j hj
  simp only [← ix2_eq_valueIdx, ← ix3_eq_valueIdx] at h0 h1
  have g0 : (V3 m ρ c main_v0 : Vec Ideal S8704x4096 .bf16) (ix2 n k) = (m ((c : Thread nD τ).loc main_arg0) : Vec Ideal S8704x4096 .f32) (ix2 n k) :=
    (congrFun ((W3_of m ρ c main_v0 (by decide)).trans (W2_of m ρ c main_v0 (by decide))) _).trans (at_v0 (W0 m ρ c) n k)
  have g1 : (V3 m ρ c main_v12 : Vec Ideal S1x4096x6144 .f32) (ix3 0 k j)
      = (m ((c : Thread nD τ).loc main_arg1) : Vec Ideal S1x4096x7752 .f32) (ix3 0 k ⟨1600 + j.val, by omega⟩) :=
    (at_v12 (W2 m ρ c) k j).trans (congrFun (W2_args m ρ c main_arg1 (by decide)) _)
  exact congrArg₂ (fun a b : EReal => a * b) (h0.trans g0) (h1.trans g1)

/-- The latents. -/
theorem latents (n : Fin 8704) (j : Fin 512) :
    (W11 m ρ c (Proc.devRef .tc main_v54_0) : Vec Ideal S8704x512 .f32) (ix2 n j)
      = latent (m ((c : Thread nD τ).loc main_arg2)) (m ((c : Thread nD τ).loc main_arg3)) n j := by
  have hn : n.val = n.val / 256 * 256 + n.val % 256 := by omega
  have hq := latent_at (V9 m ρ) c ⟨n.val / 256, by omega⟩ ⟨n.val % 256, by omega⟩ j n hn
  simp only [← ix2_eq_valueIdx] at hq
  refine (congrFun (W11_of m ρ c main_v54_0 (by decide)) _).trans ((congrFun (W10_arr m ρ c 7) _).trans (hq.trans ((latent_pay _ _ _ _).trans ?_)))
  refine congrArg₂ (fun f g => scaled f g j) (funext fun x => ?_) (funext fun x => ?_)
  · have h0 := blk2_0_at (V9 m ρ) c ⟨n.val / 256, by omega⟩ ⟨n.val % 256, by omega⟩ x n ⟨1024 + x.val, by omega⟩ hn rfl
    simp only [← ix2_eq_valueIdx] at h0
    exact h0.trans (congrFun (W9_args m ρ c main_arg2 (by decide)) _)
  · have h1 := blk2_1_at (V9 m ρ) c ⟨n.val / 256, by omega⟩ x
    simp only [← ix2_eq_valueIdx] at h1
    exact h1.trans ((at_v53 (W8 m ρ c) x).trans (congrFun (W8_args m ρ c main_arg3 (by decide)) _))

/-- The rotated keys. -/
theorem keys (n : Fin 8704) (j : Fin 64) :
    (W11 m ρ c (Proc.devRef .tc main_v55) : Vec Ideal S8704x64 .f32) (ix2 n j)
      = rope (m ((c : Thread nD τ).loc main_arg0)) (m ((c : Thread nD τ).loc main_arg1)) n j := by
  have hn : n.val = n.val / 256 * 256 + n.val % 256 := by omega
  have hq := turned_at (V9 m ρ) c ⟨n.val / 256, by omega⟩ ⟨n.val % 256, by omega⟩ ⟨j.val, by omega⟩ n hn
  simp only [← ix2_eq_valueIdx] at hq
  have hi' : (if j.val < 32 then j.val + 32 else j.val - 32) < 64 := by split_ifs <;> omega
  refine (at_v55 (W10 m ρ c) n j).trans ((congrFun (W10_arr m ρ c 8) _).trans (hq.trans
    ((turned_pay _ _ _ _ ⟨j.val, by omega⟩ j.isLt ⟨j.val, by omega⟩ ⟨if j.val < 32 then j.val + 32 else j.val - 32, by omega⟩ rfl rfl).trans ?_)))
  have b0 := blk2_2_at (V9 m ρ) c ⟨n.val / 256, by omega⟩ ⟨n.val % 256, by omega⟩ ⟨j.val, by omega⟩ n hn
  have b1 := blk2_2_at (V9 m ρ) c ⟨n.val / 256, by omega⟩ ⟨n.val % 256, by omega⟩ ⟨if j.val < 32 then j.val + 32 else j.val - 32, by omega⟩ n hn
  have b2 := blk2_3_at (V9 m ρ) c ⟨n.val / 256, by omega⟩ ⟨n.val % 256, by omega⟩ ⟨j.val, by omega⟩ n hn
  have b3 := blk2_4_at (V9 m ρ) c ⟨n.val / 256, by omega⟩ ⟨n.val % 256, by omega⟩ ⟨j.val, by omega⟩ n hn
  simp only [← ix2_eq_valueIdx] at b0 b1 b2 b3
  have k0 := b0.trans (key_at m ρ c n ⟨j.val, by omega⟩ ⟨1536 + j.val, by omega⟩ j.isLt rfl)
  have k1 := b1.trans (key_at m ρ c n ⟨if j.val < 32 then j.val + 32 else j.val - 32, by omega⟩
    ⟨1536 + (if j.val < 32 then j.val + 32 else j.val - 32), by omega⟩ hi' rfl)
  have s2 : W9 m ρ c (Proc.devRef .tc main_v38) = W5 m ρ c (Proc.devRef .tc main_v38) :=
    (W9_of m ρ c main_v38 (by decide)).trans ((W8_of m ρ c main_v38 (by decide)).trans ((W7_of m ρ c main_v38 (by decide)).trans
      (W6_of m ρ c main_v38 (by decide))))
  have s3 : W9 m ρ c (Proc.devRef .tc main_v41) = W5 m ρ c (Proc.devRef .tc main_v41) :=
    (W9_of m ρ c main_v41 (by decide)).trans ((W8_of m ρ c main_v41 (by decide)).trans ((W7_of m ρ c main_v41 (by decide)).trans
      (W6_of m ρ c main_v41 (by decide))))
  have k2 := b2.trans ((congrFun s2 _).trans (at_v38 (W4 m ρ c) n ⟨j.val, by omega⟩ j.isLt))
  have k3 := b3.trans ((congrFun s3 _).trans (at_v41 (W4 m ρ c) n ⟨j.val, by omega⟩ j.isLt))
  refine (congrArg₂ (fun a b : EReal => a + b) (congrArg₂ (fun a b : EReal => a * b) k0 k2) (congrArg₂ (fun a b : EReal => a * b) k1 k3)).trans ?_
  unfold rope
  by_cases h : j.val < 32
  · simp only [if_pos h]
    rw [mul_neg, sub_eq_add_neg]
    refine congrArg (fun i => _ + -(product _ _ n i * _)) (Fin.ext ?_)
    show 1536 + (j.val + 32) = 1536 + (32 + j.val)
    omega
  · simp only [if_neg h]
    refine congrArg (fun i => product _ _ n i * _ + _) (Fin.ext ?_)
    show 1536 + j.val = 1536 + (32 + (j.val - 32))
    omega

/-- The gates. -/
theorem gates (n : Fin 8704) (j : Fin 8) :
    (W11 m ρ c (Proc.devRef .tc main_v56) : Vec Ideal S8704x8 .f32) (ix2 n j)
      = gate (m ((c : Thread nD τ).loc main_arg0)) (m ((c : Thread nD τ).loc main_arg1)) (m ((c : Thread nD τ).loc main_arg4))
          (m ((c : Thread nD τ).loc main_arg5)) n j := by
  have hn : n.val = n.val / 256 * 256 + n.val % 256 := by omega
  have hq := gates_at (V9 m ρ) c ⟨n.val / 256, by omega⟩ ⟨n.val % 256, by omega⟩ ⟨j.val, by omega⟩ n hn
  simp only [← ix2_eq_valueIdx] at hq
  refine (at_v56 (W10 m ρ c) n j).trans ((congrFun (W10_arr m ρ c 9) _).trans (hq.trans ((gate_pay _ _ _ _ _).trans ?_)))
  have b0 := blk2_2_at (V9 m ρ) c ⟨n.val / 256, by omega⟩ ⟨n.val % 256, by omega⟩ ⟨128 + j.val, by omega⟩ n hn
  have b1 := blk2_5_at (V9 m ρ) c ⟨n.val / 256, by omega⟩ ⟨j.val, by omega⟩
  have b2 := blk2_6_at (V9 m ρ) c ⟨n.val / 256, by omega⟩ ⟨j.val, by omega⟩
  simp only [← ix2_eq_valueIdx] at b0 b1 b2
  have k0 := b0.trans (gate_at m ρ c n ⟨128 + j.val, by omega⟩ ⟨7744 + j.val, by omega⟩ (Nat.le_add_right _ _) (by show 128 + j.val < 136; omega)
    (by show 7744 + j.val = 7744 + (128 + j.val - 128); omega))
  have k1 := b1.trans ((congrFun ((W9_of m ρ c main_v46 (by decide)).trans (W8_of m ρ c main_v46 (by decide))) _).trans
    ((at_v46 (W6 m ρ c) ⟨j.val, by omega⟩).trans ((at_v45 (W5 m ρ c) ⟨j.val, by omega⟩ j.isLt).trans (at_v44 (W4 m ρ c) j))))
  have k2 := b2.trans ((at_v51 (W8 m ρ c) ⟨j.val, by omega⟩).trans ((at_v50 (W7 m ρ c) ⟨j.val, by omega⟩ j.isLt).trans (at_v49 (W6 m ρ c) j)))
  refine (congrArg₂ (fun g z : EReal => if (0 : EReal) < g then logSigmoid z else z) k2 (congrArg₂ (fun a b : EReal => a + b) k0 k1)).trans ?_
  unfold gate
  by_cases h : j.val < 4
  · simp only [if_pos h, dif_pos h]
    rw [if_neg (lt_irrefl _)]
    exact congrArg (fun b : EReal => _ + b) (congrFun (W4_args m ρ c main_arg4 (by decide)) _)
  · simp only [if_neg h, dif_neg h]
    rw [if_pos zero_lt_one]
    refine congrArg logSigmoid (congrArg₂ (fun a b : EReal => a + b) (congrArg (product _ _ n) (Fin.ext ?_))
      (congrFun (W4_args m ρ c main_arg5 (by decide)) _))
    show 7744 + j.val = 7748 + (j.val - 4)
    omega

end Kernel

section Reference
open Cert.Reference3Ideal Cert.Reference3Ideal.Gen Cert.Reference3Ideal.Value

variable (V : Valuation τ sig (Elt Ideal))

theorem ref_latent (n : Fin 8704) (j : Fin 512) :
    (after ops V main_v20 : Vec Ideal S8704x512 .f32) (ix2 n j) = latent (V main_arg2) (V main_arg3) n j := by
  after_reads_at
  rfl

theorem ref_mixer (n : Fin 8704) (j : Fin 6144) :
    (after ops V main_v3 : Vec Ideal S8704x6144 .f32) (ix2 n j) = product (V main_arg0) (V main_arg1) n ⟨1600 + j.val, by omega⟩ := by
  after_reads_at
  rfl

theorem ref_keys (n : Fin 8704) (j : Fin 64) :
    (after ops V main_v53 : Vec Ideal S8704x64 .f32) (ix2 n j) = rope (V main_arg0) (V main_arg1) n j := by
  after_reads_at
  pointwise [fn_main_v53, fn_main_v31]
  rfl

theorem ref_gates (n : Fin 8704) (j : Fin 8) :
    (after ops V main_v63 : Vec Ideal S8704x8 .f32) (ix2 n j) = gate (V main_arg0) (V main_arg1) (V main_arg4) (V main_arg5) n j := by
  after_reads_at
  pointwise [fn_main_v63]
  unfold gate
  by_cases h : j.val < 4
  · rw [dif_pos h, dif_pos h]
    rfl
  · rw [dif_neg h, dif_neg h, if_neg fun h => h rfl, ← logSigmoid_eq]
    rfl

theorem ref_arg0 : after ops V (Proc.devRef .tc main_arg0) = V (Proc.devRef .tc main_arg0) := by after_results <;> rfl
theorem ref_arg1 : after ops V (Proc.devRef .tc main_arg1) = V (Proc.devRef .tc main_arg1) := by after_results <;> rfl
theorem ref_arg2 : after ops V (Proc.devRef .tc main_arg2) = V (Proc.devRef .tc main_arg2) := by after_results <;> rfl
theorem ref_arg3 : after ops V (Proc.devRef .tc main_arg3) = V (Proc.devRef .tc main_arg3) := by after_results <;> rfl
theorem ref_arg4 : after ops V (Proc.devRef .tc main_arg4) = V (Proc.devRef .tc main_arg4) := by after_results <;> rfl
theorem ref_arg5 : after ops V (Proc.devRef .tc main_arg5) = V (Proc.devRef .tc main_arg5) := by after_results <;> rfl

/-- The reference's run: every buffer ends at what the operations leave there, and nothing is counted. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ (c : Dev nD) (b : Ref sig .tc), r.2.mem ((c.tc : Thread nD τ).loc b) = after ops (StableHlo.launchContents m c) (Proc.devRef .tc b))
        ∧ r.2.sem = fun _ => 0 :=
  (θ_run defs _ _).mono (fun r h => ⟨h, funext fun s => by obtain ⟨c, s⟩ := s; cases s <;> (rename_i k; exact k.elim0)⟩)
    (StableHlo.run_seq scopedRefs_eq scopedSems_eq defs main (fun _ => ops) main_eq (fun _ => ops_sub) m ρ)

end Reference

end Cert.Ab

end
-- ==== Proof.OutRun.lean ====
/-
  The attention's output projection and the norm after it: the run of the two regions, and what each leaves at an index of its output.
-/
module

public import proofs.«01_k».proof.Proof.Gen.Kernel4Ideal.Frame
public import Idealize.ShloMosaic.Lib.Pipeline.ValueKit
public import Idealize.ShloMosaic.Lib.StableHlo.ReadAt

@[expose] public section

set_option maxRecDepth 16384

noncomputable section

namespace Cert.Out

open Cert.Kernel4Ideal Cert.Kernel4Ideal.Gen
open Idealize.ShloMosaic hiding ix1 ix2 ix3 ix4
open Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: every buffer that outlives the regions ends at what the last host operations leave there, and nothing is counted. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W3 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

/-! ## The tiles -/

theorem index0 : ∀ t : Fin grid0.N, win0_0.index t = ![t.val / 8, 0] ∧ win0_1.index t = ![0, 0, t.val % 8]
    ∧ win0_2.index t = ![t.val / 8, t.val % 8] := by decide +kernel
theorem index1 : ∀ t : Fin grid1.N, win1_0.index t = ![t.val, 0] ∧ win1_1.index t = ![t.val, 0] ∧ win1_2.index t = ![1, 0, 0]
    ∧ win1_3.index t = ![1, 0, 0] ∧ win1_4.index t = ![t.val, 0] := by decide +kernel

variable (V : (c : Dev nD) → (b : Ref sig .tc) → Buf (Elt F) ((c : Thread nD τ).loc b))

theorem out0_eq (x : Vec F S1088x4096 .bf16) (w : Vec F S1x4096x512 .f32) : out0_2 x w = k0_pay1 x w := by
  unfold out0_2
  rw [View.canon_unit_zero (by decide), View.ld_unit_zero (by decide), View.ld_unit_zero (by decide)]

theorem out1_eq (x h : Vec F S128x4096 .f32) (g b : Vec F S1x1x4096 .f32) : out1_4 x h g b = k1_pay1 h x g b := by
  unfold out1_4
  rw [View.canon_unit_zero (by decide), View.ld_unit_zero (by decide), View.ld_unit_zero (by decide), View.ld_unit_zero (by decide),
    View.ld_unit_zero (by decide)]

/-- The product in the tile of point `t`: eight tiles of columns to a tile of rows. -/
theorem product_at (c : Dev nD) (t : Fin 64) (r : Fin 1088) (q : Fin 512) (n : Fin 8704) (j : Fin 4096) (hn : n.val = t.val / 8 * 1088 + r.val)
    (hj : j.val = t.val % 8 * 512 + q.val) :
    ((dat0 V c).arrAt 2 cfg0.N : Vec F S8704x4096 .f32) (ix2 n j) = k0_pay1 (iblk0 V c 0 t) (iblk0 V c 1 t) (ix2 r q) := by
  have hi : ∀ t t', (cfg0.win 2).index t = (cfg0.win 2).index t' → t = t' := fun t t' h => by
    have h0 := congrFun h 0
    have h1 := congrFun h 1
    rw [show (cfg0.win 2).index t = _ from (index0 t).2.2, show (cfg0.win 2).index t' = _ from (index0 t').2.2] at h0 h1
    refine Fin.ext ?_
    have h0 : t.val / 8 = t'.val / 8 := h0
    have h1 : t.val % 8 = t'.val % 8 := h1
    omega
  have h := (dat0 V c).arrAt_emb_eq_flushed 2 ((cfg0.win 2).hdisj_of_index_inj fun t t' _ _ h => hi t t' h) t (flush0_2 t) (ix2 r q)
  have e : ((cfg0.win 2).blk t).view.emb (ix2 r q) = (ix2 n j : S8704x4096.Idx) := by
    blk_ext [index0 t, hn, hj]
  rw [← e]
  refine h.trans ?_
  exact (congrFun (after0_2 V c t) (ix2 r q)).trans (congrFun (out0_eq _ _) _)

/-- The normalized rows in the tile of point `t`. -/
theorem norm_at (c : Dev nD) (t : Fin 68) (r : Fin 128) (k : Fin 4096) (n : Fin 8704) (hn : n.val = t.val * 128 + r.val) :
    ((dat1 V c).arrAt 4 cfg1.N : Vec F S8704x4096 .f32) (ix2 n k)
      = k1_pay1 (iblk1 V c 1 t) (iblk1 V c 0 t) (iblk1 V c 2 t) (iblk1 V c 3 t) (ix2 r k) := by
  have hi : ∀ t t', (cfg1.win 4).index t = (cfg1.win 4).index t' → t = t' := fun t t' h => by
    have := congrFun h 0
    rw [show (cfg1.win 4).index t = _ from (index1 t).2.2.2.2, show (cfg1.win 4).index t' = _ from (index1 t').2.2.2.2] at this
    exact Fin.ext this
  have h := (dat1 V c).arrAt_emb_eq_flushed 4 ((cfg1.win 4).hdisj_of_index_inj fun t t' _ _ h => hi t t' h) t (flush1_4 t) (ix2 r k)
  have e : ((cfg1.win 4).blk t).view.emb (ix2 r k) = (ix2 n k : S8704x4096.Idx) := by
    blk_ext [index1 t, hn]
  rw [← e]
  refine h.trans ?_
  exact (congrFun (after1_4 V c t) (ix2 r k)).trans (congrFun (out1_eq _ _ _ _) _)

theorem blk0_0_at (c : Dev nD) (t : Fin 64) (r : Fin 1088) (k : Fin 4096) (n : Fin 8704) (hn : n.val = t.val / 8 * 1088 + r.val) :
    (iblk0 V c 0 t : Vec F S1088x4096 .bf16) (ix2 r k) = (V c main_arg1 : Vec F S8704x4096 .bf16) (ix2 n k) := by
  blk_ext [iblk0, index0 t, hn]

theorem blk0_1_at (c : Dev nD) (t : Fin 64) (k : Fin 4096) (q : Fin 512) (j : Fin 4096) (hj : j.val = t.val % 8 * 512 + q.val) :
    (iblk0 V c 1 t : Vec F S1x4096x512 .f32) (ix3 0 k q) = (V c main_arg2 : Vec F S1x4096x4096 .f32) (ix3 0 k j) := by
  blk_ext [iblk0, index0 t, hj]

theorem blk1_0_at (c : Dev nD) (t : Fin 68) (r : Fin 128) (k : Fin 4096) (n : Fin 8704) (hn : n.val = t.val * 128 + r.val) :
    (iblk1 V c 0 t : Vec F S128x4096 .f32) (ix2 r k) = (V c main_arg0 : Vec F S8704x4096 .f32) (ix2 n k) := by
  blk_ext [iblk1, index1 t, hn]

theorem blk1_1_at (c : Dev nD) (t : Fin 68) (r : Fin 128) (k : Fin 4096) (n : Fin 8704) (hn : n.val = t.val * 128 + r.val) :
    (iblk1 V c 1 t : Vec F S128x4096 .f32) (ix2 r k) = (V c main_v0 : Vec F S8704x4096 .f32) (ix2 n k) := by
  blk_ext [iblk1, index1 t, hn]

theorem blk1_2_at (c : Dev nD) (t : Fin 68) (k : Fin 4096) :
    (iblk1 V c 2 t : Vec F S1x1x4096 .f32) (ix3 0 0 k) = (V c main_v1 : Vec F S2x1x4096 .f32) (ix3 1 0 k) := by
  blk_ext [iblk1, index1 t]

theorem blk1_3_at (c : Dev nD) (t : Fin 68) (k : Fin 4096) :
    (iblk1 V c 3 t : Vec F S1x1x4096 .f32) (ix3 0 0 k) = (V c main_v2 : Vec F S2x1x4096 .f32) (ix3 1 0 k) := by
  blk_ext [iblk1, index1 t]

end Cert.Out

end
-- ==== Proof.OutValue.lean ====
/-
  The attention's output projection and the norm after it over the extended reals: the program's result and the reference's, at an index.
-/
module

public import proofs.«01_k».proof.Proof.OutRun
public import proofs.«01_k».proof.Proof.Layer
public import proofs.«01_k».proof.Proof.Gen.Reference4Ideal
public import proofs.«01_k».proof.Proof.Gen.Reference4Ideal.Run
public import Idealize.ShloMosaic.Lib.Pointwise
public import Idealize.ShloMosaic.Lib.Pointwise.IndexBridge
public import Idealize.ShloMosaic.Lib.StableHlo.ReadAt

@[expose] public section

set_option maxRecDepth 16384

noncomputable section

namespace Cert.Out

open Idealize.ShloMosaic
open Idealize.ShloMosaic.TcCoe Idealize.ShloMosaic.Tactic
open Idealize.ShloMosaic.StableHlo (after)
open Cert.MoE (normed scaled)

/-- A row of the mixer's output times a column of the weights. -/
def product (o : FVec Ideal Cert.Kernel4Ideal.S8704x4096 .bf16) (w : FVec Ideal Cert.Kernel4Ideal.S1x4096x4096 .f32) (n : Fin 8704) (j : Fin 4096) : EReal :=
  ∑ k : Fin 4096, o (ix2 n k) * w (ix3 0 k j)

/-- The residual with the projection, normalized with the second layer's scale and shift. -/
def result (x : FVec Ideal Cert.Kernel4Ideal.S8704x4096 .f32) (o : FVec Ideal Cert.Kernel4Ideal.S8704x4096 .bf16)
    (w : FVec Ideal Cert.Kernel4Ideal.S1x4096x4096 .f32) (g b : FVec Ideal Cert.Kernel4Ideal.S2x4096 .f32) (n : Fin 8704) (k : Fin 4096) : EReal :=
  normed (fun k => scaled (x (ix2 n k)) + product o w n k) (fun k => g (ix2 1 k)) (fun k => b (ix2 1 k)) k

section Kernel
open Cert.Kernel4Ideal Cert.Kernel4Ideal.Gen

theorem product_pay (x : Vec Ideal S1088x4096 .bf16) (w : Vec Ideal S1x4096x512 .f32) (r : Fin 1088) (j : Fin 512) :
    k0_pay1 x w (ix2 r j) = ∑ k : Fin 4096, x (ix2 r k) * w (ix3 0 k j) := by
  pointwise [k0_pay1]

theorem norm_pay (h x : Vec Ideal S128x4096 .f32) (g b : Vec Ideal S1x1x4096 .f32) (r : Fin 128) (k : Fin 4096) :
    k1_pay1 h x g b (ix2 r k)
      = normed (fun k => scaled (x (ix2 r k)) + h (ix2 r k)) (fun k => g (ix3 0 0 k)) (fun k => b (ix3 0 0 k)) k := by
  pointwise [k1_pay1]
  rfl

/-- The same of tiles whose rows are known. -/
theorem norm_rows (h x : Vec Ideal S128x4096 .f32) (g b : Vec Ideal S1x1x4096 .f32) (r : Fin 128) (k : Fin 4096) (h' x' g' b' : Fin 4096 → EReal)
    (hh : ∀ k, h (ix2 r k) = h' k) (hx : ∀ k, x (ix2 r k) = x' k) (hg : ∀ k, g (ix3 0 0 k) = g' k) (hb : ∀ k, b (ix3 0 0 k) = b' k) :
    k1_pay1 h x g b (ix2 r k) = normed (fun k => scaled (x' k) + h' k) g' b' k := by
  obtain rfl := funext hh
  obtain rfl := funext hx
  obtain rfl := funext hg
  obtain rfl := funext hb
  exact norm_pay h x g b r k

theorem at_v1 (V : Valuation τ sig (Elt Ideal)) (k : Fin 4096) :
    (after hostOps1 V main_v1 : Vec Ideal S2x1x4096 .f32) (ix3 1 0 k) = (V main_arg3 : Vec Ideal S2x4096 .f32) (ix2 1 k) := by
  after_reads_at
theorem at_v2 (V : Valuation τ sig (Elt Ideal)) (k : Fin 4096) :
    (after hostOps1 V main_v2 : Vec Ideal S2x1x4096 .f32) (ix3 1 0 k) = (V main_arg4 : Vec Ideal S2x4096 .f32) (ix2 1 k) := by
  after_reads_at

variable (m : (ℓ : Loc nD τ sig) → Buf (Elt Ideal) ℓ) (ρ : Dev nD → PrngReg) (c : Dev nD)

/-- The first region's output. -/
theorem projected (n : Fin 8704) (j : Fin 4096) :
    (W1 m ρ c (Proc.devRef .tc main_v0) : Vec Ideal S8704x4096 .f32) (ix2 n j)
      = product (m ((c : Thread nD τ).loc main_arg1)) (m ((c : Thread nD τ).loc main_arg2)) n j := by
  have hn : n.val = (n.val / 1088 * 8 + j.val / 512) / 8 * 1088 + n.val % 1088 := by omega
  have hj : j.val = (n.val / 1088 * 8 + j.val / 512) % 8 * 512 + j.val % 512 := by omega
  have hq := product_at (V0 m ρ) c ⟨n.val / 1088 * 8 + j.val / 512, by omega⟩ ⟨n.val % 1088, by omega⟩ ⟨j.val % 512, by omega⟩ n j hn hj
  simp only [← ix2_eq_valueIdx] at hq
  refine (congrFun (W1_arr m ρ c 2) (ix2 n j)).trans (hq.trans ((product_pay _ _ _ _).trans (Finset.sum_congr rfl fun k _ => ?_)))
  have h0 := blk0_0_at (V0 m ρ) c ⟨n.val / 1088 * 8 + j.val / 512, by omega⟩ ⟨n.val % 1088, by omega⟩ k n hn
  have h1 := blk0_1_at (V0 m ρ) c ⟨n.val / 1088 * 8 + j.val / 512, by omega⟩ k ⟨j.val % 512, by omega⟩ j hj
  simp only [← ix2_eq_valueIdx, ← ix3_eq_valueIdx] at h0 h1
  exact congrArg₂ (fun a b : EReal => a * b) h0 h1

/-- The program's result. -/
theorem rows (n : Fin 8704) (k : Fin 4096) :
    (W3 m ρ c (Proc.devRef .tc main_v3_0) : Vec Ideal S8704x4096 .f32) (ix2 n k)
      = result (m ((c : Thread nD τ).loc main_arg0)) (m ((c : Thread nD τ).loc main_arg1)) (m ((c : Thread nD τ).loc main_arg2))
          (m ((c : Thread nD τ).loc main_arg3)) (m ((c : Thread nD τ).loc main_arg4)) n k := by
  have hn : n.val = n.val / 128 * 128 + n.val % 128 := by omega
  have hq := norm_at (V2 m ρ) c ⟨n.val / 128, by omega⟩ ⟨n.val % 128, by omega⟩ k n hn
  simp only [← ix2_eq_valueIdx] at hq
  refine (congrFun (W3_arr m ρ c 4) (ix2 n k)).trans (hq.trans (norm_rows _ _ _ _ _ k _ _ _ _ (fun k => ?_) (fun k => ?_) (fun k => ?_) (fun k => ?_)))
  · have h := blk1_1_at (V2 m ρ) c ⟨n.val / 128, by omega⟩ ⟨n.val % 128, by omega⟩ k n hn
    simp only [← ix2_eq_valueIdx] at h
    exact h.trans ((congrFun (W2_of m ρ c main_v0 (by decide)) _).trans (projected m ρ c n k))
  · have h := blk1_0_at (V2 m ρ) c ⟨n.val / 128, by omega⟩ ⟨n.val % 128, by omega⟩ k n hn
    simp only [← ix2_eq_valueIdx] at h
    exact h.trans (congrFun (W2_args m ρ c main_arg0 (by decide)) _)
  · have h := blk1_2_at (V2 m ρ) c ⟨n.val / 128, by omega⟩ k
    simp only [← ix3_eq_valueIdx] at h
    exact h.trans ((at_v1 (W1 m ρ c) k).trans (congrFun (W1_args m ρ c main_arg3 (by decide)) _))
  · have h := blk1_3_at (V2 m ρ) c ⟨n.val / 128, by omega⟩ k
    simp only [← ix3_eq_valueIdx] at h
    exact h.trans ((at_v2 (W1 m ρ c) k).trans (congrFun (W1_args m ρ c main_arg4 (by decide)) _))

end Kernel

section Reference
open Cert.Reference4Ideal Cert.Reference4Ideal.Gen Cert.Reference4Ideal.Value

variable (V : Valuation τ sig (Elt Ideal))

theorem ref_rows (n : Fin 8704) (k : Fin 4096) :
    (after ops V main_v33 : Vec Ideal S8704x4096 .f32) (ix2 n k)
      = result (V main_arg0) (V main_arg1) (V main_arg2) (V main_arg3) (V main_arg4) n k := by
  after_reads_at
  rfl

theorem ref_arg0 : after ops V (Proc.devRef .tc main_arg0) = V (Proc.devRef .tc main_arg0) := by after_results <;> rfl
theorem ref_arg1 : after ops V (Proc.devRef .tc main_arg1) = V (Proc.devRef .tc main_arg1) := by after_results <;> rfl
theorem ref_arg2 : after ops V (Proc.devRef .tc main_arg2) = V (Proc.devRef .tc main_arg2) := by after_results <;> rfl
theorem ref_arg3 : after ops V (Proc.devRef .tc main_arg3) = V (Proc.devRef .tc main_arg3) := by after_results <;> rfl
theorem ref_arg4 : after ops V (Proc.devRef .tc main_arg4) = V (Proc.devRef .tc main_arg4) := by after_results <;> rfl

/-- The reference's run: every buffer ends at what the operations leave there, and nothing is counted. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ (c : Dev nD) (b : Ref sig .tc), r.2.mem ((c.tc : Thread nD τ).loc b) = after ops (StableHlo.launchContents m c) (Proc.devRef .tc b))
        ∧ r.2.sem = fun _ => 0 :=
  (θ_run defs _ _).mono (fun r h => ⟨h, funext fun s => by obtain ⟨c, s⟩ := s; cases s <;> (rename_i k; exact k.elim0)⟩)
    (StableHlo.run_seq scopedRefs_eq scopedSems_eq defs main (fun _ => ops) main_eq (fun _ => ops_sub) m ρ)

end Reference

end Cert.Out

end
-- ==== Proof.AbOutRun.lean ====
/-
  The output projection of the first layer's two mixers and the norm after it: the run of the two regions, and what each leaves at an index of its output.
-/
module

public import proofs.«01_k».proof.Proof.Gen.Kernel5Ideal.Frame
public import Idealize.ShloMosaic.Lib.Pipeline.ValueKit
public import Idealize.ShloMosaic.Lib.StableHlo.ReadAt

@[expose] public section

set_option maxRecDepth 16384

noncomputable section

namespace Cert.AbOut

open Cert.Kernel5Ideal Cert.Kernel5Ideal.Gen
open Idealize.ShloMosaic hiding ix1 ix2 ix3 ix4
open Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: every buffer that outlives the regions ends at what the last host operations leave there, and nothing is counted. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W3 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

/-! ## The tiles -/

theorem index0 : ∀ t : Fin grid0.N, win0_0.index t = ![t.val / 8, 0] ∧ win0_1.index t = ![0, 0, t.val % 8] ∧ win0_2.index t = ![t.val / 8, 0]
    ∧ win0_3.index t = ![0, 1, t.val % 8] ∧ win0_4.index t = ![t.val / 8, t.val % 8] := by decide +kernel
theorem index1 : ∀ t : Fin grid1.N, win1_0.index t = ![t.val, 0] ∧ win1_1.index t = ![t.val, 0] ∧ win1_2.index t = ![0, 0, 0]
    ∧ win1_3.index t = ![0, 0, 0] ∧ win1_4.index t = ![t.val, 0] := by decide +kernel

variable (V : (c : Dev nD) → (b : Ref sig .tc) → Buf (Elt F) ((c : Thread nD τ).loc b))

theorem out0_eq (x y : Vec F S1088x2048 .bf16) (w v : Vec F S1x2048x512 .f32) : out0_4 x w y v = k0_pay1 x w y v := by
  unfold out0_4
  rw [View.canon_unit_zero (by decide), View.ld_unit_zero (by decide), View.ld_unit_zero (by decide), View.ld_unit_zero (by decide),
    View.ld_unit_zero (by decide)]

theorem out1_eq (x h : Vec F S128x4096 .f32) (g b : Vec F S1x1x4096 .f32) : out1_4 x h g b = k1_pay1 h x g b := by
  unfold out1_4
  rw [View.canon_unit_zero (by decide), View.ld_unit_zero (by decide), View.ld_unit_zero (by decide), View.ld_unit_zero (by decide),
    View.ld_unit_zero (by decide)]

/-- The sum of the two products in the tile of point `t`: eight tiles of columns to a tile of rows. -/
theorem product_at (c : Dev nD) (t : Fin 64) (r : Fin 1088) (q : Fin 512) (n : Fin 8704) (j : Fin 4096) (hn : n.val = t.val / 8 * 1088 + r.val)
    (hj : j.val = t.val % 8 * 512 + q.val) :
    ((dat0 V c).arrAt 4 cfg0.N : Vec F S8704x4096 .f32) (ix2 n j)
      = k0_pay1 (iblk0 V c 0 t) (iblk0 V c 1 t) (iblk0 V c 2 t) (iblk0 V c 3 t) (ix2 r q) := by
  have hi : ∀ t t', (cfg0.win 4).index t = (cfg0.win 4).index t' → t = t' := fun t t' h => by
    have h0 := congrFun h 0
    have h1 := congrFun h 1
    rw [show (cfg0.win 4).index t = _ from (index0 t).2.2.2.2, show (cfg0.win 4).index t' = _ from (index0 t').2.2.2.2] at h0 h1
    refine Fin.ext ?_
    have h0 : t.val / 8 = t'.val / 8 := h0
    have h1 : t.val % 8 = t'.val % 8 := h1
    omega
  have h := (dat0 V c).arrAt_emb_eq_flushed 4 ((cfg0.win 4).hdisj_of_index_inj fun t t' _ _ h => hi t t' h) t (flush0_4 t) (ix2 r q)
  have e : ((cfg0.win 4).blk t).view.emb (ix2 r q) = (ix2 n j : S8704x4096.Idx) := by
    blk_ext [index0 t, hn, hj]
  rw [← e]
  refine h.trans ?_
  exact (congrFun (after0_4 V c t) (ix2 r q)).trans (congrFun (out0_eq _ _ _ _) _)

/-- The normalized rows in the tile of point `t`. -/
theorem norm_at (c : Dev nD) (t : Fin 68) (r : Fin 128) (k : Fin 4096) (n : Fin 8704) (hn : n.val = t.val * 128 + r.val) :
    ((dat1 V c).arrAt 4 cfg1.N : Vec F S8704x4096 .f32) (ix2 n k)
      = k1_pay1 (iblk1 V c 1 t) (iblk1 V c 0 t) (iblk1 V c 2 t) (iblk1 V c 3 t) (ix2 r k) := by
  have hi : ∀ t t', (cfg1.win 4).index t = (cfg1.win 4).index t' → t = t' := fun t t' h => by
    have := congrFun h 0
    rw [show (cfg1.win 4).index t = _ from (index1 t).2.2.2.2, show (cfg1.win 4).index t' = _ from (index1 t').2.2.2.2] at this
    exact Fin.ext this
  have h := (dat1 V c).arrAt_emb_eq_flushed 4 ((cfg1.win 4).hdisj_of_index_inj fun t t' _ _ h => hi t t' h) t (flush1_4 t) (ix2 r k)
  have e : ((cfg1.win 4).blk t).view.emb (ix2 r k) = (ix2 n k : S8704x4096.Idx) := by
    blk_ext [index1 t, hn]
  rw [← e]
  refine h.trans ?_
  exact (congrFun (after1_4 V c t) (ix2 r k)).trans (congrFun (out1_eq _ _ _ _) _)

theorem blk0_0_at (c : Dev nD) (t : Fin 64) (r : Fin 1088) (k : Fin 2048) (n : Fin 8704) (hn : n.val = t.val / 8 * 1088 + r.val) :
    (iblk0 V c 0 t : Vec F S1088x2048 .bf16) (ix2 r k) = (V c main_arg1 : Vec F S8704x2048 .bf16) (ix2 n k) := by
  blk_ext [iblk0, index0 t, hn]

theorem blk0_1_at (c : Dev nD) (t : Fin 64) (k : Fin 2048) (q : Fin 512) (j : Fin 4096) (hj : j.val = t.val % 8 * 512 + q.val) :
    (iblk0 V c 1 t : Vec F S1x2048x512 .f32) (ix3 0 k q) = (V c main_arg3 : Vec F S1x4096x4096 .f32) (ix3 0 ⟨k.val, by omega⟩ j) := by
  blk_ext [iblk0, index0 t, hj]

theorem blk0_2_at (c : Dev nD) (t : Fin 64) (r : Fin 1088) (k : Fin 2048) (n : Fin 8704) (hn : n.val = t.val / 8 * 1088 + r.val) :
    (iblk0 V c 2 t : Vec F S1088x2048 .bf16) (ix2 r k) = (V c main_arg2 : Vec F S8704x2048 .bf16) (ix2 n k) := by
  blk_ext [iblk0, index0 t, hn]

theorem blk0_3_at (c : Dev nD) (t : Fin 64) (k : Fin 2048) (q : Fin 512) (j : Fin 4096) (hj : j.val = t.val % 8 * 512 + q.val) :
    (iblk0 V c 3 t : Vec F S1x2048x512 .f32) (ix3 0 k q) = (V c main_arg3 : Vec F S1x4096x4096 .f32) (ix3 0 ⟨2048 + k.val, by omega⟩ j) := by
  blk_ext [iblk0, index0 t, hj]

theorem blk1_0_at (c : Dev nD) (t : Fin 68) (r : Fin 128) (k : Fin 4096) (n : Fin 8704) (hn : n.val = t.val * 128 + r.val) :
    (iblk1 V c 0 t : Vec F S128x4096 .f32) (ix2 r k) = (V c main_arg0 : Vec F S8704x4096 .f32) (ix2 n k) := by
  blk_ext [iblk1, index1 t, hn]

theorem blk1_1_at (c : Dev nD) (t : Fin 68) (r : Fin 128) (k : Fin 4096) (n : Fin 8704) (hn : n.val = t.val * 128 + r.val) :
    (iblk1 V c 1 t : Vec F S128x4096 .f32) (ix2 r k) = (V c main_v0 : Vec F S8704x4096 .f32) (ix2 n k) := by
  blk_ext [iblk1, index1 t, hn]

theorem blk1_2_at (c : Dev nD) (t : Fin 68) (k : Fin 4096) :
    (iblk1 V c 2 t : Vec F S1x1x4096 .f32) (ix3 0 0 k) = (V c main_v1 : Vec F S2x1x4096 .f32) (ix3 0 0 k) := by
  blk_ext [iblk1, index1 t]

theorem blk1_3_at (c : Dev nD) (t : Fin 68) (k : Fin 4096) :
    (iblk1 V c 3 t : Vec F S1x1x4096 .f32) (ix3 0 0 k) = (V c main_v2 : Vec F S2x1x4096 .f32) (ix3 0 0 k) := by
  blk_ext [iblk1, index1 t]

end Cert.AbOut

end
-- ==== Proof.AbOutValue.lean ====
/-
  The output projection of the first layer's two mixers and the norm after it over the extended reals: the program's result and the reference's, at an index.
-/
module

public import proofs.«01_k».proof.Proof.AbOutRun
public import proofs.«01_k».proof.Proof.Layer
public import proofs.«01_k».proof.Proof.Gen.Reference5Ideal
public import proofs.«01_k».proof.Proof.Gen.Reference5Ideal.Run
public import Idealize.ShloMosaic.Lib.Pointwise
public import Idealize.ShloMosaic.Lib.Pointwise.IndexBridge
public import Idealize.ShloMosaic.Lib.StableHlo.ReadAt

@[expose] public section

set_option maxRecDepth 16384

noncomputable section

namespace Cert.AbOut

open Idealize.ShloMosaic
open Idealize.ShloMosaic.TcCoe Idealize.ShloMosaic.Tactic
open Idealize.ShloMosaic.StableHlo (after)
open Cert.MoE (normed scaled)

/-- The rows of the two mixers' outputs times a column of the upper and of the lower half of the weights. -/
def product (o h : FVec Ideal Cert.Kernel5Ideal.S8704x2048 .bf16) (w : FVec Ideal Cert.Kernel5Ideal.S1x4096x4096 .f32) (n : Fin 8704) (j : Fin 4096) : EReal :=
  ∑ k : Fin 2048, o (ix2 n k) * w (ix3 0 ⟨k.val, by omega⟩ j) + ∑ k : Fin 2048, h (ix2 n k) * w (ix3 0 ⟨2048 + k.val, by omega⟩ j)

/-- The residual with the projection, normalized with the first layer's scale and shift. -/
def result (x : FVec Ideal Cert.Kernel5Ideal.S8704x4096 .f32) (o h : FVec Ideal Cert.Kernel5Ideal.S8704x2048 .bf16)
    (w : FVec Ideal Cert.Kernel5Ideal.S1x4096x4096 .f32) (g b : FVec Ideal Cert.Kernel5Ideal.S2x4096 .f32) (n : Fin 8704) (k : Fin 4096) : EReal :=
  normed (fun k => scaled (x (ix2 n k)) + product o h w n k) (fun k => g (ix2 0 k)) (fun k => b (ix2 0 k)) k

section Kernel
open Cert.Kernel5Ideal Cert.Kernel5Ideal.Gen

theorem product_pay (x y : Vec Ideal S1088x2048 .bf16) (w v : Vec Ideal S1x2048x512 .f32) (r : Fin 1088) (j : Fin 512) :
    k0_pay1 x w y v (ix2 r j) = ∑ k : Fin 2048, x (ix2 r k) * w (ix3 0 k j) + ∑ k : Fin 2048, y (ix2 r k) * v (ix3 0 k j) := by
  pointwise [k0_pay1]

theorem norm_pay (h x : Vec Ideal S128x4096 .f32) (g b : Vec Ideal S1x1x4096 .f32) (r : Fin 128) (k : Fin 4096) :
    k1_pay1 h x g b (ix2 r k)
      = normed (fun k => scaled (x (ix2 r k)) + h (ix2 r k)) (fun k => g (ix3 0 0 k)) (fun k => b (ix3 0 0 k)) k := by
  pointwise [k1_pay1]
  rfl

/-- The same of tiles whose rows are known. -/
theorem norm_rows (h x : Vec Ideal S128x4096 .f32) (g b : Vec Ideal S1x1x4096 .f32) (r : Fin 128) (k : Fin 4096) (h' x' g' b' : Fin 4096 → EReal)
    (hh : ∀ k, h (ix2 r k) = h' k) (hx : ∀ k, x (ix2 r k) = x' k) (hg : ∀ k, g (ix3 0 0 k) = g' k) (hb : ∀ k, b (ix3 0 0 k) = b' k) :
    k1_pay1 h x g b (ix2 r k) = normed (fun k => scaled (x' k) + h' k) g' b' k := by
  obtain rfl := funext hh
  obtain rfl := funext hx
  obtain rfl := funext hg
  obtain rfl := funext hb
  exact norm_pay h x g b r k

theorem at_v1 (V : Valuation τ sig (Elt Ideal)) (k : Fin 4096) :
    (after hostOps1 V main_v1 : Vec Ideal S2x1x4096 .f32) (ix3 0 0 k) = (V main_arg4 : Vec Ideal S2x4096 .f32) (ix2 0 k) := by
  after_reads_at
theorem at_v2 (V : Valuation τ sig (Elt Ideal)) (k : Fin 4096) :
    (after hostOps1 V main_v2 : Vec Ideal S2x1x4096 .f32) (ix3 0 0 k) = (V main_arg5 : Vec Ideal S2x4096 .f32) (ix2 0 k) := by
  after_reads_at

variable (m : (ℓ : Loc nD τ sig) → Buf (Elt Ideal) ℓ) (ρ : Dev nD → PrngReg) (c : Dev nD)

/-- The first region's output. -/
theorem projected (n : Fin 8704) (j : Fin 4096) :
    (W1 m ρ c (Proc.devRef .tc main_v0) : Vec Ideal S8704x4096 .f32) (ix2 n j)
      = product (m ((c : Thread nD τ).loc main_arg1)) (m ((c : Thread nD τ).loc main_arg2)) (m ((c : Thread nD τ).loc main_arg3)) n j := by
  have hn : n.val = (n.val / 1088 * 8 + j.val / 512) / 8 * 1088 + n.val % 1088 := by omega
  have hj : j.val = (n.val / 1088 * 8 + j.val / 512) % 8 * 512 + j.val % 512 := by omega
  have hq := product_at (V0 m ρ) c ⟨n.val / 1088 * 8 + j.val / 512, by omega⟩ ⟨n.val % 1088, by omega⟩ ⟨j.val % 512, by omega⟩ n j hn hj
  simp only [← ix2_eq_valueIdx] at hq
  refine (congrFun (W1_arr m ρ c 4) (ix2 n j)).trans (hq.trans ((product_pay _ _ _ _ _ _).trans
    (congrArg₂ (fun a b : EReal => a + b) (Finset.sum_congr rfl fun k _ => ?_) (Finset.sum_congr rfl fun k _ => ?_))))
  · have h0 := blk0_0_at (V0 m ρ) c ⟨n.val / 1088 * 8 + j.val / 512, by omega⟩ ⟨n.val % 1088, by omega⟩ k n hn
    have h1 := blk0_1_at (V0 m ρ) c ⟨n.val / 1088 * 8 + j.val / 512, by omega⟩ k ⟨j.val % 512, by omega⟩ j hj
    simp only [← ix2_eq_valueIdx, ← ix3_eq_valueIdx] at h0 h1
    exact congrArg₂ (fun a b : EReal => a * b) h0 h1
  · have h0 := blk0_2_at (V0 m ρ) c ⟨n.val / 1088 * 8 + j.val / 512, by omega⟩ ⟨n.val % 1088, by omega⟩ k n hn
    have h1 := blk0_3_at (V0 m ρ) c ⟨n.val / 1088 * 8 + j.val / 512, by omega⟩ k ⟨j.val % 512, by omega⟩ j hj
    simp only [← ix2_eq_valueIdx, ← ix3_eq_valueIdx] at h0 h1
    exact congrArg₂ (fun a b : EReal => a * b) h0 h1

/-- The program's result. -/
theorem rows (n : Fin 8704) (k : Fin 4096) :
    (W3 m ρ c (Proc.devRef .tc main_v3_0) : Vec Ideal S8704x4096 .f32) (ix2 n k)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) n k := by
  have hn : n.val = n.val / 128 * 128 + n.val % 128 := by omega
  have hq := norm_at (V2 m ρ) c ⟨n.val / 128, by omega⟩ ⟨n.val % 128, by omega⟩ k n hn
  simp only [← ix2_eq_valueIdx] at hq
  refine (congrFun (W3_arr m ρ c 4) (ix2 n k)).trans (hq.trans (norm_rows _ _ _ _ _ k _ _ _ _ (fun k => ?_) (fun k => ?_) (fun k => ?_) (fun k => ?_)))
  · have h := blk1_1_at (V2 m ρ) c ⟨n.val / 128, by omega⟩ ⟨n.val % 128, by omega⟩ k n hn
    simp only [← ix2_eq_valueIdx] at h
    exact h.trans ((congrFun (W2_of m ρ c main_v0 (by decide)) _).trans (projected m ρ c n k))
  · have h := blk1_0_at (V2 m ρ) c ⟨n.val / 128, by omega⟩ ⟨n.val % 128, by omega⟩ k n hn
    simp only [← ix2_eq_valueIdx] at h
    exact h.trans (congrFun (W2_args m ρ c main_arg0 (by decide)) _)
  · have h := blk1_2_at (V2 m ρ) c ⟨n.val / 128, by omega⟩ k
    simp only [← ix3_eq_valueIdx] at h
    exact h.trans ((at_v1 (W1 m ρ c) k).trans (congrFun (W1_args m ρ c main_arg4 (by decide)) _))
  · have h := blk1_3_at (V2 m ρ) c ⟨n.val / 128, by omega⟩ k
    simp only [← ix3_eq_valueIdx] at h
    exact h.trans ((at_v2 (W1 m ρ c) k).trans (congrFun (W1_args m ρ c main_arg5 (by decide)) _))

end Kernel

section Reference
open Cert.Reference5Ideal Cert.Reference5Ideal.Gen Cert.Reference5Ideal.Value

variable (V : Valuation τ sig (Elt Ideal))

/-- The two mixers' outputs side by side. -/
def joined (o h : FVec Ideal S8704x2048 .bf16) : FVec Ideal S8704x4096 .f32 :=
  fn_main_v2 (F := Ideal) (extf .f32 o bitsLt_bf16_f32) (extf .f32 h bitsLt_bf16_f32)

/-- The product with the two mixers' outputs side by side is the sum of the two products. -/
theorem ref_product (n : Fin 8704) (k : Fin 4096) :
    ∑ q : Fin 4096, joined (V main_arg1) (V main_arg2) (ix2 n q)
        * (V main_arg3 : Vec Ideal S1x4096x4096 .f32) (ix3 0 q k)
      = product (V main_arg1) (V main_arg2) (V main_arg3) n k := by
  pointwise [joined, fn_main_v2]
  rfl

theorem ref_normed (n : Fin 8704) (k : Fin 4096) :
    (after ops V main_v35 : Vec Ideal S8704x4096 .f32) (ix2 n k)
      = normed (fun k => scaled ((V main_arg0 : Vec Ideal S8704x4096 .f32) (ix2 n k))
          + ∑ q : Fin 4096, joined (V main_arg1) (V main_arg2) (ix2 n q)
              * (V main_arg3 : Vec Ideal S1x4096x4096 .f32) (ix3 0 q k))
        (fun k => (V main_arg4 : Vec Ideal S2x4096 .f32) (ix2 0 k)) (fun k => (V main_arg5 : Vec Ideal S2x4096 .f32) (ix2 0 k)) k := by
  after_reads_at
  rfl

theorem ref_rows (n : Fin 8704) (k : Fin 4096) :
    (after ops V main_v35 : Vec Ideal S8704x4096 .f32) (ix2 n k)
      = result (V main_arg0) (V main_arg1) (V main_arg2) (V main_arg3) (V main_arg4) (V main_arg5) n k :=
  (ref_normed V n k).trans (congrArg (fun p : Fin 4096 → EReal => normed (fun k => scaled ((V main_arg0 : Vec Ideal S8704x4096 .f32) (ix2 n k)) + p k)
    (fun k => (V main_arg4 : Vec Ideal S2x4096 .f32) (ix2 0 k)) (fun k => (V main_arg5 : Vec Ideal S2x4096 .f32) (ix2 0 k)) k)
    (funext fun k => ref_product V n k))

theorem ref_arg0 : after ops V (Proc.devRef .tc main_arg0) = V (Proc.devRef .tc main_arg0) := by after_results <;> rfl
theorem ref_arg1 : after ops V (Proc.devRef .tc main_arg1) = V (Proc.devRef .tc main_arg1) := by after_results <;> rfl
theorem ref_arg2 : after ops V (Proc.devRef .tc main_arg2) = V (Proc.devRef .tc main_arg2) := by after_results <;> rfl
theorem ref_arg3 : after ops V (Proc.devRef .tc main_arg3) = V (Proc.devRef .tc main_arg3) := by after_results <;> rfl
theorem ref_arg4 : after ops V (Proc.devRef .tc main_arg4) = V (Proc.devRef .tc main_arg4) := by after_results <;> rfl
theorem ref_arg5 : after ops V (Proc.devRef .tc main_arg5) = V (Proc.devRef .tc main_arg5) := by after_results <;> rfl

/-- The reference's run: every buffer ends at what the operations leave there, and nothing is counted. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ (c : Dev nD) (b : Ref sig .tc), r.2.mem ((c.tc : Thread nD τ).loc b) = after ops (StableHlo.launchContents m c) (Proc.devRef .tc b))
        ∧ r.2.sem = fun _ => 0 :=
  (θ_run defs _ _).mono (fun r h => ⟨h, funext fun s => by obtain ⟨c, s⟩ := s; cases s <;> (rename_i k; exact k.elim0)⟩)
    (StableHlo.run_seq scopedRefs_eq scopedSems_eq defs main (fun _ => ops) main_eq (fun _ => ops_sub) m ρ)

end Reference

end Cert.AbOut

end
-- ==== Proof.QueryValue.lean ====
/-
  The attention's queries over the extended reals: the first product of its layer, at an index, in the program and in the reference.
-/
module

public import proofs.«01_k».proof.Proof.Gen.Kernel6Ideal.Frame
public import proofs.«01_k».proof.Proof.Gen.Reference6Ideal
public import proofs.«01_k».proof.Proof.Gen.Reference6Ideal.Run
public import Idealize.ShloMosaic.Lib.Pipeline.ValueKit
public import Idealize.ShloMosaic.Lib.Pointwise
public import Idealize.ShloMosaic.Lib.Pointwise.IndexBridge
public import Idealize.ShloMosaic.Lib.StableHlo.ReadAt

@[expose] public section

set_option maxRecDepth 16384

noncomputable section

namespace Cert.Query

open Idealize.ShloMosaic
open Idealize.ShloMosaic.TcCoe Idealize.ShloMosaic.Tactic
open Idealize.ShloMosaic.StableHlo (after)

/-- A row of the layer's input times a column of the weights. -/
def query (x : FVec Ideal Cert.Kernel6Ideal.S8704x4096 .f32) (w : FVec Ideal Cert.Kernel6Ideal.S1x4096x4640 .f32) (n : Fin 8704) (j : Fin 4096) : EReal :=
  ∑ k : Fin 4096, x (ix2 n k) * w (ix3 0 k ⟨j.val, by omega⟩)

section Kernel
open Cert.Kernel6Ideal Cert.Kernel6Ideal.Gen

theorem index0 : ∀ t : Fin grid0.N, win0_0.index t = ![t.val / 8, 0] ∧ win0_1.index t = ![0, 0, t.val % 8]
    ∧ win0_2.index t = ![t.val / 8, t.val % 8] := by decide +kernel

/-- The body's one store leaves the product of the two blocks. -/
theorem out_eq (c : Dev nD) (i : grid0.Coords) (a2 : Memref sig .tc .vmem S1088x4096 .bf16) (h2 : a2.IsWhole)
    (a3 : Memref sig .tc .vmem S1x4096x512 .f32) (h3 : a3.IsWhole) (a4 : Memref sig .tc .vmem S1088x512 .f32) (h4 : a4.IsWhole)
    (x : Vec Ideal S1088x4096 .bf16) (w : Vec Ideal S1x4096x512 .f32) :
    out0_A_2 c i a2 h2 a3 h3 a4 h4 x w = k0_pay1 x w := by
  unfold out0_A_2
  rw [View.read_writes_eq_canon _ _ _ (cover0_A_2 c i a2 h2 a3 h3 a4 h4 x w)]
  unfold kernelRun0_A
  dsimp only
  rw [View.canon_unit_zero (by decide)]
  simp only [View.readAt_eq_ld, h2.read_unread, h3.read_unread]
  rw [View.ld_unit_zero (by decide), View.ld_unit_zero (by decide)]

theorem product_pay (x : Vec Ideal S1088x4096 .bf16) (w : Vec Ideal S1x4096x512 .f32) (r : Fin 1088) (j : Fin 512) :
    k0_pay1 x w (ix2 r j) = ∑ k : Fin 4096, x (ix2 r k) * w (ix3 0 k j) := by
  pointwise [k0_pay1]

variable (m : (ℓ : Loc nD τ sig) → Buf (Elt Ideal) ℓ) (ρ : Dev nD → PrngReg) (c : Dev nD)

/-- The product in the tile of point `t`: eight tiles of columns to a tile of rows. -/
theorem tile_at (t : Fin 64) (r : Fin 1088) (q : Fin 512) (n : Fin 8704) (j : Fin 4096) (hn : n.val = t.val / 8 * 1088 + r.val)
    (hj : j.val = t.val % 8 * 512 + q.val) :
    ((dats m 0 c).arrAt 2 cfg0.N : Vec Ideal S8704x4096 .f32) (ValueIdx.ix2 n j) = k0_pay1 (iblk m c 0 t) (X0_1 m c t) (ValueIdx.ix2 r q) := by
  have hi : ∀ t t', (cfg0.win 2).index t = (cfg0.win 2).index t' → t = t' := fun t t' h => by
    have h0 := congrFun h 0
    have h1 := congrFun h 1
    rw [show (cfg0.win 2).index t = _ from (index0 t).2.2, show (cfg0.win 2).index t' = _ from (index0 t').2.2] at h0 h1
    refine Fin.ext ?_
    have h0 : t.val / 8 = t'.val / 8 := h0
    have h1 : t.val % 8 = t'.val % 8 := h1
    omega
  have h := (dats m 0 c).arrAt_emb_eq_flushed 2 ((cfg0.win 2).hdisj_of_index_inj fun t t' _ _ h => hi t t' h) t (flush0_2 t) (ValueIdx.ix2 r q)
  have e : ((cfg0.win 2).blk t).view.emb (ValueIdx.ix2 r q) = (ValueIdx.ix2 n j : S8704x4096.Idx) := by
    blk_ext [index0 t, hn, hj]
  rw [← e]
  refine h.trans ?_
  exact (congrFun (after0_2 m c t) (ValueIdx.ix2 r q)).trans (congrFun (out_eq c _ _ _ _ _ _ _ _ _) _)

theorem rows_at (t : Fin 64) (r : Fin 1088) (k : Fin 4096) (n : Fin 8704) (hn : n.val = t.val / 8 * 1088 + r.val) :
    (iblk m c 0 t : Vec Ideal S1088x4096 .bf16) (ValueIdx.ix2 r k) = (V m c main_v0 : Vec Ideal S8704x4096 .bf16) (ValueIdx.ix2 n k) := by
  blk_ext [iblk, index0 t, hn]

theorem weights_at (t : Fin 64) (k : Fin 4096) (q : Fin 512) (j : Fin 4640) (hj : j.val = t.val % 8 * 512 + q.val) :
    (X0_1 m c t : Vec Ideal S1x4096x512 .f32) (ValueIdx.ix3 0 k q) = (V m c main_arg1 : Vec Ideal S1x4096x4640 .f32) (ValueIdx.ix3 0 k j) := by
  refine (dif_pos (moved0_1 t (ValueIdx.ix3 0 k q))).trans ?_
  blk_ext [iblk, index0 t, hj]

theorem at_v0 (n : Fin 8704) (k : Fin 4096) :
    (V m c main_v0 : Vec Ideal S8704x4096 .bf16) (ix2 n k) = (m ((c : Thread nD τ).loc main_arg0) : Vec Ideal S8704x4096 .f32) (ix2 n k) := by
  after_reads_at

/-- The program's result. -/
theorem rows (n : Fin 8704) (j : Fin 4096) :
    ((dats m 0 c).arrAt 2 cfg0.N : Vec Ideal S8704x4096 .f32) (ix2 n j)
      = query (m ((c : Thread nD τ).loc main_arg0)) (m ((c : Thread nD τ).loc main_arg1)) n j := by
  have hn : n.val = (n.val / 1088 * 8 + j.val / 512) / 8 * 1088 + n.val % 1088 := by omega
  have hj : j.val = (n.val / 1088 * 8 + j.val / 512) % 8 * 512 + j.val % 512 := by omega
  have hq := tile_at m c ⟨n.val / 1088 * 8 + j.val / 512, by omega⟩ ⟨n.val % 1088, by omega⟩ ⟨j.val % 512, by omega⟩ n j hn hj
  simp only [← ix2_eq_valueIdx] at hq
  refine hq.trans ((product_pay _ _ _ _).trans (Finset.sum_congr rfl fun k _ => ?_))
  have h0 := rows_at m c ⟨n.val / 1088 * 8 + j.val / 512, by omega⟩ ⟨n.val % 1088, by omega⟩ k n hn
  have h1 := weights_at m c ⟨n.val / 1088 * 8 + j.val / 512, by omega⟩ k ⟨j.val % 512, by omega⟩ ⟨j.val, by omega⟩ hj
  simp only [← ix2_eq_valueIdx, ← ix3_eq_valueIdx] at h0 h1
  exact congrArg₂ (fun a b : EReal => a * b) (h0.trans (at_v0 m c n k)) (h1.trans (congrFun (V_main_arg1 m c) _))

end Kernel

section Reference
open Cert.Reference6Ideal Cert.Reference6Ideal.Gen Cert.Reference6Ideal.Value

variable (V : Valuation τ sig (Elt Ideal))

theorem ref_rows (n : Fin 8704) (j : Fin 4096) :
    (after ops V main_v2 : Vec Ideal S8704x4096 .f32) (ix2 n j) = query (V main_arg0) (V main_arg1) n j := by
  after_reads_at
  rfl

theorem ref_arg0 : after ops V (Proc.devRef .tc main_arg0) = V (Proc.devRef .tc main_arg0) := by after_results <;> rfl
theorem ref_arg1 : after ops V (Proc.devRef .tc main_arg1) = V (Proc.devRef .tc main_arg1) := by after_results <;> rfl

/-- The reference's run: every buffer ends at what the operations leave there, and nothing is counted. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ (c : Dev nD) (b : Ref sig .tc), r.2.mem ((c.tc : Thread nD τ).loc b) = after ops (StableHlo.launchContents m c) (Proc.devRef .tc b))
        ∧ r.2.sem = fun _ => 0 :=
  (θ_run defs _ _).mono (fun r h => ⟨h, funext fun s => by obtain ⟨c, s⟩ := s; cases s <;> (rename_i k; exact k.elim0)⟩)
    (StableHlo.run_seq scopedRefs_eq scopedSems_eq defs main (fun _ => ops) main_eq (fun _ => ops_sub) m ρ)

end Reference

end Cert.Query

end
-- ==== Proof.LatentValue.lean ====
/-
  The first product of layer 0 up to its latents over the extended reals: at an index, in the program and in the reference.
-/
module

public import proofs.«01_k».proof.Proof.Gen.Kernel7Ideal.Frame
public import proofs.«01_k».proof.Proof.Gen.Reference7Ideal
public import proofs.«01_k».proof.Proof.Gen.Reference7Ideal.Run
public import Idealize.ShloMosaic.Lib.Pipeline.ValueKit
public import Idealize.ShloMosaic.Lib.Pointwise
public import Idealize.ShloMosaic.Lib.Pointwise.IndexBridge
public import Idealize.ShloMosaic.Lib.StableHlo.ReadAt

@[expose] public section

set_option maxRecDepth 16384

noncomputable section

namespace Cert.Latent

open Idealize.ShloMosaic
open Idealize.ShloMosaic.TcCoe Idealize.ShloMosaic.Tactic
open Idealize.ShloMosaic.StableHlo (after)

/-- A row of the layer's input times a column of the weights. -/
def latent (x : FVec Ideal Cert.Kernel7Ideal.S8704x4096 .f32) (w : FVec Ideal Cert.Kernel7Ideal.S1x4096x7752 .f32) (n : Fin 8704) (j : Fin 1536) : EReal :=
  ∑ k : Fin 4096, x (ix2 n k) * w (ix3 0 k ⟨j.val, by omega⟩)

section Kernel
open Cert.Kernel7Ideal Cert.Kernel7Ideal.Gen

theorem index0 : ∀ t : Fin grid0.N, win0_0.index t = ![t.val / 3, 0] ∧ win0_1.index t = ![0, 0, t.val % 3]
    ∧ win0_2.index t = ![t.val / 3, t.val % 3] := by decide +kernel

/-- The body's one store leaves the product of the two blocks. -/
theorem out_eq (c : Dev nD) (i : grid0.Coords) (a2 : Memref sig .tc .vmem S1088x4096 .bf16) (h2 : a2.IsWhole)
    (a3 : Memref sig .tc .vmem S1x4096x512 .f32) (h3 : a3.IsWhole) (a4 : Memref sig .tc .vmem S1088x512 .f32) (h4 : a4.IsWhole)
    (x : Vec Ideal S1088x4096 .bf16) (w : Vec Ideal S1x4096x512 .f32) :
    out0_A_2 c i a2 h2 a3 h3 a4 h4 x w = k0_pay1 x w := by
  unfold out0_A_2
  rw [View.read_writes_eq_canon _ _ _ (cover0_A_2 c i a2 h2 a3 h3 a4 h4 x w)]
  unfold kernelRun0_A
  dsimp only
  rw [View.canon_unit_zero (by decide)]
  simp only [View.readAt_eq_ld, h2.read_unread, h3.read_unread]
  rw [View.ld_unit_zero (by decide), View.ld_unit_zero (by decide)]

theorem product_pay (x : Vec Ideal S1088x4096 .bf16) (w : Vec Ideal S1x4096x512 .f32) (r : Fin 1088) (j : Fin 512) :
    k0_pay1 x w (ix2 r j) = ∑ k : Fin 4096, x (ix2 r k) * w (ix3 0 k j) := by
  pointwise [k0_pay1]

variable (m : (ℓ : Loc nD τ sig) → Buf (Elt Ideal) ℓ) (ρ : Dev nD → PrngReg) (c : Dev nD)

/-- The product in the tile of point `t`: three tiles of columns to a tile of rows. -/
theorem tile_at (t : Fin 24) (r : Fin 1088) (q : Fin 512) (n : Fin 8704) (j : Fin 1536) (hn : n.val = t.val / 3 * 1088 + r.val)
    (hj : j.val = t.val % 3 * 512 + q.val) :
    ((dats m 0 c).arrAt 2 cfg0.N : Vec Ideal S8704x1536 .f32) (ValueIdx.ix2 n j) = k0_pay1 (iblk m c 0 t) (X0_1 m c t) (ValueIdx.ix2 r q) := by
  have hi : ∀ t t', (cfg0.win 2).index t = (cfg0.win 2).index t' → t = t' := fun t t' h => by
    have h0 := congrFun h 0
    have h1 := congrFun h 1
    rw [show (cfg0.win 2).index t = _ from (index0 t).2.2, show (cfg0.win 2).index t' = _ from (index0 t').2.2] at h0 h1
    refine Fin.ext ?_
    have h0 : t.val / 3 = t'.val / 3 := h0
    have h1 : t.val % 3 = t'.val % 3 := h1
    omega
  have h := (dats m 0 c).arrAt_emb_eq_flushed 2 ((cfg0.win 2).hdisj_of_index_inj fun t t' _ _ h => hi t t' h) t (flush0_2 t) (ValueIdx.ix2 r q)
  have e : ((cfg0.win 2).blk t).view.emb (ValueIdx.ix2 r q) = (ValueIdx.ix2 n j : S8704x1536.Idx) := by
    blk_ext [index0 t, hn, hj]
  rw [← e]
  refine h.trans ?_
  exact (congrFun (after0_2 m c t) (ValueIdx.ix2 r q)).trans (congrFun (out_eq c _ _ _ _ _ _ _ _ _) _)

theorem rows_at (t : Fin 24) (r : Fin 1088) (k : Fin 4096) (n : Fin 8704) (hn : n.val = t.val / 3 * 1088 + r.val) :
    (iblk m c 0 t : Vec Ideal S1088x4096 .bf16) (ValueIdx.ix2 r k) = (V m c main_v0 : Vec Ideal S8704x4096 .bf16) (ValueIdx.ix2 n k) := by
  blk_ext [iblk, index0 t, hn]

theorem weights_at (t : Fin 24) (k : Fin 4096) (q : Fin 512) (j : Fin 7752) (hj : j.val = t.val % 3 * 512 + q.val) :
    (X0_1 m c t : Vec Ideal S1x4096x512 .f32) (ValueIdx.ix3 0 k q) = (V m c main_arg1 : Vec Ideal S1x4096x7752 .f32) (ValueIdx.ix3 0 k j) := by
  refine (dif_pos (moved0_1 t (ValueIdx.ix3 0 k q))).trans ?_
  blk_ext [iblk, index0 t, hj]

theorem at_v0 (n : Fin 8704) (k : Fin 4096) :
    (V m c main_v0 : Vec Ideal S8704x4096 .bf16) (ix2 n k) = (m ((c : Thread nD τ).loc main_arg0) : Vec Ideal S8704x4096 .f32) (ix2 n k) := by
  after_reads_at

/-- The program's result. -/
theorem rows (n : Fin 8704) (j : Fin 1536) :
    ((dats m 0 c).arrAt 2 cfg0.N : Vec Ideal S8704x1536 .f32) (ix2 n j)
      = latent (m ((c : Thread nD τ).loc main_arg0)) (m ((c : Thread nD τ).loc main_arg1)) n j := by
  have hn : n.val = (n.val / 1088 * 3 + j.val / 512) / 3 * 1088 + n.val % 1088 := by omega
  have hj : j.val = (n.val / 1088 * 3 + j.val / 512) % 3 * 512 + j.val % 512 := by omega
  have hq := tile_at m c ⟨n.val / 1088 * 3 + j.val / 512, by omega⟩ ⟨n.val % 1088, by omega⟩ ⟨j.val % 512, by omega⟩ n j hn hj
  simp only [← ix2_eq_valueIdx] at hq
  refine hq.trans ((product_pay _ _ _ _).trans (Finset.sum_congr rfl fun k _ => ?_))
  have h0 := rows_at m c ⟨n.val / 1088 * 3 + j.val / 512, by omega⟩ ⟨n.val % 1088, by omega⟩ k n hn
  have h1 := weights_at m c ⟨n.val / 1088 * 3 + j.val / 512, by omega⟩ k ⟨j.val % 512, by omega⟩ ⟨j.val, by omega⟩ hj
  simp only [← ix2_eq_valueIdx, ← ix3_eq_valueIdx] at h0 h1
  exact congrArg₂ (fun a b : EReal => a * b) (h0.trans (at_v0 m c n k)) (h1.trans (congrFun (V_main_arg1 m c) _))

end Kernel

section Reference
open Cert.Reference7Ideal Cert.Reference7Ideal.Gen Cert.Reference7Ideal.Value

variable (V : Valuation τ sig (Elt Ideal))

theorem ref_rows (n : Fin 8704) (j : Fin 1536) :
    (after ops V main_v2 : Vec Ideal S8704x1536 .f32) (ix2 n j) = latent (V main_arg0) (V main_arg1) n j := by
  after_reads_at
  rfl

theorem ref_arg0 : after ops V (Proc.devRef .tc main_arg0) = V (Proc.devRef .tc main_arg0) := by after_results <;> rfl
theorem ref_arg1 : after ops V (Proc.devRef .tc main_arg1) = V (Proc.devRef .tc main_arg1) := by after_results <;> rfl

/-- The reference's run: every buffer ends at what the operations leave there, and nothing is counted. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ (c : Dev nD) (b : Ref sig .tc), r.2.mem ((c.tc : Thread nD τ).loc b) = after ops (StableHlo.launchContents m c) (Proc.devRef .tc b))
        ∧ r.2.sem = fun _ => 0 :=
  (θ_run defs _ _).mono (fun r h => ⟨h, funext fun s => by obtain ⟨c, s⟩ := s; cases s <;> (rename_i k; exact k.elim0)⟩)
    (StableHlo.run_seq scopedRefs_eq scopedSems_eq defs main (fun _ => ops) main_eq (fun _ => ops_sub) m ρ)

end Reference

end Cert.Latent

end
-- ==== Proof.KvValue.lean ====
/-
  The latent attention's keys and values over the extended reals: the product of the latents with both of their weights, at an index.
-/
module

public import proofs.«01_k».proof.Proof.Gen.Kernel8Ideal.Frame
public import proofs.«01_k».proof.Proof.Gen.Reference8Ideal
public import proofs.«01_k».proof.Proof.Gen.Reference8Ideal.Run
public import Idealize.ShloMosaic.Lib.Pipeline.ValueKit
public import Idealize.ShloMosaic.Lib.Pointwise
public import Idealize.ShloMosaic.Lib.Pointwise.IndexBridge
public import Idealize.ShloMosaic.Lib.StableHlo.ReadAt

@[expose] public section

set_option maxRecDepth 16384

noncomputable section

namespace Cert.Kv

open Idealize.ShloMosaic
open Idealize.ShloMosaic.TcCoe Idealize.ShloMosaic.Tactic
open Idealize.ShloMosaic.StableHlo (after)

/-- The weights side by side: the keys' heads, then the values'. -/
def weight (u v : FVec Ideal Cert.Kernel8Ideal.S1x16x512x128 .f32) (k : Fin 512) (j : Fin 4096) : EReal :=
  if h : j.val < 2048 then u (ix4 0 ⟨j.val / 128, by omega⟩ k ⟨j.val % 128, by omega⟩)
  else v (ix4 0 ⟨(j.val - 2048) / 128, by omega⟩ k ⟨(j.val - 2048) % 128, by omega⟩)

/-- A row of the latents times a column of the weights. -/
def keyValue (c : FVec Ideal Cert.Kernel8Ideal.S8704x512 .f32) (u v : FVec Ideal Cert.Kernel8Ideal.S1x16x512x128 .f32) (n : Fin 8192) (j : Fin 4096) : EReal :=
  ∑ k : Fin 512, c (ix2 ⟨n.val, by omega⟩ k) * weight u v k j

section Kernel
open Cert.Kernel8Ideal Cert.Kernel8Ideal.Gen

theorem index0 : ∀ t : Fin grid0.N, win0_0.index t = ![t.val / 4, 0] ∧ win0_1.index t = ![0, 0, t.val % 4]
    ∧ win0_2.index t = ![t.val / 4, t.val % 4] := by decide +kernel

/-- The body's one store leaves the product of the two blocks. -/
theorem out_eq (c : Dev nD) (i : grid0.Coords) (a2 : Memref sig .tc .vmem S1024x512 .f32) (h2 : a2.IsWhole)
    (a3 : Memref sig .tc .vmem S1x512x1024 .f32) (h3 : a3.IsWhole) (a4 : Memref sig .tc .vmem S1024x1024 .f32) (h4 : a4.IsWhole)
    (x : Vec Ideal S1024x512 .f32) (w : Vec Ideal S1x512x1024 .f32) :
    out0_A_2 c i a2 h2 a3 h3 a4 h4 x w = k0_pay1 x w := by
  unfold out0_A_2
  rw [View.read_writes_eq_canon _ _ _ (cover0_A_2 c i a2 h2 a3 h3 a4 h4 x w)]
  unfold kernelRun0_A
  dsimp only
  rw [View.canon_unit_zero (by decide)]
  simp only [View.readAt_eq_ld, h2.read_unread, h3.read_unread]
  rw [View.ld_unit_zero (by decide), View.ld_unit_zero (by decide)]

theorem product_pay (x : Vec Ideal S1024x512 .f32) (w : Vec Ideal S1x512x1024 .f32) (r : Fin 1024) (j : Fin 1024) :
    k0_pay1 x w (ix2 r j) = ∑ k : Fin 512, x (ix2 r k) * w (ix3 0 k j) := by
  pointwise [k0_pay1]

variable (m : (ℓ : Loc nD τ sig) → Buf (Elt Ideal) ℓ) (ρ : Dev nD → PrngReg) (c : Dev nD)

/-- The product in the tile of point `t`: four tiles of columns to a tile of rows. -/
theorem tile_at (t : Fin 32) (r : Fin 1024) (q : Fin 1024) (n : Fin 8192) (j : Fin 4096) (hn : n.val = t.val / 4 * 1024 + r.val)
    (hj : j.val = t.val % 4 * 1024 + q.val) :
    ((dats m 0 c).arrAt 2 cfg0.N : Vec Ideal S8192x4096 .f32) (ValueIdx.ix2 n j) = k0_pay1 (X0_0 m c t) (iblk m c 1 t) (ValueIdx.ix2 r q) := by
  have hi : ∀ t t', (cfg0.win 2).index t = (cfg0.win 2).index t' → t = t' := fun t t' h => by
    have h0 := congrFun h 0
    have h1 := congrFun h 1
    rw [show (cfg0.win 2).index t = _ from (index0 t).2.2, show (cfg0.win 2).index t' = _ from (index0 t').2.2] at h0 h1
    refine Fin.ext ?_
    have h0 : t.val / 4 = t'.val / 4 := h0
    have h1 : t.val % 4 = t'.val % 4 := h1
    omega
  have h := (dats m 0 c).arrAt_emb_eq_flushed 2 ((cfg0.win 2).hdisj_of_index_inj fun t t' _ _ h => hi t t' h) t (flush0_2 t) (ValueIdx.ix2 r q)
  have e : ((cfg0.win 2).blk t).view.emb (ValueIdx.ix2 r q) = (ValueIdx.ix2 n j : S8192x4096.Idx) := by
    blk_ext [index0 t, hn, hj]
  rw [← e]
  refine h.trans ?_
  exact (congrFun (after0_2 m c t) (ValueIdx.ix2 r q)).trans (congrFun (out_eq c _ _ _ _ _ _ _ _ _) _)

theorem rows_at (t : Fin 32) (r : Fin 1024) (k : Fin 512) (n : Fin 8704) (hn : n.val = t.val / 4 * 1024 + r.val) :
    (X0_0 m c t : Vec Ideal S1024x512 .f32) (ValueIdx.ix2 r k) = (V m c main_arg0 : Vec Ideal S8704x512 .f32) (ValueIdx.ix2 n k) := by
  refine (dif_pos (moved0_0 t (ValueIdx.ix2 r k))).trans ?_
  blk_ext [iblk, index0 t, hn]

theorem weights_at (t : Fin 32) (k : Fin 512) (q : Fin 1024) (j : Fin 4096) (hj : j.val = t.val % 4 * 1024 + q.val) :
    (iblk m c 1 t : Vec Ideal S1x512x1024 .f32) (ValueIdx.ix3 0 k q) = (V m c main_v7 : Vec Ideal S1x512x4096 .f32) (ValueIdx.ix3 0 k j) := by
  blk_ext [iblk, index0 t, hj]

theorem at_v7 (k : Fin 512) (j : Fin 4096) :
    (V m c main_v7 : Vec Ideal S1x512x4096 .f32) (ix3 0 k j)
      = weight (m ((c : Thread nD τ).loc main_arg1)) (m ((c : Thread nD τ).loc main_arg2)) k j := by
  unfold weight
  after_reads_at
  by_cases h : j.val < 2048
  · rw [dif_pos h, dif_pos h]
    after_reads_at
  · rw [dif_neg h, dif_neg h]
    after_reads_at

/-- The program's result. -/
theorem rows (n : Fin 8192) (j : Fin 4096) :
    ((dats m 0 c).arrAt 2 cfg0.N : Vec Ideal S8192x4096 .f32) (ix2 n j)
      = keyValue (m ((c : Thread nD τ).loc main_arg0)) (m ((c : Thread nD τ).loc main_arg1)) (m ((c : Thread nD τ).loc main_arg2)) n j := by
  have hn : n.val = (n.val / 1024 * 4 + j.val / 1024) / 4 * 1024 + n.val % 1024 := by omega
  have hj : j.val = (n.val / 1024 * 4 + j.val / 1024) % 4 * 1024 + j.val % 1024 := by omega
  have hq := tile_at m c ⟨n.val / 1024 * 4 + j.val / 1024, by omega⟩ ⟨n.val % 1024, by omega⟩ ⟨j.val % 1024, by omega⟩ n j hn hj
  simp only [← ix2_eq_valueIdx] at hq
  refine hq.trans ((product_pay _ _ _ _).trans (Finset.sum_congr rfl fun k _ => ?_))
  have h0 := rows_at m c ⟨n.val / 1024 * 4 + j.val / 1024, by omega⟩ ⟨n.val % 1024, by omega⟩ k ⟨n.val, by omega⟩ hn
  have h1 := weights_at m c ⟨n.val / 1024 * 4 + j.val / 1024, by omega⟩ k ⟨j.val % 1024, by omega⟩ j hj
  simp only [← ix2_eq_valueIdx, ← ix3_eq_valueIdx] at h0 h1
  exact congrArg₂ (fun a b : EReal => a * b) (h0.trans (congrFun (V_main_arg0 m c) _)) (h1.trans (at_v7 m c k j))

end Kernel

section Reference
open Cert.Reference8Ideal Cert.Reference8Ideal.Gen Cert.Reference8Ideal.Value

variable (V : Valuation τ sig (Elt Ideal))

theorem ref_rows (n : Fin 8192) (j : Fin 4096) :
    (after ops V main_v7 : Vec Ideal S8192x4096 .f32) (ix2 n j) = keyValue (V main_arg0) (V main_arg1) (V main_arg2) n j := by
  unfold keyValue weight
  after_reads_at
  by_cases h : j.val < 2048
  · simp only [dif_pos h]
  · simp only [dif_neg h]

theorem ref_arg0 : after ops V (Proc.devRef .tc main_arg0) = V (Proc.devRef .tc main_arg0) := by after_results <;> rfl
theorem ref_arg1 : after ops V (Proc.devRef .tc main_arg1) = V (Proc.devRef .tc main_arg1) := by after_results <;> rfl
theorem ref_arg2 : after ops V (Proc.devRef .tc main_arg2) = V (Proc.devRef .tc main_arg2) := by after_results <;> rfl

/-- The reference's run: every buffer ends at what the operations leave there, and nothing is counted. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ (c : Dev nD) (b : Ref sig .tc), r.2.mem ((c.tc : Thread nD τ).loc b) = after ops (StableHlo.launchContents m c) (Proc.devRef .tc b))
        ∧ r.2.sem = fun _ => 0 :=
  (θ_run defs _ _).mono (fun r h => ⟨h, funext fun s => by obtain ⟨c, s⟩ := s; cases s <;> (rename_i k; exact k.elim0)⟩)
    (StableHlo.run_seq scopedRefs_eq scopedSems_eq defs main (fun _ => ops) main_eq (fun _ => ops_sub) m ρ)

end Reference

end Cert.Kv

end
-- ==== Proof.QUpPays.lean ====
/-
  The queries of the latent attention from their latents: the normalized row times the heads' weights, each head's last part rotated.
-/
module

public import proofs.«01_k».proof.Proof.AbPays
public import proofs.«01_k».proof.Proof.Gen.Kernel9Ideal.Frame
public import Idealize.ShloMosaic.Lib.Pipeline.ValueKit
public import Idealize.ShloMosaic.Lib.Pointwise
public import Idealize.ShloMosaic.Lib.Pointwise.IndexBridge
public import Idealize.ShloMosaic.Lib.StableHlo.ReadAt

@[expose] public section

set_option maxRecDepth 16384

noncomputable section

namespace Cert.QUp

open Idealize.ShloMosaic
open Idealize.ShloMosaic.TcCoe Idealize.ShloMosaic.Tactic
open Idealize.ShloMosaic.StableHlo (after)
open Cert.Ab (pos angle half)
open Cert.Kernel9Ideal Cert.Kernel9Ideal.Gen

/-- An entry over the root of the mean square of its row, scaled. -/
def normed (f : Fin 1024 → EReal) (g : Fin 1024 → EReal) (k : Fin 1024) : EReal :=
  f k * Ideal.rsqrt (Ideal.div (∑ x, f x * f x) (Ideal.ofBits FTy.f32 1149239296#32) + Ideal.ofBits FTy.f32 897988541#32) * g k

/-- The normalized row times a column of the weights. -/
def product (f : Fin 1024 → EReal) (g : Fin 1024 → EReal) (w : Fin 1024 → EReal) : EReal := ∑ k : Fin 1024, normed f g k * w k

/-- A tile's two heads, each head's last part rotated. -/
def tile (x : Vec Ideal S1088x1024 .f32) (g : Vec Ideal S1x1024 .f32) (w : Vec Ideal S1024x512 .f32) (a s : Vec Ideal S1088x128 .f32) :
    Vec Ideal S1088x512 .f32 :=
  k0_pay1 (k0_pay2 x g w) (k0_pay3 a) (k0_pay4 s) (k0_pay5 x g w) (k0_pay6 x g w) (k0_pay7 x g w a)
    (Scalar.select (Scalar.cmpi .eq 64#32 0#32) 1#32 64#32) k0_pay8 k0_pay9 k0_pay10 k0_pay11

/-- The body's one store leaves the tile. -/
theorem out_eq (c : Dev nD) (i : grid0.Coords) (a2 : Memref sig .tc .vmem S1088x1024 .f32) (h2 : a2.IsWhole)
    (a3 : Memref sig .tc .vmem S1x1024 .f32) (h3 : a3.IsWhole) (a4 : Memref sig .tc .vmem S1024x512 .f32) (h4 : a4.IsWhole)
    (a5 : Memref sig .tc .vmem S1088x128 .f32) (h5 : a5.IsWhole) (a6 : Memref sig .tc .vmem S1088x128 .f32) (h6 : a6.IsWhole)
    (a7 : Memref sig .tc .vmem S1088x512 .f32) (h7 : a7.IsWhole)
    (x : Vec Ideal S1088x1024 .f32) (g : Vec Ideal S1x1024 .f32) (w : Vec Ideal S1024x512 .f32) (a s : Vec Ideal S1088x128 .f32) :
    out0_A_5 c i a2 h2 a3 h3 a4 h4 a5 h5 a6 h6 a7 h7 x g w a s = tile x g w a s := by
  unfold out0_A_5
  rw [View.read_writes_eq_canon _ _ _ (cover0_A_5 c i a2 h2 a3 h3 a4 h4 a5 h5 a6 h6 a7 h7 x g w a s)]
  unfold kernelRun0_A
  dsimp only
  unfold kernelRun0_A.sl.r kernelRun0_A.sl.r_1 kernelRun0_A.sl.r_2 kernelRun0_A.sl.r_3 kernelRun0_A.sl.r_4 kernelRun0_A.sl.r_5 tile
  rw [show (Scalar.select (Scalar.cmpi .eq 64#32 0#32) 1#32 64#32 : BitVec 32) = 64#32 from by decide]
  rw [View.canon_unit_zero (by decide)]
  simp only [View.readAt_eq_ld, h2.read_unread, h3.read_unread, h4.read_unread, h5.read_unread, h6.read_unread]
  rw [View.ld_unit_zero (by decide), View.ld_unit_zero (by decide), View.ld_unit_zero (by decide), View.ld_unit_zero (by decide), View.ld_unit_zero (by decide)]

theorem product_pay (x : Vec Ideal S1088x1024 .f32) (g : Vec Ideal S1x1024 .f32) (w : Vec Ideal S1024x512 .f32) (r : Fin 1088) (j : Fin 512) :
    k0_pay2 x g w (ix2 r j) = product (fun k => x (ix2 r k)) (fun k => g (ix2 0 k)) (fun k => w (ix2 k j)) := by
  pointwise [k0_pay2]
  rfl

theorem tile_plain (x : Vec Ideal S1088x1024 .f32) (g : Vec Ideal S1x1024 .f32) (w : Vec Ideal S1024x512 .f32) (a s : Vec Ideal S1088x128 .f32)
    (r : Fin 1088) (j : Fin 512) (hj : j.val % 256 < 128) : tile x g w a s (ix2 r j) = k0_pay2 x g w (ix2 r j) := by
  pointwise [tile, k0_pay1, k0_pay5]
  by_cases h : j.val < 128
  · rw [dif_pos h]
  · rw [dif_neg h, dif_neg (by omega), dif_pos (by omega)]
    exact congrArg (fun q => k0_pay2 x g w (ix2 r q)) (Fin.ext (by show 256 + (j.val - 128 - 128) = j.val; omega))

set_option maxHeartbeats 2000000 in
theorem tile_turned (x : Vec Ideal S1088x1024 .f32) (g : Vec Ideal S1x1024 .f32) (w : Vec Ideal S1024x512 .f32) (a s : Vec Ideal S1088x128 .f32)
    (r : Fin 1088) (j j' : Fin 512) (i : Fin 128) (hi : i.val < 64) (hj : j.val % 256 = 128 + i.val)
    (hj' : j'.val = if i.val < 32 then j.val + 32 else j.val - 32) :
    tile x g w a s (ix2 r j) = k0_pay2 x g w (ix2 r j) * a (ix2 r i) + k0_pay2 x g w (ix2 r j') * s (ix2 r i) := by
  pointwise [tile, k0_pay1, k0_pay3, k0_pay4, k0_pay5, k0_pay6, k0_pay7, k0_pay8, k0_pay9, k0_pay10, k0_pay11]
  by_cases h : j.val < 256
  · rw [dif_neg (by omega), dif_pos (by omega)]
    have e : j.val - 128 = i.val := by omega
    simp only [e, Fin.eta]
    refine (congrArg (fun b : BitVec 1 => (_ + Scalar.select b _ _ * _ : EReal)) (half i hi)).trans ?_
    refine congrArg₂ (fun y y' : EReal => y * a (ix2 r _) + y' * s (ix2 r _)) (congrArg (fun q => k0_pay2 x g w (ix2 r q)) (Fin.ext ?_)) ?_
    · show 128 + i.val = j.val
      omega
    · by_cases h' : i.val < 32
      · rw [if_pos h'] at hj' ⊢
        exact congrArg (fun q => k0_pay2 x g w (ix2 r q)) (Fin.ext (by show 128 + (i.val + 128 - 96) % 128 = j'.val; omega))
      · rw [if_neg h'] at hj' ⊢
        exact congrArg (fun q => k0_pay2 x g w (ix2 r q)) (Fin.ext (by show 128 + (i.val + 128 - 32) % 128 = j'.val; omega))
  · rw [dif_neg (by omega), dif_neg (by omega), dif_neg (by omega)]
    have e : j.val - 128 - 128 - 128 = i.val := by omega
    simp only [e, Fin.eta]
    refine (congrArg (fun b : BitVec 1 => (_ + Scalar.select b _ _ * _ : EReal)) (half i hi)).trans ?_
    refine congrArg₂ (fun y y' : EReal => y * a (ix2 r _) + y' * s (ix2 r _)) (congrArg (fun q => k0_pay2 x g w (ix2 r q)) (Fin.ext ?_)) ?_
    · show 384 + i.val = j.val
      omega
    · by_cases h' : i.val < 32
      · rw [if_pos h'] at hj' ⊢
        exact congrArg (fun q => k0_pay2 x g w (ix2 r q)) (Fin.ext (by show 384 + (i.val + 128 - 96) % 128 = j'.val; omega))
      · rw [if_neg h'] at hj' ⊢
        exact congrArg (fun q => k0_pay2 x g w (ix2 r q)) (Fin.ext (by show 384 + (i.val + 128 - 32) % 128 = j'.val; omega))

variable (m : (ℓ : Loc nD τ sig) → Buf (Elt Ideal) ℓ) (c : Dev nD)

theorem at_v31 (k : Fin 1024) (h : Fin 16) (e : Fin 256) (he : e.val < 192) :
    (V m c main_v31 : Vec Ideal S1024x4096 .f32) (ix2 k ⟨h.val * 256 + e.val, by omega⟩)
      = (m ((c : Thread nD τ).loc main_arg2) : Vec Ideal S1x1024x3072 .f32) (ix3 0 k ⟨h.val * 192 + e.val, by omega⟩) := by
  after_reads_at
  rw [dif_pos (by omega)]

theorem at_v33 (k : Fin 1024) :
    (V m c main_v33 : Vec Ideal S1x1024 .f32) (ix2 0 k) = (m ((c : Thread nD τ).loc main_arg1) : Vec Ideal S1x1024 .f32) (ix2 0 k) := by
  after_reads_at

/-- The positions of the prompt's rows. -/
theorem at_v3 (n : Fin 8192) : (V m c main_v3 : Vec Ideal S8192 .f32) (ix1 n) = FloatOps.sitofp (F := Ideal) FTy.f32 (BitVec.ofNat 32 (n.val % 2048)) := by
  after_reads_at
/-- The positions of the sample's rows. -/
theorem at_v9 (n : Fin 512) : (V m c main_v9 : Vec Ideal S512 .f32) (ix1 n)
    = (FloatOps.sitofp (F := Ideal) FTy.f32 (BitVec.ofNat 32 (n.val % 4)) : EReal) + Ideal.ofBits FTy.f32 1182793728#32 := by
  after_reads_at
theorem upto_v3 : (StableHlo.upto (List.flatten [hostOps0, hostOps0_1, hostOps0_2]) (fun b => m (c, b)) 11 main_v3 : Vec Ideal S8192 .f32) = (V m c main_v3 : Vec Ideal S8192 .f32) := by
  after_reads_simp
theorem upto_v9 : (StableHlo.upto (List.flatten [hostOps0, hostOps0_1, hostOps0_2]) (fun b => m (c, b)) 11 main_v9 : Vec Ideal S512 .f32) = (V m c main_v9 : Vec Ideal S512 .f32) := by
  after_reads_simp
theorem pos_eq (n : Fin 8704) :
    (if h : n.val < 8192 then (StableHlo.upto (List.flatten [hostOps0, hostOps0_1, hostOps0_2]) (fun b => m (c, b)) 11 main_v3 : Vec Ideal S8192 .f32) (ix1 ⟨n.val, h⟩)
    else (StableHlo.upto (List.flatten [hostOps0, hostOps0_1, hostOps0_2]) (fun b => m (c, b)) 11 main_v9 : Vec Ideal S512 .f32) (ix1 ⟨n.val - 8192, by omega⟩)) = pos n := by
  unfold pos
  split_ifs with h
  · exact (congrFun (upto_v3 m c) _).trans (at_v3 m c _)
  · exact (congrFun (upto_v9 m c) _).trans (at_v9 m c _)

/-- The cosines. -/
theorem at_v24 (n : Fin 8704) (j : Fin 128) (hj : j.val < 64) :
    (V m c main_v24 : Vec Ideal S8704x128 .f32) (ix2 n j) = Ideal.cos (angle n (if j.val < 32 then j.val else j.val - 32)) := by
  after_reads_at
  by_cases h : j.val < 32
  · rw [dif_pos h, if_pos h]
    after_reads_at
    exact congrArg Ideal.cos (congrArg (· * _) (pos_eq m c n))
  · rw [dif_neg h, if_neg h, dif_pos (by omega)]
    after_reads_at
    exact congrArg Ideal.cos (congrArg (· * _) (pos_eq m c n))

/-- The sines, those of the first half negated. -/
theorem at_v27 (n : Fin 8704) (j : Fin 128) (hj : j.val < 64) :
    (V m c main_v27 : Vec Ideal S8704x128 .f32) (ix2 n j)
      = if j.val < 32 then -Ideal.sin (angle n j.val) else Ideal.sin (angle n (j.val - 32)) := by
  after_reads_at
  by_cases h : j.val < 32
  · rw [dif_pos h, if_pos h]
    after_reads_at
    exact congrArg (fun e => -Ideal.sin e) (congrArg (· * _) (pos_eq m c n))
  · rw [dif_neg h, if_neg h, dif_pos (by omega)]
    after_reads_at
    exact congrArg Ideal.sin (congrArg (· * _) (pos_eq m c n))

/-- A head's column of the latents' row times the weights. -/
def column (z : FVec Ideal S8704x1536 .f32) (g : FVec Ideal S1x1024 .f32) (w : FVec Ideal S1x1024x3072 .f32) (n : Fin 8704) (j : Fin 3072) : EReal :=
  product (fun k => z (ix2 n ⟨k.val, by omega⟩)) (fun k => g (ix2 0 k)) (fun k => w (ix3 0 k j))

/-- The queries: a head's first hundred and twenty-eight entries plain, the rest rotated. -/
def query (z : FVec Ideal S8704x1536 .f32) (g : FVec Ideal S1x1024 .f32) (w : FVec Ideal S1x1024x3072 .f32) (n : Fin 8704) (h : Fin 16)
    (e : Fin 192) : EReal :=
  if e.val < 128 then column z g w n ⟨h.val * 192 + e.val, by omega⟩
  else if h' : e.val - 128 < 32 then
    column z g w n ⟨h.val * 192 + e.val, by omega⟩ * Ideal.cos (angle n (e.val - 128))
      - column z g w n ⟨h.val * 192 + (e.val + 32), by omega⟩ * Ideal.sin (angle n (e.val - 128))
  else column z g w n ⟨h.val * 192 + e.val, by omega⟩ * Ideal.cos (angle n (e.val - 128 - 32))
      + column z g w n ⟨h.val * 192 + (e.val - 32), by omega⟩ * Ideal.sin (angle n (e.val - 128 - 32))

end Cert.QUp

end
-- ==== Proof.QUpValue.lean ====
/-
  The queries of the latent attention over the extended reals: the program's, at an index.
-/
module

public import proofs.«01_k».proof.Proof.QUpPays

@[expose] public section

set_option maxRecDepth 16384

noncomputable section

namespace Cert.QUp

open Idealize.ShloMosaic
open Idealize.ShloMosaic.TcCoe Idealize.ShloMosaic.Tactic
open Idealize.ShloMosaic.StableHlo (after)
open Cert.Ab (pos angle half)
open Cert.Kernel9Ideal Cert.Kernel9Ideal.Gen

theorem index0 : ∀ t : Fin grid0.N, win0_0.index t = ![t.val / 8, 0] ∧ win0_1.index t = ![0, 0] ∧ win0_2.index t = ![0, t.val % 8]
    ∧ win0_3.index t = ![t.val / 8, 0] ∧ win0_4.index t = ![t.val / 8, 0] ∧ win0_5.index t = ![t.val / 8, t.val % 8] := by decide +kernel

variable (m : (ℓ : Loc nD τ sig) → Buf (Elt Ideal) ℓ) (ρ : Dev nD → PrngReg) (c : Dev nD)

/-- The region's output in the tile of point `t`: eight tiles of columns to a tile of rows. -/
theorem tile_at (t : Fin 64) (r : Fin 1088) (q : Fin 512) (n : Fin 8704) (j : Fin 4096) (hn : n.val = t.val / 8 * 1088 + r.val)
    (hj : j.val = t.val % 8 * 512 + q.val) :
    ((dats m 0 c).arrAt 5 cfg0.N : Vec Ideal S8704x4096 .f32) (ValueIdx.ix2 n j)
      = tile (X0_0 m c t) (iblk m c 1 t) (iblk m c 2 t) (iblk m c 3 t) (iblk m c 4 t) (ValueIdx.ix2 r q) := by
  have hi : ∀ t t', (cfg0.win 5).index t = (cfg0.win 5).index t' → t = t' := fun t t' h => by
    have h0 := congrFun h 0
    have h1 := congrFun h 1
    rw [show (cfg0.win 5).index t = _ from (index0 t).2.2.2.2.2, show (cfg0.win 5).index t' = _ from (index0 t').2.2.2.2.2] at h0 h1
    refine Fin.ext ?_
    have h0 : t.val / 8 = t'.val / 8 := h0
    have h1 : t.val % 8 = t'.val % 8 := h1
    omega
  have h := (dats m 0 c).arrAt_emb_eq_flushed 5 ((cfg0.win 5).hdisj_of_index_inj fun t t' _ _ h => hi t t' h) t (flush0_5 t) (ValueIdx.ix2 r q)
  have e : ((cfg0.win 5).blk t).view.emb (ValueIdx.ix2 r q) = (ValueIdx.ix2 n j : S8704x4096.Idx) := by
    blk_ext [index0 t, hn, hj]
  rw [← e]
  refine h.trans ?_
  exact (congrFun (after0_5 m c t) (ValueIdx.ix2 r q)).trans (congrFun (out_eq c _ _ _ _ _ _ _ _ _ _ _ _ _ _ _ _ _ _) _)

theorem rows_at (t : Fin 64) (r : Fin 1088) (k : Fin 1024) (n : Fin 8704) (hn : n.val = t.val / 8 * 1088 + r.val) :
    (X0_0 m c t : Vec Ideal S1088x1024 .f32) (ValueIdx.ix2 r k) = (V m c main_arg0 : Vec Ideal S8704x1536 .f32) (ValueIdx.ix2 n ⟨k.val, by omega⟩) := by
  refine (dif_pos (moved0_0 t (ValueIdx.ix2 r k))).trans ?_
  blk_ext [iblk, index0 t, hn]

theorem scale_at (t : Fin 64) (k : Fin 1024) :
    (iblk m c 1 t : Vec Ideal S1x1024 .f32) (ValueIdx.ix2 0 k) = (V m c main_v33 : Vec Ideal S1x1024 .f32) (ValueIdx.ix2 0 k) := by
  blk_ext [iblk, index0 t]

theorem weights_at (t : Fin 64) (k : Fin 1024) (q : Fin 512) (j : Fin 4096) (hj : j.val = t.val % 8 * 512 + q.val) :
    (iblk m c 2 t : Vec Ideal S1024x512 .f32) (ValueIdx.ix2 k q) = (V m c main_v31 : Vec Ideal S1024x4096 .f32) (ValueIdx.ix2 k j) := by
  blk_ext [iblk, index0 t, hj]

theorem cosines_at (t : Fin 64) (r : Fin 1088) (i : Fin 128) (n : Fin 8704) (hn : n.val = t.val / 8 * 1088 + r.val) :
    (iblk m c 3 t : Vec Ideal S1088x128 .f32) (ValueIdx.ix2 r i) = (V m c main_v24 : Vec Ideal S8704x128 .f32) (ValueIdx.ix2 n i) := by
  blk_ext [iblk, index0 t, hn]

theorem sines_at (t : Fin 64) (r : Fin 1088) (i : Fin 128) (n : Fin 8704) (hn : n.val = t.val / 8 * 1088 + r.val) :
    (iblk m c 4 t : Vec Ideal S1088x128 .f32) (ValueIdx.ix2 r i) = (V m c main_v27 : Vec Ideal S8704x128 .f32) (ValueIdx.ix2 n i) := by
  blk_ext [iblk, index0 t, hn]

/-- The product at a head's entry before the rotation. -/
theorem column_at (t : Fin 64) (r : Fin 1088) (q : Fin 512) (n : Fin 8704) (h : Fin 16) (e : Fin 256) (he : e.val < 192)
    (hn : n.val = t.val / 8 * 1088 + r.val) (hj : h.val * 256 + e.val = t.val % 8 * 512 + q.val) :
    k0_pay2 (F := Ideal) (X0_0 m c t) (iblk m c 1 t) (iblk m c 2 t) (ix2 r q)
      = column (m ((c : Thread nD τ).loc main_arg0)) (m ((c : Thread nD τ).loc main_arg1)) (m ((c : Thread nD τ).loc main_arg2)) n
          ⟨h.val * 192 + e.val, by omega⟩ := by
  refine (product_pay _ _ _ r q).trans ?_
  unfold column
  have h0 := fun k => rows_at m c t r k n hn
  have h1 := fun k => scale_at m c t k
  have h2 := fun k => weights_at m c t k q ⟨h.val * 256 + e.val, by omega⟩ hj
  simp only [← ix2_eq_valueIdx] at h0 h1 h2
  have e0 : (fun k : Fin 1024 => (X0_0 m c t : Vec Ideal S1088x1024 .f32) (ix2 r k))
      = fun k => (m ((c : Thread nD τ).loc main_arg0) : Vec Ideal S8704x1536 .f32) (ix2 n ⟨k.val, by omega⟩) :=
    funext fun k => (h0 k).trans (congrFun (V_main_arg0 m c) _)
  have e1 : (fun k : Fin 1024 => (iblk m c 1 t : Vec Ideal S1x1024 .f32) (ix2 0 k))
      = fun k => (m ((c : Thread nD τ).loc main_arg1) : Vec Ideal S1x1024 .f32) (ix2 0 k) := funext fun k => (h1 k).trans (at_v33 m c k)
  have e2 : (fun k : Fin 1024 => (iblk m c 2 t : Vec Ideal S1024x512 .f32) (ix2 k q))
      = fun k => (m ((c : Thread nD τ).loc main_arg2) : Vec Ideal S1x1024x3072 .f32) (ix3 0 k ⟨h.val * 192 + e.val, by omega⟩) :=
    funext fun k => (h2 k).trans (at_v31 m c k h e he)
  rw [e0, e1, e2]

set_option maxHeartbeats 2000000 in
/-- The region's output at a head's entry. -/
theorem rows (n : Fin 8704) (h : Fin 16) (e : Fin 192) :
    ((dats m 0 c).arrAt 5 cfg0.N : Vec Ideal S8704x4096 .f32) (ix2 n ⟨h.val * 256 + e.val, by omega⟩)
      = query (m ((c : Thread nD τ).loc main_arg0)) (m ((c : Thread nD τ).loc main_arg1)) (m ((c : Thread nD τ).loc main_arg2)) n h e := by
  have hn : n.val = (n.val / 1088 * 8 + h.val / 2) / 8 * 1088 + n.val % 1088 := by omega
  have hj : h.val * 256 + e.val = (n.val / 1088 * 8 + h.val / 2) % 8 * 512 + (h.val % 2 * 256 + e.val) := by omega
  have hq := tile_at m c ⟨n.val / 1088 * 8 + h.val / 2, by omega⟩ ⟨n.val % 1088, by omega⟩ ⟨h.val % 2 * 256 + e.val, by omega⟩ n
    ⟨h.val * 256 + e.val, by omega⟩ hn hj
  simp only [← ix2_eq_valueIdx] at hq
  refine hq.trans ?_
  unfold query
  have c0 := column_at m c ⟨n.val / 1088 * 8 + h.val / 2, by omega⟩ ⟨n.val % 1088, by omega⟩ ⟨h.val % 2 * 256 + e.val, by omega⟩ n h ⟨e.val, by omega⟩
    e.isLt hn hj
  by_cases h0 : e.val < 128
  · rw [if_pos h0]
    exact (tile_plain _ _ _ _ _ ⟨n.val % 1088, by omega⟩ ⟨h.val % 2 * 256 + e.val, by omega⟩
      (by show (h.val % 2 * 256 + e.val) % 256 < 128; omega)).trans c0
  rw [if_neg h0]
  have hi : e.val - 128 < 64 := by omega
  have b := cosines_at m c ⟨n.val / 1088 * 8 + h.val / 2, by omega⟩ ⟨n.val % 1088, by omega⟩ ⟨e.val - 128, by omega⟩ n hn
  have b' := sines_at m c ⟨n.val / 1088 * 8 + h.val / 2, by omega⟩ ⟨n.val % 1088, by omega⟩ ⟨e.val - 128, by omega⟩ n hn
  simp only [← ix2_eq_valueIdx] at b b'
  have k := b.trans (at_v24 m c n ⟨e.val - 128, by omega⟩ hi)
  have k' := b'.trans (at_v27 m c n ⟨e.val - 128, by omega⟩ hi)
  by_cases h1 : e.val - 128 < 32
  · rw [dif_pos h1]
    have c1 := column_at m c ⟨n.val / 1088 * 8 + h.val / 2, by omega⟩ ⟨n.val % 1088, by omega⟩ ⟨h.val % 2 * 256 + (e.val + 32), by omega⟩ n h
      ⟨e.val + 32, by omega⟩ (by show e.val + 32 < 192; omega) hn (by show h.val * 256 + (e.val + 32) = _; dsimp only; omega)
    refine (tile_turned _ _ _ _ _ ⟨n.val % 1088, by omega⟩ ⟨h.val % 2 * 256 + e.val, by omega⟩ ⟨h.val % 2 * 256 + (e.val + 32), by omega⟩ ⟨e.val - 128, by omega⟩ hi
      (by show (h.val % 2 * 256 + e.val) % 256 = 128 + (e.val - 128); omega)
      (by rw [if_pos h1]; show h.val % 2 * 256 + (e.val + 32) = h.val % 2 * 256 + e.val + 32; omega)).trans ?_
    rw [k, k', c0, c1]
    simp only [if_pos h1]
    rw [mul_neg, sub_eq_add_neg]
  · rw [dif_neg h1]
    have c1 := column_at m c ⟨n.val / 1088 * 8 + h.val / 2, by omega⟩ ⟨n.val % 1088, by omega⟩ ⟨h.val % 2 * 256 + (e.val - 32), by omega⟩ n h
      ⟨e.val - 32, by omega⟩ (by show e.val - 32 < 192; omega) hn (by show h.val * 256 + (e.val - 32) = _; dsimp only; omega)
    refine (tile_turned _ _ _ _ _ ⟨n.val % 1088, by omega⟩ ⟨h.val % 2 * 256 + e.val, by omega⟩ ⟨h.val % 2 * 256 + (e.val - 32), by omega⟩ ⟨e.val - 128, by omega⟩ hi
      (by show (h.val % 2 * 256 + e.val) % 256 = 128 + (e.val - 128); omega)
      (by rw [if_neg h1]; show h.val % 2 * 256 + (e.val - 32) = h.val % 2 * 256 + e.val - 32; omega)).trans ?_
    rw [k, k', c0, c1]
    simp only [if_neg h1]

/-- The program's result: the first entries of each head of the region's output. -/
theorem result (n : Fin 8704) (h : Fin 16) (e : Fin 192) :
    (Pipeline.afterTail₀ cfgs (dats m) 0 (V0 m) [hostOps1] c main_v36 : Vec Ideal S8704x16x192 .f32) (ix3 n h e)
      = query (m ((c : Thread nD τ).loc main_arg0)) (m ((c : Thread nD τ).loc main_arg1)) (m ((c : Thread nD τ).loc main_arg2)) n h e := by
  refine Eq.trans ?_ (rows m c n h e)
  refine Eq.trans ?_ (congrFun (Pipeline.withArrays_arr spec0 launch0.win.arr_inj c (V0 m c) (fun w => (dats m 0 c).arrAt w cfg0.N) 5) _)
  unfold Pipeline.afterTail₀
  generalize Pipeline.withArrays _ c _ _ = V
  after_reads_at

end Cert.QUp

end
-- ==== Proof.QUpRef.lean ====
/-
  The queries of the latent attention over the extended reals: the reference's, at an index.
-/
module

public import proofs.«01_k».proof.Proof.QUpPays
public import proofs.«01_k».proof.Proof.Gen.Reference9Ideal
public import proofs.«01_k».proof.Proof.Gen.Reference9Ideal.Run
public import Idealize.ShloMosaic.Lib.Pointwise.IndexBridge

@[expose] public section

set_option maxRecDepth 16384

noncomputable section

namespace Cert.QUp

open Idealize.ShloMosaic
open Idealize.ShloMosaic.TcCoe Idealize.ShloMosaic.Tactic
open Idealize.ShloMosaic.StableHlo (after)
open Cert.Ab (pos angle)
open Cert.Reference9Ideal Cert.Reference9Ideal.Gen Cert.Reference9Ideal.Value

variable (V : Valuation τ sig (Elt Ideal))

theorem ref_query (n : Fin 8704) (h : Fin 16) (e : Fin 192) :
    (after ops V main_v55 : Vec Ideal S8704x16x192 .f32) (ix3 n h e) = query (V main_arg0) (V main_arg1) (V main_arg2) n h e := by
  after_reads_at
  pointwise [fn_main_v55]
  unfold query
  by_cases h0 : e.val < 128
  · rw [dif_pos h0, if_pos h0]
    after_reads_at
    rfl
  rw [dif_neg h0, if_neg h0]
  by_cases h1 : e.val - 128 < 32
  · rw [dif_pos h1, dif_pos h1]
    after_reads_at
    pointwise [fn_main_v34]
    have e0 : 128 + (e.val - 128) = e.val := by omega
    have e1 : 160 + (e.val - 128) = e.val + 32 := by omega
    simp only [e0, e1]
    rfl
  · rw [dif_neg h1, dif_neg h1]
    after_reads_at
    pointwise [fn_main_v34]
    have e0 : 160 + (e.val - 128 - 32) = e.val := by omega
    have e1 : 128 + (e.val - 128 - 32) = e.val - 32 := by omega
    simp only [e0, e1]
    rfl

theorem ref_arg0 : after ops V (Proc.devRef .tc main_arg0) = V (Proc.devRef .tc main_arg0) := by after_results <;> rfl
theorem ref_arg1 : after ops V (Proc.devRef .tc main_arg1) = V (Proc.devRef .tc main_arg1) := by after_results <;> rfl
theorem ref_arg2 : after ops V (Proc.devRef .tc main_arg2) = V (Proc.devRef .tc main_arg2) := by after_results <;> rfl

/-- The reference's run: every buffer ends at what the operations leave there, and nothing is counted. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ (c : Dev nD) (b : Ref sig .tc), r.2.mem ((c.tc : Thread nD τ).loc b) = after ops (StableHlo.launchContents m c) (Proc.devRef .tc b))
        ∧ r.2.sem = fun _ => 0 :=
  (θ_run defs _ _).mono (fun r h => ⟨h, funext fun s => by obtain ⟨c, s⟩ := s; cases s <;> (rename_i k; exact k.elim0)⟩)
    (StableHlo.run_seq scopedRefs_eq scopedSems_eq defs main (fun _ => ops) main_eq (fun _ => ops_sub) m ρ)

end Cert.QUp

end
-- ==== Proof.lean ====
/-
  The claims. Both kernel frames are the one run of Run.lean, at the bit patterns and at the extended reals; the reference's is its own run.
-/
module

public import proofs.«01_k».proof.Defs
public import proofs.«01_k».proof.Proof.Gen.Kernel
public import proofs.«01_k».proof.Proof.Gen.ReferenceIdeal
public import proofs.«01_k».proof.Proof.Gen.Kernel2.Frame
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal
public import proofs.«01_k».proof.Proof.Gen.Reference9Ideal.Run
public import proofs.«01_k».proof.Proof.Run
public import proofs.«01_k».proof.Proof.Words.Run
public import proofs.«01_k».proof.Proof.RefRun
public import proofs.«01_k».proof.Proof.RefValue
public import proofs.«01_k».proof.Proof.KernelValue
public import proofs.«01_k».proof.Proof.Inputs
public import proofs.«01_k».proof.Proof.FoxValue
public import proofs.«01_k».proof.Proof.AbValue
public import proofs.«01_k».proof.Proof.OutValue
public import proofs.«01_k».proof.Proof.AbOutValue
public import proofs.«01_k».proof.Proof.QueryValue
public import proofs.«01_k».proof.Proof.LatentValue
public import proofs.«01_k».proof.Proof.KvValue
public import proofs.«01_k».proof.Proof.QUpValue
public import proofs.«01_k».proof.Proof.QUpRef
public import Idealize.ShloMosaic.Adequacy
public import Idealize.ShloMosaic.Init

@[expose] public section

noncomputable section

namespace Cert.Proof

open Idealize.ShloMosaic Idealize.SL.Sem

section Kernel
open Cert.KernelIdeal Cert.KernelIdeal.Gen Cert.MoE

variable {F : FTy → Type} [FloatOps F]

/-- The kernel's program returns what its last region leaves, and leaves its arguments and its counters, over any floats. -/
theorem kernel_result (m : (ℓ : Loc nD τ sig) → Buf (Elt F) ℓ) (ρ : Dev nD → PrngReg) :
    θ_run (defs (F := F)) (onTc (τ := τ) (main (F := F))) ⟨m, fun _ => 0, ρ⟩ (fun r => (∀ c : Dev nD, r.2.mem ((c.tc : Thread nD τ).loc main_v211_0) = U34 m c (Proc.devRef .tc main_v211_0)) ∧ (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h =>
    have g (c : Dev nD) (b : Ref sig .tc) (hb : b.isScoped = false) := h.1 c (Proc.devRef .tc b) (Finset.mem_filter.mpr ⟨StableHlo.devRef_mem_tcRefs b, by simpa using hb⟩)
    ⟨fun c => (g c main_v211_0 rfl).trans (congrFun (V34_eq m c) _), fun c => ⟨(g c main_arg0 rfl).trans (V34_main_arg0 m (outs m) c), (g c main_arg1 rfl).trans (V34_main_arg1 m (outs m) c),
      (g c main_arg2 rfl).trans (V34_main_arg2 m (outs m) c), (g c main_arg3 rfl).trans (V34_main_arg3 m (outs m) c),
      (g c main_arg4 rfl).trans (V34_main_arg4 m (outs m) c), (g c main_arg5 rfl).trans (V34_main_arg5 m (outs m) c),
      (g c main_arg6 rfl).trans (V34_main_arg6 m (outs m) c), (g c main_arg7 rfl).trans (V34_main_arg7 m (outs m) c),
      (g c main_arg8 rfl).trans (V34_main_arg8 m (outs m) c), (g c main_arg9 rfl).trans (V34_main_arg9 m (outs m) c)⟩, h.2⟩)
    (run_main m ρ)

/-- The second half of it. -/
theorem kernel_quiet (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run (defs (F := F)) _ _).mono (fun _ h => h.2) (kernel_result m ρ)

end Kernel

section Words
open Cert.Kernel Cert.Kernel.Gen Cert.MoEWords

variable {F : FTy → Type} [FloatOps F]

/-- The kernel's program leaves its arguments and its counters, as printed for the bit patterns. -/
theorem words_quiet (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c =>
    have g (b : Ref sig .tc) (hb : b.isScoped = false) := h.1 c (Proc.devRef .tc b) (Finset.mem_filter.mpr ⟨StableHlo.devRef_mem_tcRefs b, by simpa using hb⟩)
    ⟨(g main_arg0 rfl).trans (V34_main_arg0 m (outs m) c), (g main_arg1 rfl).trans (V34_main_arg1 m (outs m) c),
      (g main_arg2 rfl).trans (V34_main_arg2 m (outs m) c), (g main_arg3 rfl).trans (V34_main_arg3 m (outs m) c),
      (g main_arg4 rfl).trans (V34_main_arg4 m (outs m) c), (g main_arg5 rfl).trans (V34_main_arg5 m (outs m) c),
      (g main_arg6 rfl).trans (V34_main_arg6 m (outs m) c), (g main_arg7 rfl).trans (V34_main_arg7 m (outs m) c),
      (g main_arg8 rfl).trans (V34_main_arg8 m (outs m) c), (g main_arg9 rfl).trans (V34_main_arg9 m (outs m) c)⟩, h.2⟩)
    (run_main m ρ)

end Words

theorem frame_kernel : Cert.quiescent_Kernel := fun m ρ _ => words_quiet (F := Bits) m ρ

theorem frame_kernelIdeal : Cert.quiescent_KernelIdeal := fun m ρ _ => kernel_quiet (F := Ideal) m ρ

theorem frame_reference : Cert.quiescent_ReferenceIdeal := fun m ρ _ => by
  refine (θ_run (Cert.ReferenceIdeal.defs (F := Ideal)) _ _).mono (fun r h => ?_) (Cert.MoE.Ref.run (F := Ideal) m ρ)
  refine ⟨fun c => ?_, h.2⟩
  have g : ∀ b ∉ Cert.MoE.Ref.ops_W, r.2.mem ((c.tc : Thread Cert.ReferenceIdeal.nD Cert.ReferenceIdeal.τ).loc b)
      = m ((c.tc : Thread Cert.ReferenceIdeal.nD Cert.ReferenceIdeal.τ).loc b) := fun b hb =>
    (h.1 c b).trans (Cert.MoE.Ref.ops_keeps (StableHlo.launchContents m c) b hb)
  exact ⟨g Cert.ReferenceIdeal.main_arg0 (by decide), g Cert.ReferenceIdeal.main_arg1 (by decide), g Cert.ReferenceIdeal.main_arg2 (by decide), g Cert.ReferenceIdeal.main_arg3 (by decide), g Cert.ReferenceIdeal.main_arg4 (by decide), g Cert.ReferenceIdeal.main_arg5 (by decide), g Cert.ReferenceIdeal.main_arg6 (by decide), g Cert.ReferenceIdeal.main_arg7 (by decide), g Cert.ReferenceIdeal.main_arg8 (by decide), g Cert.ReferenceIdeal.main_arg9 (by decide)⟩

/-- The precondition, as the value of the kernel takes it. -/
theorem finite (m : (ℓ : Loc Cert.KernelIdeal.nD Cert.KernelIdeal.τ Cert.KernelIdeal.sig) → Buf (Elt Ideal) ℓ)
    (h : Cert.Pre_KernelIdeal_finite_router (hPre_finite_router := Cert.MoE.Inputs.facts) m) : Cert.MoE.Finite m :=
  ⟨Cert.MoE.Inputs.g_finite _ _ _ _ _ _ _ _ _ _ (h 0).1, Cert.MoE.Inputs.r_finite _ _ _ _ _ _ _ _ _ _ (h 0).2⟩

theorem result_congr {x x' : FVec Ideal Cert.KernelIdeal.S8704x4096 .f32} {wg wg' : FVec Ideal Cert.KernelIdeal.S2x4096x4 .f32}
    {bg bg' : FVec Ideal Cert.KernelIdeal.S2x4 .f32} {wr wr' : FVec Ideal Cert.KernelIdeal.S2x4x4096x8 .f32}
    {br br' : FVec Ideal Cert.KernelIdeal.S2x4x8 .f32} {w₁ w₁' w₂ w₂' : FVec Ideal Cert.KernelIdeal.S2x32x4096x512 .f32}
    {w₃ w₃' : FVec Ideal Cert.KernelIdeal.S2x32x512x4096 .f32} {γ γ' β β' : FVec Ideal Cert.KernelIdeal.S2x4096 .f32}
    (h0 : x = x') (h1 : wg = wg') (h2 : bg = bg') (h3 : wr = wr') (h4 : br = br') (h5 : w₁ = w₁') (h6 : w₂ = w₂') (h7 : w₃ = w₃')
    (h8 : γ = γ') (h9 : β = β') (n : Fin 8704) (k : Fin 4096) :
    Cert.MoE.result x wg bg wr br w₁ w₂ w₃ γ β n k = Cert.MoE.result x' wg' bg' wr' br' w₁' w₂' w₃' γ' β' n k := by
  subst h0 h1 h2 h3 h4 h5 h6 h7 h8 h9; rfl

theorem algebraic_value : Cert.algebraic_KernelIdeal_ReferenceIdeal_pre_finite_router (hPre_finite_router := Cert.MoE.Inputs.facts) :=
  fun m ρ m' ρ' hp ha => by
  refine ⟨fun c => Cert.MoE.U34 m c (Proc.devRef .tc Cert.KernelIdeal.main_v211_0), ?_, ?_⟩
  · refine (θ_run (Cert.KernelIdeal.defs (F := Ideal)) _ _).mono (fun r h c => ?_)
      ((kernel_result (F := Ideal) m ρ))
    exact ⟨h.1 c, h.2.1 c⟩
  · refine (θ_run (Cert.ReferenceIdeal.defs (F := Ideal)) _ _).mono (fun r h c => ?_) (Cert.MoE.Ref.run (F := Ideal) m' ρ')
    have g : ∀ b ∉ Cert.MoE.Ref.ops_W, r.2.mem ((c.tc : Thread Cert.ReferenceIdeal.nD Cert.ReferenceIdeal.τ).loc b)
        = m' ((c.tc : Thread Cert.ReferenceIdeal.nD Cert.ReferenceIdeal.τ).loc b) := fun b hb =>
      (h.1 c b).trans (Cert.MoE.Ref.ops_keeps (StableHlo.launchContents m' c) b hb)
    refine ⟨(h.1 c Cert.ReferenceIdeal.main_v99).trans ?_, g Cert.ReferenceIdeal.main_arg0 (by decide), g Cert.ReferenceIdeal.main_arg1 (by decide), g Cert.ReferenceIdeal.main_arg2 (by decide), g Cert.ReferenceIdeal.main_arg3 (by decide), g Cert.ReferenceIdeal.main_arg4 (by decide), g Cert.ReferenceIdeal.main_arg5 (by decide), g Cert.ReferenceIdeal.main_arg6 (by decide), g Cert.ReferenceIdeal.main_arg7 (by decide), g Cert.ReferenceIdeal.main_arg8 (by decide), g Cert.ReferenceIdeal.main_arg9 (by decide)⟩
    obtain rfl : c = 0 := Subsingleton.elim _ _
    obtain ⟨h0, h1, h2, h3, h4, h5, h6, h7, h8, h9⟩ := ha 0
    refine funext fun i => ?_
    rw [eq_ix2 i]
    refine (Cert.MoE.Ref.value (StableHlo.launchContents m' 0) (i 0) (i 1)).trans (Eq.trans ?_ (Cert.MoE.value m (finite m hp) (i 0) (i 1)).symm)
    exact result_congr h0 h1 h2 h3 h4 h5 h6 h7 h8 h9 _ _

theorem frame_kernel2 : Cert.quiescent_Kernel2 := fun m ρ _ => Cert.Kernel2.Gen.frame (F := Bits) m ρ

theorem frame_kernel2Ideal : Cert.quiescent_Kernel2Ideal := fun m ρ _ => Cert.Kernel2Ideal.Gen.frame (F := Ideal) m ρ

theorem frame_reference2 : Cert.quiescent_Reference2Ideal := fun m ρ _ =>
  (θ_run (Cert.Reference2Ideal.defs (F := Ideal)) _ _).mono (fun _ h =>
    ⟨fun c => ⟨(h.1 c _).trans (Cert.Fox.ref_arg0 _), (h.1 c _).trans (Cert.Fox.ref_arg1 _), (h.1 c _).trans (Cert.Fox.ref_arg2 _)⟩, h.2⟩)
    (Cert.Fox.ref_run m ρ)

/-- The keys, the values and the gates of the program are the reference's. -/
theorem algebraic_value2 : Cert.algebraic_Kernel2Ideal_Reference2Ideal := fun m ρ m' ρ' _ ha => by
  refine ⟨fun c => Cert.Kernel2Ideal.Gen.W9 m ρ c (Proc.devRef .tc Cert.Kernel2Ideal.main_v11),
    fun c => Cert.Kernel2Ideal.Gen.W9 m ρ c (Proc.devRef .tc Cert.Kernel2Ideal.main_v12),
    fun c => Cert.Kernel2Ideal.Gen.W9 m ρ c (Proc.devRef .tc Cert.Kernel2Ideal.main_v10), ?_, ?_⟩
  · refine (θ_run (Cert.Kernel2Ideal.defs (F := Ideal)) _ _).mono (fun r h c => ?_) (Cert.Fox.run (F := Ideal) m ρ)
    have g (b : Ref Cert.Kernel2Ideal.sig .tc) (hb : b.isScoped = false) := h.1 c (Proc.devRef .tc b) (Finset.mem_filter.mpr ⟨StableHlo.devRef_mem_tcRefs b, by simpa using hb⟩)
    exact ⟨g Cert.Kernel2Ideal.main_v11 rfl, g Cert.Kernel2Ideal.main_v12 rfl, g Cert.Kernel2Ideal.main_v10 rfl,
      (g Cert.Kernel2Ideal.main_arg0 rfl).trans (Cert.Kernel2Ideal.Gen.W9_main_arg0 m ρ c),
      (g Cert.Kernel2Ideal.main_arg1 rfl).trans (Cert.Kernel2Ideal.Gen.W9_main_arg1 m ρ c),
      (g Cert.Kernel2Ideal.main_arg2 rfl).trans (Cert.Kernel2Ideal.Gen.W9_main_arg2 m ρ c)⟩
  · refine (θ_run (Cert.Reference2Ideal.defs (F := Ideal)) _ _).mono (fun r h c => ?_)
      (Cert.Fox.ref_run m' ρ')
    obtain rfl : c = 0 := Subsingleton.elim _ _
    obtain ⟨h0, h1, h2⟩ := ha 0
    have k0 : (StableHlo.launchContents m' 0 (Proc.devRef .tc Cert.Reference2Ideal.main_arg0) : FVec Ideal Cert.Kernel2Ideal.S8704x4096 .f32)
        = m (((0 : Dev Cert.Kernel2Ideal.nD).tc : Thread Cert.Kernel2Ideal.nD Cert.Kernel2Ideal.τ).loc Cert.Kernel2Ideal.main_arg0) := h0
    have k1 : (StableHlo.launchContents m' 0 (Proc.devRef .tc Cert.Reference2Ideal.main_arg1) : FVec Ideal Cert.Kernel2Ideal.S1x4096x4640 .f32)
        = m (((0 : Dev Cert.Kernel2Ideal.nD).tc : Thread Cert.Kernel2Ideal.nD Cert.Kernel2Ideal.τ).loc Cert.Kernel2Ideal.main_arg1) := h1
    have k2 : (StableHlo.launchContents m' 0 (Proc.devRef .tc Cert.Reference2Ideal.main_arg2) : FVec Ideal Cert.Kernel2Ideal.S1x32 .f32)
        = m (((0 : Dev Cert.Kernel2Ideal.nD).tc : Thread Cert.Kernel2Ideal.nD Cert.Kernel2Ideal.τ).loc Cert.Kernel2Ideal.main_arg2) := h2
    refine ⟨(h.1 0 Cert.Reference2Ideal.main_v2).trans (funext fun i => ?_), (h.1 0 Cert.Reference2Ideal.main_v3).trans (funext fun i => ?_),
      (h.1 0 Cert.Reference2Ideal.main_v9).trans (funext fun i => ?_),
      (h.1 0 _).trans (Cert.Fox.ref_arg0 _), (h.1 0 _).trans (Cert.Fox.ref_arg1 _), (h.1 0 _).trans (Cert.Fox.ref_arg2 _)⟩
    · rw [eq_ix2 i]
      refine (Cert.Fox.ref_keys (StableHlo.launchContents m' 0) (i 0) (i 1)).trans (Eq.trans ?_ (Cert.Fox.keys m ρ 0 (i 0) (i 1)).symm)
      exact congrArg₂ (fun x w => Cert.Fox.product x w _ _) k0 k1
    · rw [eq_ix2 i]
      refine (Cert.Fox.ref_vals (StableHlo.launchContents m' 0) (i 0) (i 1)).trans (Eq.trans ?_ (Cert.Fox.vals m ρ 0 (i 0) (i 1)).symm)
      exact congrArg₂ (fun x w => Cert.Fox.product x w _ _) k0 k1
    · rw [eq_ix2 i]
      refine (Cert.Fox.ref_gates (StableHlo.launchContents m' 0) (i 0) (i 1)).trans (Eq.trans ?_ (Cert.Fox.gates m ρ 0 (i 0) (i 1)).symm)
      exact congrArg Cert.Fox.logSigmoid (congrArg₂ (fun a b : EReal => a + b) (congrArg₂ (fun x w => Cert.Fox.product x w _ _) k0 k1)
        (congrFun k2 _))

theorem frame_kernel3 : Cert.quiescent_Kernel3 := fun m ρ _ => Cert.Kernel3.Gen.frame (F := Bits) m ρ

theorem frame_kernel3Ideal : Cert.quiescent_Kernel3Ideal := fun m ρ _ => Cert.Kernel3Ideal.Gen.frame (F := Ideal) m ρ

theorem frame_reference3 : Cert.quiescent_Reference3Ideal := fun m ρ _ =>
  (θ_run (Cert.Reference3Ideal.defs (F := Ideal)) _ _).mono (fun _ h =>
    ⟨fun c => ⟨(h.1 c _).trans (Cert.Ab.ref_arg0 _), (h.1 c _).trans (Cert.Ab.ref_arg1 _), (h.1 c _).trans (Cert.Ab.ref_arg2 _), (h.1 c _).trans (Cert.Ab.ref_arg3 _), (h.1 c _).trans (Cert.Ab.ref_arg4 _), (h.1 c _).trans (Cert.Ab.ref_arg5 _)⟩, h.2⟩)
    (Cert.Ab.ref_run m ρ)

/-- The latents, the rotated keys, the mixer's projections and the gates of the program are the reference's. -/
theorem algebraic_value3 : Cert.algebraic_Kernel3Ideal_Reference3Ideal := fun m ρ m' ρ' _ ha => by
  refine ⟨fun c => Cert.Kernel3Ideal.Gen.W11 m ρ c (Proc.devRef .tc Cert.Kernel3Ideal.main_v54_0),
    fun c => Cert.Kernel3Ideal.Gen.W11 m ρ c (Proc.devRef .tc Cert.Kernel3Ideal.main_v55),
    fun c => Cert.Kernel3Ideal.Gen.W11 m ρ c (Proc.devRef .tc Cert.Kernel3Ideal.main_v13),
    fun c => Cert.Kernel3Ideal.Gen.W11 m ρ c (Proc.devRef .tc Cert.Kernel3Ideal.main_v56), ?_, ?_⟩
  · refine (θ_run (Cert.Kernel3Ideal.defs (F := Ideal)) _ _).mono (fun r h c => ?_) (Cert.Ab.run (F := Ideal) m ρ)
    have g (b : Ref Cert.Kernel3Ideal.sig .tc) (hb : b.isScoped = false) := h.1 c (Proc.devRef .tc b) (Finset.mem_filter.mpr ⟨StableHlo.devRef_mem_tcRefs b, by simpa using hb⟩)
    exact ⟨g Cert.Kernel3Ideal.main_v54_0 rfl, g Cert.Kernel3Ideal.main_v55 rfl, g Cert.Kernel3Ideal.main_v13 rfl, g Cert.Kernel3Ideal.main_v56 rfl,
      (g Cert.Kernel3Ideal.main_arg0 rfl).trans (Cert.Kernel3Ideal.Gen.W11_main_arg0 m ρ c),
      (g Cert.Kernel3Ideal.main_arg1 rfl).trans (Cert.Kernel3Ideal.Gen.W11_main_arg1 m ρ c),
      (g Cert.Kernel3Ideal.main_arg2 rfl).trans (Cert.Kernel3Ideal.Gen.W11_main_arg2 m ρ c),
      (g Cert.Kernel3Ideal.main_arg3 rfl).trans (Cert.Kernel3Ideal.Gen.W11_main_arg3 m ρ c),
      (g Cert.Kernel3Ideal.main_arg4 rfl).trans (Cert.Kernel3Ideal.Gen.W11_main_arg4 m ρ c),
      (g Cert.Kernel3Ideal.main_arg5 rfl).trans (Cert.Kernel3Ideal.Gen.W11_main_arg5 m ρ c)⟩
  · refine (θ_run (Cert.Reference3Ideal.defs (F := Ideal)) _ _).mono (fun r h c => ?_)
      (Cert.Ab.ref_run m' ρ')
    obtain rfl : c = 0 := Subsingleton.elim _ _
    obtain ⟨h0, h1, h2, h3, h4, h5⟩ := ha 0
    have k0 : (StableHlo.launchContents m' 0 (Proc.devRef .tc Cert.Reference3Ideal.main_arg0) : FVec Ideal Cert.Kernel3Ideal.S8704x4096 .f32)
        = m (((0 : Dev Cert.Kernel3Ideal.nD).tc : Thread Cert.Kernel3Ideal.nD Cert.Kernel3Ideal.τ).loc Cert.Kernel3Ideal.main_arg0) := h0
    have k1 : (StableHlo.launchContents m' 0 (Proc.devRef .tc Cert.Reference3Ideal.main_arg1) : FVec Ideal Cert.Kernel3Ideal.S1x4096x7752 .f32)
        = m (((0 : Dev Cert.Kernel3Ideal.nD).tc : Thread Cert.Kernel3Ideal.nD Cert.Kernel3Ideal.τ).loc Cert.Kernel3Ideal.main_arg1) := h1
    have k2 : (StableHlo.launchContents m' 0 (Proc.devRef .tc Cert.Reference3Ideal.main_arg2) : FVec Ideal Cert.Kernel3Ideal.S8704x1536 .f32)
        = m (((0 : Dev Cert.Kernel3Ideal.nD).tc : Thread Cert.Kernel3Ideal.nD Cert.Kernel3Ideal.τ).loc Cert.Kernel3Ideal.main_arg2) := h2
    have k3 : (StableHlo.launchContents m' 0 (Proc.devRef .tc Cert.Reference3Ideal.main_arg3) : FVec Ideal Cert.Kernel3Ideal.S1x512 .f32)
        = m (((0 : Dev Cert.Kernel3Ideal.nD).tc : Thread Cert.Kernel3Ideal.nD Cert.Kernel3Ideal.τ).loc Cert.Kernel3Ideal.main_arg3) := h3
    have k4 : (StableHlo.launchContents m' 0 (Proc.devRef .tc Cert.Reference3Ideal.main_arg4) : FVec Ideal Cert.Kernel3Ideal.S1x4 .f32)
        = m (((0 : Dev Cert.Kernel3Ideal.nD).tc : Thread Cert.Kernel3Ideal.nD Cert.Kernel3Ideal.τ).loc Cert.Kernel3Ideal.main_arg4) := h4
    have k5 : (StableHlo.launchContents m' 0 (Proc.devRef .tc Cert.Reference3Ideal.main_arg5) : FVec Ideal Cert.Kernel3Ideal.S1x4 .f32)
        = m (((0 : Dev Cert.Kernel3Ideal.nD).tc : Thread Cert.Kernel3Ideal.nD Cert.Kernel3Ideal.τ).loc Cert.Kernel3Ideal.main_arg5) := h5
    refine ⟨(h.1 0 Cert.Reference3Ideal.main_v20).trans (funext fun i => ?_), (h.1 0 Cert.Reference3Ideal.main_v53).trans (funext fun i => ?_),
      (h.1 0 Cert.Reference3Ideal.main_v3).trans (funext fun i => ?_), (h.1 0 Cert.Reference3Ideal.main_v63).trans (funext fun i => ?_), (h.1 0 _).trans (Cert.Ab.ref_arg0 _), (h.1 0 _).trans (Cert.Ab.ref_arg1 _), (h.1 0 _).trans (Cert.Ab.ref_arg2 _), (h.1 0 _).trans (Cert.Ab.ref_arg3 _), (h.1 0 _).trans (Cert.Ab.ref_arg4 _), (h.1 0 _).trans (Cert.Ab.ref_arg5 _)⟩
    · rw [eq_ix2 i]
      refine (Cert.Ab.ref_latent (StableHlo.launchContents m' 0) (i 0) (i 1)).trans (Eq.trans ?_ (Cert.Ab.latents m ρ 0 (i 0) (i 1)).symm)
      exact congrArg₂ (fun z g => Cert.Ab.latent z g _ _) k2 k3
    · rw [eq_ix2 i]
      refine (Cert.Ab.ref_keys (StableHlo.launchContents m' 0) (i 0) (i 1)).trans (Eq.trans ?_ (Cert.Ab.keys m ρ 0 (i 0) (i 1)).symm)
      exact congrArg₂ (fun x w => Cert.Ab.rope x w _ _) k0 k1
    · rw [eq_ix2 i]
      refine (Cert.Ab.ref_mixer (StableHlo.launchContents m' 0) (i 0) (i 1)).trans (Eq.trans ?_ (Cert.Ab.mixer m ρ 0 (i 0) (i 1)).symm)
      exact congrArg₂ (fun x w => Cert.Ab.product x w _ _) k0 k1
    · rw [eq_ix2 i]
      refine (Cert.Ab.ref_gates (StableHlo.launchContents m' 0) (i 0) (i 1)).trans (Eq.trans ?_ (Cert.Ab.gates m ρ 0 (i 0) (i 1)).symm)
      exact (congrArg₂ (fun x w => Cert.Ab.gate x w _ _ _ _) k0 k1).trans (congrArg₂ (fun b b' => Cert.Ab.gate _ _ b b' _ _) k4 k5)

theorem frame_kernel4 : Cert.quiescent_Kernel4 := fun m ρ _ => Cert.Kernel4.Gen.frame (F := Bits) m ρ

theorem frame_kernel4Ideal : Cert.quiescent_Kernel4Ideal := fun m ρ _ => Cert.Kernel4Ideal.Gen.frame (F := Ideal) m ρ

theorem frame_reference4 : Cert.quiescent_Reference4Ideal := fun m ρ _ =>
  (θ_run (Cert.Reference4Ideal.defs (F := Ideal)) _ _).mono (fun _ h =>
    ⟨fun c => ⟨(h.1 c _).trans (Cert.Out.ref_arg0 _), (h.1 c _).trans (Cert.Out.ref_arg1 _), (h.1 c _).trans (Cert.Out.ref_arg2 _), (h.1 c _).trans (Cert.Out.ref_arg3 _), (h.1 c _).trans (Cert.Out.ref_arg4 _)⟩, h.2⟩)
    (Cert.Out.ref_run m ρ)

/-- The normalized residual of the program is the reference's. -/
theorem algebraic_value4 : Cert.algebraic_Kernel4Ideal_Reference4Ideal := fun m ρ m' ρ' _ ha => by
  refine ⟨fun c => Cert.Kernel4Ideal.Gen.W3 m ρ c (Proc.devRef .tc Cert.Kernel4Ideal.main_v3_0), ?_, ?_⟩
  · refine (θ_run (Cert.Kernel4Ideal.defs (F := Ideal)) _ _).mono (fun r h c => ?_) (Cert.Out.run (F := Ideal) m ρ)
    have g (b : Ref Cert.Kernel4Ideal.sig .tc) (hb : b.isScoped = false) := h.1 c (Proc.devRef .tc b) (Finset.mem_filter.mpr ⟨StableHlo.devRef_mem_tcRefs b, by simpa using hb⟩)
    exact ⟨g Cert.Kernel4Ideal.main_v3_0 rfl,
      (g Cert.Kernel4Ideal.main_arg0 rfl).trans (Cert.Kernel4Ideal.Gen.W3_main_arg0 m ρ c),
      (g Cert.Kernel4Ideal.main_arg1 rfl).trans (Cert.Kernel4Ideal.Gen.W3_main_arg1 m ρ c),
      (g Cert.Kernel4Ideal.main_arg2 rfl).trans (Cert.Kernel4Ideal.Gen.W3_main_arg2 m ρ c),
      (g Cert.Kernel4Ideal.main_arg3 rfl).trans (Cert.Kernel4Ideal.Gen.W3_main_arg3 m ρ c),
      (g Cert.Kernel4Ideal.main_arg4 rfl).trans (Cert.Kernel4Ideal.Gen.W3_main_arg4 m ρ c)⟩
  · refine (θ_run (Cert.Reference4Ideal.defs (F := Ideal)) _ _).mono (fun r h c => ?_)
      (Cert.Out.ref_run m' ρ')
    obtain rfl : c = 0 := Subsingleton.elim _ _
    obtain ⟨h0, h1, h2, h3, h4⟩ := ha 0
    have k0 : (StableHlo.launchContents m' 0 (Proc.devRef .tc Cert.Reference4Ideal.main_arg0) : FVec Ideal Cert.Kernel4Ideal.S8704x4096 .f32)
        = m (((0 : Dev Cert.Kernel4Ideal.nD).tc : Thread Cert.Kernel4Ideal.nD Cert.Kernel4Ideal.τ).loc Cert.Kernel4Ideal.main_arg0) := h0
    have k1 : (StableHlo.launchContents m' 0 (Proc.devRef .tc Cert.Reference4Ideal.main_arg1) : FVec Ideal Cert.Kernel4Ideal.S8704x4096 .bf16)
        = m (((0 : Dev Cert.Kernel4Ideal.nD).tc : Thread Cert.Kernel4Ideal.nD Cert.Kernel4Ideal.τ).loc Cert.Kernel4Ideal.main_arg1) := h1
    have k2 : (StableHlo.launchContents m' 0 (Proc.devRef .tc Cert.Reference4Ideal.main_arg2) : FVec Ideal Cert.Kernel4Ideal.S1x4096x4096 .f32)
        = m (((0 : Dev Cert.Kernel4Ideal.nD).tc : Thread Cert.Kernel4Ideal.nD Cert.Kernel4Ideal.τ).loc Cert.Kernel4Ideal.main_arg2) := h2
    have k3 : (StableHlo.launchContents m' 0 (Proc.devRef .tc Cert.Reference4Ideal.main_arg3) : FVec Ideal Cert.Kernel4Ideal.S2x4096 .f32)
        = m (((0 : Dev Cert.Kernel4Ideal.nD).tc : Thread Cert.Kernel4Ideal.nD Cert.Kernel4Ideal.τ).loc Cert.Kernel4Ideal.main_arg3) := h3
    have k4 : (StableHlo.launchContents m' 0 (Proc.devRef .tc Cert.Reference4Ideal.main_arg4) : FVec Ideal Cert.Kernel4Ideal.S2x4096 .f32)
        = m (((0 : Dev Cert.Kernel4Ideal.nD).tc : Thread Cert.Kernel4Ideal.nD Cert.Kernel4Ideal.τ).loc Cert.Kernel4Ideal.main_arg4) := h4
    refine ⟨(h.1 0 Cert.Reference4Ideal.main_v33).trans (funext fun i => ?_), (h.1 0 _).trans (Cert.Out.ref_arg0 _), (h.1 0 _).trans (Cert.Out.ref_arg1 _), (h.1 0 _).trans (Cert.Out.ref_arg2 _), (h.1 0 _).trans (Cert.Out.ref_arg3 _), (h.1 0 _).trans (Cert.Out.ref_arg4 _)⟩
    rw [eq_ix2 i]
    refine (Cert.Out.ref_rows (StableHlo.launchContents m' 0) (i 0) (i 1)).trans (Eq.trans ?_ (Cert.Out.rows m ρ 0 (i 0) (i 1)).symm)
    rw [k0, k1, k2, k3, k4]

theorem frame_kernel5 : Cert.quiescent_Kernel5 := fun m ρ _ => Cert.Kernel5.Gen.frame (F := Bits) m ρ

theorem frame_kernel5Ideal : Cert.quiescent_Kernel5Ideal := fun m ρ _ => Cert.Kernel5Ideal.Gen.frame (F := Ideal) m ρ

theorem frame_reference5 : Cert.quiescent_Reference5Ideal := fun m ρ _ =>
  (θ_run (Cert.Reference5Ideal.defs (F := Ideal)) _ _).mono (fun _ h =>
    ⟨fun c => ⟨(h.1 c _).trans (Cert.AbOut.ref_arg0 _), (h.1 c _).trans (Cert.AbOut.ref_arg1 _), (h.1 c _).trans (Cert.AbOut.ref_arg2 _), (h.1 c _).trans (Cert.AbOut.ref_arg3 _), (h.1 c _).trans (Cert.AbOut.ref_arg4 _), (h.1 c _).trans (Cert.AbOut.ref_arg5 _)⟩, h.2⟩)
    (Cert.AbOut.ref_run m ρ)

/-- The normalized residual after the first layer's mixers is the reference's. -/
theorem algebraic_value5 : Cert.algebraic_Kernel5Ideal_Reference5Ideal := fun m ρ m' ρ' _ ha => by
  refine ⟨fun c => Cert.Kernel5Ideal.Gen.W3 m ρ c (Proc.devRef .tc Cert.Kernel5Ideal.main_v3_0), ?_, ?_⟩
  · refine (θ_run (Cert.Kernel5Ideal.defs (F := Ideal)) _ _).mono (fun r h c => ?_) (Cert.AbOut.run (F := Ideal) m ρ)
    have g (b : Ref Cert.Kernel5Ideal.sig .tc) (hb : b.isScoped = false) := h.1 c (Proc.devRef .tc b) (Finset.mem_filter.mpr ⟨StableHlo.devRef_mem_tcRefs b, by simpa using hb⟩)
    exact ⟨g Cert.Kernel5Ideal.main_v3_0 rfl,
      (g Cert.Kernel5Ideal.main_arg0 rfl).trans (Cert.Kernel5Ideal.Gen.W3_main_arg0 m ρ c),
      (g Cert.Kernel5Ideal.main_arg1 rfl).trans (Cert.Kernel5Ideal.Gen.W3_main_arg1 m ρ c),
      (g Cert.Kernel5Ideal.main_arg2 rfl).trans (Cert.Kernel5Ideal.Gen.W3_main_arg2 m ρ c),
      (g Cert.Kernel5Ideal.main_arg3 rfl).trans (Cert.Kernel5Ideal.Gen.W3_main_arg3 m ρ c),
      (g Cert.Kernel5Ideal.main_arg4 rfl).trans (Cert.Kernel5Ideal.Gen.W3_main_arg4 m ρ c),
      (g Cert.Kernel5Ideal.main_arg5 rfl).trans (Cert.Kernel5Ideal.Gen.W3_main_arg5 m ρ c)⟩
  · refine (θ_run (Cert.Reference5Ideal.defs (F := Ideal)) _ _).mono (fun r h c => ?_)
      (Cert.AbOut.ref_run m' ρ')
    obtain rfl : c = 0 := Subsingleton.elim _ _
    obtain ⟨h0, h1, h2, h3, h4, h5⟩ := ha 0
    have k0 : (StableHlo.launchContents m' 0 (Proc.devRef .tc Cert.Reference5Ideal.main_arg0) : FVec Ideal Cert.Kernel5Ideal.S8704x4096 .f32)
        = m (((0 : Dev Cert.Kernel5Ideal.nD).tc : Thread Cert.Kernel5Ideal.nD Cert.Kernel5Ideal.τ).loc Cert.Kernel5Ideal.main_arg0) := h0
    have k1 : (StableHlo.launchContents m' 0 (Proc.devRef .tc Cert.Reference5Ideal.main_arg1) : FVec Ideal Cert.Kernel5Ideal.S8704x2048 .bf16)
        = m (((0 : Dev Cert.Kernel5Ideal.nD).tc : Thread Cert.Kernel5Ideal.nD Cert.Kernel5Ideal.τ).loc Cert.Kernel5Ideal.main_arg1) := h1
    have k2 : (StableHlo.launchContents m' 0 (Proc.devRef .tc Cert.Reference5Ideal.main_arg2) : FVec Ideal Cert.Kernel5Ideal.S8704x2048 .bf16)
        = m (((0 : Dev Cert.Kernel5Ideal.nD).tc : Thread Cert.Kernel5Ideal.nD Cert.Kernel5Ideal.τ).loc Cert.Kernel5Ideal.main_arg2) := h2
    have k3 : (StableHlo.launchContents m' 0 (Proc.devRef .tc Cert.Reference5Ideal.main_arg3) : FVec Ideal Cert.Kernel5Ideal.S1x4096x4096 .f32)
        = m (((0 : Dev Cert.Kernel5Ideal.nD).tc : Thread Cert.Kernel5Ideal.nD Cert.Kernel5Ideal.τ).loc Cert.Kernel5Ideal.main_arg3) := h3
    have k4 : (StableHlo.launchContents m' 0 (Proc.devRef .tc Cert.Reference5Ideal.main_arg4) : FVec Ideal Cert.Kernel5Ideal.S2x4096 .f32)
        = m (((0 : Dev Cert.Kernel5Ideal.nD).tc : Thread Cert.Kernel5Ideal.nD Cert.Kernel5Ideal.τ).loc Cert.Kernel5Ideal.main_arg4) := h4
    have k5 : (StableHlo.launchContents m' 0 (Proc.devRef .tc Cert.Reference5Ideal.main_arg5) : FVec Ideal Cert.Kernel5Ideal.S2x4096 .f32)
        = m (((0 : Dev Cert.Kernel5Ideal.nD).tc : Thread Cert.Kernel5Ideal.nD Cert.Kernel5Ideal.τ).loc Cert.Kernel5Ideal.main_arg5) := h5
    refine ⟨(h.1 0 Cert.Reference5Ideal.main_v35).trans (funext fun i => ?_), (h.1 0 _).trans (Cert.AbOut.ref_arg0 _), (h.1 0 _).trans (Cert.AbOut.ref_arg1 _), (h.1 0 _).trans (Cert.AbOut.ref_arg2 _), (h.1 0 _).trans (Cert.AbOut.ref_arg3 _), (h.1 0 _).trans (Cert.AbOut.ref_arg4 _), (h.1 0 _).trans (Cert.AbOut.ref_arg5 _)⟩
    rw [eq_ix2 i]
    refine (Cert.AbOut.ref_rows (StableHlo.launchContents m' 0) (i 0) (i 1)).trans (Eq.trans ?_ (Cert.AbOut.rows m ρ 0 (i 0) (i 1)).symm)
    rw [k0, k1, k2, k3, k4, k5]

theorem frame_kernel6 : Cert.quiescent_Kernel6 := fun m ρ _ => Cert.Kernel6.Gen.frame (F := Bits) m ρ

theorem frame_kernel6Ideal : Cert.quiescent_Kernel6Ideal := fun m ρ _ => Cert.Kernel6Ideal.Gen.frame (F := Ideal) m ρ

theorem frame_reference6 : Cert.quiescent_Reference6Ideal := fun m ρ _ =>
  (θ_run (Cert.Reference6Ideal.defs (F := Ideal)) _ _).mono (fun _ h =>
    ⟨fun c => ⟨(h.1 c _).trans (Cert.Query.ref_arg0 _), (h.1 c _).trans (Cert.Query.ref_arg1 _)⟩, h.2⟩)
    (Cert.Query.ref_run m ρ)

/-- The attention's queries: the program and the reference have equal results. -/
theorem algebraic_value6 : Cert.algebraic_Kernel6Ideal_Reference6Ideal := fun m ρ m' ρ' _ ha => by
  refine ⟨fun c => (Cert.Kernel6Ideal.Gen.dats m 0 c).arrAt 2 Cert.Kernel6Ideal.cfg0.N, ?_, ?_⟩
  · exact (θ_run (Cert.Kernel6Ideal.defs (F := Ideal)) _ _).mono (fun r h c => ⟨(h.1 c).1 2, h.2 c⟩)
      (θ_run_and (Cert.Kernel6Ideal.Gen.run_main m ρ) (Cert.Kernel6Ideal.Gen.unchanged m ρ))
  · refine (θ_run (Cert.Reference6Ideal.defs (F := Ideal)) _ _).mono (fun r h c => ?_)
      (Cert.Query.ref_run m' ρ')
    obtain rfl : c = 0 := Subsingleton.elim _ _
    obtain ⟨h0, h1⟩ := ha 0
    have k0 : (StableHlo.launchContents m' 0 (Proc.devRef .tc Cert.Reference6Ideal.main_arg0) : FVec Ideal Cert.Kernel6Ideal.S8704x4096 .f32)
        = m (((0 : Dev Cert.Kernel6Ideal.nD).tc : Thread Cert.Kernel6Ideal.nD Cert.Kernel6Ideal.τ).loc Cert.Kernel6Ideal.main_arg0) := h0
    have k1 : (StableHlo.launchContents m' 0 (Proc.devRef .tc Cert.Reference6Ideal.main_arg1) : FVec Ideal Cert.Kernel6Ideal.S1x4096x4640 .f32)
        = m (((0 : Dev Cert.Kernel6Ideal.nD).tc : Thread Cert.Kernel6Ideal.nD Cert.Kernel6Ideal.τ).loc Cert.Kernel6Ideal.main_arg1) := h1
    refine ⟨(h.1 0 Cert.Reference6Ideal.main_v2).trans (funext fun i => ?_), (h.1 0 _).trans (Cert.Query.ref_arg0 _), (h.1 0 _).trans (Cert.Query.ref_arg1 _)⟩
    rw [eq_ix2 i]
    refine (Cert.Query.ref_rows (StableHlo.launchContents m' 0) (i 0) (i 1)).trans (Eq.trans ?_ (Cert.Query.rows m 0 (i 0) (i 1)).symm)
    rw [k0, k1]

theorem frame_kernel7 : Cert.quiescent_Kernel7 := fun m ρ _ => Cert.Kernel7.Gen.frame (F := Bits) m ρ

theorem frame_kernel7Ideal : Cert.quiescent_Kernel7Ideal := fun m ρ _ => Cert.Kernel7Ideal.Gen.frame (F := Ideal) m ρ

theorem frame_reference7 : Cert.quiescent_Reference7Ideal := fun m ρ _ =>
  (θ_run (Cert.Reference7Ideal.defs (F := Ideal)) _ _).mono (fun _ h =>
    ⟨fun c => ⟨(h.1 c _).trans (Cert.Latent.ref_arg0 _), (h.1 c _).trans (Cert.Latent.ref_arg1 _)⟩, h.2⟩)
    (Cert.Latent.ref_run m ρ)

/-- The first product of layer 0: the program and the reference have equal results. -/
theorem algebraic_value7 : Cert.algebraic_Kernel7Ideal_Reference7Ideal := fun m ρ m' ρ' _ ha => by
  refine ⟨fun c => (Cert.Kernel7Ideal.Gen.dats m 0 c).arrAt 2 Cert.Kernel7Ideal.cfg0.N, ?_, ?_⟩
  · exact (θ_run (Cert.Kernel7Ideal.defs (F := Ideal)) _ _).mono (fun r h c => ⟨(h.1 c).1 2, h.2 c⟩)
      (θ_run_and (Cert.Kernel7Ideal.Gen.run_main m ρ) (Cert.Kernel7Ideal.Gen.unchanged m ρ))
  · refine (θ_run (Cert.Reference7Ideal.defs (F := Ideal)) _ _).mono (fun r h c => ?_)
      (Cert.Latent.ref_run m' ρ')
    obtain rfl : c = 0 := Subsingleton.elim _ _
    obtain ⟨h0, h1⟩ := ha 0
    have k0 : (StableHlo.launchContents m' 0 (Proc.devRef .tc Cert.Reference7Ideal.main_arg0) : FVec Ideal Cert.Kernel7Ideal.S8704x4096 .f32)
        = m (((0 : Dev Cert.Kernel7Ideal.nD).tc : Thread Cert.Kernel7Ideal.nD Cert.Kernel7Ideal.τ).loc Cert.Kernel7Ideal.main_arg0) := h0
    have k1 : (StableHlo.launchContents m' 0 (Proc.devRef .tc Cert.Reference7Ideal.main_arg1) : FVec Ideal Cert.Kernel7Ideal.S1x4096x7752 .f32)
        = m (((0 : Dev Cert.Kernel7Ideal.nD).tc : Thread Cert.Kernel7Ideal.nD Cert.Kernel7Ideal.τ).loc Cert.Kernel7Ideal.main_arg1) := h1
    refine ⟨(h.1 0 Cert.Reference7Ideal.main_v2).trans (funext fun i => ?_), (h.1 0 _).trans (Cert.Latent.ref_arg0 _), (h.1 0 _).trans (Cert.Latent.ref_arg1 _)⟩
    rw [eq_ix2 i]
    refine (Cert.Latent.ref_rows (StableHlo.launchContents m' 0) (i 0) (i 1)).trans (Eq.trans ?_ (Cert.Latent.rows m 0 (i 0) (i 1)).symm)
    rw [k0, k1]

theorem frame_kernel8 : Cert.quiescent_Kernel8 := fun m ρ _ => Cert.Kernel8.Gen.frame (F := Bits) m ρ

theorem frame_kernel8Ideal : Cert.quiescent_Kernel8Ideal := fun m ρ _ => Cert.Kernel8Ideal.Gen.frame (F := Ideal) m ρ

theorem frame_reference8 : Cert.quiescent_Reference8Ideal := fun m ρ _ =>
  (θ_run (Cert.Reference8Ideal.defs (F := Ideal)) _ _).mono (fun _ h =>
    ⟨fun c => ⟨(h.1 c _).trans (Cert.Kv.ref_arg0 _), (h.1 c _).trans (Cert.Kv.ref_arg1 _), (h.1 c _).trans (Cert.Kv.ref_arg2 _)⟩, h.2⟩)
    (Cert.Kv.ref_run m ρ)

/-- The latent attention's keys and values: the program and the reference have equal results. -/
theorem algebraic_value8 : Cert.algebraic_Kernel8Ideal_Reference8Ideal := fun m ρ m' ρ' _ ha => by
  refine ⟨fun c => (Cert.Kernel8Ideal.Gen.dats m 0 c).arrAt 2 Cert.Kernel8Ideal.cfg0.N, ?_, ?_⟩
  · exact (θ_run (Cert.Kernel8Ideal.defs (F := Ideal)) _ _).mono (fun r h c => ⟨(h.1 c).1 2, h.2 c⟩)
      (θ_run_and (Cert.Kernel8Ideal.Gen.run_main m ρ) (Cert.Kernel8Ideal.Gen.unchanged m ρ))
  · refine (θ_run (Cert.Reference8Ideal.defs (F := Ideal)) _ _).mono (fun r h c => ?_)
      (Cert.Kv.ref_run m' ρ')
    obtain rfl : c = 0 := Subsingleton.elim _ _
    obtain ⟨h0, h1, h2⟩ := ha 0
    have k0 : (StableHlo.launchContents m' 0 (Proc.devRef .tc Cert.Reference8Ideal.main_arg0) : FVec Ideal Cert.Kernel8Ideal.S8704x512 .f32)
        = m (((0 : Dev Cert.Kernel8Ideal.nD).tc : Thread Cert.Kernel8Ideal.nD Cert.Kernel8Ideal.τ).loc Cert.Kernel8Ideal.main_arg0) := h0
    have k1 : (StableHlo.launchContents m' 0 (Proc.devRef .tc Cert.Reference8Ideal.main_arg1) : FVec Ideal Cert.Kernel8Ideal.S1x16x512x128 .f32)
        = m (((0 : Dev Cert.Kernel8Ideal.nD).tc : Thread Cert.Kernel8Ideal.nD Cert.Kernel8Ideal.τ).loc Cert.Kernel8Ideal.main_arg1) := h1
    have k2 : (StableHlo.launchContents m' 0 (Proc.devRef .tc Cert.Reference8Ideal.main_arg2) : FVec Ideal Cert.Kernel8Ideal.S1x16x512x128 .f32)
        = m (((0 : Dev Cert.Kernel8Ideal.nD).tc : Thread Cert.Kernel8Ideal.nD Cert.Kernel8Ideal.τ).loc Cert.Kernel8Ideal.main_arg2) := h2
    refine ⟨(h.1 0 Cert.Reference8Ideal.main_v7).trans (funext fun i => ?_), (h.1 0 _).trans (Cert.Kv.ref_arg0 _), (h.1 0 _).trans (Cert.Kv.ref_arg1 _), (h.1 0 _).trans (Cert.Kv.ref_arg2 _)⟩
    rw [eq_ix2 i]
    refine (Cert.Kv.ref_rows (StableHlo.launchContents m' 0) (i 0) (i 1)).trans (Eq.trans ?_ (Cert.Kv.rows m 0 (i 0) (i 1)).symm)
    rw [k0, k1, k2]

theorem frame_kernel9 : Cert.quiescent_Kernel9 := fun m ρ _ => Cert.Kernel9.Gen.frame (F := Bits) m ρ

theorem frame_kernel9Ideal : Cert.quiescent_Kernel9Ideal := fun m ρ _ => Cert.Kernel9Ideal.Gen.frame (F := Ideal) m ρ

theorem frame_reference9 : Cert.quiescent_Reference9Ideal := fun m ρ _ =>
  (θ_run (Cert.Reference9Ideal.defs (F := Ideal)) _ _).mono (fun _ h =>
    ⟨fun c => ⟨(h.1 c _).trans (Cert.QUp.ref_arg0 _), (h.1 c _).trans (Cert.QUp.ref_arg1 _), (h.1 c _).trans (Cert.QUp.ref_arg2 _)⟩, h.2⟩)
    (Cert.QUp.ref_run m ρ)

/-- The latent attention's queries: the program and the reference have equal results. -/
theorem algebraic_value9 : Cert.algebraic_Kernel9Ideal_Reference9Ideal := fun m ρ m' ρ' _ ha => by
  refine ⟨fun c => Pipeline.afterTail₀ Cert.Kernel9Ideal.cfgs (Cert.Kernel9Ideal.Gen.dats m) 0 (Cert.Kernel9Ideal.Gen.V0 m) [Cert.Kernel9Ideal.Gen.hostOps1] c Cert.Kernel9Ideal.main_v36, ?_, ?_⟩
  · exact (θ_run (Cert.Kernel9Ideal.defs (F := Ideal)) _ _).mono (fun r h c => ⟨(h.1 c).2 Cert.Kernel9Ideal.main_v36 (by decide), h.2 c⟩)
      (θ_run_and (Cert.Kernel9Ideal.Gen.run_main m ρ) (Cert.Kernel9Ideal.Gen.unchanged m ρ))
  · refine (θ_run (Cert.Reference9Ideal.defs (F := Ideal)) _ _).mono (fun r h c => ?_)
      (Cert.QUp.ref_run m' ρ')
    obtain rfl : c = 0 := Subsingleton.elim _ _
    obtain ⟨h0, h1, h2⟩ := ha 0
    have k0 : (StableHlo.launchContents m' 0 (Proc.devRef .tc Cert.Reference9Ideal.main_arg0) : FVec Ideal Cert.Kernel9Ideal.S8704x1536 .f32)
        = m (((0 : Dev Cert.Kernel9Ideal.nD).tc : Thread Cert.Kernel9Ideal.nD Cert.Kernel9Ideal.τ).loc Cert.Kernel9Ideal.main_arg0) := h0
    have k1 : (StableHlo.launchContents m' 0 (Proc.devRef .tc Cert.Reference9Ideal.main_arg1) : FVec Ideal Cert.Kernel9Ideal.S1x1024 .f32)
        = m (((0 : Dev Cert.Kernel9Ideal.nD).tc : Thread Cert.Kernel9Ideal.nD Cert.Kernel9Ideal.τ).loc Cert.Kernel9Ideal.main_arg1) := h1
    have k2 : (StableHlo.launchContents m' 0 (Proc.devRef .tc Cert.Reference9Ideal.main_arg2) : FVec Ideal Cert.Kernel9Ideal.S1x1024x3072 .f32)
        = m (((0 : Dev Cert.Kernel9Ideal.nD).tc : Thread Cert.Kernel9Ideal.nD Cert.Kernel9Ideal.τ).loc Cert.Kernel9Ideal.main_arg2) := h2
    refine ⟨(h.1 0 Cert.Reference9Ideal.main_v55).trans (funext fun i => ?_), (h.1 0 _).trans (Cert.QUp.ref_arg0 _), (h.1 0 _).trans (Cert.QUp.ref_arg1 _), (h.1 0 _).trans (Cert.QUp.ref_arg2 _)⟩
    rw [eq_ix3 i]
    refine (Cert.QUp.ref_query (StableHlo.launchContents m' 0) (i 0) (i 1) (i 2)).trans (Eq.trans ?_ (Cert.QUp.result m 0 (i 0) (i 1) (i 2)).symm)
    rw [k0, k1, k2]

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts, Cert.MoE.Inputs.facts, frame_kernel, frame_kernelIdeal,
    fun m ρ _ => frame_kernelIdeal m ρ trivial, frame_reference, fun m ρ _ => frame_reference m ρ trivial,
    frame_kernel2, frame_kernel2Ideal, frame_reference2, frame_kernel3, frame_kernel3Ideal, frame_reference3,
    frame_kernel4, frame_kernel4Ideal, frame_reference4,
    frame_kernel5, frame_kernel5Ideal, frame_reference5,
    frame_kernel6, frame_kernel6Ideal, frame_reference6,
    frame_kernel7, frame_kernel7Ideal, frame_reference7,
    frame_kernel8, frame_kernel8Ideal, frame_reference8,
    frame_kernel9, frame_kernel9Ideal, frame_reference9, trivial, algebraic_value, trivial, algebraic_value2,
    trivial, algebraic_value3, trivial, algebraic_value4,
    trivial, algebraic_value5, trivial, algebraic_value6, trivial, algebraic_value7, trivial, algebraic_value8,
    trivial, algebraic_value9⟩

end Cert.Proof

end
